-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "scale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v89) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v93) = v5 c
          ∧ r.2.mem ((c.tc : Thread Cert.Reference5Ideal.nD Cert.Reference5Ideal.τ).loc Cert.Reference5Ideal.main_v57) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v10_2)) (v1 : (c : Dev Cert.Kernel7Ideal.nD) → Buf (Elt Ideal) ((c.tc : Thread Cert.Kernel7Ideal.nD Cert.Kernel7Ideal.τ).loc Cert.Kernel7Ideal.main_v10_3)) (v2 : (c : Dev Cert.Kernel7Ideal.nD) → Buf (Elt Ideal) ((c.tc : Thread Cert.Kernel7Ideal.nD Cert.Kernel7Ideal.τ).loc Cert.Kernel7Ideal.main_v10_4)) (v3 : (c : Dev Cert.Kernel7Ideal.nD) → Buf (Elt Ideal) ((c.tc : Thread Cert.Kernel7Ideal.nD Cert.Kernel7Ideal.τ).loc Cert.Kernel7Ideal.main_v10_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_2) = v0 c
          ∧ r.2.mem ((c.tc : Thread Cert.Kernel7Ideal.nD Cert.Kernel7Ideal.τ).loc Cert.Kernel7Ideal.main_v10_3) = v1 c
          ∧ r.2.mem ((c.tc : Thread Cert.Kernel7Ideal.nD Cert.Kernel7Ideal.τ).loc Cert.Kernel7Ideal.main_v10_4) = v2 c
          ∧ r.2.mem ((c.tc : Thread Cert.Kernel7Ideal.nD Cert.Kernel7Ideal.τ).loc Cert.Kernel7Ideal.main_v10_5) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v101) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_v105) = v2 c
          ∧ r.2.mem ((c.tc : Thread Cert.Reference7Ideal.nD Cert.Reference7Ideal.τ).loc Cert.Reference7Ideal.main_v106) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
-- ==== Pre_finite.lean ====
abbrev S16384x12288 : Shape := ⟨2, ![16384, 12288]⟩
abbrev S8 : Shape := ⟨1, ![8]⟩
abbrev S1024 : Shape := ⟨1, ![1024]⟩
abbrev S16384x2048 : Shape := ⟨2, ![16384, 2048]⟩
abbrev S_ : Shape := ⟨0, ![]⟩

class Facts : Prop where
  slices_S16384x12288_S16384x2048_0_1024 : S16384x12288.Slices ![0, 1024] S16384x2048
  bcast_S_S16384x2048 : S_.BroadcastsInDim S16384x2048 (![] : Fin 0 → Fin S16384x2048.rank)

variable [Facts]

def fn {F : FTy → Type} [FloatOps F] (main_arg0 : FVec F S16384x12288 .f32) (main_arg1 : FVec F S8 .f32) (main_arg2 : FVec F S8 .f32) (main_arg3 : FVec F S1024 .f32) : IVec S16384x2048 1 :=
  let main_v0 : FVec F S16384x2048 .f32 := (extractStridedSlice S16384x2048 ![0, 1024] · slices_S16384x12288_S16384x2048_0_1024) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  main_v3
-- ==== Kernel.lean ====
abbrev S16384x12288 : Shape := ⟨2, ![16384, 12288]⟩
abbrev S16384x1024 : Shape := ⟨2, ![16384, 1024]⟩
abbrev S8x16384x64 : Shape := ⟨3, ![8, 16384, 64]⟩
abbrev S256x8x128 : Shape := ⟨3, ![256, 8, 128]⟩
abbrev S1x128 : Shape := ⟨2, ![1, 128]⟩
abbrev S256x1024 : Shape := ⟨2, ![256, 1024]⟩
abbrev S8x256x64 : Shape := ⟨3, ![8, 256, 64]⟩
abbrev S4x8x128 : Shape := ⟨3, ![4, 8, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x1x128 : Shape := ⟨3, ![1, 1, 128]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x12288, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S8x16384x64, .bf16⟩
  | .hbm, ⟨6, _⟩ => ⟨S256x8x128, .f32⟩
  | .hbm, ⟨7, _⟩ => ⟨S1x128, .f32⟩
  | .hbm, ⟨8, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x64, .bf16⟩
  | .local _ .vmem, ⟨9, _⟩ => ⟨S8x256x64, .bf16⟩
  | .local _ .vmem, ⟨10, _⟩ => ⟨S4x8x128, .f32⟩
  | .local _ .vmem, ⟨11, _⟩ => ⟨S4x8x128, .f32⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S256x1024, .bf16⟩
  | .local _ .vmem, ⟨16, _⟩ => ⟨S256x1024, .bf16⟩
  | .local _ .vmem, ⟨17, _⟩ => ⟨S8x128x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x12288 : Shape := ⟨2, ![16384, 12288]⟩
abbrev S16384x1024 : Shape := ⟨2, ![16384, 1024]⟩
abbrev S8x16384x64 : Shape := ⟨3, ![8, 16384, 64]⟩
abbrev S256x8x128 : Shape := ⟨3, ![256, 8, 128]⟩
abbrev S1x128 : Shape := ⟨2, ![1, 128]⟩
abbrev S8x256x64x64 : Shape := ⟨4, ![8, 256, 64, 64]⟩
abbrev S256x8x64x64 : Shape := ⟨4, ![256, 8, 64, 64]⟩
abbrev S_ : Shape := ⟨0, ![]⟩
abbrev S8x128x128 : Shape := ⟨3, ![8, 128, 128]⟩
abbrev S256x64x8x128 : Shape := ⟨4, ![256, 64, 8, 128]⟩
abbrev S256x8x64x128 : Shape := ⟨4, ![256, 8, 64, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128 : Shape := ⟨3, ![1, 8, 128]⟩
abbrev S8x128 : Shape := ⟨2, ![8, 128]⟩
abbrev S8x1x128 : Shape := ⟨3, ![8, 1, 128]⟩
abbrev S16384x8x128 : Shape := ⟨3, ![16384, 8, 128]⟩
abbrev S16384x8 : Shape := ⟨2, ![16384, 8]⟩
abbrev S16384x8x1 : Shape := ⟨3, ![16384, 8, 1]⟩
abbrev S128 : Shape := ⟨1, ![128]⟩
abbrev S1x1x128 : Shape := ⟨3, ![1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S8x16384x64, .bf16⟩
  | .hbm, ⟨6, _⟩ => ⟨S256x8x128, .f32⟩
  | .hbm, ⟨7, _⟩ => ⟨S1x128, .f32⟩
  | .hbm, ⟨8, _⟩ => ⟨S8x16384x64, .f32⟩
  | .hbm, ⟨9, _⟩ => ⟨S8x256x64x64, .f32⟩
  | .hbm, ⟨10, _⟩ => ⟨S256x8x64x64, .f32⟩
  | .hbm, ⟨11, _⟩ => ⟨S_, .f32⟩
  | .hbm, ⟨12, _⟩ => ⟨S8x128x128, .f32⟩
  | .hbm, ⟨13, _⟩ => ⟨S256x64x8x128, .f32⟩
  | .hbm, ⟨14, _⟩ => ⟨S256x8x64x128, .f32⟩
  | .hbm, ⟨15, _⟩ => ⟨S16384x1024, .f32⟩
  | .hbm, ⟨16, _⟩ => ⟨S256x64x8x128, .f32⟩
  | .hbm, ⟨17, _⟩ => ⟨S256x8x64x128, .f32⟩
  | .hbm, ⟨18, _⟩ => ⟨S16384x1024, .f32⟩
  | .hbm, ⟨19, _⟩ => ⟨S256x64x8x128, .f32⟩
  | .hbm, ⟨20, _⟩ => ⟨S256x8x64x128, .f32⟩
  | .hbm, ⟨21, _⟩ => ⟨S16384x1024, .f32⟩
  | .hbm, ⟨22, _⟩ => ⟨S256x64x8x128, .f32⟩
  | .hbm, ⟨23, _⟩ => ⟨S256x8x64x128, .f32⟩
  | .hbm, ⟨24, _⟩ => ⟨S_, .f32⟩
  | .hbm, ⟨25, _⟩ => ⟨S256x8x64x128, .f32⟩
  | .hbm, ⟨26, _⟩ => ⟨S_, .i32⟩
  | .hbm, ⟨27, _⟩ => ⟨S256x8x64x128, .f32⟩
  | .hbm, ⟨28, _⟩ => ⟨S256x8x64x128, .f32⟩
  | .hbm, ⟨29, _⟩ => ⟨S256x8x64x128, .f32⟩
  | .hbm, ⟨30, _⟩ => ⟨S256x8x64x128, .f32⟩
  | .hbm, ⟨31, _⟩ => ⟨S256x8x64x64, .f32⟩
  | .hbm, ⟨32, _⟩ => ⟨S256x8x128, .f32⟩
  | .hbm, ⟨33, _⟩ => ⟨S_, .i32⟩
  | .hbm, ⟨34, _⟩ => ⟨S8x128x128, .f32⟩
  | .hbm, ⟨35, _⟩ => ⟨S256x8x64x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x64x128, .f32⟩
  | .hbm, ⟨42, _⟩ => ⟨S8x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x64x128, .f32⟩
  | .hbm, ⟨47, _⟩ => ⟨S8x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x64x128, .f32⟩
  | .hbm, ⟨52, _⟩ => ⟨S8x64x128, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x64x128, .f32⟩
  | .hbm, ⟨57, _⟩ => ⟨S8x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x64x64, .f32⟩
  | .hbm, ⟨62, _⟩ => ⟨S8x64x64, .f32⟩
  | .hbm, ⟨63, _⟩ => ⟨S_, .i32⟩
  | .hbm, ⟨64, _⟩ => ⟨S_, .i32⟩
  | .hbm, ⟨65, _⟩ => ⟨S1x8x128, .f32⟩
  | .hbm, ⟨66, _⟩ => ⟨S8x128, .f32⟩
  | .hbm, ⟨67, _⟩ => ⟨S8x64x128, .f32⟩
  | .hbm, ⟨68, _⟩ => ⟨S8x64x128, .f32⟩
  | .hbm, ⟨69, _⟩ => ⟨S8x64x128, .f32⟩
  | .hbm, ⟨70, _⟩ => ⟨S8x64x128, .f32⟩
  | .hbm, ⟨71, _⟩ => ⟨S8x64x128, .f32⟩
  | .hbm, ⟨72, _⟩ => ⟨S8x1x128, .f32⟩
  | .hbm, ⟨73, _⟩ => ⟨S8x128x128, .f32⟩
  | .hbm, ⟨74, _⟩ => ⟨S8x128x128, .f32⟩
  | .hbm, ⟨75, _⟩ => ⟨S8x128x128, .f32⟩
  | .hbm, ⟨76, _⟩ => ⟨S8x128x128, .f32⟩
  | .hbm, ⟨77, _⟩ => ⟨S1x8x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S256x8x64x128, .f32⟩
  | .hbm, ⟨82, _⟩ => ⟨S_, .i32⟩
  | .hbm, ⟨83, _⟩ => ⟨S_, .i32⟩
  | .hbm, ⟨84, _⟩ => ⟨S256x64x8x128, .f32⟩
  | .hbm, ⟨85, _⟩ => ⟨S16384x8x128, .f32⟩
  | .hbm, ⟨86, _⟩ => ⟨S16384x8x128, .f32⟩
  | .hbm, ⟨87, _⟩ => ⟨S_, .f32⟩
  | .hbm, ⟨88, _⟩ => ⟨S16384x8, .f32⟩
  | .hbm, ⟨89, _⟩ => ⟨S16384x8x1, .f32⟩
  | .hbm, ⟨90, _⟩ => ⟨S_, .f32⟩
  | .hbm, ⟨91, _⟩ => ⟨S16384x8x1, .f32⟩
  | .hbm, ⟨92, _⟩ => ⟨S16384x8x1, .f32⟩
  | .hbm, ⟨93, _⟩ => ⟨S_, .f32⟩
  | .hbm, ⟨94, _⟩ => ⟨S16384x8x1, .f32⟩
  | .hbm, ⟨95, _⟩ => ⟨S16384x8x1, .f32⟩
  | .hbm, ⟨96, _⟩ => ⟨S16384x8x1, .f32⟩
  | .hbm, ⟨97, _⟩ => ⟨S16384x8x128, .f32⟩
  | .hbm, ⟨98, _⟩ => ⟨S16384x8x128, .f32⟩
  | .hbm, ⟨99, _⟩ => ⟨S128, .f32⟩
  | .hbm, ⟨100, _⟩ => ⟨S1x1x128, .f32⟩
  | .hbm, ⟨101, _⟩ => ⟨S16384x8x128, .f32⟩
  | .hbm, ⟨102, _⟩ => ⟨S16384x8x128, .f32⟩
  | .hbm, ⟨103, _⟩ => ⟨S16384x1024, .f32⟩
  | .hbm, ⟨104, _⟩ => ⟨S16384x8x128, .f32⟩
  | .hbm, ⟨105, _⟩ => ⟨S16384x8x128, .f32⟩
  | .hbm, ⟨106, _⟩ => ⟨S16384x8x128, .f32⟩
  | .hbm, ⟨107, _⟩ => ⟨S_, .f32⟩
  | .hbm, ⟨108, _⟩ => ⟨S16384x8x128, .f32⟩
  | .hbm, ⟨109, _⟩ => ⟨S16384x8x128, .f32⟩
  | .hbm, ⟨110, _⟩ => ⟨S_, .f32⟩
  | .hbm, ⟨111, _⟩ => ⟨S16384x8x128, .f32⟩
  | .hbm, ⟨112, _⟩ => ⟨S16384x8x128, .f32⟩
  | .hbm, ⟨113, _⟩ => ⟨S16384x8x128, .f32⟩
  | .hbm, ⟨114, _⟩ => ⟨S16384x8x128, .f32⟩
  | .hbm, ⟨115, _⟩ => ⟨S16384x1024, .f32⟩
  | .hbm, ⟨116, _⟩ => ⟨S16384x1024, .bf16⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_while0c_c_14 : Ref sig .tc := ⟨.hbm, 36, rfl⟩
abbrev main_while0c_v45 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v45 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_v0 : Ref sig .tc := ⟨.hbm, 46, rfl⟩
abbrev main_while0b_v46 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v47 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_v0 : Ref sig .tc := ⟨.hbm, 56, rfl⟩
abbrev main_while0b_v48 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_v0 : Ref sig .tc := ⟨.hbm, 61, rfl⟩
abbrev main_while0b_v49 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_v0 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_v58 : Ref sig .tc := ⟨.hbm, 74, rfl⟩
abbrev main_while0b_v59 : Ref sig .tc := ⟨.hbm, 75, rfl⟩
abbrev main_while0b_v60 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_v61 : Ref sig .tc := ⟨.hbm, 81, rfl⟩
abbrev main_while0b_c_14 : Ref sig .tc := ⟨.hbm, 82, rfl⟩
abbrev main_while0b_v62 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_cst_1 : Ref sig .tc := ⟨.hbm, 87, rfl⟩
abbrev main_v20 : Ref sig .tc := ⟨.hbm, 88, rfl⟩
abbrev main_v21 : Ref sig .tc := ⟨.hbm, 89, rfl⟩
abbrev main_cst_2 : Ref sig .tc := ⟨.hbm, 90, rfl⟩
abbrev main_v22 : Ref sig .tc := ⟨.hbm, 91, rfl⟩
abbrev main_v23 : Ref sig .tc := ⟨.hbm, 92, rfl⟩
abbrev main_cst_3 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_cst_4 : Ref sig .tc := ⟨.hbm, 107, rfl⟩
abbrev main_v37 : Ref sig .tc := ⟨.hbm, 108, rfl⟩
abbrev main_v38 : Ref sig .tc := ⟨.hbm, 109, rfl⟩
abbrev main_cst_5 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S16384x4096 : Shape := ⟨2, ![16384, 4096]⟩
abbrev S16384x1024 : Shape := ⟨2, ![16384, 1024]⟩
abbrev S16384x2048 : Shape := ⟨2, ![16384, 2048]⟩
abbrev S4096x4096 : Shape := ⟨2, ![4096, 4096]⟩
abbrev S1024x4096 : Shape := ⟨2, ![1024, 4096]⟩
abbrev S2048x4096 : Shape := ⟨2, ![2048, 4096]⟩
abbrev S1024x512 : Shape := ⟨2, ![1024, 512]⟩
abbrev S1024x1024 : Shape := ⟨2, ![1024, 1024]⟩
abbrev S1024x2048 : Shape := ⟨2, ![1024, 2048]⟩
abbrev S2048x512 : Shape := ⟨2, ![2048, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S4096x4096, .f32⟩
  | .hbm, ⟨5, _⟩ => ⟨S4096x4096, .bf16⟩
  | .hbm, ⟨6, _⟩ => ⟨S1024x4096, .bf16⟩
  | .hbm, ⟨7, _⟩ => ⟨S2048x4096, .bf16⟩
  | .hbm, ⟨8, _⟩ => ⟨S1024x4096, .bf16⟩
  | .hbm, ⟨9, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x4096 : Shape := ⟨2, ![16384, 4096]⟩
abbrev S16384x1024 : Shape := ⟨2, ![16384, 1024]⟩
abbrev S16384x2048 : Shape := ⟨2, ![16384, 2048]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S4096x4096, .f32⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S16384x12288 : Shape := ⟨2, ![16384, 12288]⟩
abbrev S896 : Shape := ⟨1, ![896]⟩
abbrev S896x2048 : Shape := ⟨2, ![896, 2048]⟩
abbrev S896x1024 : Shape := ⟨2, ![896, 1024]⟩
abbrev S128 : Shape := ⟨1, ![128]⟩
abbrev S64 : Shape := ⟨1, ![64]⟩
abbrev S896x16x64 : Shape := ⟨3, ![896, 16, 64]⟩
abbrev S16x896x64 : Shape := ⟨3, ![16, 896, 64]⟩
abbrev S1x896 : Shape := ⟨2, ![1, 896]⟩
abbrev S1x128 : Shape := ⟨2, ![1, 128]⟩
abbrev S_ : Shape := ⟨0, ![]⟩
abbrev S1 : Shape := ⟨1, ![1]⟩
abbrev S16x16384x128 : Shape := ⟨3, ![16, 16384, 128]⟩
abbrev S16x16384x64 : Shape := ⟨3, ![16, 16384, 64]⟩
abbrev S16384x128 : Shape := ⟨2, ![16384, 128]⟩
abbrev S512x16384 : Shape := ⟨2, ![512, 16384]⟩
abbrev S16384x512 : Shape := ⟨2, ![16384, 512]⟩
abbrev S64x16384 : Shape := ⟨2, ![64, 16384]⟩
abbrev S8x16384 : Shape := ⟨2, ![8, 16384]⟩
abbrev S256x896 : Shape := ⟨2, ![256, 896]⟩
abbrev S256x512 : Shape := ⟨2, ![256, 512]⟩
abbrev S256x128 : Shape := ⟨2, ![256, 128]⟩
abbrev S16x256x128 : Shape := ⟨3, ![16, 256, 128]⟩
abbrev S16x256x64 : Shape := ⟨3, ![16, 256, 64]⟩
abbrev S512x256 : Shape := ⟨2, ![512, 256]⟩
abbrev S64x256 : Shape := ⟨2, ![64, 256]⟩
abbrev S8x256 : Shape := ⟨2, ![8, 256]⟩
abbrev S256 : Shape := ⟨1, ![256]⟩
abbrev S256x1 : Shape := ⟨2, ![256, 1]⟩
abbrev S256x2048 : Shape := ⟨2, ![256, 2048]⟩
abbrev S1x256x128 : Shape := ⟨3, ![1, 256, 128]⟩
abbrev S1x896x64 : Shape := ⟨3, ![1, 896, 64]⟩
abbrev S896x64 : Shape := ⟨2, ![896, 64]⟩
abbrev S256x64 : Shape := ⟨2, ![256, 64]⟩
abbrev S1x256x64 : Shape := ⟨3, ![1, 256, 64]⟩
abbrev S128x256 : Shape := ⟨2, ![128, 256]⟩
abbrev S1x256 : Shape := ⟨2, ![1, 256]⟩

abbrev nBuf : Space → Nat
  | .hbm => 34
  | .vmem => 29
  | .smem => 0
  | _ => 0

abbrev bufTy : (tb : Table) → Fin (tcTables nBuf tb) → BufTy
  | .hbm, ⟨0, _⟩ => ⟨S16384x12288, .f32⟩
  | .hbm, ⟨1, _⟩ => ⟨S896, .f32⟩
  | .hbm, ⟨2, _⟩ => ⟨S896x2048, .f32⟩
  | .hbm, ⟨3, _⟩ => ⟨S896x1024, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S896x16x64, .f32⟩
  | .hbm, ⟨9, _⟩ => ⟨S16x896x64, .f32⟩
  | .hbm, ⟨10, _⟩ => ⟨S16x896x64, .bf16⟩
  | .hbm, ⟨11, _⟩ => ⟨S1x896, .f32⟩
  | .hbm, ⟨12, _⟩ => ⟨S896x2048, .bf16⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S128, .f32⟩
  | .hbm, ⟨17, _⟩ => ⟨S_, .i32⟩
  | .hbm, ⟨18, _⟩ => ⟨S1, .i32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S1, .i32⟩
  | .hbm, ⟨25, _⟩ => ⟨S128, .f32⟩
  | .hbm, ⟨26, _⟩ => ⟨S1x128, .f32⟩
  | .hbm, ⟨27, _⟩ => ⟨S16x16384x128, .bf16⟩
  | .hbm, ⟨28, _⟩ => ⟨S16x16384x64, .bf16⟩
  | .hbm, ⟨29, _⟩ => ⟨S16384x128, .f32⟩
  | .hbm, ⟨30, _⟩ => ⟨S512x16384, .bf16⟩
  | .hbm, ⟨31, _⟩ => ⟨S16384x512, .bf16⟩
  | .hbm, ⟨32, _⟩ => ⟨S64x16384, .bf16⟩
  | .hbm, ⟨33, _⟩ => ⟨S8x16384, .f32⟩
  | .local _ .vmem, ⟨0, _⟩ => ⟨S256x896, .f32⟩
  | .local _ .vmem, ⟨1, _⟩ => ⟨S256x896, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S1x896, .f32⟩
  | .local _ .vmem, ⟨9, _⟩ => ⟨S896x2048, .bf16⟩
  | .local _ .vmem, ⟨10, _⟩ => ⟨S16x896x64, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S16x256x128, .bf16⟩
  | .local _ .vmem, ⟨16, _⟩ => ⟨S16x256x128, .bf16⟩
  | .local _ .vmem, ⟨17, _⟩ => ⟨S16x256x64, .bf16⟩
  | .local _ .vmem, ⟨18, _⟩ => ⟨S16x256x64, .bf16⟩
  | .local _ .vmem, ⟨19, _⟩ => ⟨S256x128, .f32⟩
  | .local _ .vmem, ⟨20, _⟩ => ⟨S256x128, .f32⟩
  | .local _ .vmem, ⟨21, _⟩ => ⟨S512x256, .bf16⟩
  | .local _ .vmem, ⟨22, _⟩ => ⟨S512x256, .bf16⟩
  | .local _ .vmem, ⟨23, _⟩ => ⟨S256x512, .bf16⟩
  | .local _ .vmem, ⟨24, _⟩ => ⟨S256x512, .bf16⟩
  | .local _ .vmem, ⟨25, _⟩ => ⟨S64x256, .bf16⟩
  | .local _ .vmem, ⟨26, _⟩ => ⟨S64x256, .bf16⟩
  | .local _ .vmem, ⟨27, _⟩ => ⟨S8x256, .f32⟩
  | .local _ .vmem, ⟨28, _⟩ => ⟨S8x256, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S896x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x896x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel5Ideal.lean ====
variable {F : FTy → Type} [FloatOps F] [Named F]
def κ : String → Option EReal := fun
  | "scale" => some (((Real.sqrt 128)⁻¹ * (Real.log 2)⁻¹ : ℝ) : EReal)
  | _ => none
-- ==== Reference5Ideal.lean ====
abbrev S16384x12288 : Shape := ⟨2, ![16384, 12288]⟩
abbrev S896 : Shape := ⟨1, ![896]⟩
abbrev S896x2048 : Shape := ⟨2, ![896, 2048]⟩
abbrev S896x1024 : Shape := ⟨2, ![896, 1024]⟩
abbrev S128 : Shape := ⟨1, ![128]⟩
abbrev S64 : Shape := ⟨1, ![64]⟩
abbrev S16384x896 : Shape := ⟨2, ![16384, 896]⟩
abbrev S_ : Shape := ⟨0, ![]⟩
abbrev S16384 : Shape := ⟨1, ![16384]⟩
abbrev S16384x1 : Shape := ⟨2, ![16384, 1]⟩
abbrev S1x896 : Shape := ⟨2, ![1, 896]⟩
abbrev S16384x2048 : Shape := ⟨2, ![16384, 2048]⟩
abbrev S16384x16x128 : Shape := ⟨3, ![16384, 16, 128]⟩
abbrev S16384x16 : Shape := ⟨2, ![16384, 16]⟩
abbrev S16384x16x1 : Shape := ⟨3, ![16384, 16, 1]⟩
abbrev S1x1x128 : Shape := ⟨3, ![1, 1, 128]⟩
abbrev S16384x1024 : Shape := ⟨2, ![16384, 1024]⟩
abbrev S16384x16x64 : Shape := ⟨3, ![16384, 16, 64]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S4x16384 : Shape := ⟨2, ![4, 16384]⟩
abbrev S8x16384 : Shape := ⟨2, ![8, 16384]⟩
abbrev S16384x64 : Shape := ⟨2, ![16384, 64]⟩
abbrev S1x64 : Shape := ⟨2, ![1, 64]⟩
abbrev S16x16384x128 : Shape := ⟨3, ![16, 16384, 128]⟩
abbrev S16x16384x64 : Shape := ⟨3, ![16, 16384, 64]⟩
abbrev S16384x128 : Shape := ⟨2, ![16384, 128]⟩
abbrev S512x16384 : Shape := ⟨2, ![512, 16384]⟩
abbrev S64x16384 : Shape := ⟨2, ![64, 16384]⟩

abbrev nBuf : Space → Nat
  | .hbm => 121
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S896, .f32⟩
  | .hbm, ⟨2, _⟩ => ⟨S896x2048, .f32⟩
  | .hbm, ⟨3, _⟩ => ⟨S896x1024, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S16384x896, .f32⟩
  | .hbm, ⟨9, _⟩ => ⟨S16384x896, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x896, .f32⟩
  | .hbm, ⟨21, _⟩ => ⟨S16384x896, .f32⟩
  | .hbm, ⟨22, _⟩ => ⟨S1x896, .f32⟩
  | .hbm, ⟨23, _⟩ => ⟨S16384x896, .f32⟩
  | .hbm, ⟨24, _⟩ => ⟨S16384x896, .f32⟩
  | .hbm, ⟨25, _⟩ => ⟨S16384x2048, .f32⟩
  | .hbm, ⟨26, _⟩ => ⟨S16384x16x128, .f32⟩
  | .hbm, ⟨27, _⟩ => ⟨S16384x16x128, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S_, .f32⟩
  | .hbm, ⟨35, _⟩ => ⟨S16384x16x1, .f32⟩
  | .hbm, ⟨36, _⟩ => ⟨S16384x16x1, .f32⟩
  | .hbm, ⟨37, _⟩ => ⟨S16384x16x1, .f32⟩
  | .hbm, ⟨38, _⟩ => ⟨S16384x16x128, .f32⟩
  | .hbm, ⟨39, _⟩ => ⟨S16384x16x128, .f32⟩
  | .hbm, ⟨40, _⟩ => ⟨S1x1x128, .f32⟩
  | .hbm, ⟨41, _⟩ => ⟨S16384x16x128, .f32⟩
  | .hbm, ⟨42, _⟩ => ⟨S16384x16x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x16x128, .f32⟩
  | .hbm, ⟨49, _⟩ => ⟨S16384x16x128, .f32⟩
  | .hbm, ⟨50, _⟩ => ⟨S16384x1024, .f32⟩
  | .hbm, ⟨51, _⟩ => ⟨S16384x16x64, .f32⟩
  | .hbm, ⟨52, _⟩ => ⟨S16384x512, .f32⟩
  | .hbm, ⟨53, _⟩ => ⟨S16384x4x128, .f32⟩
  | .hbm, ⟨54, _⟩ => ⟨S16384x4x128, .f32⟩
  | .hbm, ⟨55, _⟩ => ⟨S_, .f32⟩
  | .hbm, ⟨56, _⟩ => ⟨S16384x4, .f32⟩
  | .hbm, ⟨57, _⟩ => ⟨S16384x4x1, .f32⟩
  | .hbm, ⟨58, _⟩ => ⟨S_, .f32⟩
  | .hbm, ⟨59, _⟩ => ⟨S16384x4x1, .f32⟩
  | .hbm, ⟨60, _⟩ => ⟨S16384x4x1, .f32⟩
  | .hbm, ⟨61, _⟩ => ⟨S_, .f32⟩
  | .hbm, ⟨62, _⟩ => ⟨S16384x4x1, .f32⟩
  | .hbm, ⟨63, _⟩ => ⟨S16384x4x1, .f32⟩
  | .hbm, ⟨64, _⟩ => ⟨S16384x4x1, .f32⟩
  | .hbm, ⟨65, _⟩ => ⟨S16384x4x128, .f32⟩
  | .hbm, ⟨66, _⟩ => ⟨S16384x4x128, .f32⟩
  | .hbm, ⟨67, _⟩ => ⟨S1x1x128, .f32⟩
  | .hbm, ⟨68, _⟩ => ⟨S16384x4x128, .f32⟩
  | .hbm, ⟨69, _⟩ => ⟨S16384x4x128, .f32⟩
  | .hbm, ⟨70, _⟩ => ⟨S16384x4x128, .bf16⟩
  | .hbm, ⟨71, _⟩ => ⟨S16384x4x128, .f32⟩
  | .hbm, ⟨72, _⟩ => ⟨S16384x4x128, .f32⟩
  | .hbm, ⟨73, _⟩ => ⟨S_, .f32⟩
  | .hbm, ⟨74, _⟩ => ⟨S16384x4, .f32⟩
  | .hbm, ⟨75, _⟩ => ⟨S4x16384, .f32⟩
  | .hbm, ⟨76, _⟩ => ⟨S_, .f32⟩
  | .hbm, ⟨77, _⟩ => ⟨S4x16384, .f32⟩
  | .hbm, ⟨78, _⟩ => ⟨S8x16384, .f32⟩
  | .hbm, ⟨79, _⟩ => ⟨S16384x64, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x64, .f32⟩
  | .hbm, ⟨100, _⟩ => ⟨S16384x64, .f32⟩
  | .hbm, ⟨101, _⟩ => ⟨S1x64, .f32⟩
  | .hbm, ⟨102, _⟩ => ⟨S16384x64, .f32⟩
  | .hbm, ⟨103, _⟩ => ⟨S16384x64, .f32⟩
  | .hbm, ⟨104, _⟩ => ⟨S1x64, .f32⟩
  | .hbm, ⟨105, _⟩ => ⟨S16384x64, .f32⟩
  | .hbm, ⟨106, _⟩ => ⟨S16384x64, .f32⟩
  | .hbm, ⟨107, _⟩ => ⟨S16x16384x128, .f32⟩
  | .hbm, ⟨108, _⟩ => ⟨S16x16384x128, .bf16⟩
  | .hbm, ⟨109, _⟩ => ⟨S16x16384x64, .f32⟩
  | .hbm, ⟨110, _⟩ => ⟨S16x16384x64, .bf16⟩
  | .hbm, ⟨111, _⟩ => ⟨S16384x128, .f32⟩
  | .hbm, ⟨112, _⟩ => ⟨S_, .f32⟩
  | .hbm, ⟨113, _⟩ => ⟨S16384x128, .f32⟩
  | .hbm, ⟨114, _⟩ => ⟨S16384x128, .f32⟩
  | .hbm, ⟨115, _⟩ => ⟨S16384x512, .bf16⟩
  | .hbm, ⟨116, _⟩ => ⟨S512x16384, .bf16⟩
  | .hbm, ⟨117, _⟩ => ⟨S16384x512, .f32⟩
  | .hbm, ⟨118, _⟩ => ⟨S16384x512, .bf16⟩
  | .hbm, ⟨119, _⟩ => ⟨S64x16384, .f32⟩
  | .hbm, ⟨120, _⟩ => ⟨S64x16384, .bf16⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== Kernel6.lean ====
abbrev S16384x12288 : Shape := ⟨2, ![16384, 12288]⟩
abbrev S8 : Shape := ⟨1, ![8]⟩
abbrev S1024 : Shape := ⟨1, ![1024]⟩
abbrev S_ : Shape := ⟨0, ![]⟩
abbrev S128 : Shape := ⟨1, ![128]⟩
abbrev S1 : Shape := ⟨1, ![1]⟩
abbrev S1x128 : Shape := ⟨2, ![1, 128]⟩
abbrev S1x1024 : Shape := ⟨2, ![1, 1024]⟩
abbrev S16384x1024 : Shape := ⟨2, ![16384, 1024]⟩
abbrev S256x512 : Shape := ⟨2, ![256, 512]⟩
abbrev S256x1024 : Shape := ⟨2, ![256, 1024]⟩
abbrev S256x128 : Shape := ⟨2, ![256, 128]⟩
abbrev S8x64x128 : Shape := ⟨3, ![8, 64, 128]⟩
abbrev S8x64 : Shape := ⟨2, ![8, 64]⟩
abbrev S8x128 : Shape := ⟨2, ![8, 128]⟩
abbrev S128x256 : Shape := ⟨2, ![128, 256]⟩
abbrev S16x256 : Shape := ⟨2, ![16, 256]⟩
abbrev S256x256 : Shape := ⟨2, ![256, 256]⟩
abbrev S256x1 : Shape := ⟨2, ![256, 1]⟩
abbrev S1x256 : Shape := ⟨2, ![1, 256]⟩
abbrev S1x1 : Shape := ⟨2, ![1, 1]⟩
abbrev S256x64 : Shape := ⟨2, ![256, 64]⟩
abbrev S1x64x128 : Shape := ⟨3, ![1, 64, 128]⟩
abbrev S64x128 : Shape := ⟨2, ![64, 128]⟩
abbrev S1x64 : Shape := ⟨2, ![1, 64]⟩
abbrev S256 : Shape := ⟨1, ![256]⟩
abbrev S64 : Shape := ⟨1, ![64]⟩

abbrev nBuf : Space → Nat
  | .hbm => 18
  | .vmem => 19
  | .smem => 0
  | _ => 0

abbrev bufTy : (tb : Table) → Fin (tcTables nBuf tb) → BufTy
  | .hbm, ⟨0, _⟩ => ⟨S16384x12288, .f32⟩
  | .hbm, ⟨1, _⟩ => ⟨S8, .f32⟩
  | .hbm, ⟨2, _⟩ => ⟨S8, .f32⟩
  | .hbm, ⟨3, _⟩ => ⟨S1024, .f32⟩
  | .hbm, ⟨4, _⟩ => ⟨S_, .f32⟩
  | .hbm, ⟨5, _⟩ => ⟨S128, .f32⟩
  | .hbm, ⟨6, _⟩ => ⟨S_, .i32⟩
  | .hbm, ⟨7, _⟩ => ⟨S1, .i32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S1, .i32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S1x1024, .f32⟩
  | .hbm, ⟨17, _⟩ => ⟨S16384x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S8x64x128, .f32⟩
  | .local _ .vmem, ⟨17, _⟩ => ⟨S8x64, .f32⟩
  | .local _ .vmem, ⟨18, _⟩ => ⟨S8x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x12288 : Shape := ⟨2, ![16384, 12288]⟩
abbrev S8 : Shape := ⟨1, ![8]⟩
abbrev S1024 : Shape := ⟨1, ![1024]⟩
abbrev S16384x512 : Shape := ⟨2, ![16384, 512]⟩
abbrev S16384x8x64 : Shape := ⟨3, ![16384, 8, 64]⟩
abbrev S_ : Shape := ⟨0, ![]⟩
abbrev S16384x1024 : Shape := ⟨2, ![16384, 1024]⟩
abbrev S16384x8x128 : Shape := ⟨3, ![16384, 8, 128]⟩
abbrev S16384x8 : Shape := ⟨2, ![16384, 8]⟩
abbrev S1x8 : Shape := ⟨2, ![1, 8]⟩
abbrev S8x64x128 : Shape := ⟨3, ![8, 64, 128]⟩
abbrev S8x64 : Shape := ⟨2, ![8, 64]⟩
abbrev S1x8x64 : Shape := ⟨3, ![1, 8, 64]⟩
abbrev S1x8x128 : Shape := ⟨3, ![1, 8, 128]⟩
abbrev S8x128 : Shape := ⟨2, ![8, 128]⟩
abbrev S8x1x1 : Shape := ⟨3, ![8, 1, 1]⟩
abbrev S8x64x1 : Shape := ⟨3, ![8, 64, 1]⟩
abbrev S8x1x128 : Shape := ⟨3, ![8, 1, 128]⟩
abbrev S8x1 : Shape := ⟨2, ![8, 1]⟩
abbrev S16384x8x1 : Shape := ⟨3, ![16384, 8, 1]⟩

abbrev nBuf : Space → Nat
  | .hbm => 162
  | .vmem => 0
  | .smem => 0
  | _ => 0

abbrev hbmTy0_0 (i : Nat) : BufTy := match i % 128 with
  | 0 => ⟨S16384x12288, .f32⟩
  | 1 => ⟨S8, .f32⟩
  | 2 => ⟨S8, .f32⟩
  | 3 => ⟨S1024, .f32⟩
  | 4 => ⟨S16384x512, .f32⟩
  | 5 => ⟨S16384x8x64, .f32⟩
  | 6 => ⟨S_, .f32⟩
  | 7 => ⟨S16384x8x64, .f32⟩
  | 8 => ⟨S16384x8x64, .f32⟩
  | 9 => ⟨S16384x512, .f32⟩
  | 10 => ⟨S16384x8x64, .f32⟩
  | 11 => ⟨S16384x1024, .f32⟩
  | 12 => ⟨S16384x8x128, .f32⟩
  | 13 => ⟨S16384x8, .f32⟩
  | 14 => ⟨S1x8, .f32⟩
  | 15 => ⟨S16384x8, .f32⟩
  | 16 => ⟨S16384x8, .f32⟩
  | 17 => ⟨S_, .f32⟩
  | 18 => ⟨S16384x8, .f32⟩
  | 19 => ⟨S16384x8, .f32⟩
  | 20 => ⟨S16384x8, .f32⟩
  | 21 => ⟨S_, .f32⟩
  | 22 => ⟨S16384x8, .f32⟩
  | 23 => ⟨S16384x8, .f32⟩
  | 24 => ⟨S16384x8, .f32⟩
  | 25 => ⟨S16384x8, .f32⟩
  | 26 => ⟨S1x8, .f32⟩
  | 27 => ⟨S16384x8, .f32⟩
  | 28 => ⟨S16384x8, .f32⟩
  | 29 => ⟨S_, .f32⟩
  | 30 => ⟨S16384x8, .f32⟩
  | 31 => ⟨S16384x8, .f32⟩
  | 32 => ⟨S16384x8, .f32⟩
  | 33 => ⟨S_, .f32⟩
  | 34 => ⟨S16384x8, .f32⟩
  | 35 => ⟨S16384x8, .f32⟩
  | 36 => ⟨S16384x8, .f32⟩
  | 37 => ⟨S16384x8, .f32⟩
  | 38 => ⟨S_, .f32⟩
  | 39 => ⟨S16384x8, .f32⟩
  | 40 => ⟨S16384x8, .f32⟩
  | 41 => ⟨S_, .f32⟩
  | 42 => ⟨S16384x8, .f32⟩
  | 43 => ⟨S16384x8, .f32⟩
  | 44 => ⟨S_, .f32⟩
  | 45 => ⟨S8x64x128, .f32⟩
  | 46 => ⟨S_, .f32⟩
  | 47 => ⟨S8x64, .f32⟩
  | 48 => ⟨S_, .f32⟩
  | 49 => ⟨S16384x8x128, .f32⟩
  | 50 => ⟨S_, .i32⟩
  | 51 => ⟨S16384x8x64, .f32⟩
  | 52 => ⟨S16384x8x64, .f32⟩
  | 53 => ⟨S16384x8x128, .f32⟩
  | 54 => ⟨S16384x8, .f32⟩
  | 55 => ⟨S16384x8, .f32⟩
  | 56 => ⟨S_, .i32⟩
  | 57 => ⟨S8x64x128, .f32⟩
  | 58 => ⟨S8x64, .f32⟩
  | 59 => ⟨S16384x8x128, .f32⟩
  | 60 => ⟨S_, .i32⟩
  | 61 => ⟨S_, .i1⟩
  | 62 => ⟨S_, .i32⟩
  | 63 => ⟨S_, .i32⟩
  | 64 => ⟨S1x8x64, .f32⟩
  | 65 => ⟨S8x64, .f32⟩
  | 66 => ⟨S_, .i32⟩
  | 67 => ⟨S_, .i32⟩
  | 68 => ⟨S1x8x64, .f32⟩
  | 69 => ⟨S8x64, .f32⟩
  | 70 => ⟨S_, .i32⟩
  | 71 => ⟨S_, .i32⟩
  | 72 => ⟨S1x8x128, .f32⟩
  | 73 => ⟨S8x128, .f32⟩
  | 74 => ⟨S_, .i32⟩
  | 75 => ⟨S1x8, .f32⟩
  | 76 => ⟨S8, .f32⟩
  | 77 => ⟨S_, .i32⟩
  | 78 => ⟨S1x8, .f32⟩
  | 79 => ⟨S8, .f32⟩
  | 80 => ⟨S8x1x1, .f32⟩
  | 81 => ⟨S8x64x128, .f32⟩
  | 82 => ⟨S8x64x128, .f32⟩
  | 83 => ⟨S8x1x1, .f32⟩
  | 84 => ⟨S8x64x1, .f32⟩
  | 85 => ⟨S8x1x128, .f32⟩
  | 86 => ⟨S8x64x128, .f32⟩
  | 87 => ⟨S8x64x128, .f32⟩
  | 88 => ⟨S8x64x128, .f32⟩
  | 89 => ⟨S8x64x128, .f32⟩
  | 90 => ⟨S8x64x128, .f32⟩
  | 91 => ⟨S8x64x128, .f32⟩
  | 92 => ⟨S8x1, .f32⟩
  | 93 => ⟨S8x64, .f32⟩
  | 94 => ⟨S8x64, .f32⟩
  | 95 => ⟨S8x1, .f32⟩
  | 96 => ⟨S8x64, .f32⟩
  | 97 => ⟨S8x64, .f32⟩
  | 98 => ⟨S8x64, .f32⟩
  | 99 => ⟨S8x64x1, .f32⟩
  | 100 => ⟨S8x64x128, .f32⟩
  | 101 => ⟨S8x64x128, .f32⟩
  | 102 => ⟨S_, .f32⟩
  | 103 => ⟨S8x128, .f32⟩
  | 104 => ⟨S8x64, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S8x1, .f32⟩
  | 112 => ⟨S8x128, .f32⟩
  | 113 => ⟨S8x128, .f32⟩
  | 114 => ⟨S1x8x128, .f32⟩
  | 115 => ⟨S_, .i32⟩
  | 116 => ⟨S_, .i32⟩
  | 117 => ⟨S16384x8x128, .f32⟩
  | 118 => ⟨S_, .i32⟩
  | 119 => ⟨S_, .i32⟩
  | 120 => ⟨S16384x8x128, .f32⟩
  | 121 => ⟨S_, .f32⟩
  | 122 => ⟨S16384x8, .f32⟩
  | 123 => ⟨S16384x8x1, .f32⟩
  | 124 => ⟨S_, .f32⟩
  | 125 => ⟨S16384x8x1, .f32⟩
  | 126 => ⟨S16384x8x1, .f32⟩
  | 127 => ⟨S_, .f32⟩
  | _ => ⟨S16384x12288, .f32⟩

abbrev hbmTy0_1 (i : Nat) : BufTy := match i % 128 with
  | 0 => ⟨S16384x8x1, .f32⟩
  | 1 => ⟨S16384x8x1, .f32⟩
  | 2 => ⟨S16384x8x1, .f32⟩
  | 3 => ⟨S16384x8x128, .f32⟩
  | 4 => ⟨S16384x8x128, .f32⟩
  | 5 => ⟨S8x128, .f32⟩
  | 6 => ⟨S1x8x128, .f32⟩
  | 7 => ⟨S16384x8x128, .f32⟩
  | 8 => ⟨S16384x8x128, .f32⟩
  | 9 => ⟨S16384x1024, .f32⟩
  | 10 => ⟨S16384x8x128, .f32⟩
  | 11 => ⟨S16384x1024, .f32⟩
  | 12 => ⟨S16384x8x128, .f32⟩
  | 13 => ⟨S16384x8x128, .f32⟩
  | 14 => ⟨S16384x8x128, .f32⟩
  | 15 => ⟨S_, .f32⟩
  | 16 => ⟨S16384x8x128, .f32⟩
  | 17 => ⟨S16384x8x128, .f32⟩
  | 18 => ⟨S_, .f32⟩
  | 19 => ⟨S16384x8x128, .f32⟩
  | 20 => ⟨S16384x8x128, .f32⟩
  | 21 => ⟨S16384x8x128, .f32⟩
  | 22 => ⟨S16384x8x128, .f32⟩
  | 23 => ⟨S16384x8x128, .f32⟩
  | 24 => ⟨S_, .f32⟩
  | 25 => ⟨S16384x8x128, .f32⟩
  | 26 => ⟨S16384x8x128, .f32⟩
  | 27 => ⟨S_, .f32⟩
  | 28 => ⟨S16384x8x128, .f32⟩
  | 29 => ⟨S16384x8x128, .f32⟩
  | 30 => ⟨S16384x8x128, .f32⟩
  | 31 => ⟨S16384x8x128, .f32⟩
  | 32 => ⟨S16384x1024, .f32⟩
  | 33 => ⟨S16384x1024, .bf16⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_c : Ref sig .tc := ⟨.hbm, 50, rfl⟩
abbrev main_v36_0 : Ref sig .tc := ⟨.hbm, 51, rfl⟩
abbrev main_v36_1 : Ref sig .tc := ⟨.hbm, 52, rfl⟩
abbrev main_v36_2 : Ref sig .tc := ⟨.hbm, 53, rfl⟩
abbrev main_v36_3 : Ref sig .tc := ⟨.hbm, 54, rfl⟩
abbrev main_v36_4 : Ref sig .tc := ⟨.hbm, 55, rfl⟩
abbrev main_v36_5 : Ref sig .tc := ⟨.hbm, 56, rfl⟩
abbrev main_v36_6 : Ref sig .tc := ⟨.hbm, 57, rfl⟩
abbrev main_v36_7 : Ref sig .tc := ⟨.hbm, 58, rfl⟩
abbrev main_v36_8 : Ref sig .tc := ⟨.hbm, 59, rfl⟩
abbrev main_while0c_c_24 : Ref sig .tc := ⟨.hbm, 60, rfl⟩
abbrev main_while0c_v72 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v72 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v73 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_v0 : Ref sig .tc := ⟨.hbm, 72, rfl⟩
abbrev main_while0b_v74 : Ref sig .tc := ⟨.hbm, 73, rfl⟩
abbrev main_while0b_call3_c : Ref sig .tc := ⟨.hbm, 74, rfl⟩
abbrev main_while0b_call3_v0 : Ref sig .tc := ⟨.hbm, 75, rfl⟩
abbrev main_while0b_v75 : Ref sig .tc := ⟨.hbm, 76, rfl⟩
abbrev main_while0b_call4_c : Ref sig .tc := ⟨.hbm, 77, rfl⟩
abbrev main_while0b_call4_v0 : Ref sig .tc := ⟨.hbm, 78, rfl⟩
abbrev main_while0b_v76 : Ref sig .tc := ⟨.hbm, 79, rfl⟩
abbrev main_while0b_v77 : Ref sig .tc := ⟨.hbm, 80, rfl⟩
abbrev main_while0b_v78 : Ref sig .tc := ⟨.hbm, 81, rfl⟩
abbrev main_while0b_v79 : Ref sig .tc := ⟨.hbm, 82, rfl⟩
abbrev main_while0b_v80 : Ref sig .tc := ⟨.hbm, 83, rfl⟩
abbrev main_while0b_v81 : Ref sig .tc := ⟨.hbm, 84, rfl⟩
abbrev main_while0b_v82 : Ref sig .tc := ⟨.hbm, 85, rfl⟩
abbrev main_while0b_v83 : Ref sig .tc := ⟨.hbm, 86, rfl⟩
abbrev main_while0b_v84 : Ref sig .tc := ⟨.hbm, 87, rfl⟩
abbrev main_while0b_v85 : Ref sig .tc := ⟨.hbm, 88, rfl⟩
abbrev main_while0b_v86 : Ref sig .tc := ⟨.hbm, 89, rfl⟩
abbrev main_while0b_v87 : Ref sig .tc := ⟨.hbm, 90, rfl⟩
abbrev main_while0b_v88 : Ref sig .tc := ⟨.hbm, 91, rfl⟩
abbrev main_while0b_v89 : Ref sig .tc := ⟨.hbm, 92, rfl⟩
abbrev main_while0b_v90 : Ref sig .tc := ⟨.hbm, 93, rfl⟩
abbrev main_while0b_v91 : Ref sig .tc := ⟨.hbm, 94, rfl⟩
abbrev main_while0b_v92 : Ref sig .tc := ⟨.hbm, 95, rfl⟩
abbrev main_while0b_v93 : Ref sig .tc := ⟨.hbm, 96, rfl⟩
abbrev main_while0b_v94 : Ref sig .tc := ⟨.hbm, 97, rfl⟩
abbrev main_while0b_v95 : Ref sig .tc := ⟨.hbm, 98, rfl⟩
abbrev main_while0b_v96 : Ref sig .tc := ⟨.hbm, 99, rfl⟩
abbrev main_while0b_v97 : Ref sig .tc := ⟨.hbm, 100, rfl⟩
abbrev main_while0b_v98 : Ref sig .tc := ⟨.hbm, 101, rfl⟩
abbrev main_while0b_cst_24 : Ref sig .tc := ⟨.hbm, 102, rfl⟩
abbrev main_while0b_v99 : Ref sig .tc := ⟨.hbm, 103, rfl⟩
abbrev main_while0b_v100 : Ref sig .tc := ⟨.hbm, 104, rfl⟩
abbrev main_while0b_cst_25 : Ref sig .tc := ⟨.hbm, 105, rfl⟩
abbrev main_while0b_v101 : Ref sig .tc := ⟨.hbm, 106, rfl⟩
abbrev main_while0b_v102 : Ref sig .tc := ⟨.hbm, 107, rfl⟩
abbrev main_while0b_cst_26 : Ref sig .tc := ⟨.hbm, 108, rfl⟩
abbrev main_while0b_v103 : Ref sig .tc := ⟨.hbm, 109, rfl⟩
abbrev main_while0b_v104 : Ref sig .tc := ⟨.hbm, 110, rfl⟩
abbrev main_while0b_v105 : Ref sig .tc := ⟨.hbm, 111, rfl⟩
abbrev main_while0b_v106 : Ref sig .tc := ⟨.hbm, 112, rfl⟩
abbrev main_while0b_v107 : Ref sig .tc := ⟨.hbm, 113, rfl⟩
abbrev main_while0b_call5_v0 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_v108 : Ref sig .tc := ⟨.hbm, 117, rfl⟩
abbrev main_while0b_c_27 : Ref sig .tc := ⟨.hbm, 118, rfl⟩
abbrev main_while0b_v109 : Ref sig .tc := ⟨.hbm, 119, rfl⟩
abbrev main_v37 : Ref sig .tc := ⟨.hbm, 120, rfl⟩
abbrev main_cst_9 : Ref sig .tc := ⟨.hbm, 121, rfl⟩
abbrev main_v38 : Ref sig .tc := ⟨.hbm, 122, rfl⟩
abbrev main_v39 : Ref sig .tc := ⟨.hbm, 123, rfl⟩
abbrev main_cst_10 : Ref sig .tc := ⟨.hbm, 124, rfl⟩
abbrev main_v40 : Ref sig .tc := ⟨.hbm, 125, rfl⟩
abbrev main_v41 : Ref sig .tc := ⟨.hbm, 126, rfl⟩
abbrev main_cst_11 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_cst_12 : Ref sig .tc := ⟨.hbm, 143, rfl⟩
abbrev main_v57 : Ref sig .tc := ⟨.hbm, 144, rfl⟩
abbrev main_v58 : Ref sig .tc := ⟨.hbm, 145, rfl⟩
abbrev main_cst_13 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_14 : Ref sig .tc := ⟨.hbm, 152, rfl⟩
abbrev main_v64 : Ref sig .tc := ⟨.hbm, 153, rfl⟩
abbrev main_v65 : Ref sig .tc := ⟨.hbm, 154, rfl⟩
abbrev main_cst_15 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩

abbrev nD : Nat := 1
abbrev τ : Topo := Topo.v7x

variable {F : FTy → Type} [FloatOps F]

abbrev main_while0_count : Scf.Loop 32 := ⟨0#32, 16384#32, 1#32⟩
-- ==== Kernel7.lean ====
abbrev S16384x12288 : Shape := ⟨2, ![16384, 12288]⟩
abbrev S4x3072 : Shape := ⟨2, ![4, 3072]⟩
abbrev S8 : Shape := ⟨1, ![8]⟩
abbrev S_ : Shape := ⟨0, ![]⟩
abbrev S128 : Shape := ⟨1, ![128]⟩
abbrev S1 : Shape := ⟨1, ![1]⟩
abbrev S1x128 : Shape := ⟨2, ![1, 128]⟩
abbrev S128x1 : Shape := ⟨2, ![128, 1]⟩
abbrev S16384x1024 : Shape := ⟨2, ![16384, 1024]⟩
abbrev S8x16384x64 : Shape := ⟨3, ![8, 16384, 64]⟩
abbrev S256x8x128 : Shape := ⟨3, ![256, 8, 128]⟩
abbrev S64x1024 : Shape := ⟨2, ![64, 1024]⟩
abbrev S8x1024 : Shape := ⟨2, ![8, 1024]⟩
abbrev S64x128 : Shape := ⟨2, ![64, 128]⟩
abbrev S8x64x64 : Shape := ⟨3, ![8, 64, 64]⟩
abbrev S1x8x128 : Shape := ⟨3, ![1, 8, 128]⟩
abbrev S4x1024 : Shape := ⟨2, ![4, 1024]⟩
abbrev S72x1024 : Shape := ⟨2, ![72, 1024]⟩
abbrev S1x1024 : Shape := ⟨2, ![1, 1024]⟩
abbrev S128x64 : Shape := ⟨2, ![128, 64]⟩
abbrev S8x1 : Shape := ⟨2, ![8, 1]⟩
abbrev S8x64 : Shape := ⟨2, ![8, 64]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S1x64x64 : Shape := ⟨3, ![1, 64, 64]⟩
abbrev S1x1x128 : Shape := ⟨3, ![1, 1, 128]⟩

abbrev nBuf : Space → Nat
  | .hbm => 24
  | .vmem => 31
  | .smem => 0
  | _ => 0

abbrev bufTy : (tb : Table) → Fin (tcTables nBuf tb) → BufTy
  | .hbm, ⟨0, _⟩ => ⟨S16384x12288, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S128, .f32⟩
  | .hbm, ⟨6, _⟩ => ⟨S_, .i32⟩
  | .hbm, ⟨7, _⟩ => ⟨S1, .i32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S1, .i32⟩
  | .hbm, ⟨13, _⟩ => ⟨S128, .f32⟩
  | .hbm, ⟨14, _⟩ => ⟨S1x128, .f32⟩
  | .hbm, ⟨15, _⟩ => ⟨S128x1, .f32⟩
  | .hbm, ⟨16, _⟩ => ⟨S1x128, .f32⟩
  | .hbm, ⟨17, _⟩ => ⟨S128x1, .f32⟩
  | .hbm, ⟨18, _⟩ => ⟨S16384x1024, .f32⟩
  | .hbm, ⟨19, _⟩ => ⟨S16384x1024, .bf16⟩
  | .hbm, ⟨20, _⟩ => ⟨S16384x1024, .bf16⟩
  | .hbm, ⟨21, _⟩ => ⟨S16384x1024, .bf16⟩
  | .hbm, ⟨22, _⟩ => ⟨S8x16384x64, .bf16⟩
  | .hbm, ⟨23, _⟩ => ⟨S256x8x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S64x128, .f32⟩
  | .local _ .vmem, ⟨13, _⟩ => ⟨S64x128, .f32⟩
  | .local _ .vmem, ⟨14, _⟩ => ⟨S4x3072, .f32⟩
  | .local _ .vmem, ⟨15, _⟩ => ⟨S1x128, .f32⟩
  | .local _ .vmem, ⟨16, _⟩ => ⟨S128x1, .f32⟩
  | .local _ .vmem, ⟨17, _⟩ => ⟨S1x128, .f32⟩
  | .local _ .vmem, ⟨18, _⟩ => ⟨S128x1, .f32⟩
  | .local _ .vmem, ⟨19, _⟩ => ⟨S64x1024, .f32⟩
  | .local _ .vmem, ⟨20, _⟩ => ⟨S64x1024, .f32⟩
  | .local _ .vmem, ⟨21, _⟩ => ⟨S64x1024, .bf16⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | .local _ .vmem, ⟨26, _⟩ => ⟨S64x1024, .bf16⟩
  | .local _ .vmem, ⟨27, _⟩ => ⟨S8x64x64, .bf16⟩
  | .local _ .vmem, ⟨28, _⟩ => ⟨S8x64x64, .bf16⟩
  | .local _ .vmem, ⟨29, _⟩ => ⟨S1x8x128, .f32⟩
  | .local _ .vmem, ⟨30, _⟩ => ⟨S1x8x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x64x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference7Ideal.lean ====
abbrev S16384x12288 : Shape := ⟨2, ![16384, 12288]⟩
abbrev S4x3072 : Shape := ⟨2, ![4, 3072]⟩
abbrev S8 : Shape := ⟨1, ![8]⟩
abbrev S_ : Shape := ⟨0, ![]⟩
abbrev S3x2048 : Shape := ⟨2, ![3, 2048]⟩
abbrev S16384x2048 : Shape := ⟨2, ![16384, 2048]⟩
abbrev S16387x2048 : Shape := ⟨2, ![16387, 2048]⟩
abbrev S4x2048 : Shape := ⟨2, ![4, 2048]⟩
abbrev S1x2048 : Shape := ⟨2, ![1, 2048]⟩
abbrev S2048 : Shape := ⟨1, ![2048]⟩
abbrev S256x64x16x128 : Shape := ⟨4, ![256, 64, 16, 128]⟩
abbrev S256x64x16 : Shape := ⟨3, ![256, 64, 16]⟩
abbrev S256x64x16x1 : Shape := ⟨4, ![256, 64, 16, 1]⟩
abbrev S256x64x8x128 : Shape := ⟨4, ![256, 64, 8, 128]⟩
abbrev S16384x8 : Shape := ⟨2, ![16384, 8]⟩
abbrev S1x8 : Shape := ⟨2, ![1, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S256x64x8 : Shape := ⟨3, ![256, 64, 8]⟩
abbrev S256x8x64 : Shape := ⟨3, ![256, 8, 64]⟩
abbrev S256x1x8 : Shape := ⟨3, ![256, 1, 8]⟩
abbrev S256x64x8x1 : Shape := ⟨4, ![256, 64, 8, 1]⟩
abbrev S8x256x64 : Shape := ⟨3, ![8, 256, 64]⟩
abbrev S8x256x64x1 : Shape := ⟨4, ![8, 256, 64, 1]⟩
abbrev S8x256x1x64 : Shape := ⟨4, ![8, 256, 1, 64]⟩
abbrev S8x256x64x64 : Shape := ⟨4, ![8, 256, 64, 64]⟩
abbrev S256x8 : Shape := ⟨2, ![256, 8]⟩
abbrev S256x8x1 : Shape := ⟨3, ![256, 8, 1]⟩
abbrev S16384x1024 : Shape := ⟨2, ![16384, 1024]⟩
abbrev S8x16384x64 : Shape := ⟨3, ![8, 16384, 64]⟩
abbrev S256x8x128 : Shape := ⟨3, ![256, 8, 128]⟩

abbrev nBuf : Space → Nat
  | .hbm => 126
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S3x2048, .f32⟩
  | .hbm, ⟨6, _⟩ => ⟨S16384x2048, .f32⟩
  | .hbm, ⟨7, _⟩ => ⟨S16387x2048, .f32⟩
  | .hbm, ⟨8, _⟩ => ⟨S4x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S256x64x16x128, .f32⟩
  | .hbm, ⟨46, _⟩ => ⟨S256x64x16x128, .f32⟩
  | .hbm, ⟨47, _⟩ => ⟨S_, .f32⟩
  | .hbm, ⟨48, _⟩ => ⟨S256x64x16, .f32⟩
  | .hbm, ⟨49, _⟩ => ⟨S256x64x16x1, .f32⟩
  | .hbm, ⟨50, _⟩ => ⟨S_, .f32⟩
  | .hbm, ⟨51, _⟩ => ⟨S256x64x16x1, .f32⟩
  | .hbm, ⟨52, _⟩ => ⟨S256x64x16x1, .f32⟩
  | .hbm, ⟨53, _⟩ => ⟨S256x64x16x1, .f32⟩
  | .hbm, ⟨54, _⟩ => ⟨S256x64x16x128, .f32⟩
  | .hbm, ⟨55, _⟩ => ⟨S256x64x16x128, .f32⟩
  | .hbm, ⟨56, _⟩ => ⟨S256x64x8x128, .f32⟩
  | .hbm, ⟨57, _⟩ => ⟨S_, .f32⟩
  | .hbm, ⟨58, _⟩ => ⟨S256x64x8x128, .f32⟩
  | .hbm, ⟨59, _⟩ => ⟨S256x64x8x128, .f32⟩
  | .hbm, ⟨60, _⟩ => ⟨S256x64x8x128, .f32⟩
  | .hbm, ⟨61, _⟩ => ⟨S8, .f32⟩
  | .hbm, ⟨62, _⟩ => ⟨S8, .f32⟩
  | .hbm, ⟨63, _⟩ => ⟨S16384x8, .f32⟩
  | .hbm, ⟨64, _⟩ => ⟨S1x8, .f32⟩
  | .hbm, ⟨65, _⟩ => ⟨S16384x8, .f32⟩
  | .hbm, ⟨66, _⟩ => ⟨S16384x8, .f32⟩
  | .hbm, ⟨67, _⟩ => ⟨S16384x8, .f32⟩
  | .hbm, ⟨68, _⟩ => ⟨S_, .f32⟩
  | .hbm, ⟨69, _⟩ => ⟨S16384x8, .f32⟩
  | .hbm, ⟨70, _⟩ => ⟨S16384x8, .f32⟩
  | .hbm, ⟨71, _⟩ => ⟨S16384x8, .f32⟩
  | .hbm, ⟨72, _⟩ => ⟨S1x8, .f32⟩
  | .hbm, ⟨73, _⟩ => ⟨S16384x8, .f32⟩
  | .hbm, ⟨74, _⟩ => ⟨S16384x8, .f32⟩
  | .hbm, ⟨75, _⟩ => ⟨S64, .i32⟩
  | .hbm, ⟨76, _⟩ => ⟨S1x64, .i32⟩
  | .hbm, ⟨77, _⟩ => ⟨S64, .i32⟩
  | .hbm, ⟨78, _⟩ => ⟨S64x1, .i32⟩
  | .hbm, ⟨79, _⟩ => ⟨S64x64, .i32⟩
  | .hbm, ⟨80, _⟩ => ⟨S64x64, .i32⟩
  | .hbm, ⟨81, _⟩ => ⟨S64x64, .i1⟩
  | .hbm, ⟨82, _⟩ => ⟨S_, .f32⟩
  | .hbm, ⟨83, _⟩ => ⟨S_, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S256x64x8, .f32⟩
  | .hbm, ⟨89, _⟩ => ⟨S256x8x64, .f32⟩
  | .hbm, ⟨90, _⟩ => ⟨S256x64x8, .f32⟩
  | .hbm, ⟨91, _⟩ => ⟨S256x1x8, .f32⟩
  | .hbm, ⟨92, _⟩ => ⟨S256x64x8, .f32⟩
  | .hbm, ⟨93, _⟩ => ⟨S256x64x8x1, .f32⟩
  | .hbm, ⟨94, _⟩ => ⟨S256x64x8x128, .f32⟩
  | .hbm, ⟨95, _⟩ => ⟨S256x64x8x128, .f32⟩
  | .hbm, ⟨96, _⟩ => ⟨S256x64x8, .f32⟩
  | .hbm, ⟨97, _⟩ => ⟨S256x64x8, .f32⟩
  | .hbm, ⟨98, _⟩ => ⟨S256x64x8, .f32⟩
  | .hbm, ⟨99, _⟩ => ⟨S256x64x8x1, .f32⟩
  | .hbm, ⟨100, _⟩ => ⟨S256x64x8x128, .f32⟩
  | .hbm, ⟨101, _⟩ => ⟨S256x64x8x128, .f32⟩
  | .hbm, ⟨102, _⟩ => ⟨S8x256x64, .f32⟩
  | .hbm, ⟨103, _⟩ => ⟨S8x256x64x1, .f32⟩
  | .hbm, ⟨104, _⟩ => ⟨S8x256x1x64, .f32⟩
  | .hbm, ⟨105, _⟩ => ⟨S8x256x64x64, .f32⟩
  | .hbm, ⟨106, _⟩ => ⟨S8x256x64x64, .f32⟩
  | .hbm, ⟨107, _⟩ => ⟨S8x256x64x64, .f32⟩
  | .hbm, ⟨108, _⟩ => ⟨S8x256x64x64, .f32⟩
  | .hbm, ⟨109, _⟩ => ⟨S_, .f32⟩
  | .hbm, ⟨110, _⟩ => ⟨S_, .f32⟩
  | .hbm, ⟨111, _⟩ => ⟨S8x256x64x64, .i1⟩
  | .hbm, ⟨112, _⟩ => ⟨S8x256x64x64, .f32⟩
  | .hbm, ⟨113, _⟩ => ⟨S8x256x64x64, .f32⟩
  | .hbm, ⟨114, _⟩ => ⟨S8x256x64x64, .f32⟩
  | .hbm, ⟨115, _⟩ => ⟨S8x256x64x64, .f32⟩
  | .hbm, ⟨116, _⟩ => ⟨S256x1x8, .f32⟩
  | .hbm, ⟨117, _⟩ => ⟨S256x8, .f32⟩
  | .hbm, ⟨118, _⟩ => ⟨S256x8x1, .f32⟩
  | .hbm, ⟨119, _⟩ => ⟨S16384x1024, .f32⟩
  | .hbm, ⟨120, _⟩ => ⟨S16384x1024, .bf16⟩
  | .hbm, ⟨121, _⟩ => ⟨S16384x1024, .f32⟩
  | .hbm, ⟨122, _⟩ => ⟨S16384x1024, .bf16⟩
  | .hbm, ⟨123, _⟩ => ⟨S8x16384x64, .f32⟩
  | .hbm, ⟨124, _⟩ => ⟨S8x16384x64, .bf16⟩
  | .hbm, ⟨125, _⟩ => ⟨S256x8x128, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_6 : Ref sig .tc := ⟨.hbm, 82, rfl⟩
abbrev main_cst_7 : Ref sig .tc := ⟨.hbm, 83, rfl⟩
abbrev main_call0_v0 : Ref sig .tc := ⟨.hbm, 84, rfl⟩
abbrev main_call0_v1 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_8 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩

abbrev nD : Nat := 1
abbrev τ : Topo := Topo.v7x

variable {F : FTy → Type} [FloatOps F]
-- ==== Proof.ScanMath.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.KernelIdeal.Scan

open Cert.KernelIdeal Cert.KernelIdeal.Gen

/-- One chunk of one operand: head, row of the chunk, lane. -/
abbrev Chunk := Fin 8 → Fin 64 → Fin 128 → Ideal .f32

/-- The state: head, key lane, value lane. -/
abbrev State := Vec Ideal S8x128x128 .f32

/-- The corrected values of a chunk: what the state would not have predicted. -/
def corr (u w : Chunk) (S : State) (h : Fin 8) (l : Fin 64) (v : Fin 128) : Ideal .f32 :=
  u h l v - ∑ d : Fin 128, w h l d * S (ix3 h d v)

/-- The state after a chunk: the decayed state plus the chunk's keys against its corrected values. -/
def nextS (u w kd : Chunk) (dec : Fin 8 → Fin 128 → Ideal .f32) (S : State) : State := fun i =>
  dec (i 0) (i 2) * S i + ∑ l : Fin 64, kd (i 0) l (i 1) * corr u w S (i 0) l (i 2)

/-- The outputs of a chunk: the queries against the state before it, plus the scores against its corrected values. -/
def outS (u w qd : Chunk) (a : Fin 8 → Fin 64 → Fin 64 → Ideal .f32) (S : State) (h : Fin 8) (l : Fin 64) (v : Fin 128) :
    Ideal .f32 :=
  ∑ d : Fin 128, qd h l d * S (ix3 h d v) + ∑ s : Fin 64, a h l s * corr u w S h s v

/-- A row of outputs of one head, normed by its mean square, scaled, and gated by `z` times its logistic. -/
def gate (o ng z : Fin 128 → Ideal .f32) (v : Fin 128) : Ideal .f32 :=
  o v * Ideal.rsqrt (Ideal.div (∑ j : Fin 128, o j * o j) (Ideal.ofBits FTy.f32 1124073472#32) + Ideal.ofBits FTy.f32 897988541#32)
    * ng v * (z v * Ideal.logistic (z v))

/-- Chunk `k` of a block of four chunks of rows, eight heads of lanes side by side. -/
def cut {φ : FTy} (X : FVec Ideal S256x1024 φ) (k : Fin 4) : Chunk := fun h l d =>
  X (ix2 ⟨64 * k.val + l.val, by omega⟩ ⟨128 * h.val + d.val, by omega⟩)

/-- Chunk `k` of a block of scores. -/
def cutA (X : Vec Ideal S8x256x64 .bf16) (k : Fin 4) : Fin 8 → Fin 64 → Fin 64 → Ideal .f32 := fun h l s =>
  X (ix3 h ⟨64 * k.val + l.val, by omega⟩ s)

/-- Chunk `k` of a block of decays. -/
def cutD (X : Vec Ideal S4x8x128 .f32) (k : Fin 4) : Fin 8 → Fin 128 → Ideal .f32 := fun h v => X (ix3 k h v)

/-- The state after chunk `k` of a block, from the state before it. -/
def nextB (X0 : Vec Ideal S256x1024 .f32) (X1 X3 : Vec Ideal S256x1024 .bf16) (X5 : Vec Ideal S4x8x128 .f32) (k : Fin 4) (S : State) : State :=
  nextS (cut (φ := .f32) X0 k) (cut (φ := .bf16) X1 k) (cut (φ := .bf16) X3 k) (cutD X5 k) S

/-- The result of chunk `k` of a block, from the state before it. -/
def gateB (X0 : Vec Ideal S256x1024 .f32) (X1 X2 : Vec Ideal S256x1024 .bf16) (X4 : Vec Ideal S8x256x64 .bf16)
    (X6 : Vec Ideal S256x1024 .f32) (X7 : Vec Ideal S1x128 .f32) (k : Fin 4) (S : State) (h : Fin 8) (l : Fin 64) (v : Fin 128) : Ideal .f32 :=
  gate (outS (cut (φ := .f32) X0 k) (cut (φ := .bf16) X1 k) (cut (φ := .bf16) X2 k) (cutA X4 k) S h l) (fun j => X7 (ix2 0 j))
    (cut (φ := .f32) X6 k h l) v

section Pieces

variable {F : FTy → Type} [FloatOps F]

/-- What is stored in the state for one head of one chunk, from the loads. -/
def nx (st : Vec F S1x128x128 .f32) (u : Vec F S64x128 .f32) (w : Vec F S64x128 .bf16) (d : Vec F S1x1x128 .f32) (kd : Vec F S64x128 .bf16) :
    FVec F S1x128x128 .f32 :=
  k0_pay27 (k0_pay3 st) (k0_pay19 (k0_pay11 st) u w) d kd

/-- The outputs of one head of one chunk, from the loads. -/
def ox (st : Vec F S1x128x128 .f32) (u : Vec F S64x128 .f32) (w q : Vec F S64x128 .bf16) (a : Vec F S1x64x64 .bf16) :
    FVec F S64x128 .f32 :=
  k0_pay38 (k0_pay19 (k0_pay11 st) u w) (k0_pay37 (k0_pay11 st) q) a

/-- What is stored in the result for one head of one chunk, from the loads. -/
def yx (st : Vec F S1x128x128 .f32) (u : Vec F S64x128 .f32) (w q : Vec F S64x128 .bf16) (a : Vec F S1x64x64 .bf16)
    (ng : Vec F S1x128 .f32) (z : Vec F S64x128 .f32) : FVec F S64x128 .bf16 :=
  k0_pay48 (ox st u w q a) ng z

end Pieces

/-- The stored state of one head is the step's entry, whatever the loads are read from. -/
theorem nx_at (st : Vec Ideal S1x128x128 .f32) (u : Vec Ideal S64x128 .f32) (w kd : Vec Ideal S64x128 .bf16) (d : Vec Ideal S1x1x128 .f32)
    (h : Fin 8) (u' w' kd' : Chunk) (d' : Fin 8 → Fin 128 → Ideal .f32) (S : State)
    (hst : ∀ i j, st (ix3 0 i j) = S (ix3 h i j)) (hu : ∀ i j, u (ix2 i j) = u' h i j) (hw : ∀ i j, w (ix2 i j) = w' h i j)
    (hk : ∀ i j, kd (ix2 i j) = kd' h i j) (hd : ∀ j, d (ix3 0 0 j) = d' h j) (i j : Fin 128) :
    nx st u w d kd (ix3 0 i j) = nextS u' w' kd' d' S (ix3 h i j) := by
  pointwise [nx, k0_pay27, k0_pay3, k0_pay19, k0_pay11]
  simp only [hst, hu, hw, hk, hd]
  rfl

/-- The outputs of one head are the step's entries. -/
theorem ox_at (st : Vec Ideal S1x128x128 .f32) (u : Vec Ideal S64x128 .f32) (w q : Vec Ideal S64x128 .bf16) (a : Vec Ideal S1x64x64 .bf16)
    (h : Fin 8) (u' w' q' : Chunk) (a' : Fin 8 → Fin 64 → Fin 64 → Ideal .f32) (S : State)
    (hst : ∀ i j, st (ix3 0 i j) = S (ix3 h i j)) (hu : ∀ i j, u (ix2 i j) = u' h i j) (hw : ∀ i j, w (ix2 i j) = w' h i j)
    (hq : ∀ i j, q (ix2 i j) = q' h i j) (ha : ∀ i j, a (ix3 0 i j) = a' h i j) (i : Fin 64) (j : Fin 128) :
    ox st u w q a (ix2 i j) = outS u' w' q' a' S h i j := by
  pointwise [ox, k0_pay37, k0_pay38, k0_pay19, k0_pay11, k0_pay3]
  simp only [hst, hu, hw, hq, ha]
  rfl

/-- The stored result of one head is the gated row of the step's outputs. -/
theorem yx_at (st : Vec Ideal S1x128x128 .f32) (u : Vec Ideal S64x128 .f32) (w q : Vec Ideal S64x128 .bf16) (a : Vec Ideal S1x64x64 .bf16)
    (ng : Vec Ideal S1x128 .f32) (z : Vec Ideal S64x128 .f32)
    (h : Fin 8) (u' w' q' z' : Chunk) (a' : Fin 8 → Fin 64 → Fin 64 → Ideal .f32) (S : State) (ng' : Fin 128 → Ideal .f32)
    (hst : ∀ i j, st (ix3 0 i j) = S (ix3 h i j)) (hu : ∀ i j, u (ix2 i j) = u' h i j) (hw : ∀ i j, w (ix2 i j) = w' h i j)
    (hq : ∀ i j, q (ix2 i j) = q' h i j) (ha : ∀ i j, a (ix3 0 i j) = a' h i j) (hn : ∀ j, ng (ix2 0 j) = ng' j)
    (hz : ∀ i j, z (ix2 i j) = z' h i j) (i : Fin 64) (j : Fin 128) :
    yx st u w q a ng z (ix2 i j) = gate (outS u' w' q' a' S h i) ng' (z' h i) j := by
  have ho := ox_at st u w q a h u' w' q' a' S hst hu hw hq ha
  unfold yx
  generalize ox st u w q a = o at ho
  pointwise [k0_pay48]
  simp only [ho, hn, hz]
  rfl

/-- A covered load reads what the stores before it leave. -/
theorem readCov_ld {κ sp} {s : Shape} {e} (v : View sig κ sp s e) (L : List (View.Piece (Elt Ideal) s e)) (R : Rect s) :
    v.readCov L R.toLoadRect = View.ld (View.canon L) R := View.readCov_eq_canon' v L R.toLoadRect

/-- The piece of the state stored for head `h` of chunk `k` is the step's block there. -/
theorem nx_piece (k h r c : ℕ) (hk : k < 4) (hh : h < 8) (hr : r = 64 * k) (hc : c = 128 * h) (S : State)
    (X0 : Vec Ideal S256x1024 .f32) (X1 X3 : Vec Ideal S256x1024 .bf16) (X5 : Vec Ideal S4x8x128 .f32) (i1 i2 i3) (x) :
    nx (View.ld S (Rect.unit ![h, 0, 0] S1x128x128.size i1)) (View.ld X0 (Rect.unit ![r, c] S64x128.size i2))
        (View.ld X1 (Rect.unit ![r, c] S64x128.size i2)) (View.ld X5 (Rect.unit ![k, h, 0] S1x1x128.size i3))
        (View.ld X3 (Rect.unit ![r, c] S64x128.size i2)) x
      = nextB X0 X1 X3 X5 ⟨k, hk⟩ S ((Rect.unit (s := S8x128x128) ![h, 0, 0] S1x128x128.size i1).emb x) := by
  subst hr hc
  have hx : x = ix3 0 (x 1) (x 2) := by
    funext a
    fin_cases a
    · exact Subsingleton.elim (α := Fin 1) _ _
    · rfl
    · rfl
  have he : (Rect.unit (s := S8x128x128) ![h, 0, 0] S1x128x128.size i1).emb x = ix3 ⟨h, hh⟩ (x 1) (x 2) := by
    rw [hx]
    funext a
    fin_cases a <;> exact Fin.ext (by simp [Rect.emb, Rect.unit])
  rw [he, hx]
  refine nx_at _ _ _ _ _ ⟨h, hh⟩ _ _ _ _ S (fun i j => ?_)
    (fun i j => ?_) (fun i j => ?_) (fun i j => ?_) (fun j => ?_) (x 1) (x 2)
  all_goals exact View.ld_unit_apply_of _ _ _ _ _ _ fun a => by fin_cases a <;> simp

/-- The piece of the result stored for head `h` of chunk `k`. -/
theorem yx_piece (k h r c : ℕ) (hk : k < 4) (hh : h < 8) (hr : r = 64 * k) (hc : c = 128 * h) (S : State)
    (X0 X6 : Vec Ideal S256x1024 .f32) (X1 X2 : Vec Ideal S256x1024 .bf16) (X4 : Vec Ideal S8x256x64 .bf16) (X7 : Vec Ideal S1x128 .f32)
    (i1 i2 i3 i4) (x) :
    yx (View.ld S (Rect.unit ![h, 0, 0] S1x128x128.size i1)) (View.ld X0 (Rect.unit ![r, c] S64x128.size i2))
        (View.ld X1 (Rect.unit ![r, c] S64x128.size i2)) (View.ld X2 (Rect.unit ![r, c] S64x128.size i2))
        (View.ld X4 (Rect.unit ![h, r, 0] S1x64x64.size i3)) (View.ld X7 (Rect.unit ![0, 0] S1x128.size i4))
        (View.ld X6 (Rect.unit ![r, c] S64x128.size i2)) x
      = gateB X0 X1 X2 X4 X6 X7 ⟨k, hk⟩ S ⟨h, hh⟩ (x 0) (x 1) := by
  subst hr hc
  have hx : x = ix2 (x 0) (x 1) := by
    funext a
    fin_cases a <;> rfl
  rw [hx]
  refine yx_at _ _ _ _ _ _ _ ⟨h, hh⟩ _ _ _ _ _ S _ (fun i j => ?_)
    (fun i j => ?_) (fun i j => ?_) (fun i j => ?_) (fun i j => ?_) (fun j => ?_) (fun i j => ?_) (x 0) (x 1)
  all_goals exact View.ld_unit_apply_of _ _ _ _ _ _ fun a => by fin_cases a <;> simp

/-- Eight stores, one per head, each a block of `G`, leave `G`, whatever was stored before. -/
theorem eight (G : State) (L : List (View.Piece (Elt Ideal) S8x128x128 .f32)) (i0 i1 i2 i3 i4 i5 i6 i7) (w0 w1 w2 w3 w4 w5 w6 w7 : S1x128x128.Idx → Elt Ideal .f32)
    (h0 : ∀ x, w0 x = G ((Rect.unit (s := S8x128x128) ![0, 0, 0] S1x128x128.size i0).emb x))
    (h1 : ∀ x, w1 x = G ((Rect.unit (s := S8x128x128) ![1, 0, 0] S1x128x128.size i1).emb x))
    (h2 : ∀ x, w2 x = G ((Rect.unit (s := S8x128x128) ![2, 0, 0] S1x128x128.size i2).emb x))
    (h3 : ∀ x, w3 x = G ((Rect.unit (s := S8x128x128) ![3, 0, 0] S1x128x128.size i3).emb x))
    (h4 : ∀ x, w4 x = G ((Rect.unit (s := S8x128x128) ![4, 0, 0] S1x128x128.size i4).emb x))
    (h5 : ∀ x, w5 x = G ((Rect.unit (s := S8x128x128) ![5, 0, 0] S1x128x128.size i5).emb x))
    (h6 : ∀ x, w6 x = G ((Rect.unit (s := S8x128x128) ![6, 0, 0] S1x128x128.size i6).emb x))
    (h7 : ∀ x, w7 x = G ((Rect.unit (s := S8x128x128) ![7, 0, 0] S1x128x128.size i7).emb x)) :
    View.canon (⟨(Rect.unit (s := S8x128x128) ![7, 0, 0] S1x128x128.size i7), w7⟩ :: ⟨(Rect.unit (s := S8x128x128) ![6, 0, 0] S1x128x128.size i6), w6⟩ :: ⟨(Rect.unit (s := S8x128x128) ![5, 0, 0] S1x128x128.size i5), w5⟩ :: ⟨(Rect.unit (s := S8x128x128) ![4, 0, 0] S1x128x128.size i4), w4⟩ :: ⟨(Rect.unit (s := S8x128x128) ![3, 0, 0] S1x128x128.size i3), w3⟩ :: ⟨(Rect.unit (s := S8x128x128) ![2, 0, 0] S1x128x128.size i2), w2⟩ :: ⟨(Rect.unit (s := S8x128x128) ![1, 0, 0] S1x128x128.size i1), w1⟩ :: ⟨(Rect.unit (s := S8x128x128) ![0, 0, 0] S1x128x128.size i0), w0⟩ :: L) = G := by
  funext y
  refine View.canon_append_of_piecesOf G L [⟨(Rect.unit (s := S8x128x128) ![7, 0, 0] S1x128x128.size i7), w7⟩, ⟨(Rect.unit (s := S8x128x128) ![6, 0, 0] S1x128x128.size i6), w6⟩, ⟨(Rect.unit (s := S8x128x128) ![5, 0, 0] S1x128x128.size i5), w5⟩, ⟨(Rect.unit (s := S8x128x128) ![4, 0, 0] S1x128x128.size i4), w4⟩, ⟨(Rect.unit (s := S8x128x128) ![3, 0, 0] S1x128x128.size i3), w3⟩, ⟨(Rect.unit (s := S8x128x128) ![2, 0, 0] S1x128x128.size i2), w2⟩, ⟨(Rect.unit (s := S8x128x128) ![1, 0, 0] S1x128x128.size i1), w1⟩, ⟨(Rect.unit (s := S8x128x128) ![0, 0, 0] S1x128x128.size i0), w0⟩] ⟨h7, h6, h5, h4, h3, h2, h1, h0, trivial⟩ y
    (View.cover_of_tiledL (s := S8x128x128) _ S1x128x128.size (by sl_kernel_rfl) y)

/-- The block of results of four chunks, from the states before each of them. -/
def gateOut (X0 : Vec Ideal S256x1024 .f32) (X1 X2 : Vec Ideal S256x1024 .bf16) (X4 : Vec Ideal S8x256x64 .bf16)
    (X6 : Vec Ideal S256x1024 .f32) (X7 : Vec Ideal S1x128 .f32) (st : Fin 4 → State) : Vec Ideal S256x1024 .bf16 := fun y =>
  gateB X0 X1 X2 X4 X6 X7 ⟨(y 0).val / 64, Nat.div_lt_of_lt_mul (y 0).isLt⟩ (st ⟨(y 0).val / 64, Nat.div_lt_of_lt_mul (y 0).isLt⟩)
    ⟨(y 1).val / 128, Nat.div_lt_of_lt_mul (y 1).isLt⟩ ⟨(y 0).val % 64, Nat.mod_lt _ (by decide)⟩ ⟨(y 1).val % 128, Nat.mod_lt _ (by decide)⟩

/-- The block of results, read at row `l` of chunk `k`, lane `v` of head `h`. -/
theorem gateOut_at (X0 X6 : Vec Ideal S256x1024 .f32) (X1 X2 : Vec Ideal S256x1024 .bf16) (X4 : Vec Ideal S8x256x64 .bf16)
    (X7 : Vec Ideal S1x128 .f32) (st : Fin 4 → State) (y : S256x1024.Idx) (k h : ℕ) (hk : k < 4) (hh : h < 8) (l : Fin 64) (v : Fin 128)
    (h0 : (y 0).val = 64 * k + l.val) (h1 : (y 1).val = 128 * h + v.val) :
    gateOut X0 X1 X2 X4 X6 X7 st y = gateB X0 X1 X2 X4 X6 X7 ⟨k, hk⟩ (st ⟨k, hk⟩) ⟨h, hh⟩ l v := by
  have bl := l.isLt
  have bv := v.isLt
  have e0 : (⟨(y 0).val / 64, Nat.div_lt_of_lt_mul (y 0).isLt⟩ : Fin 4) = ⟨k, hk⟩ := Fin.ext (by dsimp only; omega)
  have e1 : (⟨(y 1).val / 128, Nat.div_lt_of_lt_mul (y 1).isLt⟩ : Fin 8) = ⟨h, hh⟩ := Fin.ext (by dsimp only; omega)
  have e2 : (⟨(y 0).val % 64, Nat.mod_lt _ (by decide)⟩ : Fin 64) = l := Fin.ext (by dsimp only; omega)
  have e3 : (⟨(y 1).val % 128, Nat.mod_lt _ (by decide)⟩ : Fin 128) = v := Fin.ext (by dsimp only; omega)
  unfold gateOut
  rw [e0, e1, e2, e3]

/-- The piece of the result stored for head `h` of chunk `k` is the block of results there. -/
theorem yo_piece (k h r c : ℕ) (hk : k < 4) (hh : h < 8) (hr : r = 64 * k) (hc : c = 128 * h) (st : Fin 4 → State) (S : State)
    (hS : S = st ⟨k, hk⟩)
    (X0 X6 : Vec Ideal S256x1024 .f32) (X1 X2 : Vec Ideal S256x1024 .bf16) (X4 : Vec Ideal S8x256x64 .bf16) (X7 : Vec Ideal S1x128 .f32)
    (i1 i2 i3 i4) (x) :
    yx (View.ld S (Rect.unit ![h, 0, 0] S1x128x128.size i1)) (View.ld X0 (Rect.unit ![r, c] S64x128.size i2))
        (View.ld X1 (Rect.unit ![r, c] S64x128.size i2)) (View.ld X2 (Rect.unit ![r, c] S64x128.size i2))
        (View.ld X4 (Rect.unit ![h, r, 0] S1x64x64.size i3)) (View.ld X7 (Rect.unit ![0, 0] S1x128.size i4))
        (View.ld X6 (Rect.unit ![r, c] S64x128.size i2)) x
      = gateOut X0 X1 X2 X4 X6 X7 st ((Rect.unit (s := S256x1024) ![r, c] S64x128.size i2).emb x) := by
  rw [yx_piece k h r c hk hh hr hc, hS]
  subst hr hc
  exact (gateOut_at X0 X6 X1 X2 X4 X7 st _ k h hk hh (x 0) (x 1) (by simp [Rect.emb, Rect.unit]) (by simp [Rect.emb, Rect.unit])).symm

end Cert.KernelIdeal.Scan
end
-- ==== Proof.ScanA.lean ====
module

public import proofs.«01_k».proof.Proof.ScanMath

@[expose] public section

set_option maxRecDepth 16384

noncomputable section

open Idealize.ShloMosaic Idealize.ShloMosaic.TcCoe Idealize.SL.Sem

namespace Cert.KernelIdeal.Scan.A

open Cert.KernelIdeal Cert.KernelIdeal.Gen
open Cert.KernelIdeal.Gen.kernelRun0_A.sl

section Stages

variable (c : Dev nD) (arg1 : Memref sig .tc .vmem S256x1024 .f32) (harg1 : arg1.IsWhole) (arg2 : Memref sig .tc .vmem S256x1024 .bf16) (harg2 : arg2.IsWhole) (arg4 : Memref sig .tc .vmem S256x1024 .bf16) (harg4 : arg4.IsWhole) (arg6 : Memref sig .tc .vmem S4x8x128 .f32) (harg6 : arg6.IsWhole) (arg10 : Memref sig .tc .vmem S8x128x128 .f32)
  (x0 : Vec Ideal S256x1024 .f32) (x1 x3 : Vec Ideal S256x1024 .bf16) (x5 : Vec Ideal S4x8x128 .f32)
/-- The fill before the first chunk leaves the zero state. -/
theorem hs1 : View.canon (HS0_1 (F := Ideal)) = (fun _ => 0 : State) := by
  unfold HS0_1
  rw [View.canon_cons_unit_lit _ _ _ (by decide)]
  funext j
  pointwise [k0_pay2]

/-- The stores of chunk 0 leave the state after it. -/
theorem hs8 : View.canon (HS0_9 c arg1 harg1 arg2 harg2 arg4 harg4 arg6 harg6 arg10 x0 x1 x3 x5)
    = nextB x0 x1 x3 x5 0 (fun _ => 0) := by
  unfold HS0_9
  refine eight _ _ _ _ _ _ _ _ _ _ _ _ _ _ _ _ _ _ ?_ ?_ ?_ ?_ ?_ ?_ ?_ ?_ <;> intro x
  all_goals simp only [r_7, v17, r_25, r_15, r_6, v15, r_24, r_14, r_23, r_5, v13, r_22, r_13, r_27, r_4, v11, r_21, r_12, r_3, v9, r_20, r_11, r_2, v7, r_19, r_10, r_26, r_1, v5, r_18, r_9, r, v3, r_17, r_8, r_16, View.readAt_eq_ld, Memref.IsWhole.read_unread, readCov_ld, hs1]
  · exact nx_piece 0 0 0 0 (by decide) (by decide) rfl rfl _ _ _ _ _ _ _ _ x
  · exact nx_piece 0 1 0 128 (by decide) (by decide) rfl rfl _ _ _ _ _ _ _ _ x
  · exact nx_piece 0 2 0 256 (by decide) (by decide) rfl rfl _ _ _ _ _ _ _ _ x
  · exact nx_piece 0 3 0 384 (by decide) (by decide) rfl rfl _ _ _ _ _ _ _ _ x
  · exact nx_piece 0 4 0 512 (by decide) (by decide) rfl rfl _ _ _ _ _ _ _ _ x
  · exact nx_piece 0 5 0 640 (by decide) (by decide) rfl rfl _ _ _ _ _ _ _ _ x
  · exact nx_piece 0 6 0 768 (by decide) (by decide) rfl rfl _ _ _ _ _ _ _ _ x
  · exact nx_piece 0 7 0 896 (by decide) (by decide) rfl rfl _ _ _ _ _ _ _ _ x

/-- The stores of chunk 1 leave the state after it. -/
theorem hs16 : View.canon (HS0_17 c arg1 harg1 arg2 harg2 arg4 harg4 arg6 harg6 arg10 x0 x1 x3 x5)
    = nextB x0 x1 x3 x5 1 (nextB x0 x1 x3 x5 0 (fun _ => 0)) := by
  unfold HS0_17
  refine eight _ _ _ _ _ _ _ _ _ _ _ _ _ _ _ _ _ _ ?_ ?_ ?_ ?_ ?_ ?_ ?_ ?_ <;> intro x
  all_goals simp only [r_50, v361, r_66, r_58, r_49, v359, r_65, r_57, r_48, v357, r_64, r_56, r_47, v355, r_63, r_55, r_46, v353, r_62, r_45, v351, r_61, r_44, v349, r_60, r_43, v347, r_59, View.readAt_eq_ld, Memref.IsWhole.read_unread, readCov_ld, hs1, hs8]
  · exact nx_piece 1 0 64 0 (by decide) (by decide) rfl rfl _ _ _ _ _ _ _ _ x
  · exact nx_piece 1 1 64 128 (by decide) (by decide) rfl rfl _ _ _ _ _ _ _ _ x
  · exact nx_piece 1 2 64 256 (by decide) (by decide) rfl rfl _ _ _ _ _ _ _ _ x
  · exact nx_piece 1 3 64 384 (by decide) (by decide) rfl rfl _ _ _ _ _ _ _ _ x
  · exact nx_piece 1 4 64 512 (by decide) (by decide) rfl rfl _ _ _ _ _ _ _ _ x
  · exact nx_piece 1 5 64 640 (by decide) (by decide) rfl rfl _ _ _ _ _ _ _ _ x
  · exact nx_piece 1 6 64 768 (by decide) (by decide) rfl rfl _ _ _ _ _ _ _ _ x
  · exact nx_piece 1 7 64 896 (by decide) (by decide) rfl rfl _ _ _ _ _ _ _ _ x

/-- The stores of chunk 2 leave the state after it. -/
theorem hs24 : View.canon (HS0_25 c arg1 harg1 arg2 harg2 arg4 harg4 arg6 harg6 arg10 x0 x1 x3 x5)
    = nextB x0 x1 x3 x5 2 (nextB x0 x1 x3 x5 1 (nextB x0 x1 x3 x5 0 (fun _ => 0))) := by
  unfold HS0_25 HS0_22 HS0_19
  refine eight _ _ _ _ _ _ _ _ _ _ _ _ _ _ _ _ _ _ ?_ ?_ ?_ ?_ ?_ ?_ ?_ ?_ <;> intro x
  all_goals simp only [r_87, v705, r_107, r_95, r_105, r_106, cst_545, r_86, v703, r_104, r_94, r_109, r_85, v701, r_103, r_93, r_84, v699, r_102, r_92, r_83, v697, r_101, r_91, r_108, r_82, v695, r_100, r_90, r_81, v693, r_99, r_89, r_97, r_98, r_80, v691, r_96, View.readAt_eq_ld, Memref.IsWhole.read_unread, readCov_ld, hs1, hs8, hs16]
  · exact nx_piece 2 0 128 0 (by decide) (by decide) rfl rfl _ _ _ _ _ _ _ _ x
  · exact nx_piece 2 1 128 128 (by decide) (by decide) rfl rfl _ _ _ _ _ _ _ _ x
  · exact nx_piece 2 2 128 256 (by decide) (by decide) rfl rfl _ _ _ _ _ _ _ _ x
  · exact nx_piece 2 3 128 384 (by decide) (by decide) rfl rfl _ _ _ _ _ _ _ _ x
  · exact nx_piece 2 4 128 512 (by decide) (by decide) rfl rfl _ _ _ _ _ _ _ _ x
  · exact nx_piece 2 5 128 640 (by decide) (by decide) rfl rfl _ _ _ _ _ _ _ _ x
  · exact nx_piece 2 6 128 768 (by decide) (by decide) rfl rfl _ _ _ _ _ _ _ _ x
  · exact nx_piece 2 7 128 896 (by decide) (by decide) rfl rfl _ _ _ _ _ _ _ _ x

end Stages

/-- The pieces of the result, each as one expression in the loads of its head and chunk. -/
theorem pieces {F : FTy → Type} [FloatOps F] (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S8x256x64 .bf16) (harg5 : arg5.IsWhole) (arg6 : Memref sig .tc .vmem S4x8x128 .f32) (harg6 : arg6.IsWhole) (arg7 : Memref sig .tc .vmem S256x1024 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S8x128x128 .f32) (harg10 : arg10.IsWhole) (hc0 : cond0_0 i)
    (x0 : Vec F S256x1024 .f32) (x1 x2 x3 : Vec F S256x1024 .bf16) (x4 : Vec F S8x256x64 .bf16) (x5 : Vec F S4x8x128 .f32)
    (x6 : Vec F S256x1024 .f32) (x7 : Vec F S1x128 .f32) :
    (kernelRun0_A c i arg1 harg1 arg2 harg2 arg3 harg3 arg4 harg4 arg5 harg5 arg6 harg6 arg7 harg7 arg8 harg8 arg9 harg9 arg10 harg10 hc0 x0 x1 x2 x3 x4 x5 x6 x7).1 =
      [⟨Rect.unit (s := S256x1024) ![192, 896] S64x128.size inb_S256x1024_S64x128_192_896,
        yx (v1049 c arg1 harg1 arg2 harg2 arg4 harg4 arg6 harg6 arg10 x0 x1 x3 x5) (View.readAt (Elt F) arg1.view (Rect.unit (s := S256x1024) ![192, 896] S64x128.size inb_S256x1024_S64x128_192_896).toLoadRect (harg1.unread x0)) (View.readAt (Elt F) arg2.view (Rect.unit (s := S256x1024) ![192, 896] S64x128.size inb_S256x1024_S64x128_192_896).toLoadRect (harg2.unread x1)) (View.readAt (Elt F) arg3.view (Rect.unit (s := S256x1024) ![192, 896] S64x128.size inb_S256x1024_S64x128_192_896).toLoadRect (harg3.unread x2)) (View.readAt (Elt F) arg5.view (Rect.unit (s := S8x256x64) ![7, 192, 0] S1x64x64.size inb_S8x256x64_S1x64x64_7_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 896] S64x128.size inb_S256x1024_S64x128_192_896).toLoadRect (harg7.unread x6))⟩,
      ⟨Rect.unit (s := S256x1024) ![192, 768] S64x128.size inb_S256x1024_S64x128_192_768,
        yx (v1047 c arg1 harg1 arg2 harg2 arg4 harg4 arg6 harg6 arg10 x0 x1 x3 x5) (View.readAt (Elt F) arg1.view (Rect.unit (s := S256x1024) ![192, 768] S64x128.size inb_S256x1024_S64x128_192_768).toLoadRect (harg1.unread x0)) (View.readAt (Elt F) arg2.view (Rect.unit (s := S256x1024) ![192, 768] S64x128.size inb_S256x1024_S64x128_192_768).toLoadRect (harg2.unread x1)) (View.readAt (Elt F) arg3.view (Rect.unit (s := S256x1024) ![192, 768] S64x128.size inb_S256x1024_S64x128_192_768).toLoadRect (harg3.unread x2)) (View.readAt (Elt F) arg5.view (Rect.unit (s := S8x256x64) ![6, 192, 0] S1x64x64.size inb_S8x256x64_S1x64x64_6_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 768] S64x128.size inb_S256x1024_S64x128_192_768).toLoadRect (harg7.unread x6))⟩,
      ⟨Rect.unit (s := S256x1024) ![192, 640] S64x128.size inb_S256x1024_S64x128_192_640,
        yx (v1045 c arg1 harg1 arg2 harg2 arg4 harg4 arg6 harg6 arg10 x0 x1 x3 x5) (View.readAt (Elt F) arg1.view (Rect.unit (s := S256x1024) ![192, 640] S64x128.size inb_S256x1024_S64x128_192_640).toLoadRect (harg1.unread x0)) (View.readAt (Elt F) arg2.view (Rect.unit (s := S256x1024) ![192, 640] S64x128.size inb_S256x1024_S64x128_192_640).toLoadRect (harg2.unread x1)) (View.readAt (Elt F) arg3.view (Rect.unit (s := S256x1024) ![192, 640] S64x128.size inb_S256x1024_S64x128_192_640).toLoadRect (harg3.unread x2)) (View.readAt (Elt F) arg5.view (Rect.unit (s := S8x256x64) ![5, 192, 0] S1x64x64.size inb_S8x256x64_S1x64x64_5_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 640] S64x128.size inb_S256x1024_S64x128_192_640).toLoadRect (harg7.unread x6))⟩,
      ⟨Rect.unit (s := S256x1024) ![192, 512] S64x128.size inb_S256x1024_S64x128_192_512,
        yx (v1043 c arg1 harg1 arg2 harg2 arg4 harg4 arg6 harg6 arg10 x0 x1 x3 x5) (View.readAt (Elt F) arg1.view (Rect.unit (s := S256x1024) ![192, 512] S64x128.size inb_S256x1024_S64x128_192_512).toLoadRect (harg1.unread x0)) (View.readAt (Elt F) arg2.view (Rect.unit (s := S256x1024) ![192, 512] S64x128.size inb_S256x1024_S64x128_192_512).toLoadRect (harg2.unread x1)) (View.readAt (Elt F) arg3.view (Rect.unit (s := S256x1024) ![192, 512] S64x128.size inb_S256x1024_S64x128_192_512).toLoadRect (harg3.unread x2)) (View.readAt (Elt F) arg5.view (Rect.unit (s := S8x256x64) ![4, 192, 0] S1x64x64.size inb_S8x256x64_S1x64x64_4_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 512] S64x128.size inb_S256x1024_S64x128_192_512).toLoadRect (harg7.unread x6))⟩,
      ⟨Rect.unit (s := S256x1024) ![192, 384] S64x128.size inb_S256x1024_S64x128_192_384,
        yx (v1041 c arg1 harg1 arg2 harg2 arg4 harg4 arg6 harg6 arg10 x0 x1 x3 x5) (View.readAt (Elt F) arg1.view (Rect.unit (s := S256x1024) ![192, 384] S64x128.size inb_S256x1024_S64x128_192_384).toLoadRect (harg1.unread x0)) (View.readAt (Elt F) arg2.view (Rect.unit (s := S256x1024) ![192, 384] S64x128.size inb_S256x1024_S64x128_192_384).toLoadRect (harg2.unread x1)) (View.readAt (Elt F) arg3.view (Rect.unit (s := S256x1024) ![192, 384] S64x128.size inb_S256x1024_S64x128_192_384).toLoadRect (harg3.unread x2)) (View.readAt (Elt F) arg5.view (Rect.unit (s := S8x256x64) ![3, 192, 0] S1x64x64.size inb_S8x256x64_S1x64x64_3_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 384] S64x128.size inb_S256x1024_S64x128_192_384).toLoadRect (harg7.unread x6))⟩,
      ⟨Rect.unit (s := S256x1024) ![192, 256] S64x128.size inb_S256x1024_S64x128_192_256,
        yx (v1039 c arg1 harg1 arg2 harg2 arg4 harg4 arg6 harg6 arg10 x0 x1 x3 x5) (View.readAt (Elt F) arg1.view (Rect.unit (s := S256x1024) ![192, 256] S64x128.size inb_S256x1024_S64x128_192_256).toLoadRect (harg1.unread x0)) (View.readAt (Elt F) arg2.view (Rect.unit (s := S256x1024) ![192, 256] S64x128.size inb_S256x1024_S64x128_192_256).toLoadRect (harg2.unread x1)) (View.readAt (Elt F) arg3.view (Rect.unit (s := S256x1024) ![192, 256] S64x128.size inb_S256x1024_S64x128_192_256).toLoadRect (harg3.unread x2)) (View.readAt (Elt F) arg5.view (Rect.unit (s := S8x256x64) ![2, 192, 0] S1x64x64.size inb_S8x256x64_S1x64x64_2_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 256] S64x128.size inb_S256x1024_S64x128_192_256).toLoadRect (harg7.unread x6))⟩,
      ⟨Rect.unit (s := S256x1024) ![192, 128] S64x128.size inb_S256x1024_S64x128_192_128,
        yx (v1037 c arg1 harg1 arg2 harg2 arg4 harg4 arg6 harg6 arg10 x0 x1 x3 x5) (View.readAt (Elt F) arg1.view (Rect.unit (s := S256x1024) ![192, 128] S64x128.size inb_S256x1024_S64x128_192_128).toLoadRect (harg1.unread x0)) (View.readAt (Elt F) arg2.view (Rect.unit (s := S256x1024) ![192, 128] S64x128.size inb_S256x1024_S64x128_192_128).toLoadRect (harg2.unread x1)) (View.readAt (Elt F) arg3.view (Rect.unit (s := S256x1024) ![192, 128] S64x128.size inb_S256x1024_S64x128_192_128).toLoadRect (harg3.unread x2)) (View.readAt (Elt F) arg5.view (Rect.unit (s := S8x256x64) ![1, 192, 0] S1x64x64.size inb_S8x256x64_S1x64x64_1_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 128] S64x128.size inb_S256x1024_S64x128_192_128).toLoadRect (harg7.unread x6))⟩,
      ⟨Rect.unit (s := S256x1024) ![192, 0] S64x128.size inb_S256x1024_S64x128_192_0,
        yx (v1035 c arg1 harg1 arg2 harg2 arg4 harg4 arg6 harg6 arg10 x0 x1 x3 x5) (View.readAt (Elt F) arg1.view (Rect.unit (s := S256x1024) ![192, 0] S64x128.size inb_S256x1024_S64x128_192_0).toLoadRect (harg1.unread x0)) (View.readAt (Elt F) arg2.view (Rect.unit (s := S256x1024) ![192, 0] S64x128.size inb_S256x1024_S64x128_192_0).toLoadRect (harg2.unread x1)) (View.readAt (Elt F) arg3.view (Rect.unit (s := S256x1024) ![192, 0] S64x128.size inb_S256x1024_S64x128_192_0).toLoadRect (harg3.unread x2)) (View.readAt (Elt F) arg5.view (Rect.unit (s := S8x256x64) ![0, 192, 0] S1x64x64.size inb_S8x256x64_S1x64x64_0_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 0] S64x128.size inb_S256x1024_S64x128_192_0).toLoadRect (harg7.unread x6))⟩,
      ⟨Rect.unit (s := S256x1024) ![128, 896] S64x128.size inb_S256x1024_S64x128_128_896,
        yx (v705 c arg1 harg1 arg2 harg2 arg4 harg4 arg6 harg6 arg10 x0 x1 x3 x5) (View.readAt (Elt F) arg1.view (Rect.unit (s := S256x1024) ![128, 896] S64x128.size inb_S256x1024_S64x128_128_896).toLoadRect (harg1.unread x0)) (View.readAt (Elt F) arg2.view (Rect.unit (s := S256x1024) ![128, 896] S64x128.size inb_S256x1024_S64x128_128_896).toLoadRect (harg2.unread x1)) (View.readAt (Elt F) arg3.view (Rect.unit (s := S256x1024) ![128, 896] S64x128.size inb_S256x1024_S64x128_128_896).toLoadRect (harg3.unread x2)) (View.readAt (Elt F) arg5.view (Rect.unit (s := S8x256x64) ![7, 128, 0] S1x64x64.size inb_S8x256x64_S1x64x64_7_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 896] S64x128.size inb_S256x1024_S64x128_128_896).toLoadRect (harg7.unread x6))⟩,
      ⟨Rect.unit (s := S256x1024) ![128, 768] S64x128.size inb_S256x1024_S64x128_128_768,
        yx (v703 c arg1 harg1 arg2 harg2 arg4 harg4 arg6 harg6 arg10 x0 x1 x3 x5) (View.readAt (Elt F) arg1.view (Rect.unit (s := S256x1024) ![128, 768] S64x128.size inb_S256x1024_S64x128_128_768).toLoadRect (harg1.unread x0)) (View.readAt (Elt F) arg2.view (Rect.unit (s := S256x1024) ![128, 768] S64x128.size inb_S256x1024_S64x128_128_768).toLoadRect (harg2.unread x1)) (View.readAt (Elt F) arg3.view (Rect.unit (s := S256x1024) ![128, 768] S64x128.size inb_S256x1024_S64x128_128_768).toLoadRect (harg3.unread x2)) (View.readAt (Elt F) arg5.view (Rect.unit (s := S8x256x64) ![6, 128, 0] S1x64x64.size inb_S8x256x64_S1x64x64_6_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 768] S64x128.size inb_S256x1024_S64x128_128_768).toLoadRect (harg7.unread x6))⟩,
      ⟨Rect.unit (s := S256x1024) ![128, 640] S64x128.size inb_S256x1024_S64x128_128_640,
        yx (v701 c arg1 harg1 arg2 harg2 arg4 harg4 arg6 harg6 arg10 x0 x1 x3 x5) (View.readAt (Elt F) arg1.view (Rect.unit (s := S256x1024) ![128, 640] S64x128.size inb_S256x1024_S64x128_128_640).toLoadRect (harg1.unread x0)) (View.readAt (Elt F) arg2.view (Rect.unit (s := S256x1024) ![128, 640] S64x128.size inb_S256x1024_S64x128_128_640).toLoadRect (harg2.unread x1)) (View.readAt (Elt F) arg3.view (Rect.unit (s := S256x1024) ![128, 640] S64x128.size inb_S256x1024_S64x128_128_640).toLoadRect (harg3.unread x2)) (View.readAt (Elt F) arg5.view (Rect.unit (s := S8x256x64) ![5, 128, 0] S1x64x64.size inb_S8x256x64_S1x64x64_5_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 640] S64x128.size inb_S256x1024_S64x128_128_640).toLoadRect (harg7.unread x6))⟩,
      ⟨Rect.unit (s := S256x1024) ![128, 512] S64x128.size inb_S256x1024_S64x128_128_512,
        yx (v699 c arg1 harg1 arg2 harg2 arg4 harg4 arg6 harg6 arg10 x0 x1 x3 x5) (View.readAt (Elt F) arg1.view (Rect.unit (s := S256x1024) ![128, 512] S64x128.size inb_S256x1024_S64x128_128_512).toLoadRect (harg1.unread x0)) (View.readAt (Elt F) arg2.view (Rect.unit (s := S256x1024) ![128, 512] S64x128.size inb_S256x1024_S64x128_128_512).toLoadRect (harg2.unread x1)) (View.readAt (Elt F) arg3.view (Rect.unit (s := S256x1024) ![128, 512] S64x128.size inb_S256x1024_S64x128_128_512).toLoadRect (harg3.unread x2)) (View.readAt (Elt F) arg5.view (Rect.unit (s := S8x256x64) ![4, 128, 0] S1x64x64.size inb_S8x256x64_S1x64x64_4_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 512] S64x128.size inb_S256x1024_S64x128_128_512).toLoadRect (harg7.unread x6))⟩,
      ⟨Rect.unit (s := S256x1024) ![128, 384] S64x128.size inb_S256x1024_S64x128_128_384,
        yx (v697 c arg1 harg1 arg2 harg2 arg4 harg4 arg6 harg6 arg10 x0 x1 x3 x5) (View.readAt (Elt F) arg1.view (Rect.unit (s := S256x1024) ![128, 384] S64x128.size inb_S256x1024_S64x128_128_384).toLoadRect (harg1.unread x0)) (View.readAt (Elt F) arg2.view (Rect.unit (s := S256x1024) ![128, 384] S64x128.size inb_S256x1024_S64x128_128_384).toLoadRect (harg2.unread x1)) (View.readAt (Elt F) arg3.view (Rect.unit (s := S256x1024) ![128, 384] S64x128.size inb_S256x1024_S64x128_128_384).toLoadRect (harg3.unread x2)) (View.readAt (Elt F) arg5.view (Rect.unit (s := S8x256x64) ![3, 128, 0] S1x64x64.size inb_S8x256x64_S1x64x64_3_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 384] S64x128.size inb_S256x1024_S64x128_128_384).toLoadRect (harg7.unread x6))⟩,
      ⟨Rect.unit (s := S256x1024) ![128, 256] S64x128.size inb_S256x1024_S64x128_128_256,
        yx (v695 c arg1 harg1 arg2 harg2 arg4 harg4 arg6 harg6 arg10 x0 x1 x3 x5) (View.readAt (Elt F) arg1.view (Rect.unit (s := S256x1024) ![128, 256] S64x128.size inb_S256x1024_S64x128_128_256).toLoadRect (harg1.unread x0)) (View.readAt (Elt F) arg2.view (Rect.unit (s := S256x1024) ![128, 256] S64x128.size inb_S256x1024_S64x128_128_256).toLoadRect (harg2.unread x1)) (View.readAt (Elt F) arg3.view (Rect.unit (s := S256x1024) ![128, 256] S64x128.size inb_S256x1024_S64x128_128_256).toLoadRect (harg3.unread x2)) (View.readAt (Elt F) arg5.view (Rect.unit (s := S8x256x64) ![2, 128, 0] S1x64x64.size inb_S8x256x64_S1x64x64_2_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 256] S64x128.size inb_S256x1024_S64x128_128_256).toLoadRect (harg7.unread x6))⟩,
      ⟨Rect.unit (s := S256x1024) ![128, 128] S64x128.size inb_S256x1024_S64x128_128_128,
        yx (v693 c arg1 harg1 arg2 harg2 arg4 harg4 arg6 harg6 arg10 x0 x1 x3 x5) (View.readAt (Elt F) arg1.view (Rect.unit (s := S256x1024) ![128, 128] S64x128.size inb_S256x1024_S64x128_128_128).toLoadRect (harg1.unread x0)) (View.readAt (Elt F) arg2.view (Rect.unit (s := S256x1024) ![128, 128] S64x128.size inb_S256x1024_S64x128_128_128).toLoadRect (harg2.unread x1)) (View.readAt (Elt F) arg3.view (Rect.unit (s := S256x1024) ![128, 128] S64x128.size inb_S256x1024_S64x128_128_128).toLoadRect (harg3.unread x2)) (View.readAt (Elt F) arg5.view (Rect.unit (s := S8x256x64) ![1, 128, 0] S1x64x64.size inb_S8x256x64_S1x64x64_1_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 128] S64x128.size inb_S256x1024_S64x128_128_128).toLoadRect (harg7.unread x6))⟩,
      ⟨Rect.unit (s := S256x1024) ![128, 0] S64x128.size inb_S256x1024_S64x128_128_0,
        yx (v691 c arg1 harg1 arg2 harg2 arg4 harg4 arg6 harg6 arg10 x0 x1 x3 x5) (View.readAt (Elt F) arg1.view (Rect.unit (s := S256x1024) ![128, 0] S64x128.size inb_S256x1024_S64x128_128_0).toLoadRect (harg1.unread x0)) (View.readAt (Elt F) arg2.view (Rect.unit (s := S256x1024) ![128, 0] S64x128.size inb_S256x1024_S64x128_128_0).toLoadRect (harg2.unread x1)) (View.readAt (Elt F) arg3.view (Rect.unit (s := S256x1024) ![128, 0] S64x128.size inb_S256x1024_S64x128_128_0).toLoadRect (harg3.unread x2)) (View.readAt (Elt F) arg5.view (Rect.unit (s := S8x256x64) ![0, 128, 0] S1x64x64.size inb_S8x256x64_S1x64x64_0_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 0] S64x128.size inb_S256x1024_S64x128_128_0).toLoadRect (harg7.unread x6))⟩,
      ⟨Rect.unit (s := S256x1024) ![64, 896] S64x128.size inb_S256x1024_S64x128_64_896,
        yx (v361 c arg1 harg1 arg2 harg2 arg4 harg4 arg6 harg6 arg10 x0 x1 x3 x5) (View.readAt (Elt F) arg1.view (Rect.unit (s := S256x1024) ![64, 896] S64x128.size inb_S256x1024_S64x128_64_896).toLoadRect (harg1.unread x0)) (View.readAt (Elt F) arg2.view (Rect.unit (s := S256x1024) ![64, 896] S64x128.size inb_S256x1024_S64x128_64_896).toLoadRect (harg2.unread x1)) (View.readAt (Elt F) arg3.view (Rect.unit (s := S256x1024) ![64, 896] S64x128.size inb_S256x1024_S64x128_64_896).toLoadRect (harg3.unread x2)) (View.readAt (Elt F) arg5.view (Rect.unit (s := S8x256x64) ![7, 64, 0] S1x64x64.size inb_S8x256x64_S1x64x64_7_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 896] S64x128.size inb_S256x1024_S64x128_64_896).toLoadRect (harg7.unread x6))⟩,
      ⟨Rect.unit (s := S256x1024) ![64, 768] S64x128.size inb_S256x1024_S64x128_64_768,
        yx (v359 c arg1 harg1 arg2 harg2 arg4 harg4 arg6 harg6 arg10 x0 x1 x3 x5) (View.readAt (Elt F) arg1.view (Rect.unit (s := S256x1024) ![64, 768] S64x128.size inb_S256x1024_S64x128_64_768).toLoadRect (harg1.unread x0)) (View.readAt (Elt F) arg2.view (Rect.unit (s := S256x1024) ![64, 768] S64x128.size inb_S256x1024_S64x128_64_768).toLoadRect (harg2.unread x1)) (View.readAt (Elt F) arg3.view (Rect.unit (s := S256x1024) ![64, 768] S64x128.size inb_S256x1024_S64x128_64_768).toLoadRect (harg3.unread x2)) (View.readAt (Elt F) arg5.view (Rect.unit (s := S8x256x64) ![6, 64, 0] S1x64x64.size inb_S8x256x64_S1x64x64_6_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 768] S64x128.size inb_S256x1024_S64x128_64_768).toLoadRect (harg7.unread x6))⟩,
      ⟨Rect.unit (s := S256x1024) ![64, 640] S64x128.size inb_S256x1024_S64x128_64_640,
        yx (v357 c arg1 harg1 arg2 harg2 arg4 harg4 arg6 harg6 arg10 x0 x1 x3 x5) (View.readAt (Elt F) arg1.view (Rect.unit (s := S256x1024) ![64, 640] S64x128.size inb_S256x1024_S64x128_64_640).toLoadRect (harg1.unread x0)) (View.readAt (Elt F) arg2.view (Rect.unit (s := S256x1024) ![64, 640] S64x128.size inb_S256x1024_S64x128_64_640).toLoadRect (harg2.unread x1)) (View.readAt (Elt F) arg3.view (Rect.unit (s := S256x1024) ![64, 640] S64x128.size inb_S256x1024_S64x128_64_640).toLoadRect (harg3.unread x2)) (View.readAt (Elt F) arg5.view (Rect.unit (s := S8x256x64) ![5, 64, 0] S1x64x64.size inb_S8x256x64_S1x64x64_5_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 640] S64x128.size inb_S256x1024_S64x128_64_640).toLoadRect (harg7.unread x6))⟩,
      ⟨Rect.unit (s := S256x1024) ![64, 512] S64x128.size inb_S256x1024_S64x128_64_512,
        yx (v355 c arg1 harg1 arg2 harg2 arg4 harg4 arg6 harg6 arg10 x0 x1 x3 x5) (View.readAt (Elt F) arg1.view (Rect.unit (s := S256x1024) ![64, 512] S64x128.size inb_S256x1024_S64x128_64_512).toLoadRect (harg1.unread x0)) (View.readAt (Elt F) arg2.view (Rect.unit (s := S256x1024) ![64, 512] S64x128.size inb_S256x1024_S64x128_64_512).toLoadRect (harg2.unread x1)) (View.readAt (Elt F) arg3.view (Rect.unit (s := S256x1024) ![64, 512] S64x128.size inb_S256x1024_S64x128_64_512).toLoadRect (harg3.unread x2)) (View.readAt (Elt F) arg5.view (Rect.unit (s := S8x256x64) ![4, 64, 0] S1x64x64.size inb_S8x256x64_S1x64x64_4_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 512] S64x128.size inb_S256x1024_S64x128_64_512).toLoadRect (harg7.unread x6))⟩,
      ⟨Rect.unit (s := S256x1024) ![64, 384] S64x128.size inb_S256x1024_S64x128_64_384,
        yx (v353 c arg1 harg1 arg2 harg2 arg4 harg4 arg6 harg6 arg10 x0 x1 x3 x5) (View.readAt (Elt F) arg1.view (Rect.unit (s := S256x1024) ![64, 384] S64x128.size inb_S256x1024_S64x128_64_384).toLoadRect (harg1.unread x0)) (View.readAt (Elt F) arg2.view (Rect.unit (s := S256x1024) ![64, 384] S64x128.size inb_S256x1024_S64x128_64_384).toLoadRect (harg2.unread x1)) (View.readAt (Elt F) arg3.view (Rect.unit (s := S256x1024) ![64, 384] S64x128.size inb_S256x1024_S64x128_64_384).toLoadRect (harg3.unread x2)) (View.readAt (Elt F) arg5.view (Rect.unit (s := S8x256x64) ![3, 64, 0] S1x64x64.size inb_S8x256x64_S1x64x64_3_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 384] S64x128.size inb_S256x1024_S64x128_64_384).toLoadRect (harg7.unread x6))⟩,
      ⟨Rect.unit (s := S256x1024) ![64, 256] S64x128.size inb_S256x1024_S64x128_64_256,
        yx (v351 c arg1 harg1 arg2 harg2 arg4 harg4 arg6 harg6 arg10 x0 x1 x3 x5) (View.readAt (Elt F) arg1.view (Rect.unit (s := S256x1024) ![64, 256] S64x128.size inb_S256x1024_S64x128_64_256).toLoadRect (harg1.unread x0)) (View.readAt (Elt F) arg2.view (Rect.unit (s := S256x1024) ![64, 256] S64x128.size inb_S256x1024_S64x128_64_256).toLoadRect (harg2.unread x1)) (View.readAt (Elt F) arg3.view (Rect.unit (s := S256x1024) ![64, 256] S64x128.size inb_S256x1024_S64x128_64_256).toLoadRect (harg3.unread x2)) (View.readAt (Elt F) arg5.view (Rect.unit (s := S8x256x64) ![2, 64, 0] S1x64x64.size inb_S8x256x64_S1x64x64_2_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 256] S64x128.size inb_S256x1024_S64x128_64_256).toLoadRect (harg7.unread x6))⟩,
      ⟨Rect.unit (s := S256x1024) ![64, 128] S64x128.size inb_S256x1024_S64x128_64_128,
        yx (v349 c arg1 harg1 arg2 harg2 arg4 harg4 arg6 harg6 arg10 x0 x1 x3 x5) (View.readAt (Elt F) arg1.view (Rect.unit (s := S256x1024) ![64, 128] S64x128.size inb_S256x1024_S64x128_64_128).toLoadRect (harg1.unread x0)) (View.readAt (Elt F) arg2.view (Rect.unit (s := S256x1024) ![64, 128] S64x128.size inb_S256x1024_S64x128_64_128).toLoadRect (harg2.unread x1)) (View.readAt (Elt F) arg3.view (Rect.unit (s := S256x1024) ![64, 128] S64x128.size inb_S256x1024_S64x128_64_128).toLoadRect (harg3.unread x2)) (View.readAt (Elt F) arg5.view (Rect.unit (s := S8x256x64) ![1, 64, 0] S1x64x64.size inb_S8x256x64_S1x64x64_1_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 128] S64x128.size inb_S256x1024_S64x128_64_128).toLoadRect (harg7.unread x6))⟩,
      ⟨Rect.unit (s := S256x1024) ![64, 0] S64x128.size inb_S256x1024_S64x128_64_0,
        yx (v347 c arg1 harg1 arg2 harg2 arg4 harg4 arg6 harg6 arg10 x0 x1 x3 x5) (View.readAt (Elt F) arg1.view (Rect.unit (s := S256x1024) ![64, 0] S64x128.size inb_S256x1024_S64x128_64_0).toLoadRect (harg1.unread x0)) (View.readAt (Elt F) arg2.view (Rect.unit (s := S256x1024) ![64, 0] S64x128.size inb_S256x1024_S64x128_64_0).toLoadRect (harg2.unread x1)) (View.readAt (Elt F) arg3.view (Rect.unit (s := S256x1024) ![64, 0] S64x128.size inb_S256x1024_S64x128_64_0).toLoadRect (harg3.unread x2)) (View.readAt (Elt F) arg5.view (Rect.unit (s := S8x256x64) ![0, 64, 0] S1x64x64.size inb_S8x256x64_S1x64x64_0_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 0] S64x128.size inb_S256x1024_S64x128_64_0).toLoadRect (harg7.unread x6))⟩,
      ⟨Rect.unit (s := S256x1024) ![0, 896] S64x128.size inb_S256x1024_S64x128_0_896,
        yx (v17 c arg10) (View.readAt (Elt F) arg1.view (Rect.unit (s := S256x1024) ![0, 896] S64x128.size inb_S256x1024_S64x128_0_896).toLoadRect (harg1.unread x0)) (View.readAt (Elt F) arg2.view (Rect.unit (s := S256x1024) ![0, 896] S64x128.size inb_S256x1024_S64x128_0_896).toLoadRect (harg2.unread x1)) (View.readAt (Elt F) arg3.view (Rect.unit (s := S256x1024) ![0, 896] S64x128.size inb_S256x1024_S64x128_0_896).toLoadRect (harg3.unread x2)) (View.readAt (Elt F) arg5.view (Rect.unit (s := S8x256x64) ![7, 0, 0] S1x64x64.size inb_S8x256x64_S1x64x64_7_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 896] S64x128.size inb_S256x1024_S64x128_0_896).toLoadRect (harg7.unread x6))⟩,
      ⟨Rect.unit (s := S256x1024) ![0, 768] S64x128.size inb_S256x1024_S64x128_0_768,
        yx (v15 c arg10) (View.readAt (Elt F) arg1.view (Rect.unit (s := S256x1024) ![0, 768] S64x128.size inb_S256x1024_S64x128_0_768).toLoadRect (harg1.unread x0)) (View.readAt (Elt F) arg2.view (Rect.unit (s := S256x1024) ![0, 768] S64x128.size inb_S256x1024_S64x128_0_768).toLoadRect (harg2.unread x1)) (View.readAt (Elt F) arg3.view (Rect.unit (s := S256x1024) ![0, 768] S64x128.size inb_S256x1024_S64x128_0_768).toLoadRect (harg3.unread x2)) (View.readAt (Elt F) arg5.view (Rect.unit (s := S8x256x64) ![6, 0, 0] S1x64x64.size inb_S8x256x64_S1x64x64_6_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 768] S64x128.size inb_S256x1024_S64x128_0_768).toLoadRect (harg7.unread x6))⟩,
      ⟨Rect.unit (s := S256x1024) ![0, 640] S64x128.size inb_S256x1024_S64x128_0_640,
        yx (v13 c arg10) (View.readAt (Elt F) arg1.view (Rect.unit (s := S256x1024) ![0, 640] S64x128.size inb_S256x1024_S64x128_0_640).toLoadRect (harg1.unread x0)) (View.readAt (Elt F) arg2.view (Rect.unit (s := S256x1024) ![0, 640] S64x128.size inb_S256x1024_S64x128_0_640).toLoadRect (harg2.unread x1)) (View.readAt (Elt F) arg3.view (Rect.unit (s := S256x1024) ![0, 640] S64x128.size inb_S256x1024_S64x128_0_640).toLoadRect (harg3.unread x2)) (View.readAt (Elt F) arg5.view (Rect.unit (s := S8x256x64) ![5, 0, 0] S1x64x64.size inb_S8x256x64_S1x64x64_5_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 640] S64x128.size inb_S256x1024_S64x128_0_640).toLoadRect (harg7.unread x6))⟩,
      ⟨Rect.unit (s := S256x1024) ![0, 512] S64x128.size inb_S256x1024_S64x128_0_512,
        yx (v11 c arg10) (View.readAt (Elt F) arg1.view (Rect.unit (s := S256x1024) ![0, 512] S64x128.size inb_S256x1024_S64x128_0_512).toLoadRect (harg1.unread x0)) (View.readAt (Elt F) arg2.view (Rect.unit (s := S256x1024) ![0, 512] S64x128.size inb_S256x1024_S64x128_0_512).toLoadRect (harg2.unread x1)) (View.readAt (Elt F) arg3.view (Rect.unit (s := S256x1024) ![0, 512] S64x128.size inb_S256x1024_S64x128_0_512).toLoadRect (harg3.unread x2)) (View.readAt (Elt F) arg5.view (Rect.unit (s := S8x256x64) ![4, 0, 0] S1x64x64.size inb_S8x256x64_S1x64x64_4_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 512] S64x128.size inb_S256x1024_S64x128_0_512).toLoadRect (harg7.unread x6))⟩,
      ⟨Rect.unit (s := S256x1024) ![0, 384] S64x128.size inb_S256x1024_S64x128_0_384,
        yx (v9 c arg10) (View.readAt (Elt F) arg1.view (Rect.unit (s := S256x1024) ![0, 384] S64x128.size inb_S256x1024_S64x128_0_384).toLoadRect (harg1.unread x0)) (View.readAt (Elt F) arg2.view (Rect.unit (s := S256x1024) ![0, 384] S64x128.size inb_S256x1024_S64x128_0_384).toLoadRect (harg2.unread x1)) (View.readAt (Elt F) arg3.view (Rect.unit (s := S256x1024) ![0, 384] S64x128.size inb_S256x1024_S64x128_0_384).toLoadRect (harg3.unread x2)) (View.readAt (Elt F) arg5.view (Rect.unit (s := S8x256x64) ![3, 0, 0] S1x64x64.size inb_S8x256x64_S1x64x64_3_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 384] S64x128.size inb_S256x1024_S64x128_0_384).toLoadRect (harg7.unread x6))⟩,
      ⟨Rect.unit (s := S256x1024) ![0, 256] S64x128.size inb_S256x1024_S64x128_0_256,
        yx (v7 c arg10) (View.readAt (Elt F) arg1.view (Rect.unit (s := S256x1024) ![0, 256] S64x128.size inb_S256x1024_S64x128_0_256).toLoadRect (harg1.unread x0)) (View.readAt (Elt F) arg2.view (Rect.unit (s := S256x1024) ![0, 256] S64x128.size inb_S256x1024_S64x128_0_256).toLoadRect (harg2.unread x1)) (View.readAt (Elt F) arg3.view (Rect.unit (s := S256x1024) ![0, 256] S64x128.size inb_S256x1024_S64x128_0_256).toLoadRect (harg3.unread x2)) (View.readAt (Elt F) arg5.view (Rect.unit (s := S8x256x64) ![2, 0, 0] S1x64x64.size inb_S8x256x64_S1x64x64_2_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 256] S64x128.size inb_S256x1024_S64x128_0_256).toLoadRect (harg7.unread x6))⟩,
      ⟨Rect.unit (s := S256x1024) ![0, 128] S64x128.size inb_S256x1024_S64x128_0_128,
        yx (v5 c arg10) (View.readAt (Elt F) arg1.view (Rect.unit (s := S256x1024) ![0, 128] S64x128.size inb_S256x1024_S64x128_0_128).toLoadRect (harg1.unread x0)) (View.readAt (Elt F) arg2.view (Rect.unit (s := S256x1024) ![0, 128] S64x128.size inb_S256x1024_S64x128_0_128).toLoadRect (harg2.unread x1)) (View.readAt (Elt F) arg3.view (Rect.unit (s := S256x1024) ![0, 128] S64x128.size inb_S256x1024_S64x128_0_128).toLoadRect (harg3.unread x2)) (View.readAt (Elt F) arg5.view (Rect.unit (s := S8x256x64) ![1, 0, 0] S1x64x64.size inb_S8x256x64_S1x64x64_1_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 128] S64x128.size inb_S256x1024_S64x128_0_128).toLoadRect (harg7.unread x6))⟩,
      ⟨Rect.unit (s := S256x1024) ![0, 0] S64x128.size inb_S256x1024_S64x128_0_0,
        yx (v3 c arg10) (View.readAt (Elt F) arg1.view (Rect.unit (s := S256x1024) ![0, 0] S64x128.size inb_S256x1024_S64x128_0_0).toLoadRect (harg1.unread x0)) (View.readAt (Elt F) arg2.view (Rect.unit (s := S256x1024) ![0, 0] S64x128.size inb_S256x1024_S64x128_0_0).toLoadRect (harg2.unread x1)) (View.readAt (Elt F) arg3.view (Rect.unit (s := S256x1024) ![0, 0] S64x128.size inb_S256x1024_S64x128_0_0).toLoadRect (harg3.unread x2)) (View.readAt (Elt F) arg5.view (Rect.unit (s := S8x256x64) ![0, 0, 0] S1x64x64.size inb_S8x256x64_S1x64x64_0_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 0] S64x128.size inb_S256x1024_S64x128_0_0).toLoadRect (harg7.unread x6))⟩] := rfl

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S8x256x64 .bf16) (harg5 : arg5.IsWhole) (arg6 : Memref sig .tc .vmem S4x8x128 .f32) (harg6 : arg6.IsWhole) (arg7 : Memref sig .tc .vmem S256x1024 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S8x128x128 .f32) (harg10 : arg10.IsWhole) (hc0 : cond0_0 i)
  (x0 : Vec Ideal S256x1024 .f32) (x1 x2 x3 : Vec Ideal S256x1024 .bf16) (x4 : Vec Ideal S8x256x64 .bf16) (x5 : Vec Ideal S4x8x128 .f32)
  (x6 : Vec Ideal S256x1024 .f32) (x7 : Vec Ideal S1x128 .f32)

/-- A point leaves in the scratch the state after its four chunks. -/
theorem scratch : sout0_A_0 c i arg1 harg1 arg2 harg2 arg3 harg3 arg4 harg4 arg5 harg5 arg6 harg6 arg7 harg7 arg8 harg8 arg9 harg9 arg10 harg10 hc0 x0 x1 x2 x3 x4 x5 x6 x7
    = nextB x0 x1 x3 x5 3 (nextB x0 x1 x3 x5 2 (nextB x0 x1 x3 x5 1 (nextB x0 x1 x3 x5 0 (fun _ => 0)))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  refine eight _ _ _ _ _ _ _ _ _ _ _ _ _ _ _ _ _ _ ?_ ?_ ?_ ?_ ?_ ?_ ?_ ?_ <;> intro x
  all_goals simp only [cst_1031, cst_545, cst_751, r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_128, r_129, r_13, r_130, r_131, r_132, r_133, r_134, r_135, r_136, r_137, r_138, r_139, r_14, r_140, r_141, r_142, r_143, r_144, r_145, r_146, r_147, r_148, r_149, r_15, r_150, r_151, r_152, r_153, r_154, r_155, r_156, r_157, r_158, r_159, r_16, r_160, r_161, r_162, r_163, r_164, r_165, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v1035, v1037, v1039, v1041, v1043, v1045, v1047, v1049, v11, v13, v15, v17, v2, v3, v347, v349, v351, v353, v355, v357, v359, v361, v5, v691, v693, v695, v697, v699, v7, v701, v703, v705, v782, v812, v9, View.readAt_eq_ld, Memref.IsWhole.read_unread, readCov_ld, hs1, hs8, hs16, hs24]
  · exact nx_piece 3 0 192 0 (by decide) (by decide) rfl rfl _ _ _ _ _ _ _ _ x
  · exact nx_piece 3 1 192 128 (by decide) (by decide) rfl rfl _ _ _ _ _ _ _ _ x
  · exact nx_piece 3 2 192 256 (by decide) (by decide) rfl rfl _ _ _ _ _ _ _ _ x
  · exact nx_piece 3 3 192 384 (by decide) (by decide) rfl rfl _ _ _ _ _ _ _ _ x
  · exact nx_piece 3 4 192 512 (by decide) (by decide) rfl rfl _ _ _ _ _ _ _ _ x
  · exact nx_piece 3 5 192 640 (by decide) (by decide) rfl rfl _ _ _ _ _ _ _ _ x
  · exact nx_piece 3 6 192 768 (by decide) (by decide) rfl rfl _ _ _ _ _ _ _ _ x
  · exact nx_piece 3 7 192 896 (by decide) (by decide) rfl rfl _ _ _ _ _ _ _ _ x

/-- A point stores the block of results of its four chunks. -/
theorem result : out0_A_8 c i arg1 harg1 arg2 harg2 arg3 harg3 arg4 harg4 arg5 harg5 arg6 harg6 arg7 harg7 arg8 harg8 arg9 harg9 arg10 harg10 hc0 x0 x1 x2 x3 x4 x5 x6 x7
    = gateOut x0 x1 x2 x4 x6 x7 ![(fun _ => 0),
      nextB x0 x1 x3 x5 0 (fun _ => 0),
      nextB x0 x1 x3 x5 1 (nextB x0 x1 x3 x5 0 (fun _ => 0)),
      nextB x0 x1 x3 x5 2 (nextB x0 x1 x3 x5 1 (nextB x0 x1 x3 x5 0 (fun _ => 0)))] := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  funext y
  have hc := cover0_A_8 c i arg1 harg1 arg2 harg2 arg3 harg3 arg4 harg4 arg5 harg5 arg6 harg6 arg7 harg7 arg8 harg8 arg9 harg9 arg10 harg10 hc0 x0 x1 x2 x3 x4 x5 x6 x7 y
  rw [pieces] at hc ⊢
  refine View.canon_apply_of_pieces _ _ (View.PiecesOf.mem ?_) y hc
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ <;> intro x
  all_goals simp only [v0, v1, v1035, v1037, v1039, v1041, v1043, v1045, v1047, v1049, v11, v13, v15, v17, v2, v3, v347, v349, v351, v353, v355, v357, v359, v361, v5, v691, v693, v695, v697, v699, v7, v701, v703, v705, v9, View.readAt_eq_ld, Memref.IsWhole.read_unread, readCov_ld, hs1, hs8, hs16, hs24]
  · exact yo_piece 3 7 192 896 (by decide) (by decide) rfl rfl _ _ (by rfl) _ _ _ _ _ _ _ _ _ _ x
  · exact yo_piece 3 6 192 768 (by decide) (by decide) rfl rfl _ _ (by rfl) _ _ _ _ _ _ _ _ _ _ x
  · exact yo_piece 3 5 192 640 (by decide) (by decide) rfl rfl _ _ (by rfl) _ _ _ _ _ _ _ _ _ _ x
  · exact yo_piece 3 4 192 512 (by decide) (by decide) rfl rfl _ _ (by rfl) _ _ _ _ _ _ _ _ _ _ x
  · exact yo_piece 3 3 192 384 (by decide) (by decide) rfl rfl _ _ (by rfl) _ _ _ _ _ _ _ _ _ _ x
  · exact yo_piece 3 2 192 256 (by decide) (by decide) rfl rfl _ _ (by rfl) _ _ _ _ _ _ _ _ _ _ x
  · exact yo_piece 3 1 192 128 (by decide) (by decide) rfl rfl _ _ (by rfl) _ _ _ _ _ _ _ _ _ _ x
  · exact yo_piece 3 0 192 0 (by decide) (by decide) rfl rfl _ _ (by rfl) _ _ _ _ _ _ _ _ _ _ x
  · exact yo_piece 2 7 128 896 (by decide) (by decide) rfl rfl _ _ (by rfl) _ _ _ _ _ _ _ _ _ _ x
  · exact yo_piece 2 6 128 768 (by decide) (by decide) rfl rfl _ _ (by rfl) _ _ _ _ _ _ _ _ _ _ x
  · exact yo_piece 2 5 128 640 (by decide) (by decide) rfl rfl _ _ (by rfl) _ _ _ _ _ _ _ _ _ _ x
  · exact yo_piece 2 4 128 512 (by decide) (by decide) rfl rfl _ _ (by rfl) _ _ _ _ _ _ _ _ _ _ x
  · exact yo_piece 2 3 128 384 (by decide) (by decide) rfl rfl _ _ (by rfl) _ _ _ _ _ _ _ _ _ _ x
  · exact yo_piece 2 2 128 256 (by decide) (by decide) rfl rfl _ _ (by rfl) _ _ _ _ _ _ _ _ _ _ x
  · exact yo_piece 2 1 128 128 (by decide) (by decide) rfl rfl _ _ (by rfl) _ _ _ _ _ _ _ _ _ _ x
  · exact yo_piece 2 0 128 0 (by decide) (by decide) rfl rfl _ _ (by rfl) _ _ _ _ _ _ _ _ _ _ x
  · exact yo_piece 1 7 64 896 (by decide) (by decide) rfl rfl _ _ (by rfl) _ _ _ _ _ _ _ _ _ _ x
  · exact yo_piece 1 6 64 768 (by decide) (by decide) rfl rfl _ _ (by rfl) _ _ _ _ _ _ _ _ _ _ x
  · exact yo_piece 1 5 64 640 (by decide) (by decide) rfl rfl _ _ (by rfl) _ _ _ _ _ _ _ _ _ _ x
  · exact yo_piece 1 4 64 512 (by decide) (by decide) rfl rfl _ _ (by rfl) _ _ _ _ _ _ _ _ _ _ x
  · exact yo_piece 1 3 64 384 (by decide) (by decide) rfl rfl _ _ (by rfl) _ _ _ _ _ _ _ _ _ _ x
  · exact yo_piece 1 2 64 256 (by decide) (by decide) rfl rfl _ _ (by rfl) _ _ _ _ _ _ _ _ _ _ x
  · exact yo_piece 1 1 64 128 (by decide) (by decide) rfl rfl _ _ (by rfl) _ _ _ _ _ _ _ _ _ _ x
  · exact yo_piece 1 0 64 0 (by decide) (by decide) rfl rfl _ _ (by rfl) _ _ _ _ _ _ _ _ _ _ x
  · exact yo_piece 0 7 0 896 (by decide) (by decide) rfl rfl _ _ (by rfl) _ _ _ _ _ _ _ _ _ _ x
  · exact yo_piece 0 6 0 768 (by decide) (by decide) rfl rfl _ _ (by rfl) _ _ _ _ _ _ _ _ _ _ x
  · exact yo_piece 0 5 0 640 (by decide) (by decide) rfl rfl _ _ (by rfl) _ _ _ _ _ _ _ _ _ _ x
  · exact yo_piece 0 4 0 512 (by decide) (by decide) rfl rfl _ _ (by rfl) _ _ _ _ _ _ _ _ _ _ x
  · exact yo_piece 0 3 0 384 (by decide) (by decide) rfl rfl _ _ (by rfl) _ _ _ _ _ _ _ _ _ _ x
  · exact yo_piece 0 2 0 256 (by decide) (by decide) rfl rfl _ _ (by rfl) _ _ _ _ _ _ _ _ _ _ x
  · exact yo_piece 0 1 0 128 (by decide) (by decide) rfl rfl _ _ (by rfl) _ _ _ _ _ _ _ _ _ _ x
  · exact yo_piece 0 0 0 0 (by decide) (by decide) rfl rfl _ _ (by rfl) _ _ _ _ _ _ _ _ _ _ x

end Cert.KernelIdeal.Scan.A
end
-- ==== Proof.ScanB.lean ====
module

public import proofs.«01_k».proof.Proof.ScanMath

@[expose] public section

set_option maxRecDepth 16384

noncomputable section

open Idealize.ShloMosaic Idealize.ShloMosaic.TcCoe Idealize.SL.Sem

namespace Cert.KernelIdeal.Scan.B

open Cert.KernelIdeal Cert.KernelIdeal.Gen
open Cert.KernelIdeal.Gen.kernelRun0_B.sl

section Stages

variable (c : Dev nD) (arg1 : Memref sig .tc .vmem S256x1024 .f32) (harg1 : arg1.IsWhole) (arg2 : Memref sig .tc .vmem S256x1024 .bf16) (harg2 : arg2.IsWhole) (arg4 : Memref sig .tc .vmem S256x1024 .bf16) (harg4 : arg4.IsWhole) (arg6 : Memref sig .tc .vmem S4x8x128 .f32) (harg6 : arg6.IsWhole) (arg10 : Memref sig .tc .vmem S8x128x128 .f32) (harg10 : arg10.IsWhole)
  (x0 : Vec Ideal S256x1024 .f32) (x1 x3 : Vec Ideal S256x1024 .bf16) (x5 : Vec Ideal S4x8x128 .f32) (xs0 : State)
/-- The stores of chunk 0 leave the state after it. -/
theorem hs8 : View.canon (HS0_8 c arg1 harg1 arg2 harg2 arg4 harg4 arg6 harg6 arg10 harg10 x0 x1 x3 x5 xs0)
    = nextB x0 x1 x3 x5 0 xs0 := by
  unfold HS0_8
  refine eight _ _ _ _ _ _ _ _ _ _ _ _ _ _ _ _ _ _ ?_ ?_ ?_ ?_ ?_ ?_ ?_ ?_ <;> intro x
  all_goals simp only [r_7, r_25, r_15, r_6, r_24, r_14, r_23, r_5, r_22, r_13, r_27, r_4, r_21, r_12, r_3, r_20, r_11, r_2, r_19, r_10, r_26, r_1, r_18, r_9, r, r_17, r_8, r_16, View.readAt_eq_ld, Memref.IsWhole.read_unread, readCov_ld]
  · exact nx_piece 0 0 0 0 (by decide) (by decide) rfl rfl _ _ _ _ _ _ _ _ x
  · exact nx_piece 0 1 0 128 (by decide) (by decide) rfl rfl _ _ _ _ _ _ _ _ x
  · exact nx_piece 0 2 0 256 (by decide) (by decide) rfl rfl _ _ _ _ _ _ _ _ x
  · exact nx_piece 0 3 0 384 (by decide) (by decide) rfl rfl _ _ _ _ _ _ _ _ x
  · exact nx_piece 0 4 0 512 (by decide) (by decide) rfl rfl _ _ _ _ _ _ _ _ x
  · exact nx_piece 0 5 0 640 (by decide) (by decide) rfl rfl _ _ _ _ _ _ _ _ x
  · exact nx_piece 0 6 0 768 (by decide) (by decide) rfl rfl _ _ _ _ _ _ _ _ x
  · exact nx_piece 0 7 0 896 (by decide) (by decide) rfl rfl _ _ _ _ _ _ _ _ x

/-- The stores of chunk 1 leave the state after it. -/
theorem hs16 : View.canon (HS0_16 c arg1 harg1 arg2 harg2 arg4 harg4 arg6 harg6 arg10 harg10 x0 x1 x3 x5 xs0)
    = nextB x0 x1 x3 x5 1 (nextB x0 x1 x3 x5 0 xs0) := by
  unfold HS0_16
  refine eight _ _ _ _ _ _ _ _ _ _ _ _ _ _ _ _ _ _ ?_ ?_ ?_ ?_ ?_ ?_ ?_ ?_ <;> intro x
  all_goals simp only [r_50, v361, r_66, r_58, r_49, v359, r_65, r_57, r_48, v357, r_64, r_56, r_47, v355, r_63, r_55, r_46, v353, r_62, r_45, v351, r_61, r_44, v349, r_60, r_43, v347, r_59, View.readAt_eq_ld, Memref.IsWhole.read_unread, readCov_ld, hs8]
  · exact nx_piece 1 0 64 0 (by decide) (by decide) rfl rfl _ _ _ _ _ _ _ _ x
  · exact nx_piece 1 1 64 128 (by decide) (by decide) rfl rfl _ _ _ _ _ _ _ _ x
  · exact nx_piece 1 2 64 256 (by decide) (by decide) rfl rfl _ _ _ _ _ _ _ _ x
  · exact nx_piece 1 3 64 384 (by decide) (by decide) rfl rfl _ _ _ _ _ _ _ _ x
  · exact nx_piece 1 4 64 512 (by decide) (by decide) rfl rfl _ _ _ _ _ _ _ _ x
  · exact nx_piece 1 5 64 640 (by decide) (by decide) rfl rfl _ _ _ _ _ _ _ _ x
  · exact nx_piece 1 6 64 768 (by decide) (by decide) rfl rfl _ _ _ _ _ _ _ _ x
  · exact nx_piece 1 7 64 896 (by decide) (by decide) rfl rfl _ _ _ _ _ _ _ _ x

/-- The stores of chunk 2 leave the state after it. -/
theorem hs24 : View.canon (HS0_24 c arg1 harg1 arg2 harg2 arg4 harg4 arg6 harg6 arg10 harg10 x0 x1 x3 x5 xs0)
    = nextB x0 x1 x3 x5 2 (nextB x0 x1 x3 x5 1 (nextB x0 x1 x3 x5 0 xs0)) := by
  unfold HS0_24 HS0_21 HS0_18
  refine eight _ _ _ _ _ _ _ _ _ _ _ _ _ _ _ _ _ _ ?_ ?_ ?_ ?_ ?_ ?_ ?_ ?_ <;> intro x
  all_goals simp only [r_87, v705, r_107, r_95, r_105, r_106, cst_545, r_86, v703, r_104, r_94, r_109, r_85, v701, r_103, r_93, r_84, v699, r_102, r_92, r_83, v697, r_101, r_91, r_108, r_82, v695, r_100, r_90, r_81, v693, r_99, r_89, r_97, r_98, r_80, v691, r_96, View.readAt_eq_ld, Memref.IsWhole.read_unread, readCov_ld, hs8, hs16]
  · exact nx_piece 2 0 128 0 (by decide) (by decide) rfl rfl _ _ _ _ _ _ _ _ x
  · exact nx_piece 2 1 128 128 (by decide) (by decide) rfl rfl _ _ _ _ _ _ _ _ x
  · exact nx_piece 2 2 128 256 (by decide) (by decide) rfl rfl _ _ _ _ _ _ _ _ x
  · exact nx_piece 2 3 128 384 (by decide) (by decide) rfl rfl _ _ _ _ _ _ _ _ x
  · exact nx_piece 2 4 128 512 (by decide) (by decide) rfl rfl _ _ _ _ _ _ _ _ x
  · exact nx_piece 2 5 128 640 (by decide) (by decide) rfl rfl _ _ _ _ _ _ _ _ x
  · exact nx_piece 2 6 128 768 (by decide) (by decide) rfl rfl _ _ _ _ _ _ _ _ x
  · exact nx_piece 2 7 128 896 (by decide) (by decide) rfl rfl _ _ _ _ _ _ _ _ x

end Stages

/-- The pieces of the result, each as one expression in the loads of its head and chunk. -/
theorem pieces {F : FTy → Type} [FloatOps F] (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S8x256x64 .bf16) (harg5 : arg5.IsWhole) (arg6 : Memref sig .tc .vmem S4x8x128 .f32) (harg6 : arg6.IsWhole) (arg7 : Memref sig .tc .vmem S256x1024 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S8x128x128 .f32) (harg10 : arg10.IsWhole) (hc0 : ¬cond0_0 i)
    (x0 : Vec F S256x1024 .f32) (x1 x2 x3 : Vec F S256x1024 .bf16) (x4 : Vec F S8x256x64 .bf16) (x5 : Vec F S4x8x128 .f32)
    (x6 : Vec F S256x1024 .f32) (x7 : Vec F S1x128 .f32) (xs0 : Vec F S8x128x128 .f32) :
    (kernelRun0_B c i arg1 harg1 arg2 harg2 arg3 harg3 arg4 harg4 arg5 harg5 arg6 harg6 arg7 harg7 arg8 harg8 arg9 harg9 arg10 harg10 hc0 x0 x1 x2 x3 x4 x5 x6 x7 xs0).1 =
      [⟨Rect.unit (s := S256x1024) ![192, 896] S64x128.size inb_S256x1024_S64x128_192_896,
        yx (v1049 c arg1 harg1 arg2 harg2 arg4 harg4 arg6 harg6 arg10 harg10 x0 x1 x3 x5 xs0) (View.readAt (Elt F) arg1.view (Rect.unit (s := S256x1024) ![192, 896] S64x128.size inb_S256x1024_S64x128_192_896).toLoadRect (harg1.unread x0)) (View.readAt (Elt F) arg2.view (Rect.unit (s := S256x1024) ![192, 896] S64x128.size inb_S256x1024_S64x128_192_896).toLoadRect (harg2.unread x1)) (View.readAt (Elt F) arg3.view (Rect.unit (s := S256x1024) ![192, 896] S64x128.size inb_S256x1024_S64x128_192_896).toLoadRect (harg3.unread x2)) (View.readAt (Elt F) arg5.view (Rect.unit (s := S8x256x64) ![7, 192, 0] S1x64x64.size inb_S8x256x64_S1x64x64_7_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 896] S64x128.size inb_S256x1024_S64x128_192_896).toLoadRect (harg7.unread x6))⟩,
      ⟨Rect.unit (s := S256x1024) ![192, 768] S64x128.size inb_S256x1024_S64x128_192_768,
        yx (v1047 c arg1 harg1 arg2 harg2 arg4 harg4 arg6 harg6 arg10 harg10 x0 x1 x3 x5 xs0) (View.readAt (Elt F) arg1.view (Rect.unit (s := S256x1024) ![192, 768] S64x128.size inb_S256x1024_S64x128_192_768).toLoadRect (harg1.unread x0)) (View.readAt (Elt F) arg2.view (Rect.unit (s := S256x1024) ![192, 768] S64x128.size inb_S256x1024_S64x128_192_768).toLoadRect (harg2.unread x1)) (View.readAt (Elt F) arg3.view (Rect.unit (s := S256x1024) ![192, 768] S64x128.size inb_S256x1024_S64x128_192_768).toLoadRect (harg3.unread x2)) (View.readAt (Elt F) arg5.view (Rect.unit (s := S8x256x64) ![6, 192, 0] S1x64x64.size inb_S8x256x64_S1x64x64_6_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 768] S64x128.size inb_S256x1024_S64x128_192_768).toLoadRect (harg7.unread x6))⟩,
      ⟨Rect.unit (s := S256x1024) ![192, 640] S64x128.size inb_S256x1024_S64x128_192_640,
        yx (v1045 c arg1 harg1 arg2 harg2 arg4 harg4 arg6 harg6 arg10 harg10 x0 x1 x3 x5 xs0) (View.readAt (Elt F) arg1.view (Rect.unit (s := S256x1024) ![192, 640] S64x128.size inb_S256x1024_S64x128_192_640).toLoadRect (harg1.unread x0)) (View.readAt (Elt F) arg2.view (Rect.unit (s := S256x1024) ![192, 640] S64x128.size inb_S256x1024_S64x128_192_640).toLoadRect (harg2.unread x1)) (View.readAt (Elt F) arg3.view (Rect.unit (s := S256x1024) ![192, 640] S64x128.size inb_S256x1024_S64x128_192_640).toLoadRect (harg3.unread x2)) (View.readAt (Elt F) arg5.view (Rect.unit (s := S8x256x64) ![5, 192, 0] S1x64x64.size inb_S8x256x64_S1x64x64_5_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 640] S64x128.size inb_S256x1024_S64x128_192_640).toLoadRect (harg7.unread x6))⟩,
      ⟨Rect.unit (s := S256x1024) ![192, 512] S64x128.size inb_S256x1024_S64x128_192_512,
        yx (v1043 c arg1 harg1 arg2 harg2 arg4 harg4 arg6 harg6 arg10 harg10 x0 x1 x3 x5 xs0) (View.readAt (Elt F) arg1.view (Rect.unit (s := S256x1024) ![192, 512] S64x128.size inb_S256x1024_S64x128_192_512).toLoadRect (harg1.unread x0)) (View.readAt (Elt F) arg2.view (Rect.unit (s := S256x1024) ![192, 512] S64x128.size inb_S256x1024_S64x128_192_512).toLoadRect (harg2.unread x1)) (View.readAt (Elt F) arg3.view (Rect.unit (s := S256x1024) ![192, 512] S64x128.size inb_S256x1024_S64x128_192_512).toLoadRect (harg3.unread x2)) (View.readAt (Elt F) arg5.view (Rect.unit (s := S8x256x64) ![4, 192, 0] S1x64x64.size inb_S8x256x64_S1x64x64_4_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 512] S64x128.size inb_S256x1024_S64x128_192_512).toLoadRect (harg7.unread x6))⟩,
      ⟨Rect.unit (s := S256x1024) ![192, 384] S64x128.size inb_S256x1024_S64x128_192_384,
        yx (v1041 c arg1 harg1 arg2 harg2 arg4 harg4 arg6 harg6 arg10 harg10 x0 x1 x3 x5 xs0) (View.readAt (Elt F) arg1.view (Rect.unit (s := S256x1024) ![192, 384] S64x128.size inb_S256x1024_S64x128_192_384).toLoadRect (harg1.unread x0)) (View.readAt (Elt F) arg2.view (Rect.unit (s := S256x1024) ![192, 384] S64x128.size inb_S256x1024_S64x128_192_384).toLoadRect (harg2.unread x1)) (View.readAt (Elt F) arg3.view (Rect.unit (s := S256x1024) ![192, 384] S64x128.size inb_S256x1024_S64x128_192_384).toLoadRect (harg3.unread x2)) (View.readAt (Elt F) arg5.view (Rect.unit (s := S8x256x64) ![3, 192, 0] S1x64x64.size inb_S8x256x64_S1x64x64_3_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 384] S64x128.size inb_S256x1024_S64x128_192_384).toLoadRect (harg7.unread x6))⟩,
      ⟨Rect.unit (s := S256x1024) ![192, 256] S64x128.size inb_S256x1024_S64x128_192_256,
        yx (v1039 c arg1 harg1 arg2 harg2 arg4 harg4 arg6 harg6 arg10 harg10 x0 x1 x3 x5 xs0) (View.readAt (Elt F) arg1.view (Rect.unit (s := S256x1024) ![192, 256] S64x128.size inb_S256x1024_S64x128_192_256).toLoadRect (harg1.unread x0)) (View.readAt (Elt F) arg2.view (Rect.unit (s := S256x1024) ![192, 256] S64x128.size inb_S256x1024_S64x128_192_256).toLoadRect (harg2.unread x1)) (View.readAt (Elt F) arg3.view (Rect.unit (s := S256x1024) ![192, 256] S64x128.size inb_S256x1024_S64x128_192_256).toLoadRect (harg3.unread x2)) (View.readAt (Elt F) arg5.view (Rect.unit (s := S8x256x64) ![2, 192, 0] S1x64x64.size inb_S8x256x64_S1x64x64_2_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 256] S64x128.size inb_S256x1024_S64x128_192_256).toLoadRect (harg7.unread x6))⟩,
      ⟨Rect.unit (s := S256x1024) ![192, 128] S64x128.size inb_S256x1024_S64x128_192_128,
        yx (v1037 c arg1 harg1 arg2 harg2 arg4 harg4 arg6 harg6 arg10 harg10 x0 x1 x3 x5 xs0) (View.readAt (Elt F) arg1.view (Rect.unit (s := S256x1024) ![192, 128] S64x128.size inb_S256x1024_S64x128_192_128).toLoadRect (harg1.unread x0)) (View.readAt (Elt F) arg2.view (Rect.unit (s := S256x1024) ![192, 128] S64x128.size inb_S256x1024_S64x128_192_128).toLoadRect (harg2.unread x1)) (View.readAt (Elt F) arg3.view (Rect.unit (s := S256x1024) ![192, 128] S64x128.size inb_S256x1024_S64x128_192_128).toLoadRect (harg3.unread x2)) (View.readAt (Elt F) arg5.view (Rect.unit (s := S8x256x64) ![1, 192, 0] S1x64x64.size inb_S8x256x64_S1x64x64_1_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 128] S64x128.size inb_S256x1024_S64x128_192_128).toLoadRect (harg7.unread x6))⟩,
      ⟨Rect.unit (s := S256x1024) ![192, 0] S64x128.size inb_S256x1024_S64x128_192_0,
        yx (v1035 c arg1 harg1 arg2 harg2 arg4 harg4 arg6 harg6 arg10 harg10 x0 x1 x3 x5 xs0) (View.readAt (Elt F) arg1.view (Rect.unit (s := S256x1024) ![192, 0] S64x128.size inb_S256x1024_S64x128_192_0).toLoadRect (harg1.unread x0)) (View.readAt (Elt F) arg2.view (Rect.unit (s := S256x1024) ![192, 0] S64x128.size inb_S256x1024_S64x128_192_0).toLoadRect (harg2.unread x1)) (View.readAt (Elt F) arg3.view (Rect.unit (s := S256x1024) ![192, 0] S64x128.size inb_S256x1024_S64x128_192_0).toLoadRect (harg3.unread x2)) (View.readAt (Elt F) arg5.view (Rect.unit (s := S8x256x64) ![0, 192, 0] S1x64x64.size inb_S8x256x64_S1x64x64_0_192_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![192, 0] S64x128.size inb_S256x1024_S64x128_192_0).toLoadRect (harg7.unread x6))⟩,
      ⟨Rect.unit (s := S256x1024) ![128, 896] S64x128.size inb_S256x1024_S64x128_128_896,
        yx (v705 c arg1 harg1 arg2 harg2 arg4 harg4 arg6 harg6 arg10 harg10 x0 x1 x3 x5 xs0) (View.readAt (Elt F) arg1.view (Rect.unit (s := S256x1024) ![128, 896] S64x128.size inb_S256x1024_S64x128_128_896).toLoadRect (harg1.unread x0)) (View.readAt (Elt F) arg2.view (Rect.unit (s := S256x1024) ![128, 896] S64x128.size inb_S256x1024_S64x128_128_896).toLoadRect (harg2.unread x1)) (View.readAt (Elt F) arg3.view (Rect.unit (s := S256x1024) ![128, 896] S64x128.size inb_S256x1024_S64x128_128_896).toLoadRect (harg3.unread x2)) (View.readAt (Elt F) arg5.view (Rect.unit (s := S8x256x64) ![7, 128, 0] S1x64x64.size inb_S8x256x64_S1x64x64_7_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 896] S64x128.size inb_S256x1024_S64x128_128_896).toLoadRect (harg7.unread x6))⟩,
      ⟨Rect.unit (s := S256x1024) ![128, 768] S64x128.size inb_S256x1024_S64x128_128_768,
        yx (v703 c arg1 harg1 arg2 harg2 arg4 harg4 arg6 harg6 arg10 harg10 x0 x1 x3 x5 xs0) (View.readAt (Elt F) arg1.view (Rect.unit (s := S256x1024) ![128, 768] S64x128.size inb_S256x1024_S64x128_128_768).toLoadRect (harg1.unread x0)) (View.readAt (Elt F) arg2.view (Rect.unit (s := S256x1024) ![128, 768] S64x128.size inb_S256x1024_S64x128_128_768).toLoadRect (harg2.unread x1)) (View.readAt (Elt F) arg3.view (Rect.unit (s := S256x1024) ![128, 768] S64x128.size inb_S256x1024_S64x128_128_768).toLoadRect (harg3.unread x2)) (View.readAt (Elt F) arg5.view (Rect.unit (s := S8x256x64) ![6, 128, 0] S1x64x64.size inb_S8x256x64_S1x64x64_6_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 768] S64x128.size inb_S256x1024_S64x128_128_768).toLoadRect (harg7.unread x6))⟩,
      ⟨Rect.unit (s := S256x1024) ![128, 640] S64x128.size inb_S256x1024_S64x128_128_640,
        yx (v701 c arg1 harg1 arg2 harg2 arg4 harg4 arg6 harg6 arg10 harg10 x0 x1 x3 x5 xs0) (View.readAt (Elt F) arg1.view (Rect.unit (s := S256x1024) ![128, 640] S64x128.size inb_S256x1024_S64x128_128_640).toLoadRect (harg1.unread x0)) (View.readAt (Elt F) arg2.view (Rect.unit (s := S256x1024) ![128, 640] S64x128.size inb_S256x1024_S64x128_128_640).toLoadRect (harg2.unread x1)) (View.readAt (Elt F) arg3.view (Rect.unit (s := S256x1024) ![128, 640] S64x128.size inb_S256x1024_S64x128_128_640).toLoadRect (harg3.unread x2)) (View.readAt (Elt F) arg5.view (Rect.unit (s := S8x256x64) ![5, 128, 0] S1x64x64.size inb_S8x256x64_S1x64x64_5_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 640] S64x128.size inb_S256x1024_S64x128_128_640).toLoadRect (harg7.unread x6))⟩,
      ⟨Rect.unit (s := S256x1024) ![128, 512] S64x128.size inb_S256x1024_S64x128_128_512,
        yx (v699 c arg1 harg1 arg2 harg2 arg4 harg4 arg6 harg6 arg10 harg10 x0 x1 x3 x5 xs0) (View.readAt (Elt F) arg1.view (Rect.unit (s := S256x1024) ![128, 512] S64x128.size inb_S256x1024_S64x128_128_512).toLoadRect (harg1.unread x0)) (View.readAt (Elt F) arg2.view (Rect.unit (s := S256x1024) ![128, 512] S64x128.size inb_S256x1024_S64x128_128_512).toLoadRect (harg2.unread x1)) (View.readAt (Elt F) arg3.view (Rect.unit (s := S256x1024) ![128, 512] S64x128.size inb_S256x1024_S64x128_128_512).toLoadRect (harg3.unread x2)) (View.readAt (Elt F) arg5.view (Rect.unit (s := S8x256x64) ![4, 128, 0] S1x64x64.size inb_S8x256x64_S1x64x64_4_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 512] S64x128.size inb_S256x1024_S64x128_128_512).toLoadRect (harg7.unread x6))⟩,
      ⟨Rect.unit (s := S256x1024) ![128, 384] S64x128.size inb_S256x1024_S64x128_128_384,
        yx (v697 c arg1 harg1 arg2 harg2 arg4 harg4 arg6 harg6 arg10 harg10 x0 x1 x3 x5 xs0) (View.readAt (Elt F) arg1.view (Rect.unit (s := S256x1024) ![128, 384] S64x128.size inb_S256x1024_S64x128_128_384).toLoadRect (harg1.unread x0)) (View.readAt (Elt F) arg2.view (Rect.unit (s := S256x1024) ![128, 384] S64x128.size inb_S256x1024_S64x128_128_384).toLoadRect (harg2.unread x1)) (View.readAt (Elt F) arg3.view (Rect.unit (s := S256x1024) ![128, 384] S64x128.size inb_S256x1024_S64x128_128_384).toLoadRect (harg3.unread x2)) (View.readAt (Elt F) arg5.view (Rect.unit (s := S8x256x64) ![3, 128, 0] S1x64x64.size inb_S8x256x64_S1x64x64_3_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 384] S64x128.size inb_S256x1024_S64x128_128_384).toLoadRect (harg7.unread x6))⟩,
      ⟨Rect.unit (s := S256x1024) ![128, 256] S64x128.size inb_S256x1024_S64x128_128_256,
        yx (v695 c arg1 harg1 arg2 harg2 arg4 harg4 arg6 harg6 arg10 harg10 x0 x1 x3 x5 xs0) (View.readAt (Elt F) arg1.view (Rect.unit (s := S256x1024) ![128, 256] S64x128.size inb_S256x1024_S64x128_128_256).toLoadRect (harg1.unread x0)) (View.readAt (Elt F) arg2.view (Rect.unit (s := S256x1024) ![128, 256] S64x128.size inb_S256x1024_S64x128_128_256).toLoadRect (harg2.unread x1)) (View.readAt (Elt F) arg3.view (Rect.unit (s := S256x1024) ![128, 256] S64x128.size inb_S256x1024_S64x128_128_256).toLoadRect (harg3.unread x2)) (View.readAt (Elt F) arg5.view (Rect.unit (s := S8x256x64) ![2, 128, 0] S1x64x64.size inb_S8x256x64_S1x64x64_2_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 256] S64x128.size inb_S256x1024_S64x128_128_256).toLoadRect (harg7.unread x6))⟩,
      ⟨Rect.unit (s := S256x1024) ![128, 128] S64x128.size inb_S256x1024_S64x128_128_128,
        yx (v693 c arg1 harg1 arg2 harg2 arg4 harg4 arg6 harg6 arg10 harg10 x0 x1 x3 x5 xs0) (View.readAt (Elt F) arg1.view (Rect.unit (s := S256x1024) ![128, 128] S64x128.size inb_S256x1024_S64x128_128_128).toLoadRect (harg1.unread x0)) (View.readAt (Elt F) arg2.view (Rect.unit (s := S256x1024) ![128, 128] S64x128.size inb_S256x1024_S64x128_128_128).toLoadRect (harg2.unread x1)) (View.readAt (Elt F) arg3.view (Rect.unit (s := S256x1024) ![128, 128] S64x128.size inb_S256x1024_S64x128_128_128).toLoadRect (harg3.unread x2)) (View.readAt (Elt F) arg5.view (Rect.unit (s := S8x256x64) ![1, 128, 0] S1x64x64.size inb_S8x256x64_S1x64x64_1_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 128] S64x128.size inb_S256x1024_S64x128_128_128).toLoadRect (harg7.unread x6))⟩,
      ⟨Rect.unit (s := S256x1024) ![128, 0] S64x128.size inb_S256x1024_S64x128_128_0,
        yx (v691 c arg1 harg1 arg2 harg2 arg4 harg4 arg6 harg6 arg10 harg10 x0 x1 x3 x5 xs0) (View.readAt (Elt F) arg1.view (Rect.unit (s := S256x1024) ![128, 0] S64x128.size inb_S256x1024_S64x128_128_0).toLoadRect (harg1.unread x0)) (View.readAt (Elt F) arg2.view (Rect.unit (s := S256x1024) ![128, 0] S64x128.size inb_S256x1024_S64x128_128_0).toLoadRect (harg2.unread x1)) (View.readAt (Elt F) arg3.view (Rect.unit (s := S256x1024) ![128, 0] S64x128.size inb_S256x1024_S64x128_128_0).toLoadRect (harg3.unread x2)) (View.readAt (Elt F) arg5.view (Rect.unit (s := S8x256x64) ![0, 128, 0] S1x64x64.size inb_S8x256x64_S1x64x64_0_128_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![128, 0] S64x128.size inb_S256x1024_S64x128_128_0).toLoadRect (harg7.unread x6))⟩,
      ⟨Rect.unit (s := S256x1024) ![64, 896] S64x128.size inb_S256x1024_S64x128_64_896,
        yx (v361 c arg1 harg1 arg2 harg2 arg4 harg4 arg6 harg6 arg10 harg10 x0 x1 x3 x5 xs0) (View.readAt (Elt F) arg1.view (Rect.unit (s := S256x1024) ![64, 896] S64x128.size inb_S256x1024_S64x128_64_896).toLoadRect (harg1.unread x0)) (View.readAt (Elt F) arg2.view (Rect.unit (s := S256x1024) ![64, 896] S64x128.size inb_S256x1024_S64x128_64_896).toLoadRect (harg2.unread x1)) (View.readAt (Elt F) arg3.view (Rect.unit (s := S256x1024) ![64, 896] S64x128.size inb_S256x1024_S64x128_64_896).toLoadRect (harg3.unread x2)) (View.readAt (Elt F) arg5.view (Rect.unit (s := S8x256x64) ![7, 64, 0] S1x64x64.size inb_S8x256x64_S1x64x64_7_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 896] S64x128.size inb_S256x1024_S64x128_64_896).toLoadRect (harg7.unread x6))⟩,
      ⟨Rect.unit (s := S256x1024) ![64, 768] S64x128.size inb_S256x1024_S64x128_64_768,
        yx (v359 c arg1 harg1 arg2 harg2 arg4 harg4 arg6 harg6 arg10 harg10 x0 x1 x3 x5 xs0) (View.readAt (Elt F) arg1.view (Rect.unit (s := S256x1024) ![64, 768] S64x128.size inb_S256x1024_S64x128_64_768).toLoadRect (harg1.unread x0)) (View.readAt (Elt F) arg2.view (Rect.unit (s := S256x1024) ![64, 768] S64x128.size inb_S256x1024_S64x128_64_768).toLoadRect (harg2.unread x1)) (View.readAt (Elt F) arg3.view (Rect.unit (s := S256x1024) ![64, 768] S64x128.size inb_S256x1024_S64x128_64_768).toLoadRect (harg3.unread x2)) (View.readAt (Elt F) arg5.view (Rect.unit (s := S8x256x64) ![6, 64, 0] S1x64x64.size inb_S8x256x64_S1x64x64_6_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 768] S64x128.size inb_S256x1024_S64x128_64_768).toLoadRect (harg7.unread x6))⟩,
      ⟨Rect.unit (s := S256x1024) ![64, 640] S64x128.size inb_S256x1024_S64x128_64_640,
        yx (v357 c arg1 harg1 arg2 harg2 arg4 harg4 arg6 harg6 arg10 harg10 x0 x1 x3 x5 xs0) (View.readAt (Elt F) arg1.view (Rect.unit (s := S256x1024) ![64, 640] S64x128.size inb_S256x1024_S64x128_64_640).toLoadRect (harg1.unread x0)) (View.readAt (Elt F) arg2.view (Rect.unit (s := S256x1024) ![64, 640] S64x128.size inb_S256x1024_S64x128_64_640).toLoadRect (harg2.unread x1)) (View.readAt (Elt F) arg3.view (Rect.unit (s := S256x1024) ![64, 640] S64x128.size inb_S256x1024_S64x128_64_640).toLoadRect (harg3.unread x2)) (View.readAt (Elt F) arg5.view (Rect.unit (s := S8x256x64) ![5, 64, 0] S1x64x64.size inb_S8x256x64_S1x64x64_5_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 640] S64x128.size inb_S256x1024_S64x128_64_640).toLoadRect (harg7.unread x6))⟩,
      ⟨Rect.unit (s := S256x1024) ![64, 512] S64x128.size inb_S256x1024_S64x128_64_512,
        yx (v355 c arg1 harg1 arg2 harg2 arg4 harg4 arg6 harg6 arg10 harg10 x0 x1 x3 x5 xs0) (View.readAt (Elt F) arg1.view (Rect.unit (s := S256x1024) ![64, 512] S64x128.size inb_S256x1024_S64x128_64_512).toLoadRect (harg1.unread x0)) (View.readAt (Elt F) arg2.view (Rect.unit (s := S256x1024) ![64, 512] S64x128.size inb_S256x1024_S64x128_64_512).toLoadRect (harg2.unread x1)) (View.readAt (Elt F) arg3.view (Rect.unit (s := S256x1024) ![64, 512] S64x128.size inb_S256x1024_S64x128_64_512).toLoadRect (harg3.unread x2)) (View.readAt (Elt F) arg5.view (Rect.unit (s := S8x256x64) ![4, 64, 0] S1x64x64.size inb_S8x256x64_S1x64x64_4_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 512] S64x128.size inb_S256x1024_S64x128_64_512).toLoadRect (harg7.unread x6))⟩,
      ⟨Rect.unit (s := S256x1024) ![64, 384] S64x128.size inb_S256x1024_S64x128_64_384,
        yx (v353 c arg1 harg1 arg2 harg2 arg4 harg4 arg6 harg6 arg10 harg10 x0 x1 x3 x5 xs0) (View.readAt (Elt F) arg1.view (Rect.unit (s := S256x1024) ![64, 384] S64x128.size inb_S256x1024_S64x128_64_384).toLoadRect (harg1.unread x0)) (View.readAt (Elt F) arg2.view (Rect.unit (s := S256x1024) ![64, 384] S64x128.size inb_S256x1024_S64x128_64_384).toLoadRect (harg2.unread x1)) (View.readAt (Elt F) arg3.view (Rect.unit (s := S256x1024) ![64, 384] S64x128.size inb_S256x1024_S64x128_64_384).toLoadRect (harg3.unread x2)) (View.readAt (Elt F) arg5.view (Rect.unit (s := S8x256x64) ![3, 64, 0] S1x64x64.size inb_S8x256x64_S1x64x64_3_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 384] S64x128.size inb_S256x1024_S64x128_64_384).toLoadRect (harg7.unread x6))⟩,
      ⟨Rect.unit (s := S256x1024) ![64, 256] S64x128.size inb_S256x1024_S64x128_64_256,
        yx (v351 c arg1 harg1 arg2 harg2 arg4 harg4 arg6 harg6 arg10 harg10 x0 x1 x3 x5 xs0) (View.readAt (Elt F) arg1.view (Rect.unit (s := S256x1024) ![64, 256] S64x128.size inb_S256x1024_S64x128_64_256).toLoadRect (harg1.unread x0)) (View.readAt (Elt F) arg2.view (Rect.unit (s := S256x1024) ![64, 256] S64x128.size inb_S256x1024_S64x128_64_256).toLoadRect (harg2.unread x1)) (View.readAt (Elt F) arg3.view (Rect.unit (s := S256x1024) ![64, 256] S64x128.size inb_S256x1024_S64x128_64_256).toLoadRect (harg3.unread x2)) (View.readAt (Elt F) arg5.view (Rect.unit (s := S8x256x64) ![2, 64, 0] S1x64x64.size inb_S8x256x64_S1x64x64_2_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 256] S64x128.size inb_S256x1024_S64x128_64_256).toLoadRect (harg7.unread x6))⟩,
      ⟨Rect.unit (s := S256x1024) ![64, 128] S64x128.size inb_S256x1024_S64x128_64_128,
        yx (v349 c arg1 harg1 arg2 harg2 arg4 harg4 arg6 harg6 arg10 harg10 x0 x1 x3 x5 xs0) (View.readAt (Elt F) arg1.view (Rect.unit (s := S256x1024) ![64, 128] S64x128.size inb_S256x1024_S64x128_64_128).toLoadRect (harg1.unread x0)) (View.readAt (Elt F) arg2.view (Rect.unit (s := S256x1024) ![64, 128] S64x128.size inb_S256x1024_S64x128_64_128).toLoadRect (harg2.unread x1)) (View.readAt (Elt F) arg3.view (Rect.unit (s := S256x1024) ![64, 128] S64x128.size inb_S256x1024_S64x128_64_128).toLoadRect (harg3.unread x2)) (View.readAt (Elt F) arg5.view (Rect.unit (s := S8x256x64) ![1, 64, 0] S1x64x64.size inb_S8x256x64_S1x64x64_1_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 128] S64x128.size inb_S256x1024_S64x128_64_128).toLoadRect (harg7.unread x6))⟩,
      ⟨Rect.unit (s := S256x1024) ![64, 0] S64x128.size inb_S256x1024_S64x128_64_0,
        yx (v347 c arg1 harg1 arg2 harg2 arg4 harg4 arg6 harg6 arg10 harg10 x0 x1 x3 x5 xs0) (View.readAt (Elt F) arg1.view (Rect.unit (s := S256x1024) ![64, 0] S64x128.size inb_S256x1024_S64x128_64_0).toLoadRect (harg1.unread x0)) (View.readAt (Elt F) arg2.view (Rect.unit (s := S256x1024) ![64, 0] S64x128.size inb_S256x1024_S64x128_64_0).toLoadRect (harg2.unread x1)) (View.readAt (Elt F) arg3.view (Rect.unit (s := S256x1024) ![64, 0] S64x128.size inb_S256x1024_S64x128_64_0).toLoadRect (harg3.unread x2)) (View.readAt (Elt F) arg5.view (Rect.unit (s := S8x256x64) ![0, 64, 0] S1x64x64.size inb_S8x256x64_S1x64x64_0_64_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![64, 0] S64x128.size inb_S256x1024_S64x128_64_0).toLoadRect (harg7.unread x6))⟩,
      ⟨Rect.unit (s := S256x1024) ![0, 896] S64x128.size inb_S256x1024_S64x128_0_896,
        yx (View.readAt (Elt F) arg10.view (Rect.unit (s := S8x128x128) ![7, 0, 0] S1x128x128.size inb_S8x128x128_S1x128x128_7_0_0).toLoadRect (harg10.unread xs0)) (View.readAt (Elt F) arg1.view (Rect.unit (s := S256x1024) ![0, 896] S64x128.size inb_S256x1024_S64x128_0_896).toLoadRect (harg1.unread x0)) (View.readAt (Elt F) arg2.view (Rect.unit (s := S256x1024) ![0, 896] S64x128.size inb_S256x1024_S64x128_0_896).toLoadRect (harg2.unread x1)) (View.readAt (Elt F) arg3.view (Rect.unit (s := S256x1024) ![0, 896] S64x128.size inb_S256x1024_S64x128_0_896).toLoadRect (harg3.unread x2)) (View.readAt (Elt F) arg5.view (Rect.unit (s := S8x256x64) ![7, 0, 0] S1x64x64.size inb_S8x256x64_S1x64x64_7_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 896] S64x128.size inb_S256x1024_S64x128_0_896).toLoadRect (harg7.unread x6))⟩,
      ⟨Rect.unit (s := S256x1024) ![0, 768] S64x128.size inb_S256x1024_S64x128_0_768,
        yx (View.readAt (Elt F) arg10.view (Rect.unit (s := S8x128x128) ![6, 0, 0] S1x128x128.size inb_S8x128x128_S1x128x128_6_0_0).toLoadRect (harg10.unread xs0)) (View.readAt (Elt F) arg1.view (Rect.unit (s := S256x1024) ![0, 768] S64x128.size inb_S256x1024_S64x128_0_768).toLoadRect (harg1.unread x0)) (View.readAt (Elt F) arg2.view (Rect.unit (s := S256x1024) ![0, 768] S64x128.size inb_S256x1024_S64x128_0_768).toLoadRect (harg2.unread x1)) (View.readAt (Elt F) arg3.view (Rect.unit (s := S256x1024) ![0, 768] S64x128.size inb_S256x1024_S64x128_0_768).toLoadRect (harg3.unread x2)) (View.readAt (Elt F) arg5.view (Rect.unit (s := S8x256x64) ![6, 0, 0] S1x64x64.size inb_S8x256x64_S1x64x64_6_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 768] S64x128.size inb_S256x1024_S64x128_0_768).toLoadRect (harg7.unread x6))⟩,
      ⟨Rect.unit (s := S256x1024) ![0, 640] S64x128.size inb_S256x1024_S64x128_0_640,
        yx (View.readAt (Elt F) arg10.view (Rect.unit (s := S8x128x128) ![5, 0, 0] S1x128x128.size inb_S8x128x128_S1x128x128_5_0_0).toLoadRect (harg10.unread xs0)) (View.readAt (Elt F) arg1.view (Rect.unit (s := S256x1024) ![0, 640] S64x128.size inb_S256x1024_S64x128_0_640).toLoadRect (harg1.unread x0)) (View.readAt (Elt F) arg2.view (Rect.unit (s := S256x1024) ![0, 640] S64x128.size inb_S256x1024_S64x128_0_640).toLoadRect (harg2.unread x1)) (View.readAt (Elt F) arg3.view (Rect.unit (s := S256x1024) ![0, 640] S64x128.size inb_S256x1024_S64x128_0_640).toLoadRect (harg3.unread x2)) (View.readAt (Elt F) arg5.view (Rect.unit (s := S8x256x64) ![5, 0, 0] S1x64x64.size inb_S8x256x64_S1x64x64_5_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 640] S64x128.size inb_S256x1024_S64x128_0_640).toLoadRect (harg7.unread x6))⟩,
      ⟨Rect.unit (s := S256x1024) ![0, 512] S64x128.size inb_S256x1024_S64x128_0_512,
        yx (View.readAt (Elt F) arg10.view (Rect.unit (s := S8x128x128) ![4, 0, 0] S1x128x128.size inb_S8x128x128_S1x128x128_4_0_0).toLoadRect (harg10.unread xs0)) (View.readAt (Elt F) arg1.view (Rect.unit (s := S256x1024) ![0, 512] S64x128.size inb_S256x1024_S64x128_0_512).toLoadRect (harg1.unread x0)) (View.readAt (Elt F) arg2.view (Rect.unit (s := S256x1024) ![0, 512] S64x128.size inb_S256x1024_S64x128_0_512).toLoadRect (harg2.unread x1)) (View.readAt (Elt F) arg3.view (Rect.unit (s := S256x1024) ![0, 512] S64x128.size inb_S256x1024_S64x128_0_512).toLoadRect (harg3.unread x2)) (View.readAt (Elt F) arg5.view (Rect.unit (s := S8x256x64) ![4, 0, 0] S1x64x64.size inb_S8x256x64_S1x64x64_4_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 512] S64x128.size inb_S256x1024_S64x128_0_512).toLoadRect (harg7.unread x6))⟩,
      ⟨Rect.unit (s := S256x1024) ![0, 384] S64x128.size inb_S256x1024_S64x128_0_384,
        yx (View.readAt (Elt F) arg10.view (Rect.unit (s := S8x128x128) ![3, 0, 0] S1x128x128.size inb_S8x128x128_S1x128x128_3_0_0).toLoadRect (harg10.unread xs0)) (View.readAt (Elt F) arg1.view (Rect.unit (s := S256x1024) ![0, 384] S64x128.size inb_S256x1024_S64x128_0_384).toLoadRect (harg1.unread x0)) (View.readAt (Elt F) arg2.view (Rect.unit (s := S256x1024) ![0, 384] S64x128.size inb_S256x1024_S64x128_0_384).toLoadRect (harg2.unread x1)) (View.readAt (Elt F) arg3.view (Rect.unit (s := S256x1024) ![0, 384] S64x128.size inb_S256x1024_S64x128_0_384).toLoadRect (harg3.unread x2)) (View.readAt (Elt F) arg5.view (Rect.unit (s := S8x256x64) ![3, 0, 0] S1x64x64.size inb_S8x256x64_S1x64x64_3_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 384] S64x128.size inb_S256x1024_S64x128_0_384).toLoadRect (harg7.unread x6))⟩,
      ⟨Rect.unit (s := S256x1024) ![0, 256] S64x128.size inb_S256x1024_S64x128_0_256,
        yx (View.readAt (Elt F) arg10.view (Rect.unit (s := S8x128x128) ![2, 0, 0] S1x128x128.size inb_S8x128x128_S1x128x128_2_0_0).toLoadRect (harg10.unread xs0)) (View.readAt (Elt F) arg1.view (Rect.unit (s := S256x1024) ![0, 256] S64x128.size inb_S256x1024_S64x128_0_256).toLoadRect (harg1.unread x0)) (View.readAt (Elt F) arg2.view (Rect.unit (s := S256x1024) ![0, 256] S64x128.size inb_S256x1024_S64x128_0_256).toLoadRect (harg2.unread x1)) (View.readAt (Elt F) arg3.view (Rect.unit (s := S256x1024) ![0, 256] S64x128.size inb_S256x1024_S64x128_0_256).toLoadRect (harg3.unread x2)) (View.readAt (Elt F) arg5.view (Rect.unit (s := S8x256x64) ![2, 0, 0] S1x64x64.size inb_S8x256x64_S1x64x64_2_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 256] S64x128.size inb_S256x1024_S64x128_0_256).toLoadRect (harg7.unread x6))⟩,
      ⟨Rect.unit (s := S256x1024) ![0, 128] S64x128.size inb_S256x1024_S64x128_0_128,
        yx (View.readAt (Elt F) arg10.view (Rect.unit (s := S8x128x128) ![1, 0, 0] S1x128x128.size inb_S8x128x128_S1x128x128_1_0_0).toLoadRect (harg10.unread xs0)) (View.readAt (Elt F) arg1.view (Rect.unit (s := S256x1024) ![0, 128] S64x128.size inb_S256x1024_S64x128_0_128).toLoadRect (harg1.unread x0)) (View.readAt (Elt F) arg2.view (Rect.unit (s := S256x1024) ![0, 128] S64x128.size inb_S256x1024_S64x128_0_128).toLoadRect (harg2.unread x1)) (View.readAt (Elt F) arg3.view (Rect.unit (s := S256x1024) ![0, 128] S64x128.size inb_S256x1024_S64x128_0_128).toLoadRect (harg3.unread x2)) (View.readAt (Elt F) arg5.view (Rect.unit (s := S8x256x64) ![1, 0, 0] S1x64x64.size inb_S8x256x64_S1x64x64_1_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 128] S64x128.size inb_S256x1024_S64x128_0_128).toLoadRect (harg7.unread x6))⟩,
      ⟨Rect.unit (s := S256x1024) ![0, 0] S64x128.size inb_S256x1024_S64x128_0_0,
        yx (View.readAt (Elt F) arg10.view (Rect.unit (s := S8x128x128) ![0, 0, 0] S1x128x128.size inb_S8x128x128_S1x128x128_0_0_0).toLoadRect (harg10.unread xs0)) (View.readAt (Elt F) arg1.view (Rect.unit (s := S256x1024) ![0, 0] S64x128.size inb_S256x1024_S64x128_0_0).toLoadRect (harg1.unread x0)) (View.readAt (Elt F) arg2.view (Rect.unit (s := S256x1024) ![0, 0] S64x128.size inb_S256x1024_S64x128_0_0).toLoadRect (harg2.unread x1)) (View.readAt (Elt F) arg3.view (Rect.unit (s := S256x1024) ![0, 0] S64x128.size inb_S256x1024_S64x128_0_0).toLoadRect (harg3.unread x2)) (View.readAt (Elt F) arg5.view (Rect.unit (s := S8x256x64) ![0, 0, 0] S1x64x64.size inb_S8x256x64_S1x64x64_0_0_0).toLoadRect (harg5.unread x4)) (View.readAt (Elt F) arg8.view (Rect.unit (s := S1x128) ![0, 0] S1x128.size inb_S1x128_S1x128_0_0).toLoadRect (harg8.unread x7)) (View.readAt (Elt F) arg7.view (Rect.unit (s := S256x1024) ![0, 0] S64x128.size inb_S256x1024_S64x128_0_0).toLoadRect (harg7.unread x6))⟩] := rfl

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S8x256x64 .bf16) (harg5 : arg5.IsWhole) (arg6 : Memref sig .tc .vmem S4x8x128 .f32) (harg6 : arg6.IsWhole) (arg7 : Memref sig .tc .vmem S256x1024 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S8x128x128 .f32) (harg10 : arg10.IsWhole) (hc0 : ¬cond0_0 i)
  (x0 : Vec Ideal S256x1024 .f32) (x1 x2 x3 : Vec Ideal S256x1024 .bf16) (x4 : Vec Ideal S8x256x64 .bf16) (x5 : Vec Ideal S4x8x128 .f32)
  (x6 : Vec Ideal S256x1024 .f32) (x7 : Vec Ideal S1x128 .f32) (xs0 : State)

/-- A point leaves in the scratch the state after its four chunks. -/
theorem scratch : sout0_B_0 c i arg1 harg1 arg2 harg2 arg3 harg3 arg4 harg4 arg5 harg5 arg6 harg6 arg7 harg7 arg8 harg8 arg9 harg9 arg10 harg10 hc0 x0 x1 x2 x3 x4 x5 x6 x7 xs0
    = nextB x0 x1 x3 x5 3 (nextB x0 x1 x3 x5 2 (nextB x0 x1 x3 x5 1 (nextB x0 x1 x3 x5 0 xs0))) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  refine eight _ _ _ _ _ _ _ _ _ _ _ _ _ _ _ _ _ _ ?_ ?_ ?_ ?_ ?_ ?_ ?_ ?_ <;> intro x
  all_goals simp only [cst_1031, cst_545, cst_751, r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_128, r_129, r_13, r_130, r_131, r_132, r_133, r_134, r_135, r_136, r_137, r_138, r_139, r_14, r_140, r_141, r_142, r_143, r_144, r_145, r_146, r_147, r_148, r_149, r_15, r_150, r_151, r_152, r_153, r_154, r_155, r_156, r_157, r_158, r_159, r_16, r_160, r_161, r_162, r_163, r_164, r_165, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v1035, v1037, v1039, v1041, v1043, v1045, v1047, v1049, v2, v347, v349, v351, v353, v355, v357, v359, v361, v691, v693, v695, v697, v699, v701, v703, v705, v782, v812, View.readAt_eq_ld, Memref.IsWhole.read_unread, readCov_ld, hs8, hs16, hs24]
  · exact nx_piece 3 0 192 0 (by decide) (by decide) rfl rfl _ _ _ _ _ _ _ _ x
  · exact nx_piece 3 1 192 128 (by decide) (by decide) rfl rfl _ _ _ _ _ _ _ _ x
  · exact nx_piece 3 2 192 256 (by decide) (by decide) rfl rfl _ _ _ _ _ _ _ _ x
  · exact nx_piece 3 3 192 384 (by decide) (by decide) rfl rfl _ _ _ _ _ _ _ _ x
  · exact nx_piece 3 4 192 512 (by decide) (by decide) rfl rfl _ _ _ _ _ _ _ _ x
  · exact nx_piece 3 5 192 640 (by decide) (by decide) rfl rfl _ _ _ _ _ _ _ _ x
  · exact nx_piece 3 6 192 768 (by decide) (by decide) rfl rfl _ _ _ _ _ _ _ _ x
  · exact nx_piece 3 7 192 896 (by decide) (by decide) rfl rfl _ _ _ _ _ _ _ _ x

/-- A point stores the block of results of its four chunks. -/
theorem result : out0_B_8 c i arg1 harg1 arg2 harg2 arg3 harg3 arg4 harg4 arg5 harg5 arg6 harg6 arg7 harg7 arg8 harg8 arg9 harg9 arg10 harg10 hc0 x0 x1 x2 x3 x4 x5 x6 x7 xs0
    = gateOut x0 x1 x2 x4 x6 x7 ![xs0,
      nextB x0 x1 x3 x5 0 xs0,
      nextB x0 x1 x3 x5 1 (nextB x0 x1 x3 x5 0 xs0),
      nextB x0 x1 x3 x5 2 (nextB x0 x1 x3 x5 1 (nextB x0 x1 x3 x5 0 xs0))] := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  funext y
  have hc := cover0_B_8 c i arg1 harg1 arg2 harg2 arg3 harg3 arg4 harg4 arg5 harg5 arg6 harg6 arg7 harg7 arg8 harg8 arg9 harg9 arg10 harg10 hc0 x0 x1 x2 x3 x4 x5 x6 x7 xs0 y
  rw [pieces] at hc ⊢
  refine View.canon_apply_of_pieces _ _ (View.PiecesOf.mem ?_) y hc
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ <;> intro x
  all_goals simp only [v0, v1, v1035, v1037, v1039, v1041, v1043, v1045, v1047, v1049, v2, v347, v349, v351, v353, v355, v357, v359, v361, v691, v693, v695, v697, v699, v701, v703, v705, View.readAt_eq_ld, Memref.IsWhole.read_unread, readCov_ld, hs8, hs16, hs24]
  · exact yo_piece 3 7 192 896 (by decide) (by decide) rfl rfl _ _ (by rfl) _ _ _ _ _ _ _ _ _ _ x
  · exact yo_piece 3 6 192 768 (by decide) (by decide) rfl rfl _ _ (by rfl) _ _ _ _ _ _ _ _ _ _ x
  · exact yo_piece 3 5 192 640 (by decide) (by decide) rfl rfl _ _ (by rfl) _ _ _ _ _ _ _ _ _ _ x
  · exact yo_piece 3 4 192 512 (by decide) (by decide) rfl rfl _ _ (by rfl) _ _ _ _ _ _ _ _ _ _ x
  · exact yo_piece 3 3 192 384 (by decide) (by decide) rfl rfl _ _ (by rfl) _ _ _ _ _ _ _ _ _ _ x
  · exact yo_piece 3 2 192 256 (by decide) (by decide) rfl rfl _ _ (by rfl) _ _ _ _ _ _ _ _ _ _ x
  · exact yo_piece 3 1 192 128 (by decide) (by decide) rfl rfl _ _ (by rfl) _ _ _ _ _ _ _ _ _ _ x
  · exact yo_piece 3 0 192 0 (by decide) (by decide) rfl rfl _ _ (by rfl) _ _ _ _ _ _ _ _ _ _ x
  · exact yo_piece 2 7 128 896 (by decide) (by decide) rfl rfl _ _ (by rfl) _ _ _ _ _ _ _ _ _ _ x
  · exact yo_piece 2 6 128 768 (by decide) (by decide) rfl rfl _ _ (by rfl) _ _ _ _ _ _ _ _ _ _ x
  · exact yo_piece 2 5 128 640 (by decide) (by decide) rfl rfl _ _ (by rfl) _ _ _ _ _ _ _ _ _ _ x
  · exact yo_piece 2 4 128 512 (by decide) (by decide) rfl rfl _ _ (by rfl) _ _ _ _ _ _ _ _ _ _ x
  · exact yo_piece 2 3 128 384 (by decide) (by decide) rfl rfl _ _ (by rfl) _ _ _ _ _ _ _ _ _ _ x
  · exact yo_piece 2 2 128 256 (by decide) (by decide) rfl rfl _ _ (by rfl) _ _ _ _ _ _ _ _ _ _ x
  · exact yo_piece 2 1 128 128 (by decide) (by decide) rfl rfl _ _ (by rfl) _ _ _ _ _ _ _ _ _ _ x
  · exact yo_piece 2 0 128 0 (by decide) (by decide) rfl rfl _ _ (by rfl) _ _ _ _ _ _ _ _ _ _ x
  · exact yo_piece 1 7 64 896 (by decide) (by decide) rfl rfl _ _ (by rfl) _ _ _ _ _ _ _ _ _ _ x
  · exact yo_piece 1 6 64 768 (by decide) (by decide) rfl rfl _ _ (by rfl) _ _ _ _ _ _ _ _ _ _ x
  · exact yo_piece 1 5 64 640 (by decide) (by decide) rfl rfl _ _ (by rfl) _ _ _ _ _ _ _ _ _ _ x
  · exact yo_piece 1 4 64 512 (by decide) (by decide) rfl rfl _ _ (by rfl) _ _ _ _ _ _ _ _ _ _ x
  · exact yo_piece 1 3 64 384 (by decide) (by decide) rfl rfl _ _ (by rfl) _ _ _ _ _ _ _ _ _ _ x
  · exact yo_piece 1 2 64 256 (by decide) (by decide) rfl rfl _ _ (by rfl) _ _ _ _ _ _ _ _ _ _ x
  · exact yo_piece 1 1 64 128 (by decide) (by decide) rfl rfl _ _ (by rfl) _ _ _ _ _ _ _ _ _ _ x
  · exact yo_piece 1 0 64 0 (by decide) (by decide) rfl rfl _ _ (by rfl) _ _ _ _ _ _ _ _ _ _ x
  · exact yo_piece 0 7 0 896 (by decide) (by decide) rfl rfl _ _ (by rfl) _ _ _ _ _ _ _ _ _ _ x
  · exact yo_piece 0 6 0 768 (by decide) (by decide) rfl rfl _ _ (by rfl) _ _ _ _ _ _ _ _ _ _ x
  · exact yo_piece 0 5 0 640 (by decide) (by decide) rfl rfl _ _ (by rfl) _ _ _ _ _ _ _ _ _ _ x
  · exact yo_piece 0 4 0 512 (by decide) (by decide) rfl rfl _ _ (by rfl) _ _ _ _ _ _ _ _ _ _ x
  · exact yo_piece 0 3 0 384 (by decide) (by decide) rfl rfl _ _ (by rfl) _ _ _ _ _ _ _ _ _ _ x
  · exact yo_piece 0 2 0 256 (by decide) (by decide) rfl rfl _ _ (by rfl) _ _ _ _ _ _ _ _ _ _ x
  · exact yo_piece 0 1 0 128 (by decide) (by decide) rfl rfl _ _ (by rfl) _ _ _ _ _ _ _ _ _ _ x
  · exact yo_piece 0 0 0 0 (by decide) (by decide) rfl rfl _ _ (by rfl) _ _ _ _ _ _ _ _ _ _ x

end Cert.KernelIdeal.Scan.B
end
-- ==== Proof.ScanSpec.lean ====
module

public import proofs.«01_k».proof.Proof.ScanMath

@[expose] public section

set_option maxRecDepth 16384

noncomputable section

open Idealize.ShloMosaic Idealize.ShloMosaic.TcCoe Idealize.SL.Sem

namespace Cert.KernelIdeal.Scan

open Cert.KernelIdeal Cert.KernelIdeal.Gen

/-- Chunk `j` of an array of 256 chunks of 64 rows, eight heads of 128 lanes side by side. -/
def chunk {φ : FTy} (X : FVec Ideal S16384x1024 φ) (j : Fin 256) : Chunk := fun h l d =>
  X (ix2 ⟨64 * j.val + l.val, by omega⟩ ⟨128 * h.val + d.val, by omega⟩)

/-- Chunk `j` of the scores. -/
def chunkA (X : Vec Ideal S8x16384x64 .bf16) (j : Fin 256) : Fin 8 → Fin 64 → Fin 64 → Ideal .f32 := fun h l s =>
  X (ix3 h ⟨64 * j.val + l.val, by omega⟩ s)

/-- The gating rows of chunk `j`: lanes 8192 to 9215 of the projection. -/
def chunkZ (X : Vec Ideal S16384x12288 .f32) (j : Fin 256) : Chunk := fun h l d =>
  X (ix2 ⟨64 * j.val + l.val, by omega⟩ ⟨8192 + (128 * h.val + d.val), by omega⟩)

/-- The states before each chunk, from the zero state. -/
def states (u w kd : Fin 256 → Chunk) (dec : Fin 256 → Fin 8 → Fin 128 → Ideal .f32) : ℕ → State
  | 0 => fun _ => 0
  | k + 1 => if hk : k < 256 then nextS (u ⟨k, hk⟩) (w ⟨k, hk⟩) (kd ⟨k, hk⟩) (dec ⟨k, hk⟩) (states u w kd dec k) else states u w kd dec k

/-- The state after a chunk is the next of the state before it. -/
theorem states_succ (u w kd : Fin 256 → Chunk) (dec : Fin 256 → Fin 8 → Fin 128 → Ideal .f32) (k : ℕ) (hk : k < 256) :
    states u w kd dec (k + 1) = nextS (u ⟨k, hk⟩) (w ⟨k, hk⟩) (kd ⟨k, hk⟩) (dec ⟨k, hk⟩) (states u w kd dec k) := by
  rw [states, dif_pos hk]

/-- The states before each chunk, from the arrays. -/
def stateSeq (U : Vec Ideal S16384x1024 .f32) (W KD : Vec Ideal S16384x1024 .bf16) (D : Vec Ideal S256x8x128 .f32) : ℕ → State :=
  states (chunk (φ := .f32) U) (chunk (φ := .bf16) W) (chunk (φ := .bf16) KD) (fun j h v => D (ix3 j h v))

/-- The result at row `l` of chunk `j`, lane `v` of head `h`. -/
def resAt (P : Vec Ideal S16384x12288 .f32) (U : Vec Ideal S16384x1024 .f32) (W Q KD : Vec Ideal S16384x1024 .bf16)
    (A : Vec Ideal S8x16384x64 .bf16) (D : Vec Ideal S256x8x128 .f32) (NG : Vec Ideal S1x128 .f32) (j : Fin 256) (h : Fin 8) (l : Fin 64)
    (v : Fin 128) : Ideal .f32 :=
  gate (outS (chunk (φ := .f32) U j) (chunk (φ := .bf16) W j) (chunk (φ := .bf16) Q j) (chunkA A j) (stateSeq U W KD D j.val) h l)
    (fun i => NG (ix2 0 i)) (chunkZ P j h l) v

/-- The result array. -/
def res (P : Vec Ideal S16384x12288 .f32) (U : Vec Ideal S16384x1024 .f32) (W Q KD : Vec Ideal S16384x1024 .bf16)
    (A : Vec Ideal S8x16384x64 .bf16) (D : Vec Ideal S256x8x128 .f32) (NG : Vec Ideal S1x128 .f32) : Vec Ideal S16384x1024 .bf16 := fun y =>
  resAt P U W Q KD A D NG ⟨(y 0).val / 64, Nat.div_lt_of_lt_mul (y 0).isLt⟩ ⟨(y 1).val / 128, Nat.div_lt_of_lt_mul (y 1).isLt⟩
    ⟨(y 0).val % 64, Nat.mod_lt _ (by decide)⟩ ⟨(y 1).val % 128, Nat.mod_lt _ (by decide)⟩

/-- The result array, read at row `l` of chunk `j`, lane `v` of head `h`. -/
theorem res_at (P : Vec Ideal S16384x12288 .f32) (U : Vec Ideal S16384x1024 .f32) (W Q KD : Vec Ideal S16384x1024 .bf16)
    (A : Vec Ideal S8x16384x64 .bf16) (D : Vec Ideal S256x8x128 .f32) (NG : Vec Ideal S1x128 .f32) (y : S16384x1024.Idx)
    (j : Fin 256) (h : Fin 8) (l : Fin 64) (v : Fin 128)
    (h0 : (y 0).val = 64 * j.val + l.val) (h1 : (y 1).val = 128 * h.val + v.val) :
    res P U W Q KD A D NG y = resAt P U W Q KD A D NG j h l v := by
  have bl := l.isLt
  have bv := v.isLt
  have e0 : (⟨(y 0).val / 64, Nat.div_lt_of_lt_mul (y 0).isLt⟩ : Fin 256) = j := Fin.ext (by dsimp only; omega)
  have e1 : (⟨(y 1).val / 128, Nat.div_lt_of_lt_mul (y 1).isLt⟩ : Fin 8) = h := Fin.ext (by dsimp only; omega)
  have e2 : (⟨(y 0).val % 64, Nat.mod_lt _ (by decide)⟩ : Fin 64) = l := Fin.ext (by dsimp only; omega)
  have e3 : (⟨(y 1).val % 128, Nat.mod_lt _ (by decide)⟩ : Fin 128) = v := Fin.ext (by dsimp only; omega)
  unfold res
  rw [e0, e1, e2, e3]

/-- Equal arguments give equal results. -/
theorem res_congr {P P' : Vec Ideal S16384x12288 .f32} {U U' : Vec Ideal S16384x1024 .f32} {W W' Q Q' KD KD' : Vec Ideal S16384x1024 .bf16}
    {A A' : Vec Ideal S8x16384x64 .bf16} {D D' : Vec Ideal S256x8x128 .f32} {NG NG' : Vec Ideal S1x128 .f32} (h0 : P = P') (h1 : U = U')
    (h2 : W = W') (h3 : Q = Q') (h4 : KD = KD') (h5 : A = A') (h6 : D = D') (h7 : NG = NG') :
    res P U W Q KD A D NG = res P' U' W' Q' KD' A' D' NG' := by
  subst h0 h1 h2 h3 h4 h5 h6 h7; rfl

end Cert.KernelIdeal.Scan
end
-- ==== Proof.ScanRun.lean ====
module

public import proofs.«01_k».proof.Proof.ScanA
public import proofs.«01_k».proof.Proof.ScanB
public import proofs.«01_k».proof.Proof.ScanSpec

@[expose] public section

set_option maxRecDepth 16384

noncomputable section

open Idealize.ShloMosaic Idealize.ShloMosaic.TcCoe Idealize.SL.Sem
open Idealize.ShloMosaic.Pipeline (Dat)

namespace Cert.KernelIdeal.Scan

open Cert.KernelIdeal Cert.KernelIdeal.Gen

variable (m : (ℓ : Loc nD τ sig) → Buf (Elt Ideal) ℓ) (c : Dev nD)

/-- Grid point `t` reads and writes row block `t`, four chunks; the gating lanes are column block 8 of the projection. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 0, 0]
    ∧ win0_6.index t = ![t.val, 8] ∧ win0_7.index t = ![0, 0] ∧ win0_8.index t = ![t.val, 0] :=
  (by decide +kernel : ∀ t : Fin grid0.N, _)

/-- Chunk `k` of grid point `t`. -/
abbrev ch (t : Fin cfg0.N) (k : Fin 4) : Fin 256 := ⟨4 * t.val + k.val, by have := lt_of_lt_of_eq t.isLt (show cfg0.N = 64 from N_0); omega⟩

/-- Chunk `k` of grid point `t`'s block of the solutions `u`. -/
theorem cut0 (t : Fin cfg0.N) (k : Fin 4) : cut (φ := .f32) (iblk m c 0 t) k = chunk (φ := .f32) (m ((c : Thread nD τ).loc main_arg1)) (ch t k) := by
  funext h l d
  unfold cut chunk
  blk_point [iblk, V, idx t]

/-- Chunk `k` of grid point `t`'s block of the solutions `w`. -/
theorem cut1 (t : Fin cfg0.N) (k : Fin 4) : cut (φ := .bf16) (iblk m c 1 t) k = chunk (φ := .bf16) (m ((c : Thread nD τ).loc main_arg2)) (ch t k) := by
  funext h l d
  unfold cut chunk
  blk_point [iblk, V, idx t]

/-- Chunk `k` of grid point `t`'s block of the third operand. -/
theorem cut2 (t : Fin cfg0.N) (k : Fin 4) : cut (φ := .bf16) (iblk m c 2 t) k = chunk (φ := .bf16) (m ((c : Thread nD τ).loc main_arg3)) (ch t k) := by
  funext h l d
  unfold cut chunk
  blk_point [iblk, V, idx t]

/-- Chunk `k` of grid point `t`'s block of the fourth operand. -/
theorem cut3 (t : Fin cfg0.N) (k : Fin 4) : cut (φ := .bf16) (iblk m c 3 t) k = chunk (φ := .bf16) (m ((c : Thread nD τ).loc main_arg4)) (ch t k) := by
  funext h l d
  unfold cut chunk
  blk_point [iblk, V, idx t]

/-- Chunk `k` of grid point `t`'s block of the masked scores. -/
theorem cut4 (t : Fin cfg0.N) (k : Fin 4) : cutA (iblk m c 4 t) k = chunkA (m ((c : Thread nD τ).loc main_arg5)) (ch t k) := by
  funext h l d
  unfold cutA chunkA
  blk_point [iblk, V, idx t]

/-- Chunk `k` of grid point `t`'s block of the decays. -/
theorem cut5 (t : Fin cfg0.N) (k : Fin 4) : cutD (iblk m c 5 t) k
    = fun h v => (m ((c : Thread nD τ).loc main_arg6) : Vec Ideal S256x8x128 .f32) (ix3 (ch t k) h v) := by
  funext h v
  unfold cutD
  blk_point [iblk, V, idx t]

/-- Chunk `k` of grid point `t`'s block of the gate's columns of the projection. -/
theorem cut6 (t : Fin cfg0.N) (k : Fin 4) : cut (φ := .f32) (iblk m c 6 t) k = chunkZ (m ((c : Thread nD τ).loc main_arg0)) (ch t k) := by
  funext h l d
  unfold cut chunkZ
  blk_point [iblk, V, idx t]

/-- The norm's weights, whole at every grid point. -/
theorem cut7 (t : Fin cfg0.N) (v : Fin 128) : (iblk m c 7 t : Vec Ideal S1x128 .f32) (ix2 0 v)
    = (m ((c : Thread nD τ).loc main_arg7) : Vec Ideal S1x128 .f32) (ix2 0 v) := by
  blk_point [iblk, V, idx t]

/-- The states of the specification, from the arguments. -/
abbrev sts : ℕ → State := stateSeq (m ((c : Thread nD τ).loc main_arg1)) (m ((c : Thread nD τ).loc main_arg2)) (m ((c : Thread nD τ).loc main_arg4))
  (m ((c : Thread nD τ).loc main_arg6))

/-- A step of a grid point is a step of the specification. -/
theorem step (t : Fin cfg0.N) (k : Fin 4) :
    nextB (iblk m c 0 t) (iblk m c 1 t) (iblk m c 3 t) (iblk m c 5 t) k (sts m c (4 * t.val + k.val)) = sts m c (4 * t.val + k.val + 1) := by
  unfold nextB
  rw [cut0, cut1, cut3, cut5]
  unfold sts stateSeq
  exact (states_succ _ _ _ (fun j h v => (m ((c : Thread nD τ).loc main_arg6) : Vec Ideal S256x8x128 .f32) (ix3 j h v)) _ (ch t k).isLt).symm

/-- The four states before the chunks of a grid point. -/
abbrev four (n : ℕ) : Fin 4 → State := fun k => sts m c (4 * n + k.val)

/-- One grid point, started from the specification's state, leaves the specification's results and state. -/
theorem chain (t : Fin cfg0.N) (S : State) (hS : S = sts m c (4 * t.val)) :
    (![S, nextB (iblk m c 0 t) (iblk m c 1 t) (iblk m c 3 t) (iblk m c 5 t) 0 S,
      nextB (iblk m c 0 t) (iblk m c 1 t) (iblk m c 3 t) (iblk m c 5 t) 1 (nextB (iblk m c 0 t) (iblk m c 1 t) (iblk m c 3 t) (iblk m c 5 t) 0 S),
      nextB (iblk m c 0 t) (iblk m c 1 t) (iblk m c 3 t) (iblk m c 5 t) 2 (nextB (iblk m c 0 t) (iblk m c 1 t) (iblk m c 3 t) (iblk m c 5 t) 1
        (nextB (iblk m c 0 t) (iblk m c 1 t) (iblk m c 3 t) (iblk m c 5 t) 0 S))] : Fin 4 → State) = four m c t.val
    ∧ nextB (iblk m c 0 t) (iblk m c 1 t) (iblk m c 3 t) (iblk m c 5 t) 3 (nextB (iblk m c 0 t) (iblk m c 1 t) (iblk m c 3 t) (iblk m c 5 t) 2
        (nextB (iblk m c 0 t) (iblk m c 1 t) (iblk m c 3 t) (iblk m c 5 t) 1 (nextB (iblk m c 0 t) (iblk m c 1 t) (iblk m c 3 t) (iblk m c 5 t) 0 S)))
      = sts m c (4 * (t.val + 1)) := by
  subst hS
  have s0 := step m c t 0
  have s1 := step m c t 1
  have s2 := step m c t 2
  have s3 := step m c t 3
  simp only [Fin.val_zero, Fin.val_one, Fin.val_two, Nat.add_zero, show ((3 : Fin 4)).val = 3 from rfl] at s0 s1 s2 s3
  rw [s0, s1, s2, s3]
  refine ⟨?_, rfl⟩
  funext k
  fin_cases k <;> rfl

/-- After every grid point the state is the specification's, and the point's block of results is that from its states. -/
theorem points (n : ℕ) : ∀ hn : n < cfg0.N, (outsAt0 m c n hn).2 = sts m c (4 * (n + 1))
    ∧ (outsAt0 m c n hn).1 = gateOut (iblk m c 0 ⟨n, hn⟩) (iblk m c 1 ⟨n, hn⟩) (iblk m c 2 ⟨n, hn⟩) (iblk m c 4 ⟨n, hn⟩) (iblk m c 6 ⟨n, hn⟩)
        (iblk m c 7 ⟨n, hn⟩) (four m c n) := by
  induction n with
  | zero =>
    intro hn
    obtain ⟨h1, h2⟩ := chain m c ⟨0, hn⟩ (fun _ => 0) rfl
    rw [outsAt0_A m c ⟨0, hn⟩ (Nat.zero_mod _)]
    dsimp only
    rw [A.scratch, A.result]
    exact ⟨h2, congrArg (gateOut _ _ _ _ _ _) h1⟩
  | succ n ih =>
    intro hn
    have hm : ¬ (n + 1) % 64 = 0 := by
      have h := hn
      rw [show cfg0.N = 64 from N_0] at h
      omega
    obtain ⟨h1, h2⟩ := chain m c ⟨n + 1, hn⟩ _ (ih (Nat.lt_of_succ_lt hn)).1
    rw [outsAt0_B m c ⟨n + 1, hn⟩ hm]
    dsimp only
    rw [B.scratch, B.result]
    exact ⟨h2, congrArg (gateOut _ _ _ _ _ _) h1⟩

/-- A block of results is the specification's at its place in the array. -/
theorem point (t : Fin cfg0.N) (y : S256x1024.Idx) :
    gateOut (iblk m c 0 t) (iblk m c 1 t) (iblk m c 2 t) (iblk m c 4 t) (iblk m c 6 t) (iblk m c 7 t) (four m c t.val) y
    = res (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) ((win0_8.blk t).view.emb y) := by
  have e0 : (((win0_8.blk t).view.emb y) 0).val = t.val * 256 + (y 0).val := by
    blk_simp [idx t]
  have e1 : (((win0_8.blk t).view.emb y) 1).val = (y 1).val := by
    blk_simp [idx t]
  have d0 : 64 * ((y 0).val / 64) + (y 0).val % 64 = (y 0).val := Nat.div_add_mod _ _
  have d1 : 128 * ((y 1).val / 128) + (y 1).val % 128 = (y 1).val := Nat.div_add_mod _ _
  rw [res_at _ _ _ _ _ _ _ _ _ (ch t ⟨(y 0).val / 64, Nat.div_lt_of_lt_mul (y 0).isLt⟩) ⟨(y 1).val / 128, Nat.div_lt_of_lt_mul (y 1).isLt⟩
    ⟨(y 0).val % 64, Nat.mod_lt _ (by decide)⟩ ⟨(y 1).val % 128, Nat.mod_lt _ (by decide)⟩
    (by rw [e0]; dsimp only; omega) (by rw [e1]; dsimp only; omega)]
  unfold gateOut gateB resAt
  rw [cut0, cut1, cut2, cut4, cut6, funext (cut7 m c t)]

/-- The result array after the run is the specification's. -/
theorem final : (dats m 0 c).arrAt 8 (cfgs 0).N
    = res (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8, (points m c t.val t.isLt).2]
  exact point m c t y

end Cert.KernelIdeal.Scan
end
-- ==== Proof.ScanRef.lean ====
module

public import proofs.«01_k».proof.Proof.ScanSpec
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Value
open Idealize.ShloMosaic.StableHlo
open Cert.KernelIdeal.Scan (Chunk State corr nextS outS gate chunk chunkA chunkZ stateSeq states resAt res)

/-- The counter as a number. -/
theorem iv_toInt : ∀ k : Fin 256, (Scf.iv 0#32 1#32 k.val).toInt = (k.val : Int) := by decide +kernel

section Slices

variable {α : Type}

/-- Chunk `k` of four-dimensional chunks, 128 lanes. -/
theorem slice128 (X : S256x8x64x128.Idx → α) (st : Fin 4 → Int) (k : Fin 256) (e0 : st 0 = (k.val : Int)) (e1 : st 1 = 0) (e2 : st 2 = 0)
    (e3 : st 3 = 0) (hf hc) (h : Fin 8) (l : Fin 64) (d : Fin 128) :
    shapeCast S8x64x128 (Host.dynamicSlice S1x8x64x128 X st hf) hc (ix3 h l d) = X (ix4 k h l d) := by
  rw [WordCmp.dynamicSlice_eq_extract S1x8x64x128 X st hf ![k.val, 0, 0, 0]
    ⟨rfl, fun a => by have := k.isLt; fin_cases a <;> simp [S256x8x64x128, S1x8x64x128] <;> omega⟩
    (fun a => by fin_cases a <;> simp [e0, e1, e2, e3])]
  pointwise []

/-- Chunk `k` of four-dimensional chunks, 64 lanes. -/
theorem slice64 (X : S256x8x64x64.Idx → α) (st : Fin 4 → Int) (k : Fin 256) (e0 : st 0 = (k.val : Int)) (e1 : st 1 = 0) (e2 : st 2 = 0)
    (e3 : st 3 = 0) (hf hc) (h : Fin 8) (l : Fin 64) (d : Fin 64) :
    shapeCast S8x64x64 (Host.dynamicSlice S1x8x64x64 X st hf) hc (ix3 h l d) = X (ix4 k h l d) := by
  rw [WordCmp.dynamicSlice_eq_extract S1x8x64x64 X st hf ![k.val, 0, 0, 0]
    ⟨rfl, fun a => by have := k.isLt; fin_cases a <;> simp [S256x8x64x64, S1x8x64x64] <;> omega⟩
    (fun a => by fin_cases a <;> simp [e0, e1, e2, e3])]
  pointwise []

/-- Chunk `k` of the decays. -/
theorem sliceD (X : S256x8x128.Idx → α) (st : Fin 3 → Int) (k : Fin 256) (e0 : st 0 = (k.val : Int)) (e1 : st 1 = 0) (e2 : st 2 = 0)
    (hf hc) (h : Fin 8) (d : Fin 128) :
    shapeCast S8x128 (Host.dynamicSlice S1x8x128 X st hf) hc (ix2 h d) = X (ix3 k h d) := by
  rw [WordCmp.dynamicSlice_eq_extract S1x8x128 X st hf ![k.val, 0, 0]
    ⟨rfl, fun a => by have := k.isLt; fin_cases a <;> simp [S256x8x128, S1x8x128] <;> omega⟩
    (fun a => by fin_cases a <;> simp [e0, e1, e2])]
  pointwise []

/-- Writing chunk `k`: that chunk is the written one, the others stay. -/
theorem write128 (X : S256x8x64x128.Idx → α) (upd : S1x8x64x128.Idx → α) (st : Fin 4 → Int) (k : Fin 256) (e0 : st 0 = (k.val : Int))
    (e1 : st 1 = 0) (e2 : st 2 = 0) (e3 : st 3 = 0) (hf) (j : Fin 256) (h : Fin 8) (l : Fin 64) (d : Fin 128) :
    Host.dynamicUpdateSlice X upd st hf (ix4 j h l d) = if j = k then upd (ix4 0 h l d) else X (ix4 j h l d) := by
  rw [WordCmp.dynamicUpdateSlice_eq_update X upd st hf ![k.val, 0, 0, 0]
    ⟨rfl, fun a => by have := k.isLt; fin_cases a <;> simp [S256x8x64x128, S1x8x64x128] <;> omega⟩
    (fun a => by fin_cases a <;> simp [e0, e1, e2, e3])]
  pointwise []
  by_cases hj : j = k
  · subst hj
    rw [dif_pos ⟨le_refl _, Nat.lt_succ_self _⟩, if_pos rfl]
    exact congrArg upd (congrArg (fun i => ix4 i h l d) (Subsingleton.elim (α := Fin 1) _ _))
  · rw [if_neg hj, dif_neg fun hh => hj (Fin.ext (by omega))]

end Slices

section Steps

variable (V : Valuation τ sig (Elt Ideal)) (k : Fin 256) (hc : V (Proc.devRef .tc main_v16_6) = fun _ => Scf.iv 0#32 1#32 k.val)

/-- Chunk `k` of an array the loop holds. -/
abbrev at4 (X : Vec Ideal S256x8x64x128 .f32) (k : Fin 256) : Chunk := fun h l d => X (ix4 k h l d)

include hc in
/-- The counter, as the slices read it. -/
theorem hi : ((V (Proc.devRef .tc main_v16_6) : Vec Ideal S_ .i32) (Shape.Idx.first h_S_)).toInt = (k.val : Int) := by
  rw [hc]; exact iv_toInt k

/-- The start of a trip's slices of four dimensions. -/
abbrev st4 : Fin 4 → Int := fun i => (((![V (Proc.devRef .tc main_v16_6), constantI S_ 32 0#32, constantI S_ 32 0#32, constantI S_ 32 0#32] : Fin 4 → (⟨S_, .i32⟩ : BufTy).Contents (Elt Ideal))) i (Shape.Idx.first h_S_)).toInt

/-- The start of a trip's slice of three dimensions. -/
abbrev st3 : Fin 3 → Int := fun i => (((![V (Proc.devRef .tc main_v16_6), constantI S_ 32 0#32, constantI S_ 32 0#32] : Fin 3 → (⟨S_, .i32⟩ : BufTy).Contents (Elt Ideal))) i (Shape.Idx.first h_S_)).toInt

include hc in
/-- A trip's slice of an array of chunks. -/
theorem rd128 (X : Vec Ideal S256x8x64x128 .f32) (h : Fin 8) (l : Fin 64) (d : Fin 128) :
    shapeCast S8x64x128 (Host.dynamicSlice S1x8x64x128 X (st4 V) sliceFits_S256x8x64x128_S1x8x64x128) shapeCasts_S1x8x64x128_S8x64x128 (ix3 h l d)
      = X (ix4 k h l d) :=
  slice128 X (st4 V) k (hi V k hc) rfl rfl rfl _ _ h l d

include hc in
/-- A trip's slice of the scores. -/
theorem rd64 (X : Vec Ideal S256x8x64x64 .f32) (h : Fin 8) (l : Fin 64) (d : Fin 64) :
    shapeCast S8x64x64 (Host.dynamicSlice S1x8x64x64 X (st4 V) sliceFits_S256x8x64x64_S1x8x64x64) shapeCasts_S1x8x64x64_S8x64x64 (ix3 h l d)
      = X (ix4 k h l d) :=
  slice64 X (st4 V) k (hi V k hc) rfl rfl rfl _ _ h l d

include hc in
/-- A trip's slice of the decays. -/
theorem rdD (X : Vec Ideal S256x8x128 .f32) (h : Fin 8) (d : Fin 128) :
    shapeCast S8x128 (Host.dynamicSlice S1x8x128 X (st3 V) sliceFits_S256x8x128_S1x8x128) shapeCasts_S1x8x128_S8x128 (ix2 h d)
      = X (ix3 k h d) :=
  sliceD X (st3 V) k (hi V k hc) rfl rfl _ _ h d

include hc in
/-- One trip's corrected values. -/
theorem corr_at (h : Fin 8) (l : Fin 64) (v : Fin 128) :
    (res_main_while0b_v52 V : Vec Ideal S8x64x128 .f32) (ix3 h l v)
      = corr (at4 (V (Proc.devRef .tc main_v16_0)) k) (at4 (V (Proc.devRef .tc main_v16_1)) k) (V (Proc.devRef .tc main_v16_7)) h l v := by
  unfold res_main_while0b_v52
  generalize e0 : shapeCast S8x64x128 (Host.dynamicSlice S1x8x64x128 (V (Proc.devRef .tc main_v16_0)) _ _) _ = x0
  generalize e1 : shapeCast S8x64x128 (Host.dynamicSlice S1x8x64x128 (V (Proc.devRef .tc main_v16_1)) _ _) _ = x1
  have h0 : ∀ i j d, x0 (ix3 i j d) = _ := fun i j d => e0 ▸ rd128 V k hc (V (Proc.devRef .tc main_v16_0)) i j d
  have h1 : ∀ i j d, x1 (ix3 i j d) = _ := fun i j d => e1 ▸ rd128 V k hc (V (Proc.devRef .tc main_v16_1)) i j d
  generalize V (Proc.devRef .tc main_v16_7) = S
  pointwise []
  simp only [h0, h1]
  rfl

include hc in
/-- One trip's new state. -/
theorem state_at (a b v : Fin _) :
    (step_main_v16_7 V : State) (ix3 a b v)
      = nextS (at4 (V (Proc.devRef .tc main_v16_0)) k) (at4 (V (Proc.devRef .tc main_v16_1)) k) (at4 (V (Proc.devRef .tc main_v16_3)) k)
          (fun h d => (V (Proc.devRef .tc main_v16_5) : Vec Ideal S256x8x128 .f32) (ix3 k h d)) (V (Proc.devRef .tc main_v16_7)) (ix3 a b v) := by
  have hv := corr_at V k hc
  unfold step_main_v16_7
  generalize res_main_while0b_v52 V = cv at hv
  generalize e0 : shapeCast S8x64x128 (Host.dynamicSlice S1x8x64x128 (V (Proc.devRef .tc main_v16_3)) _ _) _ = x0
  generalize e1 : shapeCast S8x128 (Host.dynamicSlice S1x8x128 (V (Proc.devRef .tc main_v16_5)) _ _) _ = x1
  have h0 : ∀ i j d, x0 (ix3 i j d) = _ := fun i j d => e0 ▸ rd128 V k hc (V (Proc.devRef .tc main_v16_3)) i j d
  have h1 : ∀ i d, x1 (ix2 i d) = _ := fun i d => e1 ▸ rdD V k hc (V (Proc.devRef .tc main_v16_5)) i d
  generalize V (Proc.devRef .tc main_v16_7) = S at hv ⊢
  rw [id_eq]
  pointwise []
  simp only [h0, h1, hv]
  rfl

include hc in
/-- One trip's outputs: chunk `k` is written, the others stay. -/
theorem out_at (j : Fin 256) (h : Fin 8) (l : Fin 64) (v : Fin 128) :
    (step_main_v16_8 V : Vec Ideal S256x8x64x128 .f32) (ix4 j h l v)
      = if j = k then outS (at4 (V (Proc.devRef .tc main_v16_0)) k) (at4 (V (Proc.devRef .tc main_v16_1)) k) (at4 (V (Proc.devRef .tc main_v16_2)) k)
          (fun h l d => (V (Proc.devRef .tc main_v16_4) : Vec Ideal S256x8x64x64 .f32) (ix4 k h l d)) (V (Proc.devRef .tc main_v16_7)) h l v
        else (V (Proc.devRef .tc main_v16_8) : Vec Ideal S256x8x64x128 .f32) (ix4 j h l v) := by
  have hv := corr_at V k hc
  unfold step_main_v16_8
  refine (write128 _ _ (st4 V) k (hi V k hc) rfl rfl rfl _ j h l v).trans ?_
  refine if_congr Iff.rfl ?_ rfl
  generalize res_main_while0b_v52 V = cv at hv
  generalize e0 : shapeCast S8x64x128 (Host.dynamicSlice S1x8x64x128 (V (Proc.devRef .tc main_v16_2)) _ _) _ = x0
  generalize e1 : shapeCast S8x64x64 (Host.dynamicSlice S1x8x64x64 (V (Proc.devRef .tc main_v16_4)) _ _) _ = x1
  have h0 : ∀ i j d, x0 (ix3 i j d) = _ := fun i j d => e0 ▸ rd128 V k hc (V (Proc.devRef .tc main_v16_2)) i j d
  have h1 : ∀ i j d, x1 (ix3 i j d) = _ := fun i j d => e1 ▸ rd64 V k hc (V (Proc.devRef .tc main_v16_4)) i j d
  generalize V (Proc.devRef .tc main_v16_7) = S at hv ⊢
  pointwise []
  simp only [h0, h1, hv]
  rfl

end Steps

/-- An array in chunks, read at a chunk, head, row and lane. -/
theorem chunks_at {φ : FTy} (X : FVec Ideal S16384x1024 φ) (a b) (j : Fin 256) (h : Fin 8) (l : Fin 64) (d : Fin 128) :
    transpose S256x8x64x128 [0, 2, 1, 3] (shapeCast S256x64x8x128 X a) b (ix4 j h l d) = chunk X j h l d := by
  pointwise [chunk]
  exact congrArg X (congrArg₂ ix2 (Fin.ext (by dsimp only; omega)) (Fin.ext (by dsimp only; omega)))

/-- The scores in chunks, read at a chunk, head, row and column. -/
theorem chunksA_at {φ : FTy} (X : FVec Ideal S8x16384x64 φ) (a b) (j : Fin 256) (h : Fin 8) (l : Fin 64) (d : Fin 64) :
    transpose S256x8x64x64 [1, 0, 2, 3] (shapeCast S8x256x64x64 X a) b (ix4 j h l d) = X (ix3 h ⟨64 * j.val + l.val, by omega⟩ d) := by
  pointwise []
  exact congrArg X (congrArg (ix3 h · d) (Fin.ext (by dsimp only; omega)))

variable (m : (ℓ : Loc nD τ sig) → Buf (Elt Ideal) ℓ) (c : Dev nD)

/-- Every trip leaves operand 0 as at the loop's entry. -/
theorem keep0 (k : ℕ) : (STEP^[k] (entryContents preI m c)) (Proc.devRef .tc main_v16_0) = entryContents preI m c (Proc.devRef .tc main_v16_0) := by
  induction k with
  | zero => rfl
  | succ k ih => rw [Function.iterate_succ_apply', STEP_main_v16_0, ih]

/-- Every trip leaves operand 1 as at the loop's entry. -/
theorem keep1 (k : ℕ) : (STEP^[k] (entryContents preI m c)) (Proc.devRef .tc main_v16_1) = entryContents preI m c (Proc.devRef .tc main_v16_1) := by
  induction k with
  | zero => rfl
  | succ k ih => rw [Function.iterate_succ_apply', STEP_main_v16_1, ih]

/-- Every trip leaves operand 2 as at the loop's entry. -/
theorem keep2 (k : ℕ) : (STEP^[k] (entryContents preI m c)) (Proc.devRef .tc main_v16_2) = entryContents preI m c (Proc.devRef .tc main_v16_2) := by
  induction k with
  | zero => rfl
  | succ k ih => rw [Function.iterate_succ_apply', STEP_main_v16_2, ih]

/-- Every trip leaves operand 3 as at the loop's entry. -/
theorem keep3 (k : ℕ) : (STEP^[k] (entryContents preI m c)) (Proc.devRef .tc main_v16_3) = entryContents preI m c (Proc.devRef .tc main_v16_3) := by
  induction k with
  | zero => rfl
  | succ k ih => rw [Function.iterate_succ_apply', STEP_main_v16_3, ih]

/-- Every trip leaves operand 4 as at the loop's entry. -/
theorem keep4 (k : ℕ) : (STEP^[k] (entryContents preI m c)) (Proc.devRef .tc main_v16_4) = entryContents preI m c (Proc.devRef .tc main_v16_4) := by
  induction k with
  | zero => rfl
  | succ k ih => rw [Function.iterate_succ_apply', STEP_main_v16_4, ih]

/-- Every trip leaves operand 5 as at the loop's entry. -/
theorem keep5 (k : ℕ) : (STEP^[k] (entryContents preI m c)) (Proc.devRef .tc main_v16_5) = entryContents preI m c (Proc.devRef .tc main_v16_5) := by
  induction k with
  | zero => rfl
  | succ k ih => rw [Function.iterate_succ_apply', STEP_main_v16_5, ih]

/-- Operand 0 of the loop is argument 1 in chunks. -/
theorem entry0 (j : Fin 256) : at4 (entryContents preI m c (Proc.devRef .tc main_v16_0)) j
    = chunk (φ := .f32) (m ((c.tc : Thread nD τ).loc main_arg1)) j := by
  funext h l d
  have e : @Eq (FVec Ideal S256x8x64x128 .f32) (entryContents preI m c (Proc.devRef .tc main_v16_0))
      (transpose S256x8x64x128 [0, 2, 1, 3] (shapeCast S256x64x8x128 ((m ((c.tc : Thread nD τ).loc main_arg1) : Vec Ideal S16384x1024 .f32)) shapeCasts_S16384x1024_S256x64x8x128) transposes_S256x64x8x128_S256x8x64x128_0_2_1_3) := by
    simp only [entryContents, afterL_cons, afterL_nil]
    after_reads_simp
    rfl
  unfold at4
  rw [e]
  exact chunks_at _ _ _ j h l d

/-- Operand 1 of the loop is argument 2 in chunks. -/
theorem entry1 (j : Fin 256) : at4 (entryContents preI m c (Proc.devRef .tc main_v16_1)) j
    = chunk (φ := .bf16) (m ((c.tc : Thread nD τ).loc main_arg2)) j := by
  funext h l d
  have e : @Eq (FVec Ideal S256x8x64x128 .f32) (entryContents preI m c (Proc.devRef .tc main_v16_1))
      (transpose S256x8x64x128 [0, 2, 1, 3] (shapeCast S256x64x8x128 (extf .f32 (m ((c.tc : Thread nD τ).loc main_arg2) : FVec Ideal S16384x1024 .bf16) bitsLt_bf16_f32) shapeCasts_S16384x1024_S256x64x8x128) transposes_S256x64x8x128_S256x8x64x128_0_2_1_3) := by
    simp only [entryContents, afterL_cons, afterL_nil]
    after_reads_simp
    rfl
  unfold at4
  rw [e]
  exact chunks_at _ _ _ j h l d

/-- Operand 2 of the loop is argument 3 in chunks. -/
theorem entry2 (j : Fin 256) : at4 (entryContents preI m c (Proc.devRef .tc main_v16_2)) j
    = chunk (φ := .bf16) (m ((c.tc : Thread nD τ).loc main_arg3)) j := by
  funext h l d
  have e : @Eq (FVec Ideal S256x8x64x128 .f32) (entryContents preI m c (Proc.devRef .tc main_v16_2))
      (transpose S256x8x64x128 [0, 2, 1, 3] (shapeCast S256x64x8x128 (extf .f32 (m ((c.tc : Thread nD τ).loc main_arg3) : FVec Ideal S16384x1024 .bf16) bitsLt_bf16_f32) shapeCasts_S16384x1024_S256x64x8x128) transposes_S256x64x8x128_S256x8x64x128_0_2_1_3) := by
    simp only [entryContents, afterL_cons, afterL_nil]
    after_reads_simp
    rfl
  unfold at4
  rw [e]
  exact chunks_at _ _ _ j h l d

/-- Operand 3 of the loop is argument 4 in chunks. -/
theorem entry3 (j : Fin 256) : at4 (entryContents preI m c (Proc.devRef .tc main_v16_3)) j
    = chunk (φ := .bf16) (m ((c.tc : Thread nD τ).loc main_arg4)) j := by
  funext h l d
  have e : @Eq (FVec Ideal S256x8x64x128 .f32) (entryContents preI m c (Proc.devRef .tc main_v16_3))
      (transpose S256x8x64x128 [0, 2, 1, 3] (shapeCast S256x64x8x128 (extf .f32 (m ((c.tc : Thread nD τ).loc main_arg4) : FVec Ideal S16384x1024 .bf16) bitsLt_bf16_f32) shapeCasts_S16384x1024_S256x64x8x128) transposes_S256x64x8x128_S256x8x64x128_0_2_1_3) := by
    simp only [entryContents, afterL_cons, afterL_nil]
    after_reads_simp
    rfl
  unfold at4
  rw [e]
  exact chunks_at _ _ _ j h l d

/-- Operand 4 of the loop is the scores in chunks. -/
theorem entry4 (j : Fin 256) : (fun h l d => (entryContents preI m c (Proc.devRef .tc main_v16_4) : Vec Ideal S256x8x64x64 .f32) (ix4 j h l d))
    = chunkA (m ((c.tc : Thread nD τ).loc main_arg5)) j := by
  funext h l d
  have e : @Eq (FVec Ideal S256x8x64x64 .f32) (entryContents preI m c (Proc.devRef .tc main_v16_4))
      (transpose S256x8x64x64 [1, 0, 2, 3] (shapeCast S8x256x64x64 (extf .f32 (m ((c.tc : Thread nD τ).loc main_arg5) : FVec Ideal S8x16384x64 .bf16) bitsLt_bf16_f32) shapeCasts_S8x16384x64_S8x256x64x64) transposes_S8x256x64x64_S256x8x64x64_1_0_2_3) := by
    simp only [entryContents, afterL_cons, afterL_nil]
    after_reads_simp
    rfl
  rw [e]
  exact chunksA_at _ _ _ j h l d

/-- Operand 5 of the loop is the decays. -/
theorem entry5 : (entryContents preI m c (Proc.devRef .tc main_v16_5) : Vec Ideal S256x8x128 .f32) = m ((c.tc : Thread nD τ).loc main_arg6) := by
  simp only [entryContents, afterL_cons, afterL_nil]
  after_reads_simp
  rfl

/-- The loop starts from the zero state. -/
theorem entry7 : @Eq State (entryContents preI m c (Proc.devRef .tc main_v16_7)) (fun _ => 0) := by
  have e : @Eq (FVec Ideal S8x128x128 .f32) (entryContents preI m c (Proc.devRef .tc main_v16_7))
      (broadcastInDim S8x128x128 ![] bcast_S_S8x128x128 (constant S_ .f32 0x00000000#32)) := by
    simp only [entryContents, afterL_cons, afterL_nil]
    after_reads_simp
    rfl
  rw [e]
  funext i
  pointwise []

/-- The counter before trip `k`. -/
theorem ctr (k : ℕ) : (STEP^[k] (entryContents preI m c)) (Proc.devRef .tc main_v16_6) = fun _ => Scf.iv 0#32 1#32 k := by
  induction k with
  | zero => rw [Scf.iv_zero]; exact ctr_entry m c
  | succ k ih =>
    rw [Function.iterate_succ_apply', STEP_main_v16_6]
    unfold step_main_v16_6
    rw [ih, Scf.iv_succ]
    rfl

/-- The states of the specification, from the arguments. -/
abbrev sts : ℕ → State := stateSeq (m ((c.tc : Thread nD τ).loc main_arg1)) (m ((c.tc : Thread nD τ).loc main_arg2)) (m ((c.tc : Thread nD τ).loc main_arg4)) (m ((c.tc : Thread nD τ).loc main_arg6))

/-- The outputs of the specification, from the arguments. -/
abbrev outs (j : Fin 256) : Chunk := outS (chunk (φ := .f32) (m ((c.tc : Thread nD τ).loc main_arg1)) j)
  (chunk (φ := .bf16) (m ((c.tc : Thread nD τ).loc main_arg2)) j) (chunk (φ := .bf16) (m ((c.tc : Thread nD τ).loc main_arg3)) j)
  (chunkA (m ((c.tc : Thread nD τ).loc main_arg5)) j) (sts m c j.val)

/-- After `k` trips the state is that before chunk `k`, and the outputs of the chunks before it are in place. -/
theorem inv (k : ℕ) (hk : k ≤ 256) : ((STEP^[k] (entryContents preI m c)) (Proc.devRef .tc main_v16_7) : State) = sts m c k
    ∧ ∀ (j : Fin 256) (h : Fin 8) (l : Fin 64) (v : Fin 128), j.val < k →
      ((STEP^[k] (entryContents preI m c)) (Proc.devRef .tc main_v16_8) : Vec Ideal S256x8x64x128 .f32) (ix4 j h l v) = outs m c j h l v := by
  induction k with
  | zero => exact ⟨entry7 m c, fun _ _ _ _ h => absurd h (Nat.not_lt_zero _)⟩
  | succ k ih =>
    obtain ⟨ih1, ih2⟩ := ih (by omega)
    rw [Function.iterate_succ_apply', STEP_main_v16_7, STEP_main_v16_8]
    have hs := state_at (STEP^[k] (entryContents preI m c)) ⟨k, hk⟩ (ctr m c k)
    have ho := out_at (STEP^[k] (entryContents preI m c)) ⟨k, hk⟩ (ctr m c k)
    rw [keep0, keep1, keep3, keep5, ih1, entry0, entry1, entry3, entry5] at hs
    rw [keep0, keep1, keep2, keep4, ih1, entry0, entry1, entry2, entry4] at ho
    refine ⟨?_, fun j h l v hj => ?_⟩
    · unfold sts stateSeq
      rw [Cert.KernelIdeal.Scan.states_succ _ _ _ _ k hk]
      funext i
      have hx : i = ix3 (i 0) (i 1) (i 2) := by funext a; fin_cases a <;> rfl
      rw [hx]
      exact hs (i 0) (i 1) (i 2)
    · rw [ho]
      by_cases e : j = ⟨k, hk⟩
      · rw [if_pos e, e]
      · rw [if_neg e]
        exact ih2 j h l v (by have : j.val ≠ k := fun q => e (Fin.ext q); omega)

/-- The reference's result is the specification's. -/
theorem result : out_main_v44 (STEP^[256] (entryContents preI m c))
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  have ho := fun j h l v => (inv m c 256 (le_refl _)).2 j h l v j.isLt
  unfold out_main_v44
  rw [iter_main_arg0, iter_main_arg7]
  generalize ((STEP^[256] (entryContents preI m c)) (Proc.devRef .tc main_v16_8) : Vec Ideal S256x8x64x128 .f32) = O at ho ⊢
  funext y
  pointwise [res, resAt, gate, chunkZ]
  simp only [ho]
  have e0 : 64 * ((y 0).val / 64) + (y 0).val % 64 = (y 0).val := Nat.div_add_mod _ _
  have e1 : 128 * ((y 1).val / 128) + (y 1).val % 128 = (y 1).val := Nat.div_add_mod _ _
  simp only [e0, e1]
  rfl

end Cert.ReferenceIdeal.Scan
end
-- ==== Proof.PrepRef.lean ====
module

public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Reference5Ideal.Prep

open Cert.Reference5Ideal Cert.Reference5Ideal.Gen

/-- Entry `j` of a row normed by its mean square (`N` entries), the variance offset the literal both programs carry, and scaled by `g`. -/
def rms {n : ℕ} (N : Ideal .f32) (f g : Fin n → Ideal .f32) (j : Fin n) : Ideal .f32 :=
  f j * Ideal.rsqrt (Ideal.div (∑ i : Fin n, f i * f i) N + Ideal.ofBits FTy.f32 897988541#32) * g j

/-- Lanes `o` and on of row `s` of the projections. -/
def row (A : FVec Ideal S16384x12288 .f32) (o n : ℕ) (h : o + n ≤ 12288) (s : Fin 16384) (j : Fin n) : Ideal .f32 :=
  A (ix2 s ⟨o + j.val, by omega⟩)

/-- The queries' scale: one over the square root of 128 and the logarithm of 2. -/
def scale : Ideal .f32 := (((Real.sqrt 128)⁻¹ * (Real.log 2)⁻¹ : ℝ) : EReal)

/-- Dividing by the square root of 128 times the logarithm of 2 is scaling. -/
theorem div_scale (x : EReal) :
    Ideal.div x (Ideal.sqrt (Ideal.ofBits FTy.f32 1124073472#32) * Ideal.log (Ideal.ofBits FTy.f32 1073741824#32)) = x * scale := by
  have e1 : Ideal.ofBits FTy.f32 1124073472#32 = ((128 : ℝ) : EReal) := by
    simp [Ideal.ofBits, Ideal.ieee, -EReal.coe_mul]; norm_num
  have e2 : Ideal.ofBits FTy.f32 1073741824#32 = ((2 : ℝ) : EReal) := by
    simp [Ideal.ofBits, Ideal.ieee, -EReal.coe_mul]; norm_num
  have p1 : Real.sqrt 128 ≠ 0 := (Real.sqrt_pos.2 (by norm_num)).ne'
  have p2 : Real.log 2 ≠ 0 := (Real.log_pos (by norm_num)).ne'
  rw [e1, e2, Ideal.sqrt_coe, Ideal.log_coe, if_neg (by norm_num), if_neg (by norm_num), ← EReal.coe_mul,
    Ideal.div_coe (mul_ne_zero p1 p2), scale, one_div, mul_inv]

/-- The normed latent of row `s`. -/
def lat (A : FVec Ideal S16384x12288 .f32) (G : FVec Ideal S896 .f32) (s : Fin 16384) : Fin 896 → Ideal .f32 :=
  rms (Ideal.ofBits FTy.f32 1147142144#32) (row A 0 896 (by decide) s) (fun j => G (ix1 j))

/-- Head `h` of the up-projected query of row `s`. -/
def qry (A : FVec Ideal S16384x12288 .f32) (G : FVec Ideal S896 .f32) (W : FVec Ideal S896x2048 .f32) (s : Fin 16384) (h : Fin 16) (d : Fin 128) :
    Ideal .f32 := ∑ j : Fin 896, lat A G s j * W (ix2 j ⟨h.val * 128 + d.val, by omega⟩)

/-- Head `g` of the normed keys of row `s`. -/
def key (A : FVec Ideal S16384x12288 .f32) (KN : FVec Ideal S128 .f32) (s : Fin 16384) (g : Fin 4) : Fin 128 → Ideal .f32 :=
  rms (Ideal.ofBits FTy.f32 1124073472#32) (fun d => A (ix2 s ⟨9216 + (g.val * 128 + d.val), by omega⟩)) (fun d => KN (ix1 d))

/-- The mean of 64 entries. -/
def mean (f : Fin 64 → Ideal .f32) : Ideal .f32 := Ideal.div (∑ i : Fin 64, f i) (Ideal.ofBits FTy.f32 1115684864#32)

/-- The indexer's key row less its mean. -/
def ctr (A : FVec Ideal S16384x12288 .f32) (s : Fin 16384) (j : Fin 64) : Ideal .f32 :=
  row A 896 64 (by decide) s j - mean (row A 896 64 (by decide) s)

/-- The indexer's key row, layer-normed. -/
def ikey (A : FVec Ideal S16384x12288 .f32) (KG KB : FVec Ideal S64 .f32) (s : Fin 16384) (j : Fin 64) : Ideal .f32 :=
  ctr A s j * Ideal.rsqrt (mean (fun i => ctr A s i * ctr A s i) + Ideal.ofBits FTy.f32 897988541#32) * KG (ix1 j) + KB (ix1 j)

/-- The normed latents: the reference's term. -/
def cqT (A : FVec Ideal S16384x12288 .f32) (G : FVec Ideal S896 .f32) : FVec Ideal S16384x896 .f32 :=
  (mulf (mulf (extractStridedSlice S16384x896 ![0, 0] A slices_S16384x12288_S16384x896_0_0) (broadcastInDim S16384x896 ![0, 1] bcast_S16384x1_S16384x896_0_1 (Host.rsqrt (addf (Host.divf (broadcastInDim S16384x1 ![0] bcast_S16384_S16384x1_0 (Host.reduceAdd (mulf (extractStridedSlice S16384x896 ![0, 0] A slices_S16384x12288_S16384x896_0_0) (extractStridedSlice S16384x896 ![0, 0] A slices_S16384x12288_S16384x896_0_0)) (constant S_ .f32 0x00000000#32) reducesTo_S16384x896_S16384_d1 h_S_)) (broadcastInDim S16384x1 ![] bcast_S_S16384x1 (constant S_ .f32 0x44600000#32))) (broadcastInDim S16384x1 ![] bcast_S_S16384x1 (constant S_ .f32 0x358637BD#32)))))) (broadcastInDim S16384x896 ![0, 1] bcast_S1x896_S16384x896_0_1 (broadcastInDim S1x896 ![1] bcast_S896_S1x896_1 G)))

/-- The up-projected queries by heads: the reference's term. -/
def qT (A : FVec Ideal S16384x12288 .f32) (G : FVec Ideal S896 .f32) (W : FVec Ideal S896x2048 .f32) : FVec Ideal S16384x16x128 .f32 :=
  (shapeCast _ (Host.dotGeneral dot_S16384x896_S896x2048_S16384x2048_1_0_0_1_n_n none (cqT A G) W) shapeCasts_S16384x2048_S16384x16x128)

/-- The queries: normed by heads and scaled: the reference's term. -/
def q (A : FVec Ideal S16384x12288 .f32) (G : FVec Ideal S896 .f32) (W : FVec Ideal S896x2048 .f32) (QN : FVec Ideal S128 .f32) : FVec Ideal S16x16384x128 .bf16 :=
  truncf .bf16 (transpose S16x16384x128 [1, 0, 2] (Host.divf (mulf (mulf (qT A G W) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (qT A G W) (qT A G W)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 QN))) (broadcastInDim S16384x16x128 ![] bcast_S_S16384x16x128 (mulf (Host.sqrt (constant S_ .f32 0x43000000#32)) (Host.log (constant S_ .f32 0x40000000#32))))) transposes_S16384x16x128_S16x16384x128_1_0_2) bitsLt_bf16_f32

/-- The indexer's queries by heads: the reference's term. -/
def qi (A : FVec Ideal S16384x12288 .f32) (G : FVec Ideal S896 .f32) (WI : FVec Ideal S896x1024 .f32) : FVec Ideal S16x16384x64 .bf16 :=
  truncf .bf16 (transpose S16x16384x64 [1, 0, 2] (shapeCast _ (Host.dotGeneral dot_S16384x896_S896x1024_S16384x1024_1_0_0_1_n_n none (cqT A G) WI) shapeCasts_S16384x1024_S16384x16x64) transposes_S16384x16x64_S16x16384x64_1_0_2) bitsLt_bf16_f32

/-- The keys by heads: the reference's term. -/
def krT (A : FVec Ideal S16384x12288 .f32) : FVec Ideal S16384x4x128 .f32 :=
  (shapeCast _ (extractStridedSlice S16384x512 ![0, 9216] A slices_S16384x12288_S16384x512_0_9216) shapeCasts_S16384x512_S16384x4x128)

/-- The normed keys by heads: the reference's term. -/
def kT (A : FVec Ideal S16384x12288 .f32) (KN : FVec Ideal S128 .f32) : FVec Ideal S16384x4x128 .bf16 :=
  (truncf .bf16 (mulf (mulf (krT A) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (krT A) (krT A)) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 KN))) bitsLt_bf16_f32)

/-- The normed keys transposed: the reference's term. -/
def kt (A : FVec Ideal S16384x12288 .f32) (KN : FVec Ideal S128 .f32) : FVec Ideal S512x16384 .bf16 :=
  transpose S512x16384 [1, 0] (shapeCast _ (kT A KN) shapeCasts_S16384x4x128_S16384x512) transposes_S16384x512_S512x16384_1_0

/-- The squared norms of the normed keys, four rows of zeros below: the reference's term. -/
def kn2 (A : FVec Ideal S16384x12288 .f32) (KN : FVec Ideal S128 .f32) : FVec Ideal S8x16384 .f32 :=
  concatenate S8x16384 0 [⟨S4x16384, (transpose S4x16384 [1, 0] (Host.reduceAdd (mulf (extf .f32 (kT A KN) bitsLt_bf16_f32) (extf .f32 (kT A KN) bitsLt_bf16_f32)) (constant S_ .f32 0x00000000#32) reducesTo_S16384x4x128_S16384x4_d2 h_S_) transposes_S16384x4_S4x16384_1_0)⟩, ⟨S4x16384, (broadcastInDim S4x16384 ![] bcast_S_S4x16384 (constant S_ .f32 0x00000000#32))⟩] concatenates_S4x16384_S4x16384_S8x16384_d0

/-- The indexer's key rows less their means: the reference's term. -/
def xcT (A : FVec Ideal S16384x12288 .f32) : FVec Ideal S16384x64 .f32 :=
  (subf (extractStridedSlice S16384x64 ![0, 896] A slices_S16384x12288_S16384x64_0_896) (broadcastInDim S16384x64 ![0, 1] bcast_S16384x1_S16384x64_0_1 (Host.divf (broadcastInDim S16384x1 ![0] bcast_S16384_S16384x1_0 (Host.reduceAdd (extractStridedSlice S16384x64 ![0, 896] A slices_S16384x12288_S16384x64_0_896) (constant S_ .f32 0x00000000#32) reducesTo_S16384x64_S16384_d1 h_S_)) (broadcastInDim S16384x1 ![] bcast_S_S16384x1 (constant S_ .f32 0x42800000#32)))))

/-- The indexer's layer-normed keys transposed: the reference's term. -/
def kit (A : FVec Ideal S16384x12288 .f32) (KG : FVec Ideal S64 .f32) (KB : FVec Ideal S64 .f32) : FVec Ideal S64x16384 .bf16 :=
  truncf .bf16 (transpose S64x16384 [1, 0] (addf (mulf (mulf (xcT A) (broadcastInDim S16384x64 ![0, 1] bcast_S16384x1_S16384x64_0_1 (Host.rsqrt (addf (Host.divf (broadcastInDim S16384x1 ![0] bcast_S16384_S16384x1_0 (Host.reduceAdd (mulf (xcT A) (xcT A)) (constant S_ .f32 0x00000000#32) reducesTo_S16384x64_S16384_d1 h_S_)) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 KG))) (broadcastInDim S16384x64 ![0, 1] bcast_S1x64_S16384x64_0_1 (broadcastInDim S1x64 ![1] bcast_S64_S1x64_1 KB))) transposes_S16384x64_S64x16384_1_0) bitsLt_bf16_f32

/-- The indexer's scaled weights: the reference's term. -/
def w (A : FVec Ideal S16384x12288 .f32) : FVec Ideal S16384x128 .f32 :=
  mulf (extractStridedSlice S16384x128 ![0, 896] A slices_S16384x12288_S16384x128_0_896) (broadcastInDim S16384x128 ![] bcast_S_S16384x128 (constant S_ .f32 0x3D000000#32))

/-- The values: the reference's term. -/
def vb (A : FVec Ideal S16384x12288 .f32) : FVec Ideal S16384x512 .bf16 :=
  truncf .bf16 (extractStridedSlice S16384x512 ![0, 9728] A slices_S16384x12288_S16384x512_0_9728) bitsLt_bf16_f32

/-- The normed latents' entries. -/
theorem cqT_at (A : FVec Ideal S16384x12288 .f32) (G : FVec Ideal S896 .f32) (s : Fin 16384) (j : Fin 896) :
    cqT A G (ix2 s j) = lat A G s j := by
  pointwise [cqT, lat, rms, row]

/-- The up-projected queries' entries. -/
theorem qT_at (A : FVec Ideal S16384x12288 .f32) (G : FVec Ideal S896 .f32) (W : FVec Ideal S896x2048 .f32) (s : Fin 16384) (h : Fin 16) (d : Fin 128) :
    qT A G W (ix3 s h d) = qry A G W s h d := by
  pointwise [qT, qry]
  simp only [cqT_at]

/-- The queries' entries. -/
theorem q_at (A : FVec Ideal S16384x12288 .f32) (G : FVec Ideal S896 .f32) (W : FVec Ideal S896x2048 .f32) (QN : FVec Ideal S128 .f32)
    (h : Fin 16) (s : Fin 16384) (d : Fin 128) :
    q A G W QN (ix3 h s d) = rms (Ideal.ofBits FTy.f32 1124073472#32) (qry A G W s h) (fun j => QN (ix1 j)) d * scale := by
  rw [← div_scale]
  pointwise [q, rms]
  simp only [qT_at]

/-- The indexer's queries' entries. -/
theorem qi_at (A : FVec Ideal S16384x12288 .f32) (G : FVec Ideal S896 .f32) (WI : FVec Ideal S896x1024 .f32) (h : Fin 16) (s : Fin 16384) (d : Fin 64) :
    qi A G WI (ix3 h s d) = ∑ j : Fin 896, lat A G s j * WI (ix2 j ⟨h.val * 64 + d.val, by omega⟩) := by
  pointwise [qi]
  simp only [cqT_at]

/-- The normed keys' entries. -/
theorem kT_at (A : FVec Ideal S16384x12288 .f32) (KN : FVec Ideal S128 .f32) (s : Fin 16384) (g : Fin 4) (d : Fin 128) :
    kT A KN (ix3 s g d) = key A KN s g d := by
  pointwise [kT, krT, key, rms]

/-- The transposed keys' entries. -/
theorem kt_at (A : FVec Ideal S16384x12288 .f32) (KN : FVec Ideal S128 .f32) (s : Fin 16384) (g : Fin 4) (d : Fin 128) :
    kt A KN (ix2 ⟨128 * g.val + d.val, by omega⟩ s) = key A KN s g d := by
  pointwise [kt]
  simp only [kT_at]

/-- The squared norms' entries. -/
theorem kn2_at (A : FVec Ideal S16384x12288 .f32) (KN : FVec Ideal S128 .f32) (s : Fin 16384) (g : Fin 8) :
    kn2 A KN (ix2 g s) = if h : g.val < 4 then ∑ d : Fin 128, key A KN s ⟨g.val, h⟩ d * key A KN s ⟨g.val, h⟩ d else 0 := by
  pointwise [kn2]
  simp only [kT_at]

/-- The entries of the indexer's key rows less their means. -/
theorem xcT_at (A : FVec Ideal S16384x12288 .f32) (s : Fin 16384) (j : Fin 64) : xcT A (ix2 s j) = ctr A s j := by
  pointwise [xcT, ctr, mean, row]

/-- The entries of the indexer's keys. -/
theorem kit_at (A : FVec Ideal S16384x12288 .f32) (KG KB : FVec Ideal S64 .f32) (s : Fin 16384) (j : Fin 64) :
    kit A KG KB (ix2 j s) = ikey A KG KB s j := by
  pointwise [kit, ikey, mean]
  simp only [xcT_at]

/-- The entries of the indexer's weights. -/
theorem w_at (A : FVec Ideal S16384x12288 .f32) (s : Fin 16384) (j : Fin 128) :
    w A (ix2 s j) = row A 896 128 (by decide) s j * Ideal.ofBits FTy.f32 1023410176#32 := by
  pointwise [w, row]

/-- The values' entries. -/
theorem vb_at (A : FVec Ideal S16384x12288 .f32) (s : Fin 16384) (j : Fin 512) : vb A (ix2 s j) = row A 9728 512 (by decide) s j := by
  pointwise [vb, row]

end Cert.Reference5Ideal.Prep

end
-- ==== Proof.PrepKeys.lean ====
module

public import proofs.«01_k».proof.Proof.Gen.Kernel5Ideal.Value
public import proofs.«01_k».proof.Proof.PrepRef
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel5Ideal.Prep

open Cert.Kernel5Ideal Cert.Kernel5Ideal.Gen
open Cert.Reference5Ideal.Prep (rms row lat qry key mean ctr ikey)

/-- One head of a block of keys, normed. -/
def kn (k : Vec Ideal S256x128 .f32) (g : Vec Ideal S1x128 .f32) (r : Fin 256) : Fin 128 → Ideal .f32 :=
  rms (Ideal.ofBits FTy.f32 1124073472#32) (fun d => k (ix2 r d)) (fun d => g (ix2 0 d))

/-- The first head's keys. -/
theorem k_head0 (k : Vec Ideal S256x128 .f32) (g : Vec Ideal S1x128 .f32) (r : Fin 256) (d : Fin 128) :
    k0_pay51 k (k0_pay50 k) g (ix2 r d) = kn k g r d := by
  pointwise [k0_pay51, k0_pay50, kn, rms]

/-- The second head's keys. -/
theorem k_head1 (k : Vec Ideal S256x128 .f32) (g : Vec Ideal S1x128 .f32) (r : Fin 256) (d : Fin 128) :
    k0_pay52 k g (ix2 r d) = kn k g r d := by
  pointwise [k0_pay52, kn, rms]

/-- The third head's keys. -/
theorem k_head2 (k : Vec Ideal S256x128 .f32) (g : Vec Ideal S1x128 .f32) (r : Fin 256) (d : Fin 128) :
    k0_pay53 k g (ix2 r d) = kn k g r d := by
  pointwise [k0_pay53, kn, rms]

/-- The heads' keys side by side, transposed: the rows of each head. -/
theorem kt_blk (a b c k : Vec Ideal S256x128 .f32) (g : Vec Ideal S1x128 .f32) (h : Fin 4) (d : Fin 128) (r : Fin 256) :
    k0_pay55 a b c k (k0_pay54 k) (Ideal.ofBits FTy.f32 1124073472#32) g (ix2 ⟨h.val * 128 + d.val, by omega⟩ r)
      = (match h with | 0 => a (ix2 r d) | 1 => b (ix2 r d) | 2 => c (ix2 r d) | 3 => kn k g r d) := by
  have hd := d.isLt
  fin_cases h
  · pointwise [k0_pay55, k0_pay54, kn, rms]
  · pointwise [k0_pay55, k0_pay54, kn, rms]
  · have e : ∀ p, (⟨256 + d.val - 128 - 128, p⟩ : Fin 128) = d := fun _ => Fin.ext (by dsimp only; omega)
    pointwise [k0_pay55, k0_pay54, kn, rms]
    rw [dif_neg (by omega), dif_neg (by omega), dif_pos (by omega), e]
  · have e : ∀ p, (⟨384 + d.val - 128 - 128 - 128, p⟩ : Fin 128) = d := fun _ => Fin.ext (by dsimp only; omega)
    pointwise [k0_pay55, k0_pay54, kn, rms]
    rw [dif_neg (by omega), dif_neg (by omega), dif_neg (by omega), e]

/-- The block of squared norms, from the block of transposed keys. -/
theorem kn2_blk (a b c k : Vec Ideal S256x128 .f32) (g : Vec Ideal S1x128 .f32) (h : Fin 8) (r : Fin 256) :
    k0_pay56 a b c k (k0_pay54 k) (Ideal.ofBits FTy.f32 1124073472#32) g (ix2 h r)
      = if p : h.val < 4 then ∑ d : Fin 128, k0_pay55 a b c k (k0_pay54 k) (Ideal.ofBits FTy.f32 1124073472#32) g (ix2 ⟨h.val * 128 + d.val, by omega⟩ r)
          * k0_pay55 a b c k (k0_pay54 k) (Ideal.ofBits FTy.f32 1124073472#32) g (ix2 ⟨h.val * 128 + d.val, by omega⟩ r) else 0 := by
  generalize hT : k0_pay55 a b c k (k0_pay54 k) (Ideal.ofBits FTy.f32 1124073472#32) g = T
  fin_cases h
  all_goals
    pointwise [k0_pay56]
    try simp only [hT]
    try rfl

/-- A sum over 128 lanes of which those past the 64th are zero. -/
theorem sum_lanes (f : Fin 128 → Ideal .f32) :
    ∑ i : Fin 128, (if i.val < 64 then f i else 0) = ∑ i : Fin 64, f ⟨i.val, by omega⟩ := by
  rw [show (∑ i : Fin 128, (if i.val < 64 then f i else 0)) = ∑ i : Fin (64 + 64), (if i.val < 64 then f i else 0) from rfl, Fin.sum_univ_add]
  simp
  rfl

/-- The mask of the first 64 lanes. -/
theorem mask : ∀ i : Fin 128, IntOp.cmpi CmpIPredicate.slt (BitVec.ofNat 32 i.val) 64#32 = if i.val < 64 then 1#1 else 0#1 := by decide +kernel

/-- A value chosen by the mask of the first 64 lanes. -/
theorem sel (i : Fin 128) (a b : Ideal .f32) :
    Scalar.select (IntOp.cmpi CmpIPredicate.slt (BitVec.ofNat 32 i.val) 64#32) a b = if i.val < 64 then a else b := by
  rw [mask]; unfold Scalar.select; split_ifs <;> simp_all

/-- On the first 64 lanes the mask chooses the first value. -/
theorem sel64 (i : Fin 64) (a b : Ideal .f32) :
    Scalar.select (IntOp.cmpi CmpIPredicate.slt (BitVec.ofNat 32 i.val) 64#32) a b = a :=
  (sel ⟨i.val, by omega⟩ a b).trans (if_pos i.isLt)

/-- Choosing twice by one mask is choosing once. -/
theorem sel_sel (m : BitVec 1) (a b : Ideal .f32) : Scalar.select m (Scalar.select m a b) b = Scalar.select m a b := by
  unfold Scalar.select; split_ifs <;> rfl

/-- A product with one over 64 is the quotient by 64. -/
theorem mul_64th (x : Ideal .f32) : x * Ideal.ofBits FTy.f32 1015021568#32 = Ideal.div x (Ideal.ofBits FTy.f32 1115684864#32) := by
  have e : Ideal.ofBits FTy.f32 1115684864#32 = ((64 : ℝ) : EReal) := by
    simp [Ideal.ofBits, Ideal.ieee, -EReal.coe_mul]; norm_num
  have e' : Ideal.ofBits FTy.f32 1015021568#32 = (((64 : ℝ)⁻¹ : ℝ) : EReal) := by
    simp [Ideal.ofBits, Ideal.ieee, -EReal.coe_mul]; norm_num
  rw [e, e']
  unfold Ideal.div
  rw [if_neg (by norm_cast), EReal.coe_inv]

/-- The block of the indexer's keys: the layer norm over the first 64 lanes. -/
theorem ki_blk (v : Vec Ideal S256x128 .f32) (g b : Vec Ideal S1x128 .f32) (d : Fin 64) (r : Fin 256) (x : Fin 64 → Ideal .f32)
    (hx : ∀ i : Fin 64, v (ix2 r ⟨i.val, by omega⟩) = x i) :
    k0_pay1 (k0_pay59 v g) b (ix2 d r)
      = (x d - mean x) * Ideal.rsqrt (mean (fun i => (x i - mean x) * (x i - mean x)) + Ideal.ofBits FTy.f32 897988541#32) * g (ix2 0 ⟨d.val, by omega⟩)
        + b (ix2 0 ⟨d.val, by omega⟩) := by
  pointwise [k0_pay1, k0_pay59, mean]
  simp only [sel64, sel_sel, sel, sum_lanes, mul_64th, hx, Fin.is_lt, if_true]

end Cert.Kernel5Ideal.Prep

end
-- ==== Proof.PrepMath.lean ====
module

public import proofs.«01_k».proof.Proof.Gen.Kernel5Ideal.Value
public import proofs.«01_k».proof.Proof.PrepRef
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel5Ideal.Prep

open Cert.Kernel5Ideal Cert.Kernel5Ideal.Gen
open Cert.Reference5Ideal.Prep (rms scale row lat qry key mean ctr ikey)

/-- The block of normed latents, from the block of rows and the gains. -/
theorem cq_blk (v0 : Vec Ideal S256x896 .f32) (v11 : Vec Ideal S1x896 .f32) (r : Fin 256) (j : Fin 896) :
    k0_pay2 v0 v11 (ix2 r j) = rms (Ideal.ofBits FTy.f32 1147142144#32) (fun j => v0 (ix2 r j)) (fun j => v11 (ix2 0 j)) j := by
  pointwise [k0_pay2, rms]

/-- The block of up-projected queries. -/
theorem qf_blk (v0 : Vec Ideal S256x896 .f32) (v11 : Vec Ideal S1x896 .f32) (v16 : Vec Ideal S896x2048 .bf16) (r : Fin 256) (n : Fin 2048) :
    k0_pay3 v0 v11 v16 (ix2 r n) = ∑ j : Fin 896, k0_pay2 v0 v11 (ix2 r j) * v16 (ix2 j n) := by
  pointwise [k0_pay3]

/-- Head `h` of a block of up-projected queries, normed and scaled. -/
def hd (Q : FVec Ideal S256x2048 .f32) (g : Vec Ideal S1x128 .f32) (h : Fin 16) (r : Fin 256) (d : Fin 128) : Ideal .f32 :=
  rms (Ideal.ofBits FTy.f32 1124073472#32) (fun d : Fin 128 => Q (ix2 r ⟨h.val * 128 + d.val, by omega⟩)) (fun d => g (ix2 0 d)) d
    * scale

/-- The named scale is the reference's. -/
theorem named_scale : Named.named (F := Ideal) κ "scale" (0x3E0293EE#32 : BitVec FTy.f32.bits) = (scale : Ideal .f32) :=
  IdealRules.named_const.ideal_named_scalar _ _ _ _ rfl

/-- The stored queries of head 0. -/
theorem q_piece0 (v0 : Vec Ideal S256x896 .f32) (v11 : Vec Ideal S1x896 .f32) (v16 : Vec Ideal S896x2048 .bf16) (g : Vec Ideal S1x128 .f32) (r : Fin 256) (d : Fin 128) :
    k0_pay4 v0 v11 v16 g (ix3 0 r d) = hd (k0_pay3 v0 v11 v16) g 0 r d := by
  pointwise [k0_pay4, hd, rms, named_scale]

/-- The stored queries of head 1. -/
theorem q_piece1 (Q : FVec Ideal S256x2048 .f32) (g : Vec Ideal S1x128 .f32) (r : Fin 256) (d : Fin 128) :
    k0_pay6 Q g (ix3 0 r d) = hd Q g 1 r d := by
  pointwise [k0_pay6, hd, rms, named_scale]

/-- The stored queries of head 2. -/
theorem q_piece2 (Q : FVec Ideal S256x2048 .f32) (g : Vec Ideal S1x128 .f32) (r : Fin 256) (d : Fin 128) :
    k0_pay9 Q g (ix3 0 r d) = hd Q g 2 r d := by
  pointwise [k0_pay9, hd, rms, named_scale]

/-- The stored queries of head 3. -/
theorem q_piece3 (Q : FVec Ideal S256x2048 .f32) (g : Vec Ideal S1x128 .f32) (r : Fin 256) (d : Fin 128) :
    k0_pay13 (k0_pay11 Q) (k0_pay12 Q) g (ix3 0 r d) = hd Q g 3 r d := by
  pointwise [k0_pay13, k0_pay12, k0_pay11, hd, rms, named_scale]

/-- The stored queries of head 4. -/
theorem q_piece4 (Q : FVec Ideal S256x2048 .f32) (g : Vec Ideal S1x128 .f32) (r : Fin 256) (d : Fin 128) :
    k0_pay16 (k0_pay15 Q g) (ix3 0 r d) = hd Q g 4 r d := by
  pointwise [k0_pay16, k0_pay15, hd, rms, named_scale]

/-- The stored queries of head 5. -/
theorem q_piece5 (Q : FVec Ideal S256x2048 .f32) (g : Vec Ideal S1x128 .f32) (r : Fin 256) (d : Fin 128) :
    k0_pay18 Q g (ix3 0 r d) = hd Q g 5 r d := by
  pointwise [k0_pay18, hd, rms, named_scale]

/-- The stored queries of head 6. -/
theorem q_piece6 (Q : FVec Ideal S256x2048 .f32) (g : Vec Ideal S1x128 .f32) (r : Fin 256) (d : Fin 128) :
    k0_pay21 Q g (ix3 0 r d) = hd Q g 6 r d := by
  pointwise [k0_pay21, hd, rms, named_scale]

/-- The stored queries of head 7. -/
theorem q_piece7 (Q : FVec Ideal S256x2048 .f32) (g : Vec Ideal S1x128 .f32) (r : Fin 256) (d : Fin 128) :
    k0_pay25 (k0_pay23 Q) (k0_pay24 Q) g (ix3 0 r d) = hd Q g 7 r d := by
  pointwise [k0_pay25, k0_pay24, k0_pay23, hd, rms, named_scale]

/-- The stored queries of head 8. -/
theorem q_piece8 (Q : FVec Ideal S256x2048 .f32) (g : Vec Ideal S1x128 .f32) (r : Fin 256) (d : Fin 128) :
    k0_pay29 (k0_pay27 Q g) k0_pay28 (ix3 0 r d) = hd Q g 8 r d := by
  pointwise [k0_pay29, k0_pay27, k0_pay28, hd, rms, named_scale]

/-- The stored queries of head 9. -/
theorem q_piece9 (Q : FVec Ideal S256x2048 .f32) (g : Vec Ideal S1x128 .f32) (r : Fin 256) (d : Fin 128) :
    k0_pay31 Q g (ix3 0 r d) = hd Q g 9 r d := by
  pointwise [k0_pay31, hd, rms, named_scale]

/-- The stored queries of head 10. -/
theorem q_piece10 (Q : FVec Ideal S256x2048 .f32) (g : Vec Ideal S1x128 .f32) (r : Fin 256) (d : Fin 128) :
    k0_pay34 Q g (ix3 0 r d) = hd Q g 10 r d := by
  pointwise [k0_pay34, hd, rms, named_scale]

/-- The stored queries of head 11. -/
theorem q_piece11 (Q : FVec Ideal S256x2048 .f32) (g : Vec Ideal S1x128 .f32) (r : Fin 256) (d : Fin 128) :
    k0_pay38 (k0_pay36 Q) (k0_pay37 Q) g (ix3 0 r d) = hd Q g 11 r d := by
  pointwise [k0_pay38, k0_pay37, k0_pay36, hd, rms, named_scale]

/-- The stored queries of head 12. -/
theorem q_piece12 (Q : FVec Ideal S256x2048 .f32) (g : Vec Ideal S1x128 .f32) (r : Fin 256) (d : Fin 128) :
    k0_pay42 (k0_pay40 Q) (k0_pay41 g) (ix3 0 r d) = hd Q g 12 r d := by
  pointwise [k0_pay42, k0_pay40, k0_pay41, hd, rms, named_scale]

/-- The stored queries of head 13. -/
theorem q_piece13 (Q : FVec Ideal S256x2048 .f32) (g : Vec Ideal S1x128 .f32) (r : Fin 256) (d : Fin 128) :
    k0_pay44 Q g (ix3 0 r d) = hd Q g 13 r d := by
  pointwise [k0_pay44, hd, rms, named_scale]

/-- The stored queries of head 14. -/
theorem q_piece14 (Q : FVec Ideal S256x2048 .f32) (g : Vec Ideal S1x128 .f32) (r : Fin 256) (d : Fin 128) :
    k0_pay46 Q g (ix3 0 r d) = hd Q g 14 r d := by
  pointwise [k0_pay46, hd, rms, named_scale]

/-- The stored queries of head 15. -/
theorem q_piece15 (Q : FVec Ideal S256x2048 .f32) (g : Vec Ideal S1x128 .f32) (r : Fin 256) (d : Fin 128) :
    k0_pay48 Q g (ix3 0 r d) = hd Q g 15 r d := by
  pointwise [k0_pay48, hd, rms, named_scale]

/-- The stored indexer queries of head 0. -/
theorem qi_piece0 (C : FVec Ideal S256x896 .bf16) (w : Vec Ideal S1x896x64 .bf16) (r : Fin 256) (d : Fin 64) :
    k0_pay5 C w (ix3 0 r d) = ∑ j : Fin 896, C (ix2 r j) * w (ix3 0 j d) := by
  pointwise [k0_pay5]

/-- The stored indexer queries of head 1. -/
theorem qi_piece1 (C : FVec Ideal S256x896 .bf16) (w : Vec Ideal S1x896x64 .bf16) (r : Fin 256) (d : Fin 64) :
    k0_pay8 (k0_pay7 C w) (ix3 0 r d) = ∑ j : Fin 896, C (ix2 r j) * w (ix3 0 j d) := by
  pointwise [k0_pay8, k0_pay7]

/-- The stored indexer queries of head 2. -/
theorem qi_piece2 (C : FVec Ideal S256x896 .bf16) (w : Vec Ideal S1x896x64 .bf16) (r : Fin 256) (d : Fin 64) :
    k0_pay10 C w (ix3 0 r d) = ∑ j : Fin 896, C (ix2 r j) * w (ix3 0 j d) := by
  pointwise [k0_pay10]

/-- The stored indexer queries of head 3. -/
theorem qi_piece3 (C : FVec Ideal S256x896 .bf16) (w : Vec Ideal S1x896x64 .bf16) (r : Fin 256) (d : Fin 64) :
    k0_pay14 C w (ix3 0 r d) = ∑ j : Fin 896, C (ix2 r j) * w (ix3 0 j d) := by
  pointwise [k0_pay14]

/-- The stored indexer queries of head 4. -/
theorem qi_piece4 (C : FVec Ideal S256x896 .bf16) (w : Vec Ideal S1x896x64 .bf16) (r : Fin 256) (d : Fin 64) :
    k0_pay17 C w (ix3 0 r d) = ∑ j : Fin 896, C (ix2 r j) * w (ix3 0 j d) := by
  pointwise [k0_pay17]

/-- The stored indexer queries of head 5. -/
theorem qi_piece5 (C : FVec Ideal S256x896 .bf16) (w : Vec Ideal S1x896x64 .bf16) (r : Fin 256) (d : Fin 64) :
    k0_pay20 (k0_pay19 C w) (ix3 0 r d) = ∑ j : Fin 896, C (ix2 r j) * w (ix3 0 j d) := by
  pointwise [k0_pay20, k0_pay19]

/-- The stored indexer queries of head 6. -/
theorem qi_piece6 (C : FVec Ideal S256x896 .bf16) (w : Vec Ideal S1x896x64 .bf16) (r : Fin 256) (d : Fin 64) :
    k0_pay22 C w (ix3 0 r d) = ∑ j : Fin 896, C (ix2 r j) * w (ix3 0 j d) := by
  pointwise [k0_pay22]

/-- The stored indexer queries of head 7. -/
theorem qi_piece7 (C : FVec Ideal S256x896 .bf16) (w : Vec Ideal S1x896x64 .bf16) (r : Fin 256) (d : Fin 64) :
    k0_pay26 C w (ix3 0 r d) = ∑ j : Fin 896, C (ix2 r j) * w (ix3 0 j d) := by
  pointwise [k0_pay26]

/-- The stored indexer queries of head 8. -/
theorem qi_piece8 (C : FVec Ideal S256x896 .bf16) (w : Vec Ideal S1x896x64 .bf16) (r : Fin 256) (d : Fin 64) :
    k0_pay30 C w (ix3 0 r d) = ∑ j : Fin 896, C (ix2 r j) * w (ix3 0 j d) := by
  pointwise [k0_pay30]

/-- The stored indexer queries of head 9. -/
theorem qi_piece9 (C : FVec Ideal S256x896 .bf16) (w : Vec Ideal S1x896x64 .bf16) (r : Fin 256) (d : Fin 64) :
    k0_pay33 C (k0_pay32 w) (ix3 0 r d) = ∑ j : Fin 896, C (ix2 r j) * w (ix3 0 j d) := by
  pointwise [k0_pay33, k0_pay32]

/-- The stored indexer queries of head 10. -/
theorem qi_piece10 (C : FVec Ideal S256x896 .bf16) (w : Vec Ideal S1x896x64 .bf16) (r : Fin 256) (d : Fin 64) :
    k0_pay35 C w (ix3 0 r d) = ∑ j : Fin 896, C (ix2 r j) * w (ix3 0 j d) := by
  pointwise [k0_pay35]

/-- The stored indexer queries of head 11. -/
theorem qi_piece11 (C : FVec Ideal S256x896 .bf16) (w : Vec Ideal S1x896x64 .bf16) (r : Fin 256) (d : Fin 64) :
    k0_pay39 C w (ix3 0 r d) = ∑ j : Fin 896, C (ix2 r j) * w (ix3 0 j d) := by
  pointwise [k0_pay39]

/-- The stored indexer queries of head 12. -/
theorem qi_piece12 (C : FVec Ideal S256x896 .bf16) (w : Vec Ideal S1x896x64 .bf16) (r : Fin 256) (d : Fin 64) :
    k0_pay43 C w (ix3 0 r d) = ∑ j : Fin 896, C (ix2 r j) * w (ix3 0 j d) := by
  pointwise [k0_pay43]

/-- The stored indexer queries of head 13. -/
theorem qi_piece13 (C : FVec Ideal S256x896 .bf16) (w : Vec Ideal S1x896x64 .bf16) (r : Fin 256) (d : Fin 64) :
    k0_pay45 C w (ix3 0 r d) = ∑ j : Fin 896, C (ix2 r j) * w (ix3 0 j d) := by
  pointwise [k0_pay45]

/-- The stored indexer queries of head 14. -/
theorem qi_piece14 (C : FVec Ideal S256x896 .bf16) (w : Vec Ideal S1x896x64 .bf16) (r : Fin 256) (d : Fin 64) :
    k0_pay47 C w (ix3 0 r d) = ∑ j : Fin 896, C (ix2 r j) * w (ix3 0 j d) := by
  pointwise [k0_pay47]

/-- The stored indexer queries of head 15. -/
theorem qi_piece15 (C : FVec Ideal S256x896 .bf16) (w : Vec Ideal S1x896x64 .bf16) (r : Fin 256) (d : Fin 64) :
    k0_pay49 C w (ix3 0 r d) = ∑ j : Fin 896, C (ix2 r j) * w (ix3 0 j d) := by
  pointwise [k0_pay49]

end Cert.Kernel5Ideal.Prep

end
-- ==== Proof.PrepOut.lean ====
module

public import proofs.«01_k».proof.Proof.Gen.Kernel5Ideal.Value
public import proofs.«01_k».proof.Proof.Gen.Reference5Ideal.Run
public import proofs.«01_k».proof.Proof.PrepKeys
public import proofs.«01_k».proof.Proof.PrepMath
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel5Ideal.Prep

open Cert.Kernel5Ideal Cert.Kernel5Ideal.Gen

open Cert.Kernel5Ideal.Gen.kernelRun0_A.sl Cert.Reference5Ideal.Prep

/-- A load of a whole window reads the window. -/
theorem ld_all {S : Shape} {e : EltTy} (X : S.Idx → Elt Ideal e) {off : Fin S.rank → Nat} (inb : ∀ a, off a + S.size a ≤ S.size a)
    (h : ∀ a, off a = 0) : View.ld X (Rect.unit off (no_index S.size) inb) = X :=
  View.ld_unit_lit inb X h

/-- Sixteen stores, one per head, each a head of `G`, leave `G`. -/
theorem sixteen (G : S16x256x128.Idx → Elt Ideal .bf16) (i0 i1 i2 i3 i4 i5 i6 i7 i8 i9 i10 i11 i12 i13 i14 i15) (w0 w1 w2 w3 w4 w5 w6 w7 w8 w9 w10 w11 w12 w13 w14 w15 : S1x256x128.Idx → Elt Ideal .bf16)
    (h0 : ∀ x, w0 x = G ((Rect.unit (s := S16x256x128) ![0, 0, 0] S1x256x128.size i0).emb x))
    (h1 : ∀ x, w1 x = G ((Rect.unit (s := S16x256x128) ![1, 0, 0] S1x256x128.size i1).emb x))
    (h2 : ∀ x, w2 x = G ((Rect.unit (s := S16x256x128) ![2, 0, 0] S1x256x128.size i2).emb x))
    (h3 : ∀ x, w3 x = G ((Rect.unit (s := S16x256x128) ![3, 0, 0] S1x256x128.size i3).emb x))
    (h4 : ∀ x, w4 x = G ((Rect.unit (s := S16x256x128) ![4, 0, 0] S1x256x128.size i4).emb x))
    (h5 : ∀ x, w5 x = G ((Rect.unit (s := S16x256x128) ![5, 0, 0] S1x256x128.size i5).emb x))
    (h6 : ∀ x, w6 x = G ((Rect.unit (s := S16x256x128) ![6, 0, 0] S1x256x128.size i6).emb x))
    (h7 : ∀ x, w7 x = G ((Rect.unit (s := S16x256x128) ![7, 0, 0] S1x256x128.size i7).emb x))
    (h8 : ∀ x, w8 x = G ((Rect.unit (s := S16x256x128) ![8, 0, 0] S1x256x128.size i8).emb x))
    (h9 : ∀ x, w9 x = G ((Rect.unit (s := S16x256x128) ![9, 0, 0] S1x256x128.size i9).emb x))
    (h10 : ∀ x, w10 x = G ((Rect.unit (s := S16x256x128) ![10, 0, 0] S1x256x128.size i10).emb x))
    (h11 : ∀ x, w11 x = G ((Rect.unit (s := S16x256x128) ![11, 0, 0] S1x256x128.size i11).emb x))
    (h12 : ∀ x, w12 x = G ((Rect.unit (s := S16x256x128) ![12, 0, 0] S1x256x128.size i12).emb x))
    (h13 : ∀ x, w13 x = G ((Rect.unit (s := S16x256x128) ![13, 0, 0] S1x256x128.size i13).emb x))
    (h14 : ∀ x, w14 x = G ((Rect.unit (s := S16x256x128) ![14, 0, 0] S1x256x128.size i14).emb x))
    (h15 : ∀ x, w15 x = G ((Rect.unit (s := S16x256x128) ![15, 0, 0] S1x256x128.size i15).emb x)) (y : S16x256x128.Idx) :
    View.canon ([⟨(Rect.unit (s := S16x256x128) ![15, 0, 0] S1x256x128.size i15), w15⟩, ⟨(Rect.unit (s := S16x256x128) ![14, 0, 0] S1x256x128.size i14), w14⟩, ⟨(Rect.unit (s := S16x256x128) ![13, 0, 0] S1x256x128.size i13), w13⟩, ⟨(Rect.unit (s := S16x256x128) ![12, 0, 0] S1x256x128.size i12), w12⟩, ⟨(Rect.unit (s := S16x256x128) ![11, 0, 0] S1x256x128.size i11), w11⟩, ⟨(Rect.unit (s := S16x256x128) ![10, 0, 0] S1x256x128.size i10), w10⟩, ⟨(Rect.unit (s := S16x256x128) ![9, 0, 0] S1x256x128.size i9), w9⟩, ⟨(Rect.unit (s := S16x256x128) ![8, 0, 0] S1x256x128.size i8), w8⟩, ⟨(Rect.unit (s := S16x256x128) ![7, 0, 0] S1x256x128.size i7), w7⟩, ⟨(Rect.unit (s := S16x256x128) ![6, 0, 0] S1x256x128.size i6), w6⟩, ⟨(Rect.unit (s := S16x256x128) ![5, 0, 0] S1x256x128.size i5), w5⟩, ⟨(Rect.unit (s := S16x256x128) ![4, 0, 0] S1x256x128.size i4), w4⟩, ⟨(Rect.unit (s := S16x256x128) ![3, 0, 0] S1x256x128.size i3), w3⟩, ⟨(Rect.unit (s := S16x256x128) ![2, 0, 0] S1x256x128.size i2), w2⟩, ⟨(Rect.unit (s := S16x256x128) ![1, 0, 0] S1x256x128.size i1), w1⟩, ⟨(Rect.unit (s := S16x256x128) ![0, 0, 0] S1x256x128.size i0), w0⟩] : List (View.Piece (Elt Ideal) S16x256x128 .bf16)) y = G y :=
  View.canon_append_of_piecesOf G [] [⟨(Rect.unit (s := S16x256x128) ![15, 0, 0] S1x256x128.size i15), w15⟩, ⟨(Rect.unit (s := S16x256x128) ![14, 0, 0] S1x256x128.size i14), w14⟩, ⟨(Rect.unit (s := S16x256x128) ![13, 0, 0] S1x256x128.size i13), w13⟩, ⟨(Rect.unit (s := S16x256x128) ![12, 0, 0] S1x256x128.size i12), w12⟩, ⟨(Rect.unit (s := S16x256x128) ![11, 0, 0] S1x256x128.size i11), w11⟩, ⟨(Rect.unit (s := S16x256x128) ![10, 0, 0] S1x256x128.size i10), w10⟩, ⟨(Rect.unit (s := S16x256x128) ![9, 0, 0] S1x256x128.size i9), w9⟩, ⟨(Rect.unit (s := S16x256x128) ![8, 0, 0] S1x256x128.size i8), w8⟩, ⟨(Rect.unit (s := S16x256x128) ![7, 0, 0] S1x256x128.size i7), w7⟩, ⟨(Rect.unit (s := S16x256x128) ![6, 0, 0] S1x256x128.size i6), w6⟩, ⟨(Rect.unit (s := S16x256x128) ![5, 0, 0] S1x256x128.size i5), w5⟩, ⟨(Rect.unit (s := S16x256x128) ![4, 0, 0] S1x256x128.size i4), w4⟩, ⟨(Rect.unit (s := S16x256x128) ![3, 0, 0] S1x256x128.size i3), w3⟩, ⟨(Rect.unit (s := S16x256x128) ![2, 0, 0] S1x256x128.size i2), w2⟩, ⟨(Rect.unit (s := S16x256x128) ![1, 0, 0] S1x256x128.size i1), w1⟩, ⟨(Rect.unit (s := S16x256x128) ![0, 0, 0] S1x256x128.size i0), w0⟩] ⟨h15, h14, h13, h12, h11, h10, h9, h8, h7, h6, h5, h4, h3, h2, h1, h0, trivial⟩ y
    (View.cover_of_tiledL (s := S16x256x128) _ S1x256x128.size (by sl_kernel_rfl) y)

/-- Sixteen stores, one per index head, each a head of `G`, leave `G`. -/
theorem sixteen64 (G : S16x256x64.Idx → Elt Ideal .bf16) (i0 i1 i2 i3 i4 i5 i6 i7 i8 i9 i10 i11 i12 i13 i14 i15) (w0 w1 w2 w3 w4 w5 w6 w7 w8 w9 w10 w11 w12 w13 w14 w15 : S1x256x64.Idx → Elt Ideal .bf16)
    (h0 : ∀ x, w0 x = G ((Rect.unit (s := S16x256x64) ![0, 0, 0] S1x256x64.size i0).emb x))
    (h1 : ∀ x, w1 x = G ((Rect.unit (s := S16x256x64) ![1, 0, 0] S1x256x64.size i1).emb x))
    (h2 : ∀ x, w2 x = G ((Rect.unit (s := S16x256x64) ![2, 0, 0] S1x256x64.size i2).emb x))
    (h3 : ∀ x, w3 x = G ((Rect.unit (s := S16x256x64) ![3, 0, 0] S1x256x64.size i3).emb x))
    (h4 : ∀ x, w4 x = G ((Rect.unit (s := S16x256x64) ![4, 0, 0] S1x256x64.size i4).emb x))
    (h5 : ∀ x, w5 x = G ((Rect.unit (s := S16x256x64) ![5, 0, 0] S1x256x64.size i5).emb x))
    (h6 : ∀ x, w6 x = G ((Rect.unit (s := S16x256x64) ![6, 0, 0] S1x256x64.size i6).emb x))
    (h7 : ∀ x, w7 x = G ((Rect.unit (s := S16x256x64) ![7, 0, 0] S1x256x64.size i7).emb x))
    (h8 : ∀ x, w8 x = G ((Rect.unit (s := S16x256x64) ![8, 0, 0] S1x256x64.size i8).emb x))
    (h9 : ∀ x, w9 x = G ((Rect.unit (s := S16x256x64) ![9, 0, 0] S1x256x64.size i9).emb x))
    (h10 : ∀ x, w10 x = G ((Rect.unit (s := S16x256x64) ![10, 0, 0] S1x256x64.size i10).emb x))
    (h11 : ∀ x, w11 x = G ((Rect.unit (s := S16x256x64) ![11, 0, 0] S1x256x64.size i11).emb x))
    (h12 : ∀ x, w12 x = G ((Rect.unit (s := S16x256x64) ![12, 0, 0] S1x256x64.size i12).emb x))
    (h13 : ∀ x, w13 x = G ((Rect.unit (s := S16x256x64) ![13, 0, 0] S1x256x64.size i13).emb x))
    (h14 : ∀ x, w14 x = G ((Rect.unit (s := S16x256x64) ![14, 0, 0] S1x256x64.size i14).emb x))
    (h15 : ∀ x, w15 x = G ((Rect.unit (s := S16x256x64) ![15, 0, 0] S1x256x64.size i15).emb x)) (y : S16x256x64.Idx) :
    View.canon ([⟨(Rect.unit (s := S16x256x64) ![15, 0, 0] S1x256x64.size i15), w15⟩, ⟨(Rect.unit (s := S16x256x64) ![14, 0, 0] S1x256x64.size i14), w14⟩, ⟨(Rect.unit (s := S16x256x64) ![13, 0, 0] S1x256x64.size i13), w13⟩, ⟨(Rect.unit (s := S16x256x64) ![12, 0, 0] S1x256x64.size i12), w12⟩, ⟨(Rect.unit (s := S16x256x64) ![11, 0, 0] S1x256x64.size i11), w11⟩, ⟨(Rect.unit (s := S16x256x64) ![10, 0, 0] S1x256x64.size i10), w10⟩, ⟨(Rect.unit (s := S16x256x64) ![9, 0, 0] S1x256x64.size i9), w9⟩, ⟨(Rect.unit (s := S16x256x64) ![8, 0, 0] S1x256x64.size i8), w8⟩, ⟨(Rect.unit (s := S16x256x64) ![7, 0, 0] S1x256x64.size i7), w7⟩, ⟨(Rect.unit (s := S16x256x64) ![6, 0, 0] S1x256x64.size i6), w6⟩, ⟨(Rect.unit (s := S16x256x64) ![5, 0, 0] S1x256x64.size i5), w5⟩, ⟨(Rect.unit (s := S16x256x64) ![4, 0, 0] S1x256x64.size i4), w4⟩, ⟨(Rect.unit (s := S16x256x64) ![3, 0, 0] S1x256x64.size i3), w3⟩, ⟨(Rect.unit (s := S16x256x64) ![2, 0, 0] S1x256x64.size i2), w2⟩, ⟨(Rect.unit (s := S16x256x64) ![1, 0, 0] S1x256x64.size i1), w1⟩, ⟨(Rect.unit (s := S16x256x64) ![0, 0, 0] S1x256x64.size i0), w0⟩] : List (View.Piece (Elt Ideal) S16x256x64 .bf16)) y = G y :=
  View.canon_append_of_piecesOf G [] [⟨(Rect.unit (s := S16x256x64) ![15, 0, 0] S1x256x64.size i15), w15⟩, ⟨(Rect.unit (s := S16x256x64) ![14, 0, 0] S1x256x64.size i14), w14⟩, ⟨(Rect.unit (s := S16x256x64) ![13, 0, 0] S1x256x64.size i13), w13⟩, ⟨(Rect.unit (s := S16x256x64) ![12, 0, 0] S1x256x64.size i12), w12⟩, ⟨(Rect.unit (s := S16x256x64) ![11, 0, 0] S1x256x64.size i11), w11⟩, ⟨(Rect.unit (s := S16x256x64) ![10, 0, 0] S1x256x64.size i10), w10⟩, ⟨(Rect.unit (s := S16x256x64) ![9, 0, 0] S1x256x64.size i9), w9⟩, ⟨(Rect.unit (s := S16x256x64) ![8, 0, 0] S1x256x64.size i8), w8⟩, ⟨(Rect.unit (s := S16x256x64) ![7, 0, 0] S1x256x64.size i7), w7⟩, ⟨(Rect.unit (s := S16x256x64) ![6, 0, 0] S1x256x64.size i6), w6⟩, ⟨(Rect.unit (s := S16x256x64) ![5, 0, 0] S1x256x64.size i5), w5⟩, ⟨(Rect.unit (s := S16x256x64) ![4, 0, 0] S1x256x64.size i4), w4⟩, ⟨(Rect.unit (s := S16x256x64) ![3, 0, 0] S1x256x64.size i3), w3⟩, ⟨(Rect.unit (s := S16x256x64) ![2, 0, 0] S1x256x64.size i2), w2⟩, ⟨(Rect.unit (s := S16x256x64) ![1, 0, 0] S1x256x64.size i1), w1⟩, ⟨(Rect.unit (s := S16x256x64) ![0, 0, 0] S1x256x64.size i0), w0⟩] ⟨h15, h14, h13, h12, h11, h10, h9, h8, h7, h6, h5, h4, h3, h2, h1, h0, trivial⟩ y
    (View.cover_of_tiledL (s := S16x256x64) _ S1x256x64.size (by sl_kernel_rfl) y)

/-- The queries of a block, every head. -/
def qG (Q : FVec Ideal S256x2048 .f32) (g : Vec Ideal S1x128 .f32) (y : S16x256x128.Idx) : Ideal .bf16 := hd Q g (y 0) (y 1) (y 2)

/-- The index queries of a block, every head. -/
def qiG (C : FVec Ideal S256x896 .bf16) (W : Vec Ideal S16x896x64 .bf16) (y : S16x256x64.Idx) : Ideal .bf16 :=
  ∑ j : Fin 896, C (ix2 (y 1 : Fin 256) j) * W (ix3 (y 0 : Fin 16) j (y 2 : Fin 64))

variable (c : Dev nD) (i : grid0.Coords) (arg1 : Memref sig .tc .vmem S256x896 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x128 .f32) (harg4 : arg4.IsWhole) (arg5 : Memref sig .tc .vmem S1x896 .f32) (harg5 : arg5.IsWhole) (arg6 : Memref sig .tc .vmem S896x2048 .bf16) (harg6 : arg6.IsWhole) (arg7 : Memref sig .tc .vmem S16x896x64 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x256x128 .bf16) (harg12 : arg12.IsWhole) (arg13 : Memref sig .tc .vmem S16x256x64 .bf16) (harg13 : arg13.IsWhole) (arg14 : Memref sig .tc .vmem S256x128 .f32) (harg14 : arg14.IsWhole) (arg15 : Memref sig .tc .vmem S512x256 .bf16) (harg15 : arg15.IsWhole) (arg16 : Memref sig .tc .vmem S256x512 .bf16) (harg16 : arg16.IsWhole) (arg17 : Memref sig .tc .vmem S64x256 .bf16) (harg17 : arg17.IsWhole) (arg18 : Memref sig .tc .vmem S8x256 .f32) (harg18 : arg18.IsWhole) (x0 : Vec Ideal S256x896 .f32) (x1 : Vec Ideal S256x512 .f32) (x2 : Vec Ideal S256x512 .f32) (x3 : Vec Ideal S256x128 .f32) (x4 : Vec Ideal S1x896 .f32) (x5 : Vec Ideal S896x2048 .bf16) (x6 : Vec Ideal S16x896x64 .bf16) (x7 : Vec Ideal S1x128 .f32) (x8 : Vec Ideal S1x128 .f32) (x9 : Vec Ideal S1x128 .f32) (x10 : Vec Ideal S1x128 .f32)

/-- The block of index weights. -/
theorem out13 (r : Fin 256) (j : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 r j) = x3 (ix2 r j) * Ideal.ofBits FTy.f32 1023410176#32 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  rw [View.canon_cons_unit_lit _ _ _ (by decide)]
  simp only [r_19, View.readAt_eq_ld, Memref.IsWhole.read_unread]
  rw [ld_all _ _ (by decide)]
  pointwise [k0_pay58]

/-- The block of values. -/
theorem out15 (r : Fin 256) (j : Fin 512) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 r j) = x2 (ix2 r j) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  rw [View.canon_cons_unit_lit _ _ _ (by decide)]
  simp only [v552, View.readAt_eq_ld, Memref.IsWhole.read_unread]
  rw [ld_all _ _ (by decide)]
  pointwise [k0_pay57]

/-- The block of index keys, transposed. -/
theorem out16 (d : Fin 64) (s : Fin 256) (x : Fin 64 → Ideal .f32) (hx : ∀ i : Fin 64, x3 (ix2 s ⟨i.val, by omega⟩) = x i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 d s)
      = (x d - mean x) * Ideal.rsqrt (mean (fun i => (x i - mean x) * (x i - mean x)) + Ideal.ofBits FTy.f32 897988541#32) * x9 (ix2 0 ⟨d.val, by omega⟩)
        + x10 (ix2 0 ⟨d.val, by omega⟩) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  rw [View.canon_cons_unit_lit _ _ _ (by decide)]
  simp only [r_19, r_20, View.readAt_eq_ld, Memref.IsWhole.read_unread]
  rw [ld_all x3 _ (by decide), ld_all x9 _ (by decide), ld_all x10 _ (by decide)]
  exact ki_blk _ _ _ d s x hx

/-- The block of keys, transposed: the rows of each head. -/
theorem out14 (h : Fin 4) (d : Fin 128) (s : Fin 256) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 ⟨h.val * 128 + d.val, by omega⟩ s)
      = rms (Ideal.ofBits FTy.f32 1124073472#32) (fun d : Fin 128 => x1 (ix2 s ⟨h.val * 128 + d.val, by omega⟩)) (fun d => x8 (ix2 0 d)) d := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  rw [View.canon_cons_unit_lit _ _ _ (by decide)]
  refine (kt_blk _ _ _ _ _ h d s).trans ?_
  fin_cases h
  · refine (k_head0 _ _ s d).trans ?_
    simp only [kn, r_12, r_13, r_14, r_15, r_16, r_17, r_18, View.readAt_eq_ld, Memref.IsWhole.read_unread]
    rw [ld_all x8 _ (by decide)]
    refine congrArg (fun f => rms _ f _ d) (funext fun d => ?_)
    exact View.ld_unit_apply_of _ _ _ _ _ _ fun a => by fin_cases a <;> simp
  · refine (k_head1 _ _ s d).trans ?_
    simp only [kn, r_12, r_13, r_14, r_15, r_16, r_17, r_18, View.readAt_eq_ld, Memref.IsWhole.read_unread]
    rw [ld_all x8 _ (by decide)]
    refine congrArg (fun f => rms _ f _ d) (funext fun d => ?_)
    exact View.ld_unit_apply_of _ _ _ _ _ _ fun a => by fin_cases a <;> simp
  · refine (k_head2 _ _ s d).trans ?_
    simp only [kn, r_12, r_13, r_14, r_15, r_16, r_17, r_18, View.readAt_eq_ld, Memref.IsWhole.read_unread]
    rw [ld_all x8 _ (by decide)]
    refine congrArg (fun f => rms _ f _ d) (funext fun d => ?_)
    exact View.ld_unit_apply_of _ _ _ _ _ _ fun a => by fin_cases a <;> simp
  · simp only [kn, r_12, r_13, r_14, r_15, r_16, r_17, r_18, View.readAt_eq_ld, Memref.IsWhole.read_unread]
    rw [ld_all x8 _ (by decide)]
    refine congrArg (fun f => rms _ f _ d) (funext fun d => ?_)
    exact View.ld_unit_apply_of _ _ _ _ _ _ fun a => by fin_cases a <;> simp

/-- The block of the keys' square norms: four rows of them and four of zeros. -/
theorem out17 (h : Fin 8) (s : Fin 256) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 h s)
      = if p : h.val < 4 then ∑ d : Fin 128, out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 ⟨h.val * 128 + d.val, by omega⟩ s) * out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix2 ⟨h.val * 128 + d.val, by omega⟩ s) else 0 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  rw [View.canon_cons_unit_lit _ _ _ (by decide), View.canon_cons_unit_lit _ _ _ (by decide)]
  exact kn2_blk _ _ _ _ _ h s

/-- The head a store wrote, read at an index of the store. -/
theorem piece_q (Q : FVec Ideal S256x2048 .f32) (g : Vec Ideal S1x128 .f32) (k : Nat) (hk : k < 16) (inb) (w : S1x256x128.Idx → Elt Ideal .bf16)
    (hw : ∀ (s : Fin 256) (d : Fin 128), w (ix3 0 s d) = hd Q g ⟨k, hk⟩ s d) (x : S1x256x128.Idx) :
    w x = qG Q g ((Rect.unit (s := S16x256x128) ![k, 0, 0] S1x256x128.size inb).emb x) := by
  obtain ⟨z, s, d, rfl⟩ : ∃ (z : Fin 1) (s : Fin 256) (d : Fin 128), x = ix3 z s d := ⟨x 0, x 1, x 2, by funext a; fin_cases a <;> rfl⟩
  obtain rfl : z = 0 := Subsingleton.elim _ _
  refine (hw s d).trans ?_
  have e0 : (Rect.unit (s := S16x256x128) ![k, 0, 0] S1x256x128.size inb).emb (ix3 0 s d) = ix3 (⟨k, hk⟩ : Fin 16) s d := by
    funext a; refine Fin.ext ((Rect.idx_unit_val _ _ _ _ a).trans ?_); fin_cases a <;> simp
  rw [e0]
  rfl

/-- The index head a store wrote, read at an index of the store. -/
theorem piece_qi (C : FVec Ideal S256x896 .bf16) (W : Vec Ideal S16x896x64 .bf16) (k : Nat) (hk : k < 16) (inb) (inb') (w : S1x256x64.Idx → Elt Ideal .bf16)
    (hw : ∀ (s : Fin 256) (d : Fin 64), w (ix3 0 s d) = ∑ j : Fin 896, C (ix2 s j) * View.ld W (Rect.unit (s := S16x896x64) ![k, 0, 0] S1x896x64.size inb') (ix3 0 j d)) (x : S1x256x64.Idx) :
    w x = qiG C W ((Rect.unit (s := S16x256x64) ![k, 0, 0] S1x256x64.size inb).emb x) := by
  obtain ⟨z, s, d, rfl⟩ : ∃ (z : Fin 1) (s : Fin 256) (d : Fin 64), x = ix3 z s d := ⟨x 0, x 1, x 2, by funext a; fin_cases a <;> rfl⟩
  obtain rfl : z = 0 := Subsingleton.elim _ _
  refine (hw s d).trans ?_
  have e0 : (Rect.unit (s := S16x256x64) ![k, 0, 0] S1x256x64.size inb).emb (ix3 0 s d) = ix3 (⟨k, hk⟩ : Fin 16) s d := by
    funext a; refine Fin.ext ((Rect.idx_unit_val _ _ _ _ a).trans ?_); fin_cases a <;> simp
  rw [e0]
  show _ = ∑ j : Fin 896, C (ix2 s j) * W (ix3 ⟨k, hk⟩ j d)
  refine Finset.sum_congr rfl fun j _ => congrArg (C (ix2 s j) * ·) ?_
  exact View.ld_unit_apply_of _ _ _ _ _ _ fun a => by fin_cases a <;> simp

/-- The block of queries, every head. -/
theorem out11 (y : S16x256x128.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = qG (k0_pay3 x0 x4 x5) x7 y := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  simp only [r, r_1, r_2, r_3, r_4, r_5, r_6, r_7, r_8, r_9, r_10, r_11, r_12, r_13, r_14, r_15, r_16, r_17, r_18, r_19, r_20, View.readAt_eq_ld, Memref.IsWhole.read_unread]
  rw [ld_all x0 _ (by decide), ld_all x4 _ (by decide), ld_all x5 _ (by decide), ld_all x7 _ (by decide)]
  refine sixteen (qG (k0_pay3 x0 x4 x5) x7)  _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ y
  · exact piece_q _ _ 0 (by decide) _ _ fun s d => q_piece0 _ _ _ _ s d
  · exact piece_q _ _ 1 (by decide) _ _ fun s d => q_piece1 _ _ s d
  · exact piece_q _ _ 2 (by decide) _ _ fun s d => q_piece2 _ _ s d
  · exact piece_q _ _ 3 (by decide) _ _ fun s d => q_piece3 _ _ s d
  · exact piece_q _ _ 4 (by decide) _ _ fun s d => q_piece4 _ _ s d
  · exact piece_q _ _ 5 (by decide) _ _ fun s d => q_piece5 _ _ s d
  · exact piece_q _ _ 6 (by decide) _ _ fun s d => q_piece6 _ _ s d
  · exact piece_q _ _ 7 (by decide) _ _ fun s d => q_piece7 _ _ s d
  · exact piece_q _ _ 8 (by decide) _ _ fun s d => q_piece8 _ _ s d
  · exact piece_q _ _ 9 (by decide) _ _ fun s d => q_piece9 _ _ s d
  · exact piece_q _ _ 10 (by decide) _ _ fun s d => q_piece10 _ _ s d
  · exact piece_q _ _ 11 (by decide) _ _ fun s d => q_piece11 _ _ s d
  · exact piece_q _ _ 12 (by decide) _ _ fun s d => q_piece12 _ _ s d
  · exact piece_q _ _ 13 (by decide) _ _ fun s d => q_piece13 _ _ s d
  · exact piece_q _ _ 14 (by decide) _ _ fun s d => q_piece14 _ _ s d
  · exact piece_q _ _ 15 (by decide) _ _ fun s d => q_piece15 _ _ s d

/-- The block of index queries, every head. -/
theorem out12 (y : S16x256x64.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = qiG (k0_pay2 x0 x4) x6 y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  simp only [r, r_1, r_2, r_3, r_4, r_5, r_6, r_7, r_8, r_9, r_10, r_11, r_12, r_13, r_14, r_15, r_16, r_17, r_18, r_19, r_20, View.readAt_eq_ld, Memref.IsWhole.read_unread]
  rw [ld_all x0 _ (by decide), ld_all x4 _ (by decide)]
  refine sixteen64 (qiG (k0_pay2 x0 x4) x6)  _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ y
  · exact piece_qi _ _ 0 (by decide) _ _ _ fun s d => qi_piece0 _ _ s d
  · exact piece_qi _ _ 1 (by decide) _ _ _ fun s d => qi_piece1 _ _ s d
  · exact piece_qi _ _ 2 (by decide) _ _ _ fun s d => qi_piece2 _ _ s d
  · exact piece_qi _ _ 3 (by decide) _ _ _ fun s d => qi_piece3 _ _ s d
  · exact piece_qi _ _ 4 (by decide) _ _ _ fun s d => qi_piece4 _ _ s d
  · exact piece_qi _ _ 5 (by decide) _ _ _ fun s d => qi_piece5 _ _ s d
  · exact piece_qi _ _ 6 (by decide) _ _ _ fun s d => qi_piece6 _ _ s d
  · exact piece_qi _ _ 7 (by decide) _ _ _ fun s d => qi_piece7 _ _ s d
  · exact piece_qi _ _ 8 (by decide) _ _ _ fun s d => qi_piece8 _ _ s d
  · exact piece_qi _ _ 9 (by decide) _ _ _ fun s d => qi_piece9 _ _ s d
  · exact piece_qi _ _ 10 (by decide) _ _ _ fun s d => qi_piece10 _ _ s d
  · exact piece_qi _ _ 11 (by decide) _ _ _ fun s d => qi_piece11 _ _ s d
  · exact piece_qi _ _ 12 (by decide) _ _ _ fun s d => qi_piece12 _ _ s d
  · exact piece_qi _ _ 13 (by decide) _ _ _ fun s d => qi_piece13 _ _ s d
  · exact piece_qi _ _ 14 (by decide) _ _ _ fun s d => qi_piece14 _ _ s d
  · exact piece_qi _ _ 15 (by decide) _ _ _ fun s d => qi_piece15 _ _ s d

end Cert.Kernel5Ideal.Prep

end
-- ==== Proof.PrepIn.lean ====
module

public import proofs.«01_k».proof.Proof.PrepOut
public import Idealize.ShloMosaic.Lib.Routing.OpsSet

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel5Ideal.Prep

open Cert.Kernel5Ideal Cert.Kernel5Ideal.Gen

variable (m : (ℓ : Loc nD τ sig) → Buf (Elt Ideal) ℓ) (c : Dev nD)

/-- Grid point `t` reads row block `t` of the projection at four column blocks and the small arrays whole, and writes row or column block `t`. -/
theorem idx : ∀ t : Fin cfg0.N, win0_0.index t = ![t.val, 0] ∧ win0_1.index t = ![t.val, 18] ∧ win0_2.index t = ![t.val, 19]
    ∧ win0_3.index t = ![t.val, 7] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, t.val, 0] ∧ win0_12.index t = ![0, t.val, 0] ∧ win0_13.index t = ![t.val, 0]
    ∧ win0_14.index t = ![0, t.val] ∧ win0_15.index t = ![t.val, 0] ∧ win0_16.index t = ![0, t.val] ∧ win0_17.index t = ![0, t.val] :=
  (by decide +kernel : ∀ t : Fin grid0.N, _)

/-- Row `r` of row block `t`. -/
abbrev at_ (t : Fin cfg0.N) (r : Fin 256) : Fin 16384 := ⟨t.val * 256 + r.val, by have := lt_of_lt_of_eq t.isLt (show cfg0.N = 64 from N_0); omega⟩

/-- The latent's columns of the projection. -/
theorem in0 (t : Fin cfg0.N) (r : Fin 256) (j : Fin 896) : (X0_0 m c t : Vec Ideal S256x896 .f32) (ix2 r j)
    = (m ((c : Thread nD τ).loc main_arg0) : Vec Ideal S16384x12288 .f32) (ix2 (at_ t r) ⟨j.val, by omega⟩) := by
  unfold X0_0 Pipeline.Window.fill
  rw [dif_pos (moved0_0 t (ix2 r j))]
  blk_point [iblk, V, idx t]

/-- The keys' columns. -/
theorem in1 (t : Fin cfg0.N) (r : Fin 256) (j : Fin 512) : (iblk m c 1 t : Vec Ideal S256x512 .f32) (ix2 r j)
    = (m ((c : Thread nD τ).loc main_arg0) : Vec Ideal S16384x12288 .f32) (ix2 (at_ t r) ⟨9216 + j.val, by omega⟩) := by
  blk_point [iblk, V, idx t]

/-- The values' columns. -/
theorem in2 (t : Fin cfg0.N) (r : Fin 256) (j : Fin 512) : (iblk m c 2 t : Vec Ideal S256x512 .f32) (ix2 r j)
    = (m ((c : Thread nD τ).loc main_arg0) : Vec Ideal S16384x12288 .f32) (ix2 (at_ t r) ⟨9728 + j.val, by omega⟩) := by
  blk_point [iblk, V, idx t]

/-- The indexer's columns. -/
theorem in3 (t : Fin cfg0.N) (r : Fin 256) (j : Fin 128) : (iblk m c 3 t : Vec Ideal S256x128 .f32) (ix2 r j)
    = (m ((c : Thread nD τ).loc main_arg0) : Vec Ideal S16384x12288 .f32) (ix2 (at_ t r) ⟨896 + j.val, by omega⟩) := by
  blk_point [iblk, V, idx t]

/-- The latent's norm weights, as a row. -/
theorem host3 : @Eq (FVec Ideal S1x896 .f32) (V m c main_v3) (shapeCast S1x896 (m ((c : Thread nD τ).loc main_arg1) : Vec Ideal S896 .f32) shapeCasts_S896_S1x896) := by
  simp only [V, hostOps0]
  after_reads_simp
  rfl

/-- The query weights. -/
theorem host4 : @Eq (FVec Ideal S896x2048 .bf16) (V m c main_v4) (truncf .bf16 (m ((c : Thread nD τ).loc main_arg2) : Vec Ideal S896x2048 .f32) bitsLt_bf16_f32) := by
  simp only [V, hostOps0]
  after_reads_simp

/-- The index query weights, head by head. -/
theorem host2 : @Eq (FVec Ideal S16x896x64 .bf16) (V m c main_v2) (truncf .bf16 (transpose S16x896x64 [1, 0, 2] (shapeCast S896x16x64 (m ((c : Thread nD τ).loc main_arg3) : Vec Ideal S896x1024 .f32) shapeCasts_S896x1024_S896x16x64) transposes_S896x16x64_S16x896x64_1_0_2) bitsLt_bf16_f32) := by
  simp only [V, hostOps0]
  after_reads_simp
  rfl

/-- The queries' norm weights, as a row. -/
theorem host5 : @Eq (FVec Ideal S1x128 .f32) (V m c main_v5) (shapeCast S1x128 (m ((c : Thread nD τ).loc main_arg4) : Vec Ideal S128 .f32) shapeCasts_S128_S1x128) := by
  simp only [V, hostOps0]
  after_reads_simp
  rfl

/-- The keys' norm weights, as a row. -/
theorem host6 : @Eq (FVec Ideal S1x128 .f32) (V m c main_v6) (shapeCast S1x128 (m ((c : Thread nD τ).loc main_arg5) : Vec Ideal S128 .f32) shapeCasts_S128_S1x128) := by
  simp only [V, hostOps0]
  after_reads_simp
  rfl

/-- Sixty-four weights written over the head of 128 zeros. -/
def wide (x : FVec Ideal S64 .f32) : FVec Ideal S1x128 .f32 :=
  shapeCast S1x128 (Host.scatter scatter_S128_S1_S64_0_n_0_0 (fun _ b => b) (broadcastInDim S128 ![] bcast_S_S128 (constant (F := Ideal) S_ .f32 0x00000000#32))
    (broadcastInDim S1 ![] bcast_S_S1 (constantI S_ 32 0#32)) x) shapeCasts_S128_S1x128

/-- The index keys' scale, widened. -/
theorem host10 : @Eq (FVec Ideal S1x128 .f32) (V m c main_v10) (wide (m ((c : Thread nD τ).loc main_arg6))) := by
  simp only [V, hostOps0]
  after_reads_simp
  rfl

/-- The index keys' shift, widened. -/
theorem host14 : @Eq (FVec Ideal S1x128 .f32) (V m c main_v14) (wide (m ((c : Thread nD τ).loc main_arg7))) := by
  simp only [V, hostOps0]
  after_reads_simp
  rfl

/-- Weight `j` is written at place `j`. -/
theorem lands : ∀ j : Fin 64, scatter_S128_S1_S64_0_n_0_0.resultIdx? (ix1 j) (broadcastInDim S1 ![] bcast_S_S1 (constantI S_ 32 0#32))
    = some (ix1 (⟨j.val, by omega⟩ : Fin 128)) := by
  decide +kernel

/-- The first sixty-four entries of the widened row are the weights. -/
theorem wide_at (x : FVec Ideal S64 .f32) (j : Fin 64) : wide x (ix2 0 ⟨j.val, by omega⟩) = x (ix1 j) := by
  have h := Routing.scatter_set_hit scatter_S128_S1_S64_0_n_0_0 (broadcastInDim S128 ![] bcast_S_S128 (constant (F := Ideal) S_ .f32 0x00000000#32))
    (broadcastInDim S1 ![] bcast_S_S1 (constantI S_ 32 0#32)) x (ix1 (⟨j.val, by omega⟩ : Fin 128)) (x (ix1 j)) (fun k hk => by
      obtain ⟨i, rfl⟩ : ∃ i : Fin 64, k = ix1 i := ⟨k 0, by funext a; fin_cases a; rfl⟩
      rw [lands i] at hk
      have e : (⟨i.val, by omega⟩ : Fin 128) = ⟨j.val, by omega⟩ := congrFun (Option.some.inj hk) 0
      have e' : i = j := Fin.ext (by have h' := congrArg Fin.val e; exact h')
      rw [e']) (ix1 j) (lands j)
  rw [← h]
  unfold wide
  generalize Host.scatter scatter_S128_S1_S64_0_n_0_0 _ _ _ _ = y
  pointwise

/-- The latent's norm weights. -/
theorem in4 (t : Fin cfg0.N) (j : Fin 896) : (iblk m c 4 t : Vec Ideal S1x896 .f32) (ix2 0 j) = (m ((c : Thread nD τ).loc main_arg1) : Vec Ideal S896 .f32) (ix1 j) := by
  have e : (iblk m c 4 t : Vec Ideal S1x896 .f32) (ix2 0 j) = (V m c main_v3 : Vec Ideal S1x896 .f32) (ix2 0 j) := by
    blk_point [iblk, idx t]
  rw [e, host3]
  generalize m ((c : Thread nD τ).loc main_arg1) = x
  pointwise

/-- The query weights. -/
theorem in5 (t : Fin cfg0.N) (j : Fin 896) (n : Fin 2048) : (iblk m c 5 t : Vec Ideal S896x2048 .bf16) (ix2 j n) = (m ((c : Thread nD τ).loc main_arg2) : Vec Ideal S896x2048 .f32) (ix2 j n) := by
  have e : (iblk m c 5 t : Vec Ideal S896x2048 .bf16) (ix2 j n) = (V m c main_v4 : Vec Ideal S896x2048 .bf16) (ix2 j n) := by
    blk_point [iblk, idx t]
  rw [e, host4]
  rfl

/-- The index query weights. -/
theorem in6 (t : Fin cfg0.N) (h : Fin 16) (j : Fin 896) (d : Fin 64) : (iblk m c 6 t : Vec Ideal S16x896x64 .bf16) (ix3 h j d) = (m ((c : Thread nD τ).loc main_arg3) : Vec Ideal S896x1024 .f32) (ix2 j ⟨h.val * 64 + d.val, by omega⟩) := by
  have e : (iblk m c 6 t : Vec Ideal S16x896x64 .bf16) (ix3 h j d) = (V m c main_v2 : Vec Ideal S16x896x64 .bf16) (ix3 h j d) := by
    blk_point [iblk, idx t]
  rw [e, host2]
  generalize m ((c : Thread nD τ).loc main_arg3) = x
  pointwise

/-- The queries' norm weights. -/
theorem in7 (t : Fin cfg0.N) (j : Fin 128) : (iblk m c 7 t : Vec Ideal S1x128 .f32) (ix2 0 j) = (m ((c : Thread nD τ).loc main_arg4) : Vec Ideal S128 .f32) (ix1 j) := by
  have e : (iblk m c 7 t : Vec Ideal S1x128 .f32) (ix2 0 j) = (V m c main_v5 : Vec Ideal S1x128 .f32) (ix2 0 j) := by
    blk_point [iblk, idx t]
  rw [e, host5]
  generalize m ((c : Thread nD τ).loc main_arg4) = x
  pointwise

/-- The keys' norm weights. -/
theorem in8 (t : Fin cfg0.N) (j : Fin 128) : (iblk m c 8 t : Vec Ideal S1x128 .f32) (ix2 0 j) = (m ((c : Thread nD τ).loc main_arg5) : Vec Ideal S128 .f32) (ix1 j) := by
  have e : (iblk m c 8 t : Vec Ideal S1x128 .f32) (ix2 0 j) = (V m c main_v6 : Vec Ideal S1x128 .f32) (ix2 0 j) := by
    blk_point [iblk, idx t]
  rw [e, host6]
  generalize m ((c : Thread nD τ).loc main_arg5) = x
  pointwise

/-- The index keys' scale. -/
theorem in9 (t : Fin cfg0.N) (j : Fin 64) : (iblk m c 9 t : Vec Ideal S1x128 .f32) (ix2 0 ⟨j.val, by omega⟩) = (m ((c : Thread nD τ).loc main_arg6) : Vec Ideal S64 .f32) (ix1 j) := by
  have e : (iblk m c 9 t : Vec Ideal S1x128 .f32) (ix2 0 ⟨j.val, by omega⟩) = (V m c main_v10 : Vec Ideal S1x128 .f32) (ix2 0 ⟨j.val, by omega⟩) := by
    blk_point [iblk, idx t]
  rw [e, host10]
  exact wide_at _ j

/-- The index keys' shift. -/
theorem in10 (t : Fin cfg0.N) (j : Fin 64) : (iblk m c 10 t : Vec Ideal S1x128 .f32) (ix2 0 ⟨j.val, by omega⟩) = (m ((c : Thread nD τ).loc main_arg7) : Vec Ideal S64 .f32) (ix1 j) := by
  have e : (iblk m c 10 t : Vec Ideal S1x128 .f32) (ix2 0 ⟨j.val, by omega⟩) = (V m c main_v14 : Vec Ideal S1x128 .f32) (ix2 0 ⟨j.val, by omega⟩) := by
    blk_point [iblk, idx t]
  rw [e, host14]
  exact wide_at _ j

end Cert.Kernel5Ideal.Prep

end
-- ==== Proof.PrepRun.lean ====
module

public import proofs.«01_k».proof.Proof.PrepIn

@[expose] public section

set_option maxRecDepth 16384

noncomputable section

open Idealize.ShloMosaic Idealize.ShloMosaic.TcCoe Idealize.SL.Sem Cert.Reference5Ideal.Prep
open Idealize.ShloMosaic.Pipeline (Dat)

namespace Cert.Kernel5Ideal.Prep

open Cert.Kernel5Ideal Cert.Kernel5Ideal.Gen

variable (m : (ℓ : Loc nD τ sig) → Buf (Elt Ideal) ℓ) (c : Dev nD)

/-- The normalized latent of a block is the specification's. -/
theorem lat_blk (t : Fin cfg0.N) (r : Fin 256) (j : Fin 896) :
    k0_pay2 (X0_0 m c t) (iblk m c 4 t) (ix2 r j) = lat (m ((c : Thread nD τ).loc main_arg0)) (m ((c : Thread nD τ).loc main_arg1)) (at_ t r) j := by
  refine (cq_blk _ _ r j).trans ?_
  unfold lat
  refine congrArg₂ (fun f g => rms _ f g j) (funext fun i => ?_) (funext fun i => in4 m c t i)
  exact (in0 m c t r i).trans (congrArg _ (congrArg (ix2 _) (Fin.ext (by simp))))

/-- The query projection of a block is the specification's. -/
theorem qry_blk (t : Fin cfg0.N) (h : Fin 16) (r : Fin 256) (d : Fin 128) :
    k0_pay3 (X0_0 m c t) (iblk m c 4 t) (iblk m c 5 t) (ix2 r ⟨h.val * 128 + d.val, by omega⟩)
      = qry (m ((c : Thread nD τ).loc main_arg0)) (m ((c : Thread nD τ).loc main_arg1)) (m ((c : Thread nD τ).loc main_arg2)) (at_ t r) h d := by
  refine (qf_blk _ _ _ r _).trans ?_
  unfold qry
  exact Finset.sum_congr rfl fun j _ => congrArg₂ (· * ·) (lat_blk m c t r j) (in5 m c t j _)

/-- The keys of a block are the specification's. -/
theorem key_blk (t : Fin cfg0.N) (g : Fin 4) (r : Fin 256) (d : Fin 128) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) (ix2 ⟨g.val * 128 + d.val, by omega⟩ r)
      = key (m ((c : Thread nD τ).loc main_arg0)) (m ((c : Thread nD τ).loc main_arg5)) (at_ t r) g d := by
  rw [out14]
  unfold key
  exact congrArg₂ (fun f g => rms _ f g d) (funext fun j => in1 m c t r _) (funext fun j => in8 m c t j)

/-- A block of the queries at its place in the array. -/
theorem point11 (t : Fin cfg0.N) (y : S16x256x128.Idx) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.q (m ((c : Thread nD τ).loc main_arg0)) (m ((c : Thread nD τ).loc main_arg1)) (m ((c : Thread nD τ).loc main_arg2)) (m ((c : Thread nD τ).loc main_arg4)) ((win0_11.blk t).view.emb y) := by
  obtain ⟨h, r, d, rfl⟩ : ∃ (h : Fin 16) (r : Fin 256) (d : Fin 128), y = ix3 h r d := ⟨y 0, y 1, y 2, by funext a; fin_cases a <;> rfl⟩
  have e : ((win0_11.blk t).view.emb (ix3 h r d)) = ix3 h (at_ t r) d := by
    funext a; refine Fin.ext ?_; fin_cases a <;> blk_simp [idx t] <;> rfl
  rw [e, q_at, out11]
  show rms _ _ _ d * _ = _
  refine congrArg (· * Cert.Reference5Ideal.Prep.scale) (congrArg₂ (fun f g => rms _ f g d) (funext fun j => ?_) (funext fun j => in7 m c t j))
  exact qry_blk m c t h r j

/-- The queries after the run. -/
theorem final11 : (dats m 0 c).arrAt 11 (cfgs 0).N
    = Cert.Reference5Ideal.Prep.q (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  simp only [outsAt0]
  exact point11 m c t y

/-- A block of the index queries at its place in the array. -/
theorem point12 (t : Fin cfg0.N) (y : S16x256x64.Idx) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.qi (m ((c : Thread nD τ).loc main_arg0)) (m ((c : Thread nD τ).loc main_arg1)) (m ((c : Thread nD τ).loc main_arg3)) ((win0_12.blk t).view.emb y) := by
  obtain ⟨h, r, d, rfl⟩ : ∃ (h : Fin 16) (r : Fin 256) (d : Fin 64), y = ix3 h r d := ⟨y 0, y 1, y 2, by funext a; fin_cases a <;> rfl⟩
  have e : ((win0_12.blk t).view.emb (ix3 h r d)) = ix3 h (at_ t r) d := by
    funext a; refine Fin.ext ?_; fin_cases a <;> blk_simp [idx t] <;> rfl
  rw [e, qi_at, out12]
  exact Finset.sum_congr rfl fun j _ => congrArg₂ (· * ·) (lat_blk m c t r j) (in6 m c t h j d)

/-- The index queries after the run. -/
theorem final12 : (dats m 0 c).arrAt 12 (cfgs 0).N
    = Cert.Reference5Ideal.Prep.qi (m ((c : Thread nD τ).loc main_arg0)) (m ((c : Thread nD τ).loc main_arg1)) (m ((c : Thread nD τ).loc main_arg3)) := by
  refine (dats m 0 c).arrAt_eq_of_covers 12 _ (by decide +kernel) fun t _ y => ?_
  blk_simp
  rw [after0_12]
  simp only [outsAt0]
  exact point12 m c t y

/-- A block of the index weights at its place in the array. -/
theorem point13 (t : Fin cfg0.N) (y : S256x128.Idx) : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.w (m ((c : Thread nD τ).loc main_arg0)) ((win0_13.blk t).view.emb y) := by
  obtain ⟨r, j, rfl⟩ : ∃ (r : Fin 256) (j : Fin 128), y = ix2 r j := ⟨y 0, y 1, by funext a; fin_cases a <;> rfl⟩
  have e : ((win0_13.blk t).view.emb (ix2 r j)) = ix2 (at_ t r) j := by
    funext a; refine Fin.ext ?_; fin_cases a <;> blk_simp [idx t] <;> rfl
  rw [e, w_at, out13]
  exact congrArg (· * Ideal.ofBits FTy.f32 1023410176#32) (in3 m c t r j)

/-- The index weights after the run. -/
theorem final13 : (dats m 0 c).arrAt 13 (cfgs 0).N
    = Cert.Reference5Ideal.Prep.w (m ((c : Thread nD τ).loc main_arg0)) := by
  refine (dats m 0 c).arrAt_eq_of_covers 13 _ (by decide +kernel) fun t _ y => ?_
  blk_simp
  rw [after0_13]
  simp only [outsAt0]
  exact point13 m c t y

/-- A block of the keys, transposed at its place in the array. -/
theorem point14 (t : Fin cfg0.N) (y : S512x256.Idx) : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.kt (m ((c : Thread nD τ).loc main_arg0)) (m ((c : Thread nD τ).loc main_arg5)) ((win0_14.blk t).view.emb y) := by
  obtain ⟨n, r, rfl⟩ : ∃ (n : Fin 512) (r : Fin 256), y = ix2 n r := ⟨y 0, y 1, by funext a; fin_cases a <;> rfl⟩
  have e : ((win0_14.blk t).view.emb (ix2 n r)) = ix2 n (at_ t r) := by
    funext a; refine Fin.ext ?_; fin_cases a <;> blk_simp [idx t] <;> rfl
  rw [e]
  obtain ⟨g, d, rfl⟩ : ∃ (g : Fin 4) (d : Fin 128), n = ⟨g.val * 128 + d.val, by omega⟩ :=
    ⟨⟨n.val / 128, by omega⟩, ⟨n.val % 128, by omega⟩, Fin.ext (by dsimp only; omega)⟩
  have k := kt_at (m ((c : Thread nD τ).loc main_arg0)) (m ((c : Thread nD τ).loc main_arg5)) (at_ t r) g d
  simp only [Nat.mul_comm 128] at k
  rw [k]
  exact key_blk m c t g r d

/-- The keys, transposed after the run. -/
theorem final14 : (dats m 0 c).arrAt 14 (cfgs 0).N
    = Cert.Reference5Ideal.Prep.kt (m ((c : Thread nD τ).loc main_arg0)) (m ((c : Thread nD τ).loc main_arg5)) := by
  refine (dats m 0 c).arrAt_eq_of_covers 14 _ (by decide +kernel) fun t _ y => ?_
  blk_simp
  rw [after0_14]
  simp only [outsAt0]
  exact point14 m c t y

/-- A block of the values at its place in the array. -/
theorem point15 (t : Fin cfg0.N) (y : S256x512.Idx) : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.vb (m ((c : Thread nD τ).loc main_arg0)) ((win0_15.blk t).view.emb y) := by
  obtain ⟨r, j, rfl⟩ : ∃ (r : Fin 256) (j : Fin 512), y = ix2 r j := ⟨y 0, y 1, by funext a; fin_cases a <;> rfl⟩
  have e : ((win0_15.blk t).view.emb (ix2 r j)) = ix2 (at_ t r) j := by
    funext a; refine Fin.ext ?_; fin_cases a <;> blk_simp [idx t] <;> rfl
  rw [e, vb_at, out15]
  exact in2 m c t r j

/-- The values after the run. -/
theorem final15 : (dats m 0 c).arrAt 15 (cfgs 0).N
    = Cert.Reference5Ideal.Prep.vb (m ((c : Thread nD τ).loc main_arg0)) := by
  refine (dats m 0 c).arrAt_eq_of_covers 15 _ (by decide +kernel) fun t _ y => ?_
  blk_simp
  rw [after0_15]
  simp only [outsAt0]
  exact point15 m c t y

/-- A block of the index keys, transposed at its place in the array. -/
theorem point16 (t : Fin cfg0.N) (y : S64x256.Idx) : out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.kit (m ((c : Thread nD τ).loc main_arg0)) (m ((c : Thread nD τ).loc main_arg6)) (m ((c : Thread nD τ).loc main_arg7)) ((win0_16.blk t).view.emb y) := by
  obtain ⟨d, r, rfl⟩ : ∃ (d : Fin 64) (r : Fin 256), y = ix2 d r := ⟨y 0, y 1, by funext a; fin_cases a <;> rfl⟩
  have e : ((win0_16.blk t).view.emb (ix2 d r)) = ix2 d (at_ t r) := by
    funext a; refine Fin.ext ?_; fin_cases a <;> blk_simp [idx t] <;> rfl
  rw [e, kit_at, out16 (hx := fun i => in3 m c t r ⟨i.val, by omega⟩)]
  rw [in9, in10]
  rfl

/-- The index keys, transposed after the run. -/
theorem final16 : (dats m 0 c).arrAt 16 (cfgs 0).N
    = Cert.Reference5Ideal.Prep.kit (m ((c : Thread nD τ).loc main_arg0)) (m ((c : Thread nD τ).loc main_arg6)) (m ((c : Thread nD τ).loc main_arg7)) := by
  refine (dats m 0 c).arrAt_eq_of_covers 16 _ (by decide +kernel) fun t _ y => ?_
  blk_simp
  rw [after0_16]
  simp only [outsAt0]
  exact point16 m c t y

/-- A block of the keys' square norms at its place in the array. -/
theorem point17 (t : Fin cfg0.N) (y : S8x256.Idx) : out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (iblk m c 3 t) (iblk m c 4 t) (iblk m c 5 t) (iblk m c 6 t) (iblk m c 7 t) (iblk m c 8 t) (iblk m c 9 t) (iblk m c 10 t) y
    = Cert.Reference5Ideal.Prep.kn2 (m ((c : Thread nD τ).loc main_arg0)) (m ((c : Thread nD τ).loc main_arg5)) ((win0_17.blk t).view.emb y) := by
  obtain ⟨h, r, rfl⟩ : ∃ (h : Fin 8) (r : Fin 256), y = ix2 h r := ⟨y 0, y 1, by funext a; fin_cases a <;> rfl⟩
  have e : ((win0_17.blk t).view.emb (ix2 h r)) = ix2 h (at_ t r) := by
    funext a; refine Fin.ext ?_; fin_cases a <;> blk_simp [idx t] <;> rfl
  rw [e, kn2_at, out17]
  by_cases p : h.val < 4
  · rw [dif_pos p, dif_pos p]
    exact Finset.sum_congr rfl fun d _ => congrArg₂ (· * ·) (key_blk m c t ⟨h.val, p⟩ r d) (key_blk m c t ⟨h.val, p⟩ r d)
  · rw [dif_neg p, dif_neg p]

/-- The keys' square norms after the run. -/
theorem final17 : (dats m 0 c).arrAt 17 (cfgs 0).N
    = Cert.Reference5Ideal.Prep.kn2 (m ((c : Thread nD τ).loc main_arg0)) (m ((c : Thread nD τ).loc main_arg5)) := by
  refine (dats m 0 c).arrAt_eq_of_covers 17 _ (by decide +kernel) fun t _ y => ?_
  blk_simp
  rw [after0_17]
  simp only [outsAt0]
  exact point17 m c t y

end Cert.Kernel5Ideal.Prep

end
-- ==== Proof.PrepRes.lean ====
module

public import proofs.«01_k».proof.Proof.PrepRef

@[expose] public section

set_option maxRecDepth 16384

noncomputable section

open Idealize.ShloMosaic Idealize.ShloMosaic.TcCoe Idealize.SL.Sem

namespace Cert.Reference5Ideal.Prep

open Cert.Reference5Ideal Cert.Reference5Ideal.Gen

/-- Equal arguments give an equal array. -/
theorem q_congr {x0 y0 : FVec Ideal S16384x12288 .f32} {x1 y1 : FVec Ideal S896 .f32} {x2 y2 : FVec Ideal S896x2048 .f32} {x4 y4 : FVec Ideal S128 .f32} (h0 : x0 = y0) (h1 : x1 = y1) (h2 : x2 = y2) (h4 : x4 = y4) : q x0 x1 x2 x4 = q y0 y1 y2 y4 := by
  subst h0 h1 h2 h4; rfl

/-- Equal arguments give an equal array. -/
theorem qi_congr {x0 y0 : FVec Ideal S16384x12288 .f32} {x1 y1 : FVec Ideal S896 .f32} {x3 y3 : FVec Ideal S896x1024 .f32} (h0 : x0 = y0) (h1 : x1 = y1) (h3 : x3 = y3) : qi x0 x1 x3 = qi y0 y1 y3 := by
  subst h0 h1 h3; rfl

/-- Equal arguments give an equal array. -/
theorem w_congr {x0 y0 : FVec Ideal S16384x12288 .f32} (h0 : x0 = y0) : w x0 = w y0 := by
  subst h0; rfl

/-- Equal arguments give an equal array. -/
theorem kt_congr {x0 y0 : FVec Ideal S16384x12288 .f32} {x5 y5 : FVec Ideal S128 .f32} (h0 : x0 = y0) (h5 : x5 = y5) : kt x0 x5 = kt y0 y5 := by
  subst h0 h5; rfl

/-- Equal arguments give an equal array. -/
theorem vb_congr {x0 y0 : FVec Ideal S16384x12288 .f32} (h0 : x0 = y0) : vb x0 = vb y0 := by
  subst h0; rfl

/-- Equal arguments give an equal array. -/
theorem kit_congr {x0 y0 : FVec Ideal S16384x12288 .f32} {x6 y6 : FVec Ideal S64 .f32} {x7 y7 : FVec Ideal S64 .f32} (h0 : x0 = y0) (h6 : x6 = y6) (h7 : x7 = y7) : kit x0 x6 x7 = kit y0 y6 y7 := by
  subst h0 h6 h7; rfl

/-- Equal arguments give an equal array. -/
theorem kn2_congr {x0 y0 : FVec Ideal S16384x12288 .f32} {x5 y5 : FVec Ideal S128 .f32} (h0 : x0 = y0) (h5 : x5 = y5) : kn2 x0 x5 = kn2 y0 y5 := by
  subst h0 h5; rfl

variable (m : (ℓ : Loc nD τ sig) → Buf (Elt Ideal) ℓ) (ρ : Dev nD → PrngReg)

/-- The reference's run ends with the seven arrays of the specification and its arguments as they were. -/
theorem results : θ_run defs (onTc (τ := τ) (main (F := Ideal))) ⟨m, fun _ => 0, ρ⟩ fun r => ∀ c : Dev nD,
      r.2.mem ((c.tc : Thread nD τ).loc main_v82) = q (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v84) = qi (m ((c.tc : Thread nD τ).loc main_arg0)) (m ((c.tc : Thread nD τ).loc main_arg1)) (m ((c.tc : Thread nD τ).loc main_arg3))
      ∧ r.2.mem ((c.tc : Thread nD τ).loc main_v87) = w (m ((c.tc : Thread nD τ).loc main_arg0))
      ∧ r.2.mem ((c.tc : Thread nD τ).loc main_v89) = kt (m ((c.tc : Thread nD τ).loc main_arg0)) (m ((c.tc : Thread nD τ).loc main_arg5))
      ∧ r.2.mem ((c.tc : Thread nD τ).loc main_v91) = vb (m ((c.tc : Thread nD τ).loc main_arg0))
      ∧ r.2.mem ((c.tc : Thread nD τ).loc main_v93) = kit (m ((c.tc : Thread nD τ).loc main_arg0)) (m ((c.tc : Thread nD τ).loc main_arg6)) (m ((c.tc : Thread nD τ).loc main_arg7))
      ∧ r.2.mem ((c.tc : Thread nD τ).loc main_v57) = kn2 (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by unfold Value.res_main_v82; rfl), (h c).2.1.trans (by rfl), (h c).2.2.1.trans (by rfl), (h c).2.2.2.1.trans (by rfl), (h c).2.2.2.2.1.trans (by rfl), (h c).2.2.2.2.2.1.trans (by rfl), (h c).2.2.2.2.2.2.1.trans (by rfl), (h c).2.2.2.2.2.2.2⟩) (Value.run (F := Ideal) m ρ)

end Cert.Reference5Ideal.Prep

end
-- ==== Proof.CellReal.lean ====
module

public import Mathlib.Analysis.SpecialFunctions.Log.Basic
public import Idealize.ShloMosaic.PureOps.Ideal

@[expose] public section

noncomputable section

open Idealize.ShloMosaic

namespace Cert.Cell

/-- A recurrence that decays by `exp lf` and adds `exp li` times `a`, from `C`. -/
def rec (lf li a : ℕ → ℝ) (C : ℝ) : ℕ → ℝ
  | 0 => C
  | n + 1 => Real.exp (lf n) * rec lf li a C n + Real.exp (li n) * a n

/-- The running sum of the logarithms of the decays, up to and with row `j`. -/
def cum (lf : ℕ → ℝ) (j : ℕ) : ℝ := ∑ s ∈ Finset.range (j + 1), lf s

/-- The recurrence in closed form. -/
theorem rec_succ (lf li a : ℕ → ℝ) (C : ℝ) (j : ℕ) :
    rec lf li a C (j + 1)
      = Real.exp (cum lf j) * C + ∑ s ∈ Finset.range (j + 1), Real.exp (cum lf j - cum lf s + li s) * a s := by
  induction j with
  | zero => simp [rec, cum]
  | succ j ih =>
    have hc : cum lf (j + 1) = lf (j + 1) + cum lf j := by
      rw [cum, Finset.sum_range_succ, ← cum, add_comm]
    rw [rec, ih, Finset.sum_range_succ _ (j + 1), hc, mul_add, ← mul_assoc, ← Real.exp_add, Finset.mul_sum, add_assoc]
    congr 1
    congr 1
    · refine Finset.sum_congr rfl fun s _ => ?_
      rw [← mul_assoc, ← Real.exp_add]
      congr 2
      ring
    · rw [← hc, sub_self, zero_add]

/-- A masked sum over the rows of a block is the sum of the rows up to `j`. -/
theorem sum_le (g : ℕ → ℝ) (j : ℕ) (hj : j < 256) :
    (∑ s : Fin 256, if s.val ≤ j then g s.val else 0) = ∑ s ∈ Finset.range (j + 1), g s := by
  rw [Fin.sum_univ_eq_sum_range (fun s => if s ≤ j then g s else 0) 256, ← Finset.sum_filter]
  refine Finset.sum_congr ?_ fun _ _ => rfl
  ext s
  simp only [Finset.mem_filter, Finset.mem_range]
  omega

/-- The recurrence after row `j` of a block, as a masked sum over the rows of the block. -/
theorem rec_mask (lf li a : ℕ → ℝ) (C : ℝ) (j : ℕ) (hj : j < 256) :
    rec lf li a C (j + 1)
      = Real.exp (cum lf j) * C
        + ∑ s : Fin 256, if s.val ≤ j then Real.exp (cum lf j - cum lf s.val + li s.val) * a s.val else 0 := by
  rw [rec_succ, sum_le (fun s => Real.exp (cum lf j - cum lf s + li s) * a s) j hj]

/-- The recurrence after the whole block. -/
theorem rec_block (lf li a : ℕ → ℝ) (C : ℝ) :
    rec lf li a C 256
      = Real.exp (cum lf 255) * C + ∑ s : Fin 256, Real.exp (cum lf 255 - cum lf s.val + li s.val) * a s.val := by
  rw [rec_mask lf li a C 255 (by omega)]
  refine congrArg (_ + ·) (Finset.sum_congr rfl fun s _ => ?_)
  exact if_pos (by omega)

/-- The recurrence goes on where it stopped. -/
theorem rec_add (lf li a : ℕ → ℝ) (C : ℝ) (m n : ℕ) :
    rec lf li a C (m + n) = rec (fun s => lf (m + s)) (fun s => li (m + s)) (fun s => a (m + s)) (rec lf li a C m) n := by
  induction n with
  | zero => rfl
  | succ n ih => rw [← add_assoc, rec, ih, rec]

/-- The logarithm of the logistic, of a real. -/
def lsg (x : ℝ) : ℝ := min x 0 - Real.log (1 + Real.exp (-|x|))

/-- The exponential of it is the logistic. -/
theorem exp_lsg (x : ℝ) : Real.exp (lsg x) = (1 + Real.exp (-x))⁻¹ := by
  have hp : (0 : ℝ) < 1 + Real.exp (-|x|) := by positivity
  rw [lsg, Real.exp_sub, Real.exp_log hp, div_eq_iff hp.ne']
  have hq : (0 : ℝ) < 1 + Real.exp (-x) := by positivity
  rw [eq_comm, inv_mul_eq_iff_eq_mul₀ hq.ne', add_mul, one_mul, ← Real.exp_add]
  rcases le_total x 0 with h | h
  · rw [abs_of_nonpos h, min_eq_left h, neg_neg, neg_add_cancel, Real.exp_zero, add_comm]
  · rw [abs_of_nonneg h, min_eq_right h, add_zero, Real.exp_zero]

/-- A capped gate: fifteen times the hyperbolic tangent of a fifteenth. -/
def cap (x : EReal) : EReal := Ideal.ofBits .f32 0x41700000#32 * Ideal.tanh (Ideal.div x (Ideal.ofBits .f32 0x41700000#32))

/-- A capped gate is a real whatever it is the cap of. -/
theorem cap_real (x : EReal) : ∃ r : ℝ, cap x = (r : EReal) := by
  have h15 : Ideal.ofBits .f32 0x41700000#32 = ((15 : ℝ) : EReal) := by
    simp [Ideal.ofBits, Ideal.ieee, -EReal.coe_mul]; norm_num
  rw [cap, h15]
  have : ∃ t : ℝ, Ideal.tanh (Ideal.div x ((15 : ℝ) : EReal)) = (t : EReal) := by
    generalize Ideal.div x ((15 : ℝ) : EReal) = y
    induction y with
    | bot => exact ⟨-1, by simp⟩
    | top => exact ⟨1, by simp⟩
    | coe y => exact ⟨Real.tanh y, rfl⟩
  obtain ⟨t, ht⟩ := this
  exact ⟨15 * t, by rw [ht, EReal.coe_mul]⟩

/-- The real a capped gate is. -/
def capR (x : EReal) : ℝ := (cap x).toReal

/-- A capped gate is that real. -/
theorem cap_eq (x : EReal) : cap x = (capR x : EReal) := by
  obtain ⟨r, hr⟩ := cap_real x
  rw [capR, hr, EReal.toReal_coe]

/-- The stabiliser cancels in one row of outputs. -/
theorem row_out (μ X Y : ℝ) :
    Real.exp (-μ) * X / max |Real.exp (-μ) * Y| (Real.exp (-μ)) = X / max |Y| 1 := by
  have hp := Real.exp_pos (-μ)
  have : max |Real.exp (-μ) * Y| (Real.exp (-μ)) = Real.exp (-μ) * max |Y| 1 := by
    rw [abs_mul, abs_of_pos hp, mul_max_of_nonneg _ _ hp.le, mul_one]
  rw [this, mul_div_mul_left _ _ hp.ne']

/-- The largest of a family of reals is a real, when it is taken from a real. -/
theorem fold_real {n : ℕ} (g : Fin n → EReal) (h : ∀ i, g i = ⊥ ∨ ∃ r : ℝ, g i = (r : EReal)) :
    (Finset.univ.fold max ⊥ g = ⊥ ∨ ∃ r : ℝ, Finset.univ.fold max ⊥ g = (r : EReal)) := by
  refine Finset.fold_induction_max g h
where
  Finset.fold_induction_max (g : Fin n → EReal) (h : ∀ i, g i = ⊥ ∨ ∃ r : ℝ, g i = (r : EReal)) :
      (Finset.univ.fold max ⊥ g = ⊥ ∨ ∃ r : ℝ, Finset.univ.fold max ⊥ g = (r : EReal)) := by
    induction (Finset.univ : Finset (Fin n)) using Finset.induction_on with
    | empty => exact .inl rfl
    | insert a s ha ih =>
      rw [Finset.fold_insert ha]
      rcases h a with e | ⟨r, e⟩ <;> rcases ih with e' | ⟨r', e'⟩ <;> rw [e, e']
      · exact .inl (by simp)
      · exact .inr ⟨r', by simp⟩
      · exact .inr ⟨r, by simp⟩
      · exact .inr ⟨max r r', by norm_cast⟩

end Cert.Cell
end
-- ==== Proof.CellMath.lean ====
module

public import proofs.«01_k».proof.Proof.CellReal
public import proofs.«01_k».proof.Proof.Gen.Kernel6Ideal.Skeleton
public import Idealize.ShloMosaic.Lib.Pipeline.ValueKit
public import Idealize.ShloMosaic.Lib.Pointwise
public import Idealize.ShloMosaic.Lib.Pipeline.ReadBack
public import Idealize.ShloMosaic.Lib.WordCmp

@[expose] public section

set_option maxRecDepth 16384

noncomputable section

open Idealize.ShloMosaic Idealize.ShloMosaic.TcCoe Idealize.SL.Sem

namespace Cert.Kernel6Ideal.Cell

open Cert.Kernel6Ideal Cert.Kernel6Ideal.Gen Cert.Cell

section Pieces

variable {F : FTy → Type} [FloatOps F]

/-- What is stored in the matrix state for one head, from the block's gates and the loads. -/
def cx (bc li : FVec F S256x1 .f32) (bl : FVec F S1x1 .f32) (ms : Vec F S1x1 .f32) (k : Vec F S256x64 .f32) (v : Vec F S256x128 .f32)
    (c : Vec F S1x64x128 .f32) : FVec F S1x64x128 .f32 :=
  k0_pay30 (k0_pay29 bc li bl ms k (k0_pay19 v) (k0_pay20 c))

/-- What is stored in the vector state for one head. -/
def nx (bc li : FVec F S256x1 .f32) (bl : FVec F S1x1 .f32) (ms : Vec F S1x1 .f32) (k : Vec F S256x64 .f32) (n : Vec F S1x64 .f32) :
    FVec F S1x64 .f32 :=
  k0_pay31 n (k0_pay27 bc li bl ms) (k0_pay28 bc li bl ms k)

/-- What is stored as the stabiliser of one head. -/
def mx (bc li : FVec F S256x1 .f32) (bl : FVec F S1x1 .f32) (ms : Vec F S1x1 .f32) : FVec F S1x128 .f32 :=
  k0_pay32 (k0_pay26 bc li bl ms)

/-- The outputs of one head before the norm. -/
def hx (mask : IVec S256x256 1) (bc : FVec F S256x1 .f32) (br lir : FVec F S1x256 .f32) (ms : Vec F S1x1 .f32) (q k : Vec F S256x64 .f32)
    (v : Vec F S256x128 .f32) (c : Vec F S1x64x128 .f32) (n : Vec F S1x64 .f32) : FVec F S256x128 .f32 :=
  k0_pay74 (k0_pay69 mask bc br lir ms) (k0_pay72 mask bc br lir ms (k0_pay63 q) k v c) (k0_pay73 mask bc br lir ms (k0_pay63 q) k n)

/-- What is stored in the result for one head. -/
def yx (h : FVec F S256x128 .f32) (g : Vec F S1x128 .f32) (o z : Vec F S256x128 .f32) : FVec F S256x128 .bf16 := k0_pay33 h g o z

end Pieces

/-- A finite sum of reals, read in the extended reals. -/
theorem coe_sum {ι : Type} (s : Finset ι) (f : ι → ℝ) : (∑ i ∈ s, ((f i : ℝ) : EReal)) = ((∑ i ∈ s, f i : ℝ) : EReal) :=
  (map_sum (⟨⟨Real.toEReal, EReal.coe_zero⟩, EReal.coe_add⟩ : ℝ →+ EReal) f s).symm

/-- The lowest word of the kernel is below every real. -/
theorem low : Ideal.ofBits FTy.f32 4286578688#32 = ⊥ := by simp [Ideal.ofBits, Ideal.ieee]

/-- The largest of a real and a row that holds reals, or nothing, is a real. -/
theorem max_real {n : ℕ} (a : ℝ) (g : Fin n → EReal) (h : ∀ i, g i = ⊥ ∨ ∃ r : ℝ, g i = (r : EReal)) :
    ∃ r : ℝ, max (a : EReal) (Finset.univ.fold max ⊥ g) = (r : EReal) := by
  rcases fold_real g h with e | ⟨r, e⟩ <;> rw [e]
  · exact ⟨a, by simp⟩
  · exact ⟨max a r, by norm_cast⟩

/-- The quotient of two reals, the divisor not zero. -/
theorem div_real (a b : ℝ) (h : b ≠ 0) : Ideal.div (a : EReal) (b : EReal) = ((a / b : ℝ) : EReal) := by
  rw [Ideal.div_coe h, ← EReal.coe_mul, mul_one_div]

/-- The state stored for one head: for some new stabiliser, the block's states under it. -/
theorem state_at (bc li : FVec Ideal S256x1 .f32) (bl : FVec Ideal S1x1 .f32) (ms : Vec Ideal S1x1 .f32) (k : Vec Ideal S256x64 .f32)
    (v : Vec Ideal S256x128 .f32) (c : Vec Ideal S1x64x128 .f32) (n : Vec Ideal S1x64 .f32)
    (B L : Fin 256 → ℝ) (K : Fin 256 → Fin 64 → ℝ) (V : Fin 256 → Fin 128 → ℝ) (C : Fin 64 → Fin 128 → ℝ) (N : Fin 64 → ℝ) (μ : ℝ)
    (hb : ∀ i, bc (ix2 i 0) = (B i : EReal)) (hl : ∀ i, li (ix2 i 0) = (L i : EReal)) (hbl : bl (ix2 0 0) = (B 255 : EReal))
    (hm : ms (ix2 0 0) = (μ : EReal)) (hk : ∀ i d, k (ix2 i d) = (K i d : EReal)) (hv : ∀ i d, v (ix2 i d) = (V i d : EReal))
    (hc : ∀ d e, c (ix3 0 d e) = ((Real.exp (-μ) * C d e : ℝ) : EReal)) (hn : ∀ d, n (ix2 0 d) = ((Real.exp (-μ) * N d : ℝ) : EReal)) :
    ∃ ν : ℝ, (∀ j, mx bc li bl ms (ix2 0 j) = (ν : EReal))
      ∧ (∀ d e, cx bc li bl ms k v c (ix3 0 d e)
          = ((Real.exp (-ν) * (Real.exp (B 255) * C d e + ∑ s, Real.exp (B 255 - B s + L s) * (K s d * V s e)) : ℝ) : EReal))
      ∧ (∀ d, nx bc li bl ms k n (ix2 0 d)
          = ((Real.exp (-ν) * (Real.exp (B 255) * N d + ∑ s, Real.exp (B 255 - B s + L s) * K s d) : ℝ) : EReal)) := by
  obtain ⟨ν, hν⟩ : ∃ ν : ℝ, max (bl (ix2 0 0) + ms (ix2 0 0)) (Finset.fold max (Ideal.ofBits FTy.f32 4286578688#32)
      (fun x : Fin 256 => bl (ix2 0 0) - bc (ix2 x 0) + li (ix2 x 0)) Finset.univ) = (ν : EReal) := by
    rw [low, hbl, hm, ← EReal.coe_add]
    refine max_real _ _ fun i => .inr ⟨B 255 - B i + L i, ?_⟩
    rw [hb, hl, ← EReal.coe_sub, ← EReal.coe_add]
  refine ⟨ν, fun j => ?_, fun d e => ?_, fun d => ?_⟩
  · pointwise [mx, k0_pay32, k0_pay26, k0_pay25]
    exact hν
  · pointwise [cx, k0_pay30, k0_pay29, k0_pay28, k0_pay27, k0_pay26, k0_pay25, k0_pay19, k0_pay20]
    simp only [hν]
    simp only [hb, hl, hbl, hm, hk, hv, hc, ← EReal.coe_add, ← EReal.coe_sub, Ideal.exp_coe, ← EReal.coe_mul, coe_sum]
    refine congrArg Real.toEReal ?_
    rw [mul_add, Finset.mul_sum]
    refine congrArg₂ _ ?_ (Finset.sum_congr rfl fun s _ => ?_)
    · rw [← mul_assoc, ← mul_assoc, ← Real.exp_add, ← Real.exp_add]
      congr 2
      ring
    · rw [show B 255 - B s + L s - ν = -ν + (B 255 - B s + L s) by ring, Real.exp_add]
      ring
  · pointwise [nx, k0_pay31, k0_pay28, k0_pay27, k0_pay26, k0_pay25]
    simp only [hν]
    simp only [hb, hl, hbl, hm, hk, hn, ← EReal.coe_add, ← EReal.coe_sub, Ideal.exp_coe, ← EReal.coe_mul, coe_sum]
    refine congrArg Real.toEReal ?_
    rw [mul_add, Finset.mul_sum]
    refine congrArg₂ _ ?_ (Finset.sum_congr rfl fun s _ => ?_)
    · rw [← mul_assoc, ← mul_assoc, ← Real.exp_add, ← Real.exp_add]
      congr 2
      ring
    · rw [show B 255 - B s + L s - ν = -ν + (B 255 - B s + L s) by ring, Real.exp_add]
      ring

/-- The state a row sees: the block's state decayed to it, and the rows up to it. -/
def seen (B L : Fin 256 → ℝ) (A : Fin 256 → ℝ) (C : ℝ) (i : Fin 256) : ℝ :=
  Real.exp (B i) * C + ∑ s : Fin 256, if s.val ≤ i.val then Real.exp (B i - B s + L s) * A s else 0

/-- The outputs of one head before the norm: each row's query against the state it sees, over the larger of one and its
    query against the vector state it sees. -/
theorem hx_at (mask : IVec S256x256 1) (bc : FVec Ideal S256x1 .f32) (br lir : FVec Ideal S1x256 .f32) (ms : Vec Ideal S1x1 .f32)
    (q k : Vec Ideal S256x64 .f32) (v : Vec Ideal S256x128 .f32) (c : Vec Ideal S1x64x128 .f32) (n : Vec Ideal S1x64 .f32)
    (B L : Fin 256 → ℝ) (Q K : Fin 256 → Fin 64 → ℝ) (V : Fin 256 → Fin 128 → ℝ) (C : Fin 64 → Fin 128 → ℝ) (N : Fin 64 → ℝ) (μ : ℝ)
    (hmask : ∀ (i s : Fin 256) (a b : EReal), Scalar.select (mask (ix2 i s)) a b = if s.val ≤ i.val then a else b)
    (hb : ∀ i, bc (ix2 i 0) = (B i : EReal)) (hbr : ∀ i, br (ix2 0 i) = (B i : EReal)) (hl : ∀ i, lir (ix2 0 i) = (L i : EReal))
    (hm : ms (ix2 0 0) = (μ : EReal)) (hq : ∀ i d, q (ix2 i d) = (Q i d : EReal))
    (hk : ∀ i d, k (ix2 i d) = (K i d : EReal)) (hv : ∀ i d, v (ix2 i d) = (V i d : EReal))
    (hc : ∀ d e, c (ix3 0 d e) = ((Real.exp (-μ) * C d e : ℝ) : EReal)) (hn : ∀ d, n (ix2 0 d) = ((Real.exp (-μ) * N d : ℝ) : EReal))
    (i : Fin 256) (e : Fin 128) :
    hx mask bc br lir ms q k v c n (ix2 i e)
      = (((∑ d : Fin 64, Q i d * (1 / 8) * seen B L (fun s => K s d * V s e) (C d e) i)
          / max |∑ d : Fin 64, Q i d * (1 / 8) * seen B L (fun s => K s d) (N d) i| 1 : ℝ) : EReal) := by
  obtain ⟨ν, hν⟩ : ∃ ν : ℝ, max (bc (ix2 i 0) + ms (ix2 0 0))
                  (Finset.fold max (Ideal.ofBits FTy.f32 4286578688#32)
                    (fun x =>
                      Scalar.select (mask (ix2 i x)) (bc (ix2 i 0) - br (ix2 0 x) + lir (ix2 0 x))
                        (Ideal.ofBits FTy.f32 4286578688#32))
                    Finset.univ) = (ν : EReal) := by
    rw [low, hb, hm, ← EReal.coe_add]
    refine max_real _ _ fun s => ?_
    rw [hmask]
    split_ifs
    · exact .inr ⟨B i - B s + L s, by rw [hbr, hl, ← EReal.coe_sub, ← EReal.coe_add]⟩
    · exact .inl rfl
  have h8 : Ideal.ofBits FTy.f32 1040187392#32 = ((1 / 8 : ℝ) : EReal) := by
    simp [Ideal.ofBits, Ideal.ieee, -EReal.coe_mul]; norm_num
  have hp : ∀ s : Fin 256, Ideal.exp ((if s.val ≤ i.val then ((B i - B s + L s : ℝ) : EReal) else ⊥) - (ν : EReal))
      = (((if s.val ≤ i.val then Real.exp (-ν) * Real.exp (B i - B s + L s) else 0 : ℝ)) : EReal) := by
    intro s
    split_ifs
    · rw [← EReal.coe_sub, Ideal.exp_coe, ← Real.exp_add]
      congr 2
      ring
    · rw [EReal.bot_sub]; rfl
  pointwise [hx, k0_pay74, k0_pay73, k0_pay72, k0_pay71, k0_pay70, k0_pay69, k0_pay68, k0_pay67, k0_pay66, k0_pay65, k0_pay64, k0_pay63]
  simp only [hν]
  simp only [hmask, hb, hbr, hl, hm, hq, hk, hv, hc, hn, h8, low, hp, Ideal.absf_def, ← EReal.coe_mul, coe_sum, ← EReal.coe_sub, ← EReal.coe_add, ← EReal.coe_neg, Ideal.exp_coe]
  have e0 : (0 : EReal) - (ν : EReal) = ((-ν : ℝ) : EReal) := by rw [zero_sub, EReal.coe_neg]
  have w0 : Real.exp (B i + μ - ν) = Real.exp (-ν) * Real.exp (B i) * Real.exp μ := by
    rw [← Real.exp_add, ← Real.exp_add]; congr 1; ring
  have mm : Real.exp μ * Real.exp (-μ) = 1 := by rw [← Real.exp_add, add_neg_cancel, Real.exp_zero]
  have X : (∑ s : Fin 256, (if s.val ≤ i.val then Real.exp (-ν) * Real.exp (B i - B s + L s) else 0)
        * (∑ d : Fin 64, Q i d * (1 / 8) * K s d) * V s e
      + Real.exp (B i + μ - ν) * ∑ d : Fin 64, Q i d * (1 / 8) * (Real.exp (-μ) * C d e))
      = Real.exp (-ν) * ∑ d : Fin 64, Q i d * (1 / 8) * seen B L (fun s => K s d * V s e) (C d e) i := by
    rw [w0]
    simp only [seen, mul_add, Finset.sum_add_distrib, Finset.mul_sum, Finset.sum_mul]
    rw [add_comm, Finset.sum_comm]
    refine congrArg₂ _ (Finset.sum_congr rfl fun d _ => ?_) (Finset.sum_congr rfl fun d _ => Finset.sum_congr rfl fun s _ => ?_)
    · linear_combination (Real.exp (-ν) * Real.exp (B i) * Q i d * (1 / 8) * C d e) * mm
    · split_ifs <;> ring
  have Y : (∑ s : Fin 256, (if s.val ≤ i.val then Real.exp (-ν) * Real.exp (B i - B s + L s) else 0)
        * (∑ d : Fin 64, Q i d * (1 / 8) * K s d)
      + Real.exp (B i + μ - ν) * ∑ d : Fin 64, Q i d * (1 / 8) * (Real.exp (-μ) * N d))
      = Real.exp (-ν) * ∑ d : Fin 64, Q i d * (1 / 8) * seen B L (fun s => K s d) (N d) i := by
    rw [w0]
    simp only [seen, mul_add, Finset.sum_add_distrib, Finset.mul_sum, Finset.sum_mul]
    rw [add_comm, Finset.sum_comm]
    refine congrArg₂ _ (Finset.sum_congr rfl fun d _ => ?_) (Finset.sum_congr rfl fun d _ => Finset.sum_congr rfl fun s _ => ?_)
    · linear_combination (Real.exp (-ν) * Real.exp (B i) * Q i d * (1 / 8) * N d) * mm
    · split_ifs <;> ring
  rw [X, Y, e0, Ideal.exp_coe]
  have hmax : ∀ a b : ℝ, max (a : EReal) (b : EReal) = ((max a b : ℝ) : EReal) := fun a b => by norm_cast
  rw [hmax, hmax, div_real, ← abs_eq_max_neg, row_out]
  exact (lt_of_lt_of_le (Real.exp_pos _) (le_max_right _ _)).ne'

/-- A row of one head's outputs, normed by its mean square, scaled, and gated by the logistic of `o` and `z` times its logistic. -/
def gate (h g o z : Fin 128 → Ideal .f32) (j : Fin 128) : Ideal .f32 :=
  Ideal.logistic (o j) * (h j * Ideal.rsqrt (Ideal.div (∑ x : Fin 128, h x * h x) (Ideal.ofBits FTy.f32 1124073472#32) + Ideal.ofBits FTy.f32 897988541#32)
    * g j) * (z j * Ideal.logistic (z j))

/-- What is stored in the result for one head is the gated row. -/
theorem yx_at (h : FVec Ideal S256x128 .f32) (g : Vec Ideal S1x128 .f32) (o z : Vec Ideal S256x128 .f32) (i : Fin 256) (j : Fin 128) :
    yx h g o z (ix2 i j) = gate (fun x => h (ix2 i x)) (fun x => g (ix2 0 x)) (fun x => o (ix2 i x)) (fun x => z (ix2 i x)) j := by
  pointwise [yx, k0_pay33]
  rfl

/-- The logarithm of the logistic as the kernel takes it. -/
theorem lsg_eq (x : EReal) :
    min (cap x) 0 - Ideal.log (1 + Ideal.exp (0 - FloatOps.absf (F := Ideal) (φ := .f32) (cap x))) = ((lsg (capR x) : ℝ) : EReal) := by
  have hmin : min ((capR x : ℝ) : EReal) 0 = ((min (capR x) 0 : ℝ) : EReal) := by norm_cast
  have hmax : ∀ a b : ℝ, max (a : EReal) (b : EReal) = ((max a b : ℝ) : EReal) := fun a b => by norm_cast
  rw [cap_eq, Ideal.absf_def, ← EReal.coe_neg, hmax, ← abs_eq_max_neg, zero_sub, ← EReal.coe_neg, Ideal.exp_coe, ← EReal.coe_one, ← EReal.coe_add,
    Ideal.log_coe, if_neg (not_le.mpr (by positivity)), hmin, ← EReal.coe_sub, lsg]

/-- The gates of a block, by rows and by lanes. -/
theorem gates (v3 : Vec Ideal S256x128 .f32) (v4 : Vec Ideal S1x128 .f32) (i : Fin 256) (j : Fin 128) (a : Fin 16) :
    k0_pay6 v3 v4 (ix2 i j) = (capR (v3 (ix2 i j) + v4 (ix2 0 j)) : EReal)
    ∧ k0_pay7 v3 v4 (ix2 i j) = (lsg (capR (v3 (ix2 i j) + v4 (ix2 0 j))) : EReal)
    ∧ k0_pay8 v3 v4 (ix2 a i) = (capR (v3 (ix2 i ⟨64 + a.val, by omega⟩) + v4 (ix2 0 ⟨64 + a.val, by omega⟩)) : EReal)
    ∧ k0_pay9 v3 v4 (ix2 a i) = (lsg (capR (v3 (ix2 i ⟨64 + a.val, by omega⟩) + v4 (ix2 0 ⟨64 + a.val, by omega⟩))) : EReal) := by
  pointwise [k0_pay6, k0_pay5, k0_pay7, k0_pay8, k0_pay9]
  exact ⟨cap_eq _, lsg_eq _, cap_eq _, lsg_eq _⟩

/-- The rows of a block, numbered. -/
def ri : IVec S256x256 32 := iota .tc S256x256 32 [0] iota_S256x256_d0_w32
/-- The lanes of a block, numbered. -/
def ci : IVec S256x256 32 := iota .tc S256x256 32 [1] iota_S256x256_d1_w32

/-- A row number compared with another. -/
theorem sel (i s : Fin 256) (a b : EReal) :
    Scalar.select (IntOp.cmpi CmpIPredicate.sle (BitVec.ofNat 32 s.val) (BitVec.ofNat 32 i.val)) a b = if s.val ≤ i.val then a else b := by
  have := WordCmp.cmpi_sle_ofNat_eq_one_iff (w := 32) (a := s.val) (b := i.val) (by omega) (by omega)
  unfold Scalar.select
  exact if_congr this rfl rfl

/-- The mask lets a row see the rows up to it. -/
theorem mask_at (i s : Fin 256) (a b : EReal) : Scalar.select (k0_pay10 ri ci (ix2 i s)) a b = if s.val ≤ i.val then a else b := by
  rw [← sel i s a b]
  pointwise [k0_pay10, ri, ci]

/-- The running sums of a block's logarithms, by rows. -/
theorem bcol_at (f : FVec Ideal S256x128 .f32) (g : Fin 256 → Fin 128 → ℝ) (hf : ∀ s j, f (ix2 s j) = (g s j : EReal)) (i : Fin 256) (j : Fin 128) :
    k0_pay11 f ri ci (ix2 i j) = ((∑ s : Fin 256, if s.val ≤ i.val then g s j else 0 : ℝ) : EReal) := by
  pointwise [k0_pay11, k0_pay10, ri, ci]
  rw [← coe_sum]
  refine Finset.sum_congr rfl fun s _ => ?_
  rw [sel, hf]
  split_ifs <;> rfl

/-- The running sums of a block's logarithms, by lanes. -/
theorem brow_at (f : FVec Ideal S16x256 .f32) (g : Fin 256 → Fin 16 → ℝ) (hf : ∀ s j, f (ix2 j s) = (g s j : EReal)) (i : Fin 256) (j : Fin 16) :
    k0_pay12 f ri ci (ix2 j i) = ((∑ s : Fin 256, if s.val ≤ i.val then g s j else 0 : ℝ) : EReal) := by
  pointwise [k0_pay12, ri, ci]
  rw [← coe_sum]
  refine Finset.sum_congr rfl fun s _ => ?_
  rw [sel, hf]
  split_ifs <;> rfl

end Cert.Kernel6Ideal.Cell
end
-- ==== Proof.CellBlock.lean ====
module

public import proofs.«01_k».proof.Proof.CellMath
public import proofs.«01_k».proof.Proof.Gen.Kernel6Ideal.Value

@[expose] public section

set_option maxRecDepth 16384

noncomputable section

open Idealize.ShloMosaic Idealize.ShloMosaic.TcCoe Idealize.SL.Sem

namespace Cert.Kernel6Ideal.Cell

open Cert.Kernel6Ideal Cert.Kernel6Ideal.Gen Cert.Cell

/-- Where a block starting at `off` places an index. -/
theorem emb_val {s : Shape} (off sz : Fin s.rank → ℕ) (i) (x) (a : Fin s.rank) : ((Rect.unit (s := s) off sz i).emb x a).val = off a + (x a).val := by
  show off a + 1 * (x a).val = _
  rw [one_mul]

section Parts

variable (x0 x1 : Vec Ideal S256x512 .f32) (x2 x3 x4 : Vec Ideal S256x1024 .f32) (x5 : Vec Ideal S256x128 .f32) (x6 : Vec Ideal S1x128 .f32)
  (x7 : Vec Ideal S1x1024 .f32) (s0 : Vec Ideal S8x64x128 .f32) (s1 : Vec Ideal S8x64 .f32) (s2 : Vec Ideal S8x128 .f32) (h : Fin 8)

/-- The block of small projections, as loaded. -/
abbrev smallL : Vec Ideal S256x128 .f32 := View.ld x5 (Rect.unit ![0, 0] S256x128.size inb_S256x128_S256x128_0_0)
/-- The gate bias, as loaded. -/
abbrev biasL : Vec Ideal S1x128 .f32 := View.ld x6 (Rect.unit ![0, 0] S1x128.size inb_S1x128_S1x128_0_0)
/-- The queries of one head. -/
abbrev qL : Vec Ideal S256x64 .f32 := View.ld x0 (Rect.unit ![0, 64 * h.val] S256x64.size (by revert h; decide))
/-- The values of one head. -/
abbrev vL : Vec Ideal S256x128 .f32 := View.ld x2 (Rect.unit ![0, 128 * h.val] S256x128.size (by revert h; decide))
/-- The norm weights of one head. -/
abbrev gL : Vec Ideal S1x128 .f32 := View.ld x7 (Rect.unit ![0, 128 * h.val] S1x128.size (by revert h; decide))
/-- The matrix state of one head. -/
abbrev cL : Vec Ideal S1x64x128 .f32 := View.ld s0 (Rect.unit ![h.val, 0, 0] S1x64x128.size (by revert h; decide))
/-- The vector state of one head. -/
abbrev nL : Vec Ideal S1x64 .f32 := View.ld s1 (Rect.unit ![h.val, 0] S1x64.size (by revert h; decide))
/-- The stabiliser of one head. -/
abbrev mL : Vec Ideal S1x1 .f32 := View.ld s2 (Rect.unit ![h.val, 0] S1x1.size (by revert h; decide))

/-- The summed forget gates of one head, as a column. -/
abbrev bcL : FVec Ideal S256x1 .f32 :=
  extractStridedSlice S256x1 ![0, 72 + h.val] (k0_pay11 (k0_pay7 (smallL x5) (biasL x6)) ri ci) (by revert h; decide)
/-- The input gates of one head, as a column. -/
abbrev liL : FVec Ideal S256x1 .f32 := extractStridedSlice S256x1 ![0, 64 + h.val] (k0_pay6 (smallL x5) (biasL x6)) (by revert h; decide)
/-- The summed forget gates of one head, as a row. -/
abbrev brL : FVec Ideal S1x256 .f32 :=
  extractStridedSlice S1x256 ![8 + h.val, 0] (k0_pay12 (k0_pay9 (smallL x5) (biasL x6)) ri ci) (by revert h; decide)
/-- The input gates of one head, as a row. -/
abbrev lirL : FVec Ideal S1x256 .f32 := extractStridedSlice S1x256 ![h.val, 0] (k0_pay8 (smallL x5) (biasL x6)) (by revert h; decide)
/-- The last summed forget gate of one head. -/
abbrev blL : FVec Ideal S1x1 .f32 := extractStridedSlice S1x1 ![0, 255] (brL x5 x6 h) (by decide)

/-- The matrix state stored for one head. -/
abbrev cP : FVec Ideal S1x64x128 .f32 :=
  cx (bcL x5 x6 h) (liL x5 x6 h) (blL x5 x6 h) (mL s2 h) (qL x1 h) (vL x2 h) (cL s0 h)
/-- The vector state stored for one head. -/
abbrev nP : FVec Ideal S1x64 .f32 := nx (bcL x5 x6 h) (liL x5 x6 h) (blL x5 x6 h) (mL s2 h) (qL x1 h) (nL s1 h)
/-- The stabiliser stored for one head. -/
abbrev mP : FVec Ideal S1x128 .f32 := mx (bcL x5 x6 h) (liL x5 x6 h) (blL x5 x6 h) (mL s2 h)
/-- The result stored for one head. -/
abbrev yP : FVec Ideal S256x128 .bf16 :=
  yx (hx (k0_pay10 ri ci) (bcL x5 x6 h) (brL x5 x6 h) (lirL x5 x6 h) (mL s2 h) (qL x0 h) (qL x1 h) (vL x2 h) (cL s0 h) (nL s1 h))
    (gL x7 h) (vL x3 h) (vL x4 h)

/-- The matrix states after a block. -/
def cB : Vec Ideal S8x64x128 .f32 := fun y => cP x1 x2 x5 x6 s0 s2 (y 0) (ix3 0 (y 1) (y 2))
/-- The vector states after a block. -/
def nB : Vec Ideal S8x64 .f32 := fun y => nP x1 x5 x6 s1 s2 (y 0) (ix2 0 (y 1))
/-- The stabilisers after a block. -/
def mB : Vec Ideal S8x128 .f32 := fun y => mP x5 x6 s2 (y 0) (ix2 0 (y 1))
/-- The results of a block. -/
def yB : Vec Ideal S256x1024 .bf16 := fun y =>
  yP x0 x1 x2 x3 x4 x5 x6 x7 s0 s1 s2 ⟨(y 1).val / 128, Nat.div_lt_of_lt_mul (y 1).isLt⟩ (ix2 (y 0) ⟨(y 1).val % 128, Nat.mod_lt _ (by decide)⟩)

/-- The matrix state stored for one head is its part of the states after the block. -/
theorem cB_emb (i) (x) : cP x1 x2 x5 x6 s0 s2 h x = cB x1 x2 x5 x6 s0 s2 ((Rect.unit (s := S8x64x128) ![h.val, 0, 0] S1x64x128.size i).emb x) := by
  have hx : x = ix3 0 (x 1) (x 2) := by
    funext a
    fin_cases a
    · exact Subsingleton.elim (α := Fin 1) _ _
    · rfl
    · rfl
  have e : (Rect.unit (s := S8x64x128) ![h.val, 0, 0] S1x64x128.size i).emb x = ix3 h (x 1) (x 2) := by
    funext a
    have h0 : (x 0).val = 0 := Nat.lt_one_iff.mp (x 0).isLt
    fin_cases a <;> exact Fin.ext (by simp [emb_val, h0])
  rw [e]
  exact congrArg _ hx

/-- The vector state stored for one head is its part of the states after the block. -/
theorem nB_emb (i) (x) : nP x1 x5 x6 s1 s2 h x = nB x1 x5 x6 s1 s2 ((Rect.unit (s := S8x64) ![h.val, 0] S1x64.size i).emb x) := by
  have hx : x = ix2 0 (x 1) := by
    funext a
    fin_cases a
    · exact Subsingleton.elim (α := Fin 1) _ _
    · rfl
  have e : (Rect.unit (s := S8x64) ![h.val, 0] S1x64.size i).emb x = ix2 h (x 1) := by
    funext a
    have h0 : (x 0).val = 0 := Nat.lt_one_iff.mp (x 0).isLt
    fin_cases a <;> exact Fin.ext (by simp [emb_val, h0])
  rw [e]
  exact congrArg _ hx

/-- The stabiliser stored for one head is its part of the stabilisers after the block. -/
theorem mB_emb (i) (x) : mP x5 x6 s2 h x = mB x5 x6 s2 ((Rect.unit (s := S8x128) ![h.val, 0] S1x128.size i).emb x) := by
  have hx : x = ix2 0 (x 1) := by
    funext a
    fin_cases a
    · exact Subsingleton.elim (α := Fin 1) _ _
    · rfl
  have e : (Rect.unit (s := S8x128) ![h.val, 0] S1x128.size i).emb x = ix2 h (x 1) := by
    funext a
    have h0 : (x 0).val = 0 := Nat.lt_one_iff.mp (x 0).isLt
    fin_cases a <;> exact Fin.ext (by simp [emb_val, h0])
  rw [e]
  exact congrArg _ hx

/-- The results at a row and a lane of one head. -/
theorem yB_at (y : S256x1024.Idx) (i : Fin 256) (j : Fin 128) (h0 : (y 0).val = i.val) (h1 : (y 1).val = 128 * h.val + j.val) :
    yB x0 x1 x2 x3 x4 x5 x6 x7 s0 s1 s2 y = yP x0 x1 x2 x3 x4 x5 x6 x7 s0 s1 s2 h (ix2 i j) := by
  have bj := j.isLt
  have e1 : (⟨(y 1).val / 128, Nat.div_lt_of_lt_mul (y 1).isLt⟩ : Fin 8) = h := Fin.ext (by dsimp only; omega)
  have e2 : (⟨(y 1).val % 128, Nat.mod_lt _ (by decide)⟩ : Fin 128) = j := Fin.ext (by dsimp only; omega)
  have e0 : (y 0 : Fin 256) = i := Fin.ext h0
  unfold yB
  rw [e1, e2]
  exact congrArg (fun i' => yP x0 x1 x2 x3 x4 x5 x6 x7 s0 s1 s2 h (ix2 i' j)) e0

/-- The result stored for one head is its part of the results of the block. -/
theorem yB_emb (i) (x) : yP x0 x1 x2 x3 x4 x5 x6 x7 s0 s1 s2 h x
    = yB x0 x1 x2 x3 x4 x5 x6 x7 s0 s1 s2 ((Rect.unit (s := S256x1024) ![0, 128 * h.val] S256x128.size i).emb x) := by
  rw [yB_at x0 x1 x2 x3 x4 x5 x6 x7 s0 s1 s2 h _ (x 0) (x 1) (by simp [emb_val]) (by simp [emb_val])]
  refine congrArg _ ?_
  funext a
  fin_cases a <;> rfl

end Parts

/-- Eight stores of one head's matrix state, each a block of `G`, leave `G`. -/
theorem eightC (G : Vec Ideal S8x64x128 .f32) (L : List (View.Piece (Elt Ideal) S8x64x128 .f32)) (i0 i1 i2 i3 i4 i5 i6 i7) (w0 w1 w2 w3 w4 w5 w6 w7 : S1x64x128.Idx → Elt Ideal .f32)
    (h0 : ∀ x, w0 x = G ((Rect.unit (s := S8x64x128) ![0, 0, 0] S1x64x128.size i0).emb x))
    (h1 : ∀ x, w1 x = G ((Rect.unit (s := S8x64x128) ![1, 0, 0] S1x64x128.size i1).emb x))
    (h2 : ∀ x, w2 x = G ((Rect.unit (s := S8x64x128) ![2, 0, 0] S1x64x128.size i2).emb x))
    (h3 : ∀ x, w3 x = G ((Rect.unit (s := S8x64x128) ![3, 0, 0] S1x64x128.size i3).emb x))
    (h4 : ∀ x, w4 x = G ((Rect.unit (s := S8x64x128) ![4, 0, 0] S1x64x128.size i4).emb x))
    (h5 : ∀ x, w5 x = G ((Rect.unit (s := S8x64x128) ![5, 0, 0] S1x64x128.size i5).emb x))
    (h6 : ∀ x, w6 x = G ((Rect.unit (s := S8x64x128) ![6, 0, 0] S1x64x128.size i6).emb x))
    (h7 : ∀ x, w7 x = G ((Rect.unit (s := S8x64x128) ![7, 0, 0] S1x64x128.size i7).emb x)) :
    View.canon (⟨(Rect.unit (s := S8x64x128) ![7, 0, 0] S1x64x128.size i7), w7⟩ :: ⟨(Rect.unit (s := S8x64x128) ![6, 0, 0] S1x64x128.size i6), w6⟩ :: ⟨(Rect.unit (s := S8x64x128) ![5, 0, 0] S1x64x128.size i5), w5⟩ :: ⟨(Rect.unit (s := S8x64x128) ![4, 0, 0] S1x64x128.size i4), w4⟩ :: ⟨(Rect.unit (s := S8x64x128) ![3, 0, 0] S1x64x128.size i3), w3⟩ :: ⟨(Rect.unit (s := S8x64x128) ![2, 0, 0] S1x64x128.size i2), w2⟩ :: ⟨(Rect.unit (s := S8x64x128) ![1, 0, 0] S1x64x128.size i1), w1⟩ :: ⟨(Rect.unit (s := S8x64x128) ![0, 0, 0] S1x64x128.size i0), w0⟩ :: L) = G := by
  funext y
  refine View.canon_append_of_piecesOf G L [⟨(Rect.unit (s := S8x64x128) ![7, 0, 0] S1x64x128.size i7), w7⟩, ⟨(Rect.unit (s := S8x64x128) ![6, 0, 0] S1x64x128.size i6), w6⟩, ⟨(Rect.unit (s := S8x64x128) ![5, 0, 0] S1x64x128.size i5), w5⟩, ⟨(Rect.unit (s := S8x64x128) ![4, 0, 0] S1x64x128.size i4), w4⟩, ⟨(Rect.unit (s := S8x64x128) ![3, 0, 0] S1x64x128.size i3), w3⟩, ⟨(Rect.unit (s := S8x64x128) ![2, 0, 0] S1x64x128.size i2), w2⟩, ⟨(Rect.unit (s := S8x64x128) ![1, 0, 0] S1x64x128.size i1), w1⟩, ⟨(Rect.unit (s := S8x64x128) ![0, 0, 0] S1x64x128.size i0), w0⟩]
    ⟨h7, h6, h5, h4, h3, h2, h1, h0, trivial⟩ y
    (View.cover_of_tiledL (s := S8x64x128) _ S1x64x128.size (by sl_kernel_rfl) y)

/-- Eight stores of one head's vector state, each a block of `G`, leave `G`. -/
theorem eightN (G : Vec Ideal S8x64 .f32) (L : List (View.Piece (Elt Ideal) S8x64 .f32)) (i0 i1 i2 i3 i4 i5 i6 i7) (w0 w1 w2 w3 w4 w5 w6 w7 : S1x64.Idx → Elt Ideal .f32)
    (h0 : ∀ x, w0 x = G ((Rect.unit (s := S8x64) ![0, 0] S1x64.size i0).emb x))
    (h1 : ∀ x, w1 x = G ((Rect.unit (s := S8x64) ![1, 0] S1x64.size i1).emb x))
    (h2 : ∀ x, w2 x = G ((Rect.unit (s := S8x64) ![2, 0] S1x64.size i2).emb x))
    (h3 : ∀ x, w3 x = G ((Rect.unit (s := S8x64) ![3, 0] S1x64.size i3).emb x))
    (h4 : ∀ x, w4 x = G ((Rect.unit (s := S8x64) ![4, 0] S1x64.size i4).emb x))
    (h5 : ∀ x, w5 x = G ((Rect.unit (s := S8x64) ![5, 0] S1x64.size i5).emb x))
    (h6 : ∀ x, w6 x = G ((Rect.unit (s := S8x64) ![6, 0] S1x64.size i6).emb x))
    (h7 : ∀ x, w7 x = G ((Rect.unit (s := S8x64) ![7, 0] S1x64.size i7).emb x)) :
    View.canon (⟨(Rect.unit (s := S8x64) ![7, 0] S1x64.size i7), w7⟩ :: ⟨(Rect.unit (s := S8x64) ![6, 0] S1x64.size i6), w6⟩ :: ⟨(Rect.unit (s := S8x64) ![5, 0] S1x64.size i5), w5⟩ :: ⟨(Rect.unit (s := S8x64) ![4, 0] S1x64.size i4), w4⟩ :: ⟨(Rect.unit (s := S8x64) ![3, 0] S1x64.size i3), w3⟩ :: ⟨(Rect.unit (s := S8x64) ![2, 0] S1x64.size i2), w2⟩ :: ⟨(Rect.unit (s := S8x64) ![1, 0] S1x64.size i1), w1⟩ :: ⟨(Rect.unit (s := S8x64) ![0, 0] S1x64.size i0), w0⟩ :: L) = G := by
  funext y
  refine View.canon_append_of_piecesOf G L [⟨(Rect.unit (s := S8x64) ![7, 0] S1x64.size i7), w7⟩, ⟨(Rect.unit (s := S8x64) ![6, 0] S1x64.size i6), w6⟩, ⟨(Rect.unit (s := S8x64) ![5, 0] S1x64.size i5), w5⟩, ⟨(Rect.unit (s := S8x64) ![4, 0] S1x64.size i4), w4⟩, ⟨(Rect.unit (s := S8x64) ![3, 0] S1x64.size i3), w3⟩, ⟨(Rect.unit (s := S8x64) ![2, 0] S1x64.size i2), w2⟩, ⟨(Rect.unit (s := S8x64) ![1, 0] S1x64.size i1), w1⟩, ⟨(Rect.unit (s := S8x64) ![0, 0] S1x64.size i0), w0⟩]
    ⟨h7, h6, h5, h4, h3, h2, h1, h0, trivial⟩ y
    (View.cover_of_tiledL (s := S8x64) _ S1x64.size (by sl_kernel_rfl) y)

/-- Eight stores of one head's stabiliser, each a block of `G`, leave `G`. -/
theorem eightM (G : Vec Ideal S8x128 .f32) (L : List (View.Piece (Elt Ideal) S8x128 .f32)) (i0 i1 i2 i3 i4 i5 i6 i7) (w0 w1 w2 w3 w4 w5 w6 w7 : S1x128.Idx → Elt Ideal .f32)
    (h0 : ∀ x, w0 x = G ((Rect.unit (s := S8x128) ![0, 0] S1x128.size i0).emb x))
    (h1 : ∀ x, w1 x = G ((Rect.unit (s := S8x128) ![1, 0] S1x128.size i1).emb x))
    (h2 : ∀ x, w2 x = G ((Rect.unit (s := S8x128) ![2, 0] S1x128.size i2).emb x))
    (h3 : ∀ x, w3 x = G ((Rect.unit (s := S8x128) ![3, 0] S1x128.size i3).emb x))
    (h4 : ∀ x, w4 x = G ((Rect.unit (s := S8x128) ![4, 0] S1x128.size i4).emb x))
    (h5 : ∀ x, w5 x = G ((Rect.unit (s := S8x128) ![5, 0] S1x128.size i5).emb x))
    (h6 : ∀ x, w6 x = G ((Rect.unit (s := S8x128) ![6, 0] S1x128.size i6).emb x))
    (h7 : ∀ x, w7 x = G ((Rect.unit (s := S8x128) ![7, 0] S1x128.size i7).emb x)) :
    View.canon (⟨(Rect.unit (s := S8x128) ![7, 0] S1x128.size i7), w7⟩ :: ⟨(Rect.unit (s := S8x128) ![6, 0] S1x128.size i6), w6⟩ :: ⟨(Rect.unit (s := S8x128) ![5, 0] S1x128.size i5), w5⟩ :: ⟨(Rect.unit (s := S8x128) ![4, 0] S1x128.size i4), w4⟩ :: ⟨(Rect.unit (s := S8x128) ![3, 0] S1x128.size i3), w3⟩ :: ⟨(Rect.unit (s := S8x128) ![2, 0] S1x128.size i2), w2⟩ :: ⟨(Rect.unit (s := S8x128) ![1, 0] S1x128.size i1), w1⟩ :: ⟨(Rect.unit (s := S8x128) ![0, 0] S1x128.size i0), w0⟩ :: L) = G := by
  funext y
  refine View.canon_append_of_piecesOf G L [⟨(Rect.unit (s := S8x128) ![7, 0] S1x128.size i7), w7⟩, ⟨(Rect.unit (s := S8x128) ![6, 0] S1x128.size i6), w6⟩, ⟨(Rect.unit (s := S8x128) ![5, 0] S1x128.size i5), w5⟩, ⟨(Rect.unit (s := S8x128) ![4, 0] S1x128.size i4), w4⟩, ⟨(Rect.unit (s := S8x128) ![3, 0] S1x128.size i3), w3⟩, ⟨(Rect.unit (s := S8x128) ![2, 0] S1x128.size i2), w2⟩, ⟨(Rect.unit (s := S8x128) ![1, 0] S1x128.size i1), w1⟩, ⟨(Rect.unit (s := S8x128) ![0, 0] S1x128.size i0), w0⟩]
    ⟨h7, h6, h5, h4, h3, h2, h1, h0, trivial⟩ y
    (View.cover_of_tiledL (s := S8x128) _ S1x128.size (by sl_kernel_rfl) y)

/-- Eight stores of one head's results, each a block of `G`, leave `G`. -/
theorem eightY (G : Vec Ideal S256x1024 .bf16) (L : List (View.Piece (Elt Ideal) S256x1024 .bf16)) (i0 i1 i2 i3 i4 i5 i6 i7) (w0 w1 w2 w3 w4 w5 w6 w7 : S256x128.Idx → Elt Ideal .bf16)
    (h0 : ∀ x, w0 x = G ((Rect.unit (s := S256x1024) ![0, 0] S256x128.size i0).emb x))
    (h1 : ∀ x, w1 x = G ((Rect.unit (s := S256x1024) ![0, 128] S256x128.size i1).emb x))
    (h2 : ∀ x, w2 x = G ((Rect.unit (s := S256x1024) ![0, 256] S256x128.size i2).emb x))
    (h3 : ∀ x, w3 x = G ((Rect.unit (s := S256x1024) ![0, 384] S256x128.size i3).emb x))
    (h4 : ∀ x, w4 x = G ((Rect.unit (s := S256x1024) ![0, 512] S256x128.size i4).emb x))
    (h5 : ∀ x, w5 x = G ((Rect.unit (s := S256x1024) ![0, 640] S256x128.size i5).emb x))
    (h6 : ∀ x, w6 x = G ((Rect.unit (s := S256x1024) ![0, 768] S256x128.size i6).emb x))
    (h7 : ∀ x, w7 x = G ((Rect.unit (s := S256x1024) ![0, 896] S256x128.size i7).emb x)) :
    View.canon (⟨(Rect.unit (s := S256x1024) ![0, 896] S256x128.size i7), w7⟩ :: ⟨(Rect.unit (s := S256x1024) ![0, 768] S256x128.size i6), w6⟩ :: ⟨(Rect.unit (s := S256x1024) ![0, 640] S256x128.size i5), w5⟩ :: ⟨(Rect.unit (s := S256x1024) ![0, 512] S256x128.size i4), w4⟩ :: ⟨(Rect.unit (s := S256x1024) ![0, 384] S256x128.size i3), w3⟩ :: ⟨(Rect.unit (s := S256x1024) ![0, 256] S256x128.size i2), w2⟩ :: ⟨(Rect.unit (s := S256x1024) ![0, 128] S256x128.size i1), w1⟩ :: ⟨(Rect.unit (s := S256x1024) ![0, 0] S256x128.size i0), w0⟩ :: L) = G := by
  funext y
  refine View.canon_append_of_piecesOf G L [⟨(Rect.unit (s := S256x1024) ![0, 896] S256x128.size i7), w7⟩, ⟨(Rect.unit (s := S256x1024) ![0, 768] S256x128.size i6), w6⟩, ⟨(Rect.unit (s := S256x1024) ![0, 640] S256x128.size i5), w5⟩, ⟨(Rect.unit (s := S256x1024) ![0, 512] S256x128.size i4), w4⟩, ⟨(Rect.unit (s := S256x1024) ![0, 384] S256x128.size i3), w3⟩, ⟨(Rect.unit (s := S256x1024) ![0, 256] S256x128.size i2), w2⟩, ⟨(Rect.unit (s := S256x1024) ![0, 128] S256x128.size i1), w1⟩, ⟨(Rect.unit (s := S256x1024) ![0, 0] S256x128.size i0), w0⟩]
    ⟨h7, h6, h5, h4, h3, h2, h1, h0, trivial⟩ y
    (View.cover_of_tiledL (s := S256x1024) _ S256x128.size (by sl_kernel_rfl) y)

/-- A load after stores reads what they leave. -/
theorem readCov_ld {κ sp} {s : Shape} {e} (v : View sig κ sp s e) (L : List (View.Piece (Elt Ideal) s e)) (R : Rect s) :
    v.readCov L R.toLoadRect = View.ld (View.canon L) R := View.readCov_eq_canon' v L R.toLoadRect

/-- A store in one head's row does not change what is loaded from another's. -/
theorem skipC (r h : ℕ) (i j w) (L : List (View.Piece (Elt Ideal) S8x64x128 .f32)) (hne : r < h) :
    View.ld (View.canon (⟨Rect.unit (s := S8x64x128) ![r, 0, 0] S1x64x128.size i, w⟩ :: L)) (Rect.unit ![h, 0, 0] S1x64x128.size j)
      = View.ld (View.canon L) (Rect.unit ![h, 0, 0] S1x64x128.size j) := by
  funext x
  refine View.canon_cons_of_not_mem _ L fun hm => ?_
  obtain ⟨y, hy⟩ := (Rect.unit (s := S8x64x128) ![r, 0, 0] S1x64x128.size i).exists_idx_of_mem hm
  have h0 : r + 1 * (y 0).val = h + 1 * (x 0).val := congrArg Fin.val (congrFun hy 0)
  have hy0 : (y 0).val = 0 := Nat.lt_one_iff.mp (y 0).isLt
  have hx0 : (x 0).val = 0 := Nat.lt_one_iff.mp (x 0).isLt
  omega

/-- A store in one head's row does not change what is loaded from another's. -/
theorem skipN (r h : ℕ) (i j w) (L : List (View.Piece (Elt Ideal) S8x64 .f32)) (hne : r < h) :
    View.ld (View.canon (⟨Rect.unit (s := S8x64) ![r, 0] S1x64.size i, w⟩ :: L)) (Rect.unit ![h, 0] S1x64.size j)
      = View.ld (View.canon L) (Rect.unit ![h, 0] S1x64.size j) := by
  funext x
  refine View.canon_cons_of_not_mem _ L fun hm => ?_
  obtain ⟨y, hy⟩ := (Rect.unit (s := S8x64) ![r, 0] S1x64.size i).exists_idx_of_mem hm
  have h0 : r + 1 * (y 0).val = h + 1 * (x 0).val := congrArg Fin.val (congrFun hy 0)
  have hy0 : (y 0).val = 0 := Nat.lt_one_iff.mp (y 0).isLt
  have hx0 : (x 0).val = 0 := Nat.lt_one_iff.mp (x 0).isLt
  omega

/-- A store in one head's row does not change what is loaded from another's. -/
theorem skipM (r h : ℕ) (i j w) (L : List (View.Piece (Elt Ideal) S8x128 .f32)) (hne : r < h) :
    View.ld (View.canon (⟨Rect.unit (s := S8x128) ![r, 0] S1x128.size i, w⟩ :: L)) (Rect.unit ![h, 0] S1x1.size j)
      = View.ld (View.canon L) (Rect.unit ![h, 0] S1x1.size j) := by
  funext x
  refine View.canon_cons_of_not_mem _ L fun hm => ?_
  obtain ⟨y, hy⟩ := (Rect.unit (s := S8x128) ![r, 0] S1x128.size i).exists_idx_of_mem hm
  have h0 : r + 1 * (y 0).val = h + 1 * (x 0).val := congrArg Fin.val (congrFun hy 0)
  have hy0 : (y 0).val = 0 := Nat.lt_one_iff.mp (y 0).isLt
  have hx0 : (x 0).val = 0 := Nat.lt_one_iff.mp (x 0).isLt
  omega

end Cert.Kernel6Ideal.Cell
end
-- ==== Proof.CellA.lean ====
module

public import proofs.«01_k».proof.Proof.CellBlock

@[expose] public section

set_option maxRecDepth 16384

noncomputable section

open Idealize.ShloMosaic Idealize.ShloMosaic.TcCoe Idealize.SL.Sem

namespace Cert.Kernel6Ideal.Cell.A

open Cert.Kernel6Ideal Cert.Kernel6Ideal.Gen
open Cert.Kernel6Ideal.Gen.kernelRun0_A.sl

/-- The fill before the first head leaves zeros. -/
theorem fillC : View.canon (HS0_1 (F := Ideal)) = (fun _ => 0) := by
  unfold HS0_1
  rw [View.canon_cons_unit_lit _ _ _ (by decide)]
  funext j
  pointwise [k0_pay2]

/-- Head 0 finds zeros. -/
theorem uC0 (j) : View.ld (View.canon (HS0_1 (F := Ideal))) (Rect.unit (s := S8x64x128) ![0, 0, 0] (no_index S1x64x128.size) j)
    = View.ld (fun _ => 0) (Rect.unit (s := S8x64x128) ![0, 0, 0] S1x64x128.size j) := by
  rw [fillC]

/-- The heads from 1 on find zeros after the stores of the heads before. -/
theorem gC1 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 0 < h) (j) :
    View.ld (View.canon (HS0_2 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_2
  rw [skipC 0 h _ _ _ _ hh, fillC]

/-- Head 1 finds zeros. -/
theorem uC1 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_2 (F := Ideal) c arg2 harg2 arg3 harg3 arg6 harg6 arg7 harg7 arg10 arg12 x1 x2 x5 x6)) (Rect.unit (s := S8x64x128) ![1, 0, 0] (no_index S1x64x128.size) j)
      = View.ld (fun _ => 0) (Rect.unit (s := S8x64x128) ![1, 0, 0] S1x64x128.size j) := gC1 c arg2 harg2 arg3 harg3 arg6 harg6 arg7 harg7 arg10 arg12 x1 x2 x5 x6 1 (by decide) j

/-- The heads from 2 on find zeros after the stores of the heads before. -/
theorem gC2 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 1 < h) (j) :
    View.ld (View.canon (HS0_3 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_3
  rw [skipC 1 h _ _ _ _ hh]
  exact gC1 _ _ _ _ _ _ _ _ _ _ _ _ _ _ _ h (by omega) j

/-- Head 2 finds zeros. -/
theorem uC2 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_3 (F := Ideal) c arg2 harg2 arg3 harg3 arg6 harg6 arg7 harg7 arg10 arg12 x1 x2 x5 x6)) (Rect.unit (s := S8x64x128) ![2, 0, 0] (no_index S1x64x128.size) j)
      = View.ld (fun _ => 0) (Rect.unit (s := S8x64x128) ![2, 0, 0] S1x64x128.size j) := gC2 c arg2 harg2 arg3 harg3 arg6 harg6 arg7 harg7 arg10 arg12 x1 x2 x5 x6 2 (by decide) j

/-- The heads from 3 on find zeros after the stores of the heads before. -/
theorem gC3 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 2 < h) (j) :
    View.ld (View.canon (HS0_4 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_4
  rw [skipC 2 h _ _ _ _ hh]
  exact gC2 _ _ _ _ _ _ _ _ _ _ _ _ _ _ _ h (by omega) j

/-- Head 3 finds zeros. -/
theorem uC3 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_4 (F := Ideal) c arg2 harg2 arg3 harg3 arg6 harg6 arg7 harg7 arg10 arg12 x1 x2 x5 x6)) (Rect.unit (s := S8x64x128) ![3, 0, 0] (no_index S1x64x128.size) j)
      = View.ld (fun _ => 0) (Rect.unit (s := S8x64x128) ![3, 0, 0] S1x64x128.size j) := gC3 c arg2 harg2 arg3 harg3 arg6 harg6 arg7 harg7 arg10 arg12 x1 x2 x5 x6 3 (by decide) j

/-- The heads from 4 on find zeros after the stores of the heads before. -/
theorem gC4 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 3 < h) (j) :
    View.ld (View.canon (HS0_5 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_5
  rw [skipC 3 h _ _ _ _ hh]
  exact gC3 _ _ _ _ _ _ _ _ _ _ _ _ _ _ _ h (by omega) j

/-- Head 4 finds zeros. -/
theorem uC4 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_5 (F := Ideal) c arg2 harg2 arg3 harg3 arg6 harg6 arg7 harg7 arg10 arg12 x1 x2 x5 x6)) (Rect.unit (s := S8x64x128) ![4, 0, 0] (no_index S1x64x128.size) j)
      = View.ld (fun _ => 0) (Rect.unit (s := S8x64x128) ![4, 0, 0] S1x64x128.size j) := gC4 c arg2 harg2 arg3 harg3 arg6 harg6 arg7 harg7 arg10 arg12 x1 x2 x5 x6 4 (by decide) j

/-- The heads from 5 on find zeros after the stores of the heads before. -/
theorem gC5 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 4 < h) (j) :
    View.ld (View.canon (HS0_6 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_6
  rw [skipC 4 h _ _ _ _ hh]
  exact gC4 _ _ _ _ _ _ _ _ _ _ _ _ _ _ _ h (by omega) j

/-- Head 5 finds zeros. -/
theorem uC5 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_6 (F := Ideal) c arg2 harg2 arg3 harg3 arg6 harg6 arg7 harg7 arg10 arg12 x1 x2 x5 x6)) (Rect.unit (s := S8x64x128) ![5, 0, 0] (no_index S1x64x128.size) j)
      = View.ld (fun _ => 0) (Rect.unit (s := S8x64x128) ![5, 0, 0] S1x64x128.size j) := gC5 c arg2 harg2 arg3 harg3 arg6 harg6 arg7 harg7 arg10 arg12 x1 x2 x5 x6 5 (by decide) j

/-- The heads from 6 on find zeros after the stores of the heads before. -/
theorem gC6 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 5 < h) (j) :
    View.ld (View.canon (HS0_7 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_7
  rw [skipC 5 h _ _ _ _ hh]
  exact gC5 _ _ _ _ _ _ _ _ _ _ _ _ _ _ _ h (by omega) j

/-- Head 6 finds zeros. -/
theorem uC6 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_7 (F := Ideal) c arg2 harg2 arg3 harg3 arg6 harg6 arg7 harg7 arg10 arg12 x1 x2 x5 x6)) (Rect.unit (s := S8x64x128) ![6, 0, 0] (no_index S1x64x128.size) j)
      = View.ld (fun _ => 0) (Rect.unit (s := S8x64x128) ![6, 0, 0] S1x64x128.size j) := gC6 c arg2 harg2 arg3 harg3 arg6 harg6 arg7 harg7 arg10 arg12 x1 x2 x5 x6 6 (by decide) j

/-- The heads from 7 on find zeros after the stores of the heads before. -/
theorem gC7 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (h : ℕ) (hh : 6 < h) (j) :
    View.ld (View.canon (HS0_8 (F := Ideal) c arg2 harg2 arg3 harg3 arg6 harg6 arg7 harg7 arg10 arg12 x1 x2 x5 x6)) (Rect.unit (s := S8x64x128) ![h, 0, 0] S1x64x128.size j)
      = View.ld (fun _ => 0) (Rect.unit (s := S8x64x128) ![h, 0, 0] S1x64x128.size j) := by
  unfold HS0_8
  rw [skipC 6 h _ _ _ _ hh]
  exact gC6 _ _ _ _ _ _ _ _ _ _ _ _ _ _ _ h (by omega) j

/-- Head 7 finds zeros. -/
theorem uC7 (c : Dev nD) (arg2 : Memref sig .tc .vmem S256x512 .f32) (harg2 : arg2.IsWhole) (arg3 : Memref sig .tc .vmem S256x1024 .f32) (harg3 : arg3.IsWhole) (arg6 : Memref sig .tc .vmem S256x128 .f32) (harg6 : arg6.IsWhole) (arg7 : Memref sig .tc .vmem S1x128 .f32) (harg7 : arg7.IsWhole) (arg10 : Memref sig .tc .vmem S8x64x128 .f32) (arg12 : Memref sig .tc .vmem S8x128 .f32) (x1 : Vec Ideal S256x512 .f32) (x2 : Vec Ideal S256x1024 .f32) (x5 : Vec Ideal S256x128 .f32) (x6 : Vec Ideal S1x128 .f32) (j) :
    View.ld (View.canon (HS0_8 (F := Ideal) c arg2 harg2 arg3 harg3 arg6 harg6 arg7 harg7 arg10 arg12 x1 x2 x5 x6)) (Rect.unit (s := S8x64x128) ![7, 0, 0] (no_index S1x64x128.size) j)
      = View.ld (fun _ => 0) (Rect.unit (s := S8x64x128) ![7, 0, 0] S1x64x128.size j) := gC7 c arg2 harg2 arg3 harg3 arg6 harg6 arg7 harg7 arg10 arg12 x1 x2 x5 x6 7 (by decide) j

/-- The fill before the first head leaves zeros. -/
theorem fillN : View.canon (HS1_1 (F := Ideal)) = (fun _ => 0) := by
  unfold HS1_1
  rw [View.canon_cons_unit_lit _ _ _ (by decide)]
  funext j
  pointwise [k0_pay3]

/-- Head 0 finds zeros. -/
theorem uN0 (j) : View.ld (View.canon (HS1_1 (F := Ideal))) (Rect.unit (s := S8x64) ![0, 0] (no_index S1x64.size) j)
    = View.ld (fun _ => 0) (Rect.unit (s := S8x64) ![0, 0] S1x64.size j) := by
  rw [fillN]

/-- The heads from 1 on find zeros after the stores of the heads before. -/
theorem gN1 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 0 < h) (j) :
    View.ld (View.canon (HS1_2 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_2
  rw [skipN 0 h _ _ _ _ hh, fillN]

/-- Head 1 finds zeros. -/
theorem uN1 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_2 (F := Ideal) c arg2 harg2 arg6 harg6 arg7 harg7 arg11 arg12 x1 x5 x6)) (Rect.unit (s := S8x64) ![1, 0] (no_index S1x64.size) j)
      = View.ld (fun _ => 0) (Rect.unit (s := S8x64) ![1, 0] S1x64.size j) := gN1 c arg2 harg2 arg6 harg6 arg7 harg7 arg11 arg12 x1 x5 x6 1 (by decide) j

/-- The heads from 2 on find zeros after the stores of the heads before. -/
theorem gN2 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 1 < h) (j) :
    View.ld (View.canon (HS1_3 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_3
  rw [skipN 1 h _ _ _ _ hh]
  exact gN1 _ _ _ _ _ _ _ _ _ _ _ _ h (by omega) j

/-- Head 2 finds zeros. -/
theorem uN2 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_3 (F := Ideal) c arg2 harg2 arg6 harg6 arg7 harg7 arg11 arg12 x1 x5 x6)) (Rect.unit (s := S8x64) ![2, 0] (no_index S1x64.size) j)
      = View.ld (fun _ => 0) (Rect.unit (s := S8x64) ![2, 0] S1x64.size j) := gN2 c arg2 harg2 arg6 harg6 arg7 harg7 arg11 arg12 x1 x5 x6 2 (by decide) j

/-- The heads from 3 on find zeros after the stores of the heads before. -/
theorem gN3 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 2 < h) (j) :
    View.ld (View.canon (HS1_4 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_4
  rw [skipN 2 h _ _ _ _ hh]
  exact gN2 _ _ _ _ _ _ _ _ _ _ _ _ h (by omega) j

/-- Head 3 finds zeros. -/
theorem uN3 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_4 (F := Ideal) c arg2 harg2 arg6 harg6 arg7 harg7 arg11 arg12 x1 x5 x6)) (Rect.unit (s := S8x64) ![3, 0] (no_index S1x64.size) j)
      = View.ld (fun _ => 0) (Rect.unit (s := S8x64) ![3, 0] S1x64.size j) := gN3 c arg2 harg2 arg6 harg6 arg7 harg7 arg11 arg12 x1 x5 x6 3 (by decide) j

/-- The heads from 4 on find zeros after the stores of the heads before. -/
theorem gN4 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 3 < h) (j) :
    View.ld (View.canon (HS1_5 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_5
  rw [skipN 3 h _ _ _ _ hh]
  exact gN3 _ _ _ _ _ _ _ _ _ _ _ _ h (by omega) j

/-- Head 4 finds zeros. -/
theorem uN4 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_5 (F := Ideal) c arg2 harg2 arg6 harg6 arg7 harg7 arg11 arg12 x1 x5 x6)) (Rect.unit (s := S8x64) ![4, 0] (no_index S1x64.size) j)
      = View.ld (fun _ => 0) (Rect.unit (s := S8x64) ![4, 0] S1x64.size j) := gN4 c arg2 harg2 arg6 harg6 arg7 harg7 arg11 arg12 x1 x5 x6 4 (by decide) j

/-- The heads from 5 on find zeros after the stores of the heads before. -/
theorem gN5 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 4 < h) (j) :
    View.ld (View.canon (HS1_6 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_6
  rw [skipN 4 h _ _ _ _ hh]
  exact gN4 _ _ _ _ _ _ _ _ _ _ _ _ h (by omega) j

/-- Head 5 finds zeros. -/
theorem uN5 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_6 (F := Ideal) c arg2 harg2 arg6 harg6 arg7 harg7 arg11 arg12 x1 x5 x6)) (Rect.unit (s := S8x64) ![5, 0] (no_index S1x64.size) j)
      = View.ld (fun _ => 0) (Rect.unit (s := S8x64) ![5, 0] S1x64.size j) := gN5 c arg2 harg2 arg6 harg6 arg7 harg7 arg11 arg12 x1 x5 x6 5 (by decide) j

/-- The heads from 6 on find zeros after the stores of the heads before. -/
theorem gN6 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 5 < h) (j) :
    View.ld (View.canon (HS1_7 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_7
  rw [skipN 5 h _ _ _ _ hh]
  exact gN5 _ _ _ _ _ _ _ _ _ _ _ _ h (by omega) j

/-- Head 6 finds zeros. -/
theorem uN6 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_7 (F := Ideal) c arg2 harg2 arg6 harg6 arg7 harg7 arg11 arg12 x1 x5 x6)) (Rect.unit (s := S8x64) ![6, 0] (no_index S1x64.size) j)
      = View.ld (fun _ => 0) (Rect.unit (s := S8x64) ![6, 0] S1x64.size j) := gN6 c arg2 harg2 arg6 harg6 arg7 harg7 arg11 arg12 x1 x5 x6 6 (by decide) j

/-- The heads from 7 on find zeros after the stores of the heads before. -/
theorem gN7 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (h : ℕ) (hh : 6 < h) (j) :
    View.ld (View.canon (HS1_8 (F := Ideal) c arg2 harg2 arg6 harg6 arg7 harg7 arg11 arg12 x1 x5 x6)) (Rect.unit (s := S8x64) ![h, 0] S1x64.size j)
      = View.ld (fun _ => 0) (Rect.unit (s := S8x64) ![h, 0] S1x64.size j) := by
  unfold HS1_8
  rw [skipN 6 h _ _ _ _ hh]
  exact gN6 _ _ _ _ _ _ _ _ _ _ _ _ h (by omega) j

/-- Head 7 finds zeros. -/
theorem uN7 (c : Dev nD) (arg2 : Memref sig .tc .vmem S256x512 .f32) (harg2 : arg2.IsWhole) (arg6 : Memref sig .tc .vmem S256x128 .f32) (harg6 : arg6.IsWhole) (arg7 : Memref sig .tc .vmem S1x128 .f32) (harg7 : arg7.IsWhole) (arg11 : Memref sig .tc .vmem S8x64 .f32) (arg12 : Memref sig .tc .vmem S8x128 .f32) (x1 : Vec Ideal S256x512 .f32) (x5 : Vec Ideal S256x128 .f32) (x6 : Vec Ideal S1x128 .f32) (j) :
    View.ld (View.canon (HS1_8 (F := Ideal) c arg2 harg2 arg6 harg6 arg7 harg7 arg11 arg12 x1 x5 x6)) (Rect.unit (s := S8x64) ![7, 0] (no_index S1x64.size) j)
      = View.ld (fun _ => 0) (Rect.unit (s := S8x64) ![7, 0] S1x64.size j) := gN7 c arg2 harg2 arg6 harg6 arg7 harg7 arg11 arg12 x1 x5 x6 7 (by decide) j

/-- The fill before the first head leaves zeros. -/
theorem fillM : View.canon (HS2_1 (F := Ideal)) = (fun _ => 0) := by
  unfold HS2_1
  rw [View.canon_cons_unit_lit _ _ _ (by decide)]
  funext j
  pointwise [k0_pay4]

/-- Head 0 finds zeros. -/
theorem uM0 (j) : View.ld (View.canon (HS2_1 (F := Ideal))) (Rect.unit (s := S8x128) ![0, 0] (no_index S1x1.size) j)
    = View.ld (fun _ => 0) (Rect.unit (s := S8x128) ![0, 0] S1x1.size j) := by
  rw [fillM]

/-- The heads from 1 on find zeros after the stores of the heads before. -/
theorem gM1 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 0 < h) (j) :
    View.ld (View.canon (HS2_2 (F := Ideal) c arg6 harg6 arg7 harg7 arg12 x5 x6)) (Rect.unit (s := S8x128) ![h, 0] S1x1.size j)
      = View.ld (fun _ => 0) (Rect.unit (s := S8x128) ![h, 0] S1x1.size j) := by
  unfold HS2_2
  rw [skipM 0 h _ _ _ _ hh, fillM]

/-- Head 1 finds zeros. -/
theorem uM1 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_2 (F := Ideal) c arg6 harg6 arg7 harg7 arg12 x5 x6)) (Rect.unit (s := S8x128) ![1, 0] (no_index S1x1.size) j)
      = View.ld (fun _ => 0) (Rect.unit (s := S8x128) ![1, 0] S1x1.size j) := gM1 c arg6 harg6 arg7 harg7 arg12 x5 x6 1 (by decide) j

/-- The heads from 2 on find zeros after the stores of the heads before. -/
theorem gM2 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 1 < h) (j) :
    View.ld (View.canon (HS2_3 (F := Ideal) c arg6 harg6 arg7 harg7 arg12 x5 x6)) (Rect.unit (s := S8x128) ![h, 0] S1x1.size j)
      = View.ld (fun _ => 0) (Rect.unit (s := S8x128) ![h, 0] S1x1.size j) := by
  unfold HS2_3
  rw [skipM 1 h _ _ _ _ hh]
  exact gM1 _ _ _ _ _ _ _ _ h (by omega) j

/-- Head 2 finds zeros. -/
theorem uM2 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_3 (F := Ideal) c arg6 harg6 arg7 harg7 arg12 x5 x6)) (Rect.unit (s := S8x128) ![2, 0] (no_index S1x1.size) j)
      = View.ld (fun _ => 0) (Rect.unit (s := S8x128) ![2, 0] S1x1.size j) := gM2 c arg6 harg6 arg7 harg7 arg12 x5 x6 2 (by decide) j

/-- The heads from 3 on find zeros after the stores of the heads before. -/
theorem gM3 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 2 < h) (j) :
    View.ld (View.canon (HS2_4 (F := Ideal) c arg6 harg6 arg7 harg7 arg12 x5 x6)) (Rect.unit (s := S8x128) ![h, 0] S1x1.size j)
      = View.ld (fun _ => 0) (Rect.unit (s := S8x128) ![h, 0] S1x1.size j) := by
  unfold HS2_4
  rw [skipM 2 h _ _ _ _ hh]
  exact gM2 _ _ _ _ _ _ _ _ h (by omega) j

/-- Head 3 finds zeros. -/
theorem uM3 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_4 (F := Ideal) c arg6 harg6 arg7 harg7 arg12 x5 x6)) (Rect.unit (s := S8x128) ![3, 0] (no_index S1x1.size) j)
      = View.ld (fun _ => 0) (Rect.unit (s := S8x128) ![3, 0] S1x1.size j) := gM3 c arg6 harg6 arg7 harg7 arg12 x5 x6 3 (by decide) j

/-- The heads from 4 on find zeros after the stores of the heads before. -/
theorem gM4 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 3 < h) (j) :
    View.ld (View.canon (HS2_5 (F := Ideal) c arg6 harg6 arg7 harg7 arg12 x5 x6)) (Rect.unit (s := S8x128) ![h, 0] S1x1.size j)
      = View.ld (fun _ => 0) (Rect.unit (s := S8x128) ![h, 0] S1x1.size j) := by
  unfold HS2_5
  rw [skipM 3 h _ _ _ _ hh]
  exact gM3 _ _ _ _ _ _ _ _ h (by omega) j

/-- Head 4 finds zeros. -/
theorem uM4 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_5 (F := Ideal) c arg6 harg6 arg7 harg7 arg12 x5 x6)) (Rect.unit (s := S8x128) ![4, 0] (no_index S1x1.size) j)
      = View.ld (fun _ => 0) (Rect.unit (s := S8x128) ![4, 0] S1x1.size j) := gM4 c arg6 harg6 arg7 harg7 arg12 x5 x6 4 (by decide) j

/-- The heads from 5 on find zeros after the stores of the heads before. -/
theorem gM5 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 4 < h) (j) :
    View.ld (View.canon (HS2_6 (F := Ideal) c arg6 harg6 arg7 harg7 arg12 x5 x6)) (Rect.unit (s := S8x128) ![h, 0] S1x1.size j)
      = View.ld (fun _ => 0) (Rect.unit (s := S8x128) ![h, 0] S1x1.size j) := by
  unfold HS2_6
  rw [skipM 4 h _ _ _ _ hh]
  exact gM4 _ _ _ _ _ _ _ _ h (by omega) j

/-- Head 5 finds zeros. -/
theorem uM5 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_6 (F := Ideal) c arg6 harg6 arg7 harg7 arg12 x5 x6)) (Rect.unit (s := S8x128) ![5, 0] (no_index S1x1.size) j)
      = View.ld (fun _ => 0) (Rect.unit (s := S8x128) ![5, 0] S1x1.size j) := gM5 c arg6 harg6 arg7 harg7 arg12 x5 x6 5 (by decide) j

/-- The heads from 6 on find zeros after the stores of the heads before. -/
theorem gM6 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 5 < h) (j) :
    View.ld (View.canon (HS2_7 (F := Ideal) c arg6 harg6 arg7 harg7 arg12 x5 x6)) (Rect.unit (s := S8x128) ![h, 0] S1x1.size j)
      = View.ld (fun _ => 0) (Rect.unit (s := S8x128) ![h, 0] S1x1.size j) := by
  unfold HS2_7
  rw [skipM 5 h _ _ _ _ hh]
  exact gM5 _ _ _ _ _ _ _ _ h (by omega) j

/-- Head 6 finds zeros. -/
theorem uM6 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_7 (F := Ideal) c arg6 harg6 arg7 harg7 arg12 x5 x6)) (Rect.unit (s := S8x128) ![6, 0] (no_index S1x1.size) j)
      = View.ld (fun _ => 0) (Rect.unit (s := S8x128) ![6, 0] S1x1.size j) := gM6 c arg6 harg6 arg7 harg7 arg12 x5 x6 6 (by decide) j

/-- The heads from 7 on find zeros after the stores of the heads before. -/
theorem gM7 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (h : ℕ) (hh : 6 < h) (j) :
    View.ld (View.canon (HS2_8 (F := Ideal) c arg6 harg6 arg7 harg7 arg12 x5 x6)) (Rect.unit (s := S8x128) ![h, 0] S1x1.size j)
      = View.ld (fun _ => 0) (Rect.unit (s := S8x128) ![h, 0] S1x1.size j) := by
  unfold HS2_8
  rw [skipM 6 h _ _ _ _ hh]
  exact gM6 _ _ _ _ _ _ _ _ h (by omega) j

/-- Head 7 finds zeros. -/
theorem uM7 (c : Dev nD) (arg6 : Memref sig .tc .vmem S256x128 .f32) (harg6 : arg6.IsWhole) (arg7 : Memref sig .tc .vmem S1x128 .f32) (harg7 : arg7.IsWhole) (arg12 : Memref sig .tc .vmem S8x128 .f32) (x5 : Vec Ideal S256x128 .f32) (x6 : Vec Ideal S1x128 .f32) (j) :
    View.ld (View.canon (HS2_8 (F := Ideal) c arg6 harg6 arg7 harg7 arg12 x5 x6)) (Rect.unit (s := S8x128) ![7, 0] (no_index S1x1.size) j)
      = View.ld (fun _ => 0) (Rect.unit (s := S8x128) ![7, 0] S1x1.size j) := gM7 c arg6 harg6 arg7 harg7 arg12 x5 x6 7 (by decide) j

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S8x64x128 .f32) (harg10 : arg10.IsWhole) (arg11 : Memref sig .tc .vmem S8x64 .f32) (harg11 : arg11.IsWhole) (arg12 : Memref sig .tc .vmem S8x128 .f32) (harg12 : arg12.IsWhole) (hc0 : cond0_0 i)
  (x0 : Vec Ideal S256x512 .f32) (x1 : Vec Ideal S256x512 .f32) (x2 : Vec Ideal S256x1024 .f32) (x3 : Vec Ideal S256x1024 .f32) (x4 : Vec Ideal S256x1024 .f32) (x5 : Vec Ideal S256x128 .f32) (x6 : Vec Ideal S1x128 .f32) (x7 : Vec Ideal S1x1024 .f32)

/-- A point leaves the matrix states of its block. -/
theorem cB_eq : sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = cB x1 x2 x5 x6 (fun _ => 0) (fun _ => 0) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  unfold HS0_8 HS0_7 HS0_6 HS0_5 HS0_4 HS0_3 HS0_2
  refine eightC _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v57, v647, v656, v658, v66, v68, v765, v774, v776, v883, v892, v894, View.readAt_eq_ld, Memref.IsWhole.read_unread, readCov_ld, uC0, uC1, uC2, uC3, uC4, uC5, uC6, uC7, uN0, uN1, uN2, uN3, uN4, uN5, uN6, uN7, uM0, uM1, uM2, uM3, uM4, uM5, uM6, uM7]
  · exact cB_emb x1 x2 x5 x6 (fun _ => 0) (fun _ => 0) 0 _ x
  · exact cB_emb x1 x2 x5 x6 (fun _ => 0) (fun _ => 0) 1 _ x
  · exact cB_emb x1 x2 x5 x6 (fun _ => 0) (fun _ => 0) 2 _ x
  · exact cB_emb x1 x2 x5 x6 (fun _ => 0) (fun _ => 0) 3 _ x
  · exact cB_emb x1 x2 x5 x6 (fun _ => 0) (fun _ => 0) 4 _ x
  · exact cB_emb x1 x2 x5 x6 (fun _ => 0) (fun _ => 0) 5 _ x
  · exact cB_emb x1 x2 x5 x6 (fun _ => 0) (fun _ => 0) 6 _ x
  · exact cB_emb x1 x2 x5 x6 (fun _ => 0) (fun _ => 0) 7 _ x

/-- A point leaves the vector states of its block. -/
theorem nB_eq : sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = nB x1 x5 x6 (fun _ => 0) (fun _ => 0) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  unfold HS1_8 HS1_7 HS1_6 HS1_5 HS1_4 HS1_3 HS1_2
  refine eightN _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v57, v647, v656, v658, v66, v68, v765, v774, v776, v883, v892, v894, View.readAt_eq_ld, Memref.IsWhole.read_unread, readCov_ld, uC0, uC1, uC2, uC3, uC4, uC5, uC6, uC7, uN0, uN1, uN2, uN3, uN4, uN5, uN6, uN7, uM0, uM1, uM2, uM3, uM4, uM5, uM6, uM7]
  · exact nB_emb x1 x5 x6 (fun _ => 0) (fun _ => 0) 0 _ x
  · exact nB_emb x1 x5 x6 (fun _ => 0) (fun _ => 0) 1 _ x
  · exact nB_emb x1 x5 x6 (fun _ => 0) (fun _ => 0) 2 _ x
  · exact nB_emb x1 x5 x6 (fun _ => 0) (fun _ => 0) 3 _ x
  · exact nB_emb x1 x5 x6 (fun _ => 0) (fun _ => 0) 4 _ x
  · exact nB_emb x1 x5 x6 (fun _ => 0) (fun _ => 0) 5 _ x
  · exact nB_emb x1 x5 x6 (fun _ => 0) (fun _ => 0) 6 _ x
  · exact nB_emb x1 x5 x6 (fun _ => 0) (fun _ => 0) 7 _ x

/-- A point leaves the stabilisers of its block. -/
theorem mB_eq : sout0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = mB x5 x6 (fun _ => 0) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  unfold HS2_8 HS2_7 HS2_6 HS2_5 HS2_4 HS2_3 HS2_2
  refine eightM _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v57, v647, v656, v658, v66, v68, v765, v774, v776, v883, v892, v894, View.readAt_eq_ld, Memref.IsWhole.read_unread, readCov_ld, uC0, uC1, uC2, uC3, uC4, uC5, uC6, uC7, uN0, uN1, uN2, uN3, uN4, uN5, uN6, uN7, uM0, uM1, uM2, uM3, uM4, uM5, uM6, uM7]
  · exact mB_emb x5 x6 (fun _ => 0) 0 _ x
  · exact mB_emb x5 x6 (fun _ => 0) 1 _ x
  · exact mB_emb x5 x6 (fun _ => 0) 2 _ x
  · exact mB_emb x5 x6 (fun _ => 0) 3 _ x
  · exact mB_emb x5 x6 (fun _ => 0) 4 _ x
  · exact mB_emb x5 x6 (fun _ => 0) 5 _ x
  · exact mB_emb x5 x6 (fun _ => 0) 6 _ x
  · exact mB_emb x5 x6 (fun _ => 0) 7 _ x

/-- A point leaves the results of its block. -/
theorem yB_eq : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = yB x0 x1 x2 x3 x4 x5 x6 x7 (fun _ => 0) (fun _ => 0) (fun _ => 0) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  refine eightY _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v57, v647, v656, v658, v66, v68, v765, v774, v776, v883, v892, v894, View.readAt_eq_ld, Memref.IsWhole.read_unread, readCov_ld, uC0, uC1, uC2, uC3, uC4, uC5, uC6, uC7, uN0, uN1, uN2, uN3, uN4, uN5, uN6, uN7, uM0, uM1, uM2, uM3, uM4, uM5, uM6, uM7]
  · exact yB_emb x0 x1 x2 x3 x4 x5 x6 x7 (fun _ => 0) (fun _ => 0) (fun _ => 0) 0 _ x
  · exact yB_emb x0 x1 x2 x3 x4 x5 x6 x7 (fun _ => 0) (fun _ => 0) (fun _ => 0) 1 _ x
  · exact yB_emb x0 x1 x2 x3 x4 x5 x6 x7 (fun _ => 0) (fun _ => 0) (fun _ => 0) 2 _ x
  · exact yB_emb x0 x1 x2 x3 x4 x5 x6 x7 (fun _ => 0) (fun _ => 0) (fun _ => 0) 3 _ x
  · exact yB_emb x0 x1 x2 x3 x4 x5 x6 x7 (fun _ => 0) (fun _ => 0) (fun _ => 0) 4 _ x
  · exact yB_emb x0 x1 x2 x3 x4 x5 x6 x7 (fun _ => 0) (fun _ => 0) (fun _ => 0) 5 _ x
  · exact yB_emb x0 x1 x2 x3 x4 x5 x6 x7 (fun _ => 0) (fun _ => 0) (fun _ => 0) 6 _ x
  · exact yB_emb x0 x1 x2 x3 x4 x5 x6 x7 (fun _ => 0) (fun _ => 0) (fun _ => 0) 7 _ x

end Cert.Kernel6Ideal.Cell.A
end
-- ==== Proof.CellB.lean ====
module

public import proofs.«01_k».proof.Proof.CellBlock

@[expose] public section

set_option maxRecDepth 16384

noncomputable section

open Idealize.ShloMosaic Idealize.ShloMosaic.TcCoe Idealize.SL.Sem

namespace Cert.Kernel6Ideal.Cell.B

open Cert.Kernel6Ideal Cert.Kernel6Ideal.Gen
open Cert.Kernel6Ideal.Gen.kernelRun0_B.sl

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S8x64x128 .f32) (harg10 : arg10.IsWhole) (arg11 : Memref sig .tc .vmem S8x64 .f32) (harg11 : arg11.IsWhole) (arg12 : Memref sig .tc .vmem S8x128 .f32) (harg12 : arg12.IsWhole) (hc0 : ¬cond0_0 i)
  (x0 : Vec Ideal S256x512 .f32) (x1 : Vec Ideal S256x512 .f32) (x2 : Vec Ideal S256x1024 .f32) (x3 : Vec Ideal S256x1024 .f32) (x4 : Vec Ideal S256x1024 .f32) (x5 : Vec Ideal S256x128 .f32) (x6 : Vec Ideal S1x128 .f32) (x7 : Vec Ideal S1x1024 .f32) (xs0 : Vec Ideal S8x64x128 .f32) (xs1 : Vec Ideal S8x64 .f32) (xs2 : Vec Ideal S8x128 .f32)

/-- A point leaves the matrix states of its block. -/
theorem cB_eq : sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2 = cB x1 x2 x5 x6 xs0 xs2 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2)]
  unfold kernelRun0_B
  dsimp only
  refine eightC _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v647, v656, v658, v765, v774, v776, v883, v892, v894, View.readAt_eq_ld, Memref.IsWhole.read_unread]
  · exact cB_emb x1 x2 x5 x6 xs0 xs2 0 _ x
  · exact cB_emb x1 x2 x5 x6 xs0 xs2 1 _ x
  · exact cB_emb x1 x2 x5 x6 xs0 xs2 2 _ x
  · exact cB_emb x1 x2 x5 x6 xs0 xs2 3 _ x
  · exact cB_emb x1 x2 x5 x6 xs0 xs2 4 _ x
  · exact cB_emb x1 x2 x5 x6 xs0 xs2 5 _ x
  · exact cB_emb x1 x2 x5 x6 xs0 xs2 6 _ x
  · exact cB_emb x1 x2 x5 x6 xs0 xs2 7 _ x

/-- A point leaves the vector states of its block. -/
theorem nB_eq : sout0_B_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2 = nB x1 x5 x6 xs1 xs2 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2)]
  unfold kernelRun0_B
  dsimp only
  refine eightN _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v647, v656, v658, v765, v774, v776, v883, v892, v894, View.readAt_eq_ld, Memref.IsWhole.read_unread]
  · exact nB_emb x1 x5 x6 xs1 xs2 0 _ x
  · exact nB_emb x1 x5 x6 xs1 xs2 1 _ x
  · exact nB_emb x1 x5 x6 xs1 xs2 2 _ x
  · exact nB_emb x1 x5 x6 xs1 xs2 3 _ x
  · exact nB_emb x1 x5 x6 xs1 xs2 4 _ x
  · exact nB_emb x1 x5 x6 xs1 xs2 5 _ x
  · exact nB_emb x1 x5 x6 xs1 xs2 6 _ x
  · exact nB_emb x1 x5 x6 xs1 xs2 7 _ x

/-- A point leaves the stabilisers of its block. -/
theorem mB_eq : sout0_B_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2 = mB x5 x6 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2)]
  unfold kernelRun0_B
  dsimp only
  refine eightM _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v647, v656, v658, v765, v774, v776, v883, v892, v894, View.readAt_eq_ld, Memref.IsWhole.read_unread]
  · exact mB_emb x5 x6 xs2 0 _ x
  · exact mB_emb x5 x6 xs2 1 _ x
  · exact mB_emb x5 x6 xs2 2 _ x
  · exact mB_emb x5 x6 xs2 3 _ x
  · exact mB_emb x5 x6 xs2 4 _ x
  · exact mB_emb x5 x6 xs2 5 _ x
  · exact mB_emb x5 x6 xs2 6 _ x
  · exact mB_emb x5 x6 xs2 7 _ x

/-- A point leaves the results of its block. -/
theorem yB_eq : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2 = yB x0 x1 x2 x3 x4 x5 x6 x7 xs0 xs1 xs2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 xs1 xs2)]
  unfold kernelRun0_B
  dsimp only
  refine eightY _ _ _ _ _ _ _ _ _ _ _ _ _ _ _ _ _ _ ?_ ?_ ?_ ?_ ?_ ?_ ?_ ?_ <;> intro x
  all_goals simp only [r, r_1, r_10, r_100, r_101, r_102, r_103, r_104, r_105, r_106, r_107, r_108, r_109, r_11, r_110, r_111, r_112, r_113, r_114, r_115, r_116, r_117, r_118, r_119, r_12, r_120, r_121, r_122, r_123, r_124, r_125, r_126, r_127, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v0, v1, v175, v184, v186, v2, v293, v302, v304, v40, v41, v411, v420, v422, v529, v538, v540, v647, v656, v658, v765, v774, v776, v883, v892, v894, View.readAt_eq_ld, Memref.IsWhole.read_unread]
  · exact yB_emb x0 x1 x2 x3 x4 x5 x6 x7 xs0 xs1 xs2 0 _ x
  · exact yB_emb x0 x1 x2 x3 x4 x5 x6 x7 xs0 xs1 xs2 1 _ x
  · exact yB_emb x0 x1 x2 x3 x4 x5 x6 x7 xs0 xs1 xs2 2 _ x
  · exact yB_emb x0 x1 x2 x3 x4 x5 x6 x7 xs0 xs1 xs2 3 _ x
  · exact yB_emb x0 x1 x2 x3 x4 x5 x6 x7 xs0 xs1 xs2 4 _ x
  · exact yB_emb x0 x1 x2 x3 x4 x5 x6 x7 xs0 xs1 xs2 5 _ x
  · exact yB_emb x0 x1 x2 x3 x4 x5 x6 x7 xs0 xs1 xs2 6 _ x
  · exact yB_emb x0 x1 x2 x3 x4 x5 x6 x7 xs0 xs1 xs2 7 _ x

end Cert.Kernel6Ideal.Cell.B
end
-- ==== Proof.CellStep.lean ====
module

public import proofs.«01_k».proof.Proof.CellBlock

@[expose] public section

set_option maxRecDepth 16384

noncomputable section

open Idealize.ShloMosaic Idealize.ShloMosaic.TcCoe Idealize.SL.Sem

namespace Cert.Kernel6Ideal.Cell

open Cert.Kernel6Ideal Cert.Kernel6Ideal.Gen Cert.Cell

variable (x0 x1 : Vec Ideal S256x512 .f32) (x2 : Vec Ideal S256x1024 .f32) (x5 : Vec Ideal S256x128 .f32) (x6 : Vec Ideal S1x128 .f32)
  (s0 : Vec Ideal S8x64x128 .f32) (s1 : Vec Ideal S8x64 .f32) (s2 : Vec Ideal S8x128 .f32) (h : Fin 8)

/-- The block of small projections is loaded whole. -/
theorem small_eq : smallL x5 = x5 := by
  funext y
  exact View.ld_unit_apply_of _ _ _ _ _ _ fun a => by fin_cases a <;> simp

/-- The gate bias is loaded whole. -/
theorem bias_eq : biasL x6 = x6 := by
  funext y
  exact View.ld_unit_apply_of _ _ _ _ _ _ fun a => by fin_cases a <;> simp

section Gates

variable (lf li : ℕ → ℝ)
  (hi : ∀ (i : Fin 256) (j : Fin 128), j.val = 64 + h.val → capR (x5 (ix2 i j) + x6 (ix2 0 j)) = li i.val)
  (hf : ∀ (i : Fin 256) (j : Fin 128), j.val = 72 + h.val → lsg (capR (x5 (ix2 i j) + x6 (ix2 0 j))) = lf i.val)

include hi in
/-- The input gates of one head, by rows. -/
theorem li_at (i : Fin 256) : liL x5 x6 h (ix2 i 0) = (li i.val : EReal) := by
  have e : liL x5 x6 h (ix2 i 0) = k0_pay6 (smallL x5) (biasL x6) (ix2 i ⟨64 + h.val, by omega⟩) := by
    pointwise [liL]
  rw [e, (gates _ _ i _ 0).1, small_eq, bias_eq, hi i _ rfl]

include hi in
/-- The input gates of one head, by lanes. -/
theorem lir_at (i : Fin 256) : lirL x5 x6 h (ix2 0 i) = (li i.val : EReal) := by
  have e : lirL x5 x6 h (ix2 0 i) = k0_pay8 (smallL x5) (biasL x6) (ix2 ⟨h.val, by omega⟩ i) := by
    pointwise [lirL]
  rw [e, (gates _ _ i 0 _).2.2.1, small_eq, bias_eq, hi i _ rfl]

include hf in
/-- The summed forget gates of one head, by rows. -/
theorem bc_at (i : Fin 256) : bcL x5 x6 h (ix2 i 0) = (cum lf i.val : EReal) := by
  have e : bcL x5 x6 h (ix2 i 0) = k0_pay11 (k0_pay7 (smallL x5) (biasL x6)) ri ci (ix2 i ⟨72 + h.val, by omega⟩) := by
    pointwise [bcL]
  rw [e, bcol_at _ _ (fun s j => (gates _ _ s j 0).2.1) i, small_eq, bias_eq]
  refine congrArg Real.toEReal ?_
  rw [cum, ← sum_le lf i.val i.isLt]
  exact Finset.sum_congr rfl fun s _ => by rw [hf s _ rfl]

include hf in
/-- The summed forget gates of one head, by lanes. -/
theorem br_at (i : Fin 256) : brL x5 x6 h (ix2 0 i) = (cum lf i.val : EReal) := by
  have e : brL x5 x6 h (ix2 0 i) = k0_pay12 (k0_pay9 (smallL x5) (biasL x6)) ri ci (ix2 ⟨8 + h.val, by omega⟩ i) := by
    pointwise [brL]
  rw [e, brow_at _ _ (fun s j => (gates _ _ s 0 j).2.2.2) i, small_eq, bias_eq]
  refine congrArg Real.toEReal ?_
  rw [cum, ← sum_le lf i.val i.isLt]
  exact Finset.sum_congr rfl fun s _ => by rw [hf s _ (by dsimp only; omega)]

include hf in
/-- The last summed forget gate of one head. -/
theorem bl_at : blL x5 x6 h (ix2 0 0) = (cum lf 255 : EReal) := by
  have e : blL x5 x6 h (ix2 0 0) = brL x5 x6 h (ix2 0 255) := by
    unfold blL
    generalize brL x5 x6 h = b
    pointwise []
  rw [e, br_at x5 x6 h lf hf]
  rfl

variable (Q K : ℕ → Fin 64 → ℝ) (V : ℕ → Fin 128 → ℝ) (C : Fin 64 → Fin 128 → ℝ) (N : Fin 64 → ℝ) (μ : ℝ)
  (hq : ∀ (i : Fin 256) (d : Fin 64) (j : Fin 512), j.val = 64 * h.val + d.val → x0 (ix2 i j) = (Q i.val d : EReal))
  (hk : ∀ (i : Fin 256) (d : Fin 64) (j : Fin 512), j.val = 64 * h.val + d.val → x1 (ix2 i j) = (K i.val d : EReal))
  (hv : ∀ (i : Fin 256) (e : Fin 128) (j : Fin 1024), j.val = 128 * h.val + e.val → x2 (ix2 i j) = (V i.val e : EReal))
  (hm : s2 (ix2 h 0) = (μ : EReal)) (hc : ∀ d e, s0 (ix3 h d e) = ((Real.exp (-μ) * C d e : ℝ) : EReal))
  (hn : ∀ d, s1 (ix2 h d) = ((Real.exp (-μ) * N d : ℝ) : EReal))

/-- The queries of one head, read by rows. -/
theorem qL_at (X : Vec Ideal S256x512 .f32) (Q : ℕ → Fin 64 → ℝ)
    (hq : ∀ (i : Fin 256) (d : Fin 64) (j : Fin 512), j.val = 64 * h.val + d.val → X (ix2 i j) = (Q i.val d : EReal)) (i : Fin 256) (d : Fin 64) :
    qL X h (ix2 i d) = (Q i.val d : EReal) := by
  rw [← hq i d ⟨64 * h.val + d.val, by omega⟩ rfl]
  exact View.ld_unit_apply_of _ _ _ _ _ _ fun a => by fin_cases a <;> simp

/-- The values of one head are its 128 columns. -/
theorem vL_at (X : Vec Ideal S256x1024 .f32) (i : Fin 256) (e : Fin 128) : vL X h (ix2 i e) = X (ix2 i ⟨128 * h.val + e.val, by omega⟩) :=
  View.ld_unit_apply_of _ _ _ _ _ _ fun a => by fin_cases a <;> simp

/-- The norm weights of one head are its 128 columns. -/
theorem gL_at (X : Vec Ideal S1x1024 .f32) (e : Fin 128) : gL X h (ix2 0 e) = X (ix2 0 ⟨128 * h.val + e.val, by omega⟩) :=
  View.ld_unit_apply_of _ _ _ _ _ _ fun a => by fin_cases a <;> simp

/-- The matrix state of one head is its part of the states. -/
theorem cL_at (d : Fin 64) (e : Fin 128) : cL s0 h (ix3 0 d e) = s0 (ix3 h d e) :=
  View.ld_unit_apply_of _ _ _ _ _ _ fun a => by fin_cases a <;> simp

/-- The vector state of one head is its row of the states. -/
theorem nL_at (d : Fin 64) : nL s1 h (ix2 0 d) = s1 (ix2 h d) :=
  View.ld_unit_apply_of _ _ _ _ _ _ fun a => by fin_cases a <;> simp

/-- The stabiliser of one head is the first place of its row. -/
theorem mL_at : mL s2 h (ix2 0 0) = s2 (ix2 h 0) :=
  View.ld_unit_apply_of _ _ _ _ _ _ fun a => by fin_cases a <;> simp

include hi hf hk hv hm hc hn in
/-- After a block, for some new stabiliser, the states hold the recurrences after it. -/
theorem block_state : ∃ ν : ℝ, mB x5 x6 s2 (ix2 h 0) = (ν : EReal)
    ∧ (∀ d e, cB x1 x2 x5 x6 s0 s2 (ix3 h d e)
        = ((Real.exp (-ν) * rec lf li (fun s => K s d * V s e) (C d e) 256 : ℝ) : EReal))
    ∧ (∀ d, nB x1 x5 x6 s1 s2 (ix2 h d) = ((Real.exp (-ν) * rec lf li (fun s => K s d) (N d) 256 : ℝ) : EReal)) := by
  obtain ⟨ν, h1, h2, h3⟩ := state_at (bcL x5 x6 h) (liL x5 x6 h) (blL x5 x6 h) (mL s2 h) (qL x1 h) (vL x2 h) (cL s0 h) (nL s1 h)
    (fun i => cum lf i.val) (fun i => li i.val) (fun i => K i.val) (fun i => V i.val) C N μ
    (bc_at x5 x6 h lf hf) (li_at x5 x6 h li hi) (bl_at x5 x6 h lf hf) ((mL_at s2 h).trans hm) (qL_at h x1 K hk)
    (fun i e => (vL_at h x2 i e).trans (hv i e _ rfl)) (fun d e => (cL_at s0 h d e).trans (hc d e)) (fun d => (nL_at s1 h d).trans (hn d))
  refine ⟨ν, h1 0, fun d e => (h2 d e).trans ?_, fun d => (h3 d).trans ?_⟩
  · rw [rec_block]; rfl
  · rw [rec_block]; rfl

include hi hf hq hk hv hm hc hn in
/-- The outputs of a block before the norm. -/
theorem block_out (i : Fin 256) (e : Fin 128) :
    hx (k0_pay10 ri ci) (bcL x5 x6 h) (brL x5 x6 h) (lirL x5 x6 h) (mL s2 h) (qL x0 h) (qL x1 h) (vL x2 h) (cL s0 h) (nL s1 h) (ix2 i e)
      = (((∑ d : Fin 64, Q i.val d * (1 / 8) * rec lf li (fun s => K s d * V s e) (C d e) (i.val + 1))
          / max |∑ d : Fin 64, Q i.val d * (1 / 8) * rec lf li (fun s => K s d) (N d) (i.val + 1)| 1 : ℝ) : EReal) := by
  rw [hx_at (k0_pay10 ri ci) (bcL x5 x6 h) (brL x5 x6 h) (lirL x5 x6 h) (mL s2 h) (qL x0 h) (qL x1 h) (vL x2 h) (cL s0 h) (nL s1 h)
    (fun i => cum lf i.val) (fun i => li i.val) (fun i => Q i.val) (fun i => K i.val) (fun i => V i.val) C N μ mask_at
    (bc_at x5 x6 h lf hf) (br_at x5 x6 h lf hf) (lir_at x5 x6 h li hi) ((mL_at s2 h).trans hm) (qL_at h x0 Q hq) (qL_at h x1 K hk)
    (fun i e => (vL_at h x2 i e).trans (hv i e _ rfl)) (fun d e => (cL_at s0 h d e).trans (hc d e)) (fun d => (nL_at s1 h d).trans (hn d)) i e]
  refine congrArg Real.toEReal ?_
  simp only [rec_mask _ _ _ _ i.val i.isLt]
  rfl

end Gates

end Cert.Kernel6Ideal.Cell
end
-- ==== Proof.CellSpec.lean ====
module

public import proofs.«01_k».proof.Proof.CellStep

@[expose] public section

set_option maxRecDepth 16384

noncomputable section

open Idealize.ShloMosaic Idealize.ShloMosaic.TcCoe Idealize.SL.Sem

namespace Cert.Kernel6Ideal.Cell

open Cert.Kernel6Ideal Cert.Kernel6Ideal.Gen Cert.Cell

/-- Row `t` of the sequence. -/
abbrev row (t : ℕ) : Fin 16384 := ⟨t % 16384, Nat.mod_lt _ (by decide)⟩

section Parts

variable (P : Vec Ideal S16384x12288 .f32) (IB FB : Vec Ideal S8 .f32) (h : Fin 8)

/-- The query of head `h` at row `t`, as reals. -/
def qR (t : ℕ) (d : Fin 64) : ℝ := EReal.toReal (P (ix2 (row t) ⟨1024 + (64 * h.val + d.val), by omega⟩))

/-- The key. -/
def kR (t : ℕ) (d : Fin 64) : ℝ := EReal.toReal (P (ix2 (row t) ⟨1536 + (64 * h.val + d.val), by omega⟩))

/-- The value. -/
def vR (t : ℕ) (e : Fin 128) : ℝ := EReal.toReal (P (ix2 (row t) ⟨2048 + (128 * h.val + e.val), by omega⟩))

/-- The logarithm of the input gate: the capped preactivation. -/
def liR (t : ℕ) : ℝ := capR (P (ix2 (row t) ⟨960 + h.val, by omega⟩) + IB (ix1 h))

/-- The logarithm of the forget gate: the log-sigmoid of the capped preactivation. -/
def lfR (t : ℕ) : ℝ := lsg (capR (P (ix2 (row t) ⟨968 + h.val, by omega⟩) + FB (ix1 h)))

/-- The memory after `t` rows. -/
def cR (d : Fin 64) (e : Fin 128) (t : ℕ) : ℝ := rec (lfR P FB h) (liR P IB h) (fun s => kR P h s d * vR P h s e) 0 t

/-- The normaliser after `t` rows. -/
def nR (d : Fin 64) (t : ℕ) : ℝ := rec (lfR P FB h) (liR P IB h) (fun s => kR P h s d) 0 t

/-- The output of row `t` before the norm. -/
def hR (t : ℕ) (e : Fin 128) : ℝ :=
  (∑ d : Fin 64, qR P h t d * (1 / 8) * cR P IB FB h d e (t + 1)) / max |∑ d : Fin 64, qR P h t d * (1 / 8) * nR P IB FB h d (t + 1)| 1

/-- The result at row `t`, lane `j` of head `h`. -/
def resAt (NG : Vec Ideal S1024 .f32) (t : Fin 16384) (j : Fin 128) : Ideal .f32 :=
  gate (fun x => ((hR P IB FB h t.val x : ℝ) : EReal)) (fun x => NG (ix1 ⟨128 * h.val + x.val, by omega⟩))
    (fun x => P (ix2 t ⟨3072 + (128 * h.val + x.val), by omega⟩)) (fun x => P (ix2 t ⟨4096 + (128 * h.val + x.val), by omega⟩)) j

end Parts

/-- The result array. -/
def res (P : Vec Ideal S16384x12288 .f32) (IB FB : Vec Ideal S8 .f32) (NG : Vec Ideal S1024 .f32) : Vec Ideal S16384x1024 .bf16 := fun y =>
  resAt P IB FB ⟨(y 1).val / 128, Nat.div_lt_of_lt_mul (y 1).isLt⟩ NG ⟨(y 0).val, (y 0).isLt⟩ ⟨(y 1).val % 128, Nat.mod_lt _ (by decide)⟩

/-- The result array, read at row `t`, lane `j` of head `h`. -/
theorem res_at (P : Vec Ideal S16384x12288 .f32) (IB FB : Vec Ideal S8 .f32) (NG : Vec Ideal S1024 .f32) (y : S16384x1024.Idx)
    (t : Fin 16384) (h : Fin 8) (j : Fin 128) (h0 : (y 0).val = t.val) (h1 : (y 1).val = 128 * h.val + j.val) :
    res P IB FB NG y = resAt P IB FB h NG t j := by
  have bj := j.isLt
  have e0 : (⟨(y 0).val, (y 0).isLt⟩ : Fin 16384) = t := Fin.ext h0
  have e1 : (⟨(y 1).val / 128, Nat.div_lt_of_lt_mul (y 1).isLt⟩ : Fin 8) = h := Fin.ext (by dsimp only; omega)
  have e2 : (⟨(y 1).val % 128, Nat.mod_lt _ (by decide)⟩ : Fin 128) = j := Fin.ext (by dsimp only; omega)
  unfold res
  rw [e0, e1, e2]

/-- Equal arguments give equal results. -/
theorem res_congr {P P' : Vec Ideal S16384x12288 .f32} {IB IB' FB FB' : Vec Ideal S8 .f32} {NG NG' : Vec Ideal S1024 .f32}
    (h0 : P = P') (h1 : IB = IB') (h2 : FB = FB') (h3 : NG = NG') : res P IB FB NG = res P' IB' FB' NG' := by
  subst h0 h1 h2 h3; rfl

/-- The queries, keys and values are finite. -/
def Finite (P : Vec Ideal S16384x12288 .f32) : Prop :=
  ∀ (t : Fin 16384) (j : Fin 12288), 1024 ≤ j.val → j.val < 3072 → P (ix2 t j) = ((EReal.toReal (P (ix2 t j)) : ℝ) : EReal)

end Cert.Kernel6Ideal.Cell
end
-- ==== Proof.CellRun.lean ====
module

public import proofs.«01_k».proof.Proof.CellA
public import proofs.«01_k».proof.Proof.CellB
public import proofs.«01_k».proof.Proof.CellSpec
public import proofs.«01_k».proof.Proof.Gen.Reference6Ideal.Run
public import Idealize.ShloMosaic.Lib.Routing.OpsSet

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel6Ideal.Cell

open Cert.Kernel6Ideal Cert.Kernel6Ideal.Gen Cert.Cell

variable (m : (ℓ : Loc nD τ sig) → Buf (Elt Ideal) ℓ) (c : Dev nD)

/-- Grid point `t` reads row block `t` of the projection at six column blocks and the two rows whole, and writes row block `t`. -/
theorem idx : ∀ t : Fin cfg0.N, win0_0.index t = ![t.val, 2] ∧ win0_1.index t = ![t.val, 3] ∧ win0_2.index t = ![t.val, 2]
    ∧ win0_3.index t = ![t.val, 3] ∧ win0_4.index t = ![t.val, 4] ∧ win0_5.index t = ![t.val, 7] ∧ win0_6.index t = ![0, 0]
    ∧ win0_7.index t = ![0, 0] ∧ win0_8.index t = ![t.val, 0] :=
  (by decide +kernel : ∀ t : Fin grid0.N, _)

/-- Row `i` of row block `t`. -/
abbrev at_ (t : Fin cfg0.N) (i : Fin 256) : Fin 16384 := ⟨t.val * 256 + i.val, by have := lt_of_lt_of_eq t.isLt (show cfg0.N = 64 from N_0); omega⟩

/-- Row `i` of row block `t` is row `256 t + i` of the sequence. -/
theorem row_at (t : Fin cfg0.N) (i : Fin 256) : row (256 * t.val + i.val) = at_ t i := by
  have := lt_of_lt_of_eq t.isLt (show cfg0.N = 64 from N_0)
  exact Fin.ext (by dsimp only; omega)

/-- The projection. -/
abbrev pA : Vec Ideal S16384x12288 .f32 := m ((c : Thread nD τ).loc main_arg0)
/-- The input gate's bias. -/
abbrev iA : Vec Ideal S8 .f32 := m ((c : Thread nD τ).loc main_arg1)
/-- The forget gate's bias. -/
abbrev fA : Vec Ideal S8 .f32 := m ((c : Thread nD τ).loc main_arg2)
/-- The norm's weights. -/
abbrev gA : Vec Ideal S1024 .f32 := m ((c : Thread nD τ).loc main_arg3)

/-- The queries' columns. -/
theorem in0 (t : Fin cfg0.N) (i : Fin 256) (j : Fin 512) : (iblk m c 0 t : Vec Ideal S256x512 .f32) (ix2 i j)
    = pA m c (ix2 (at_ t i) ⟨1024 + j.val, by omega⟩) := by
  blk_point [iblk, V, idx t]

/-- The keys' columns. -/
theorem in1 (t : Fin cfg0.N) (i : Fin 256) (j : Fin 512) : (iblk m c 1 t : Vec Ideal S256x512 .f32) (ix2 i j)
    = pA m c (ix2 (at_ t i) ⟨1536 + j.val, by omega⟩) := by
  blk_point [iblk, V, idx t]

/-- The values' columns. -/
theorem in2 (t : Fin cfg0.N) (i : Fin 256) (j : Fin 1024) : (iblk m c 2 t : Vec Ideal S256x1024 .f32) (ix2 i j)
    = pA m c (ix2 (at_ t i) ⟨2048 + j.val, by omega⟩) := by
  blk_point [iblk, V, idx t]

/-- The output gates' columns. -/
theorem in3 (t : Fin cfg0.N) (i : Fin 256) (j : Fin 1024) : (iblk m c 3 t : Vec Ideal S256x1024 .f32) (ix2 i j)
    = pA m c (ix2 (at_ t i) ⟨3072 + j.val, by omega⟩) := by
  blk_point [iblk, V, idx t]

/-- The gating columns. -/
theorem in4 (t : Fin cfg0.N) (i : Fin 256) (j : Fin 1024) : (iblk m c 4 t : Vec Ideal S256x1024 .f32) (ix2 i j)
    = pA m c (ix2 (at_ t i) ⟨4096 + j.val, by omega⟩) := by
  blk_point [iblk, V, idx t]

/-- The gates' columns. -/
theorem in5 (t : Fin cfg0.N) (i : Fin 256) (j : Fin 128) : (iblk m c 5 t : Vec Ideal S256x128 .f32) (ix2 i j)
    = pA m c (ix2 (at_ t i) ⟨896 + j.val, by omega⟩) := by
  blk_point [iblk, V, idx t]

/-- Eight biases written over 128 zeros from place `n`. -/
def wide (n : BitVec 32) (x : FVec Ideal S8 .f32) : FVec Ideal S128 .f32 :=
  Host.scatter scatter_S128_S1_S8_0_n_0_0 (fun _ b => b) (broadcastInDim S128 ![] bcast_S_S128 (constant (F := Ideal) S_ .f32 0x00000000#32))
    (broadcastInDim S1 ![] bcast_S_S1 (constantI S_ 32 n)) x

/-- The biases' row. -/
theorem host7 : @Eq (FVec Ideal S1x128 .f32) (V m c main_v7) (shapeCast S1x128 (addf (wide 64#32 (iA m c)) (wide 72#32 (fA m c))) shapeCasts_S128_S1x128) := by
  simp only [V, hostOps0]
  after_reads_simp
  rfl

/-- The norm's weights, as a row. -/
theorem host8 : @Eq (FVec Ideal S1x1024 .f32) (V m c main_v8) (shapeCast S1x1024 (gA m c) shapeCasts_S1024_S1x1024) := by
  simp only [V, hostOps0]
  after_reads_simp
  rfl

/-- Bias `j` is written at place `64 + j`. -/
theorem lands64 : ∀ j : Fin 8, scatter_S128_S1_S8_0_n_0_0.resultIdx? (ix1 j) (broadcastInDim S1 ![] bcast_S_S1 (constantI S_ 32 64#32))
    = some (ix1 (⟨64 + j.val, by omega⟩ : Fin 128)) := by
  decide +kernel

/-- Bias `j` is written at place `72 + j`. -/
theorem lands72 : ∀ j : Fin 8, scatter_S128_S1_S8_0_n_0_0.resultIdx? (ix1 j) (broadcastInDim S1 ![] bcast_S_S1 (constantI S_ 32 72#32))
    = some (ix1 (⟨72 + j.val, by omega⟩ : Fin 128)) := by
  decide +kernel

/-- Where biases are written from place `p`, the row holds them. -/
theorem wide_hit (n : BitVec 32) (p : ℕ) (hp : p ≤ 120)
    (lands : ∀ j : Fin 8, scatter_S128_S1_S8_0_n_0_0.resultIdx? (ix1 j) (broadcastInDim S1 ![] bcast_S_S1 (constantI S_ 32 n))
      = some (ix1 (⟨p + j.val, by omega⟩ : Fin 128))) (x : FVec Ideal S8 .f32) (j : Fin 8) (y : Fin 128) (hy : y.val = p + j.val) :
    wide n x (ix1 y) = x (ix1 j) := by
  have e0 : y = ⟨p + j.val, by omega⟩ := Fin.ext hy
  rw [e0]
  refine Routing.scatter_set_hit scatter_S128_S1_S8_0_n_0_0 _ _ x _ _ (fun k hk => ?_) (ix1 j) (lands j)
  obtain ⟨i, rfl⟩ : ∃ i : Fin 8, k = ix1 i := ⟨k 0, by funext a; fin_cases a; rfl⟩
  rw [lands i] at hk
  have e : (⟨p + i.val, by omega⟩ : Fin 128) = ⟨p + j.val, by omega⟩ := congrFun (Option.some.inj hk) 0
  have e' : i = j := Fin.ext (by have h' := congrArg Fin.val e; dsimp only at h'; omega)
  rw [e']

/-- Elsewhere it is zero. -/
theorem wide_miss (n : BitVec 32) (p : ℕ) (hp : p ≤ 120)
    (lands : ∀ j : Fin 8, scatter_S128_S1_S8_0_n_0_0.resultIdx? (ix1 j) (broadcastInDim S1 ![] bcast_S_S1 (constantI S_ 32 n))
      = some (ix1 (⟨p + j.val, by omega⟩ : Fin 128))) (x : FVec Ideal S8 .f32) (y : Fin 128) (hy : y.val < p ∨ p + 8 ≤ y.val) :
    wide n x (ix1 y) = (0 : EReal) := by
  unfold wide
  rw [Routing.scatter_set_miss scatter_S128_S1_S8_0_n_0_0 _ _ x _ (fun k hk => ?_)]
  · pointwise []
  · obtain ⟨i, rfl⟩ : ∃ i : Fin 8, k = ix1 i := ⟨k 0, by funext a; fin_cases a; rfl⟩
    rw [lands i] at hk
    have e : (⟨p + i.val, by omega⟩ : Fin 128) = y := congrFun (Option.some.inj hk) 0
    have h' := congrArg Fin.val e
    dsimp only at h'
    omega

/-- The biases' row is the sum of the two. -/
theorem in6 (t : Fin cfg0.N) (j : Fin 128) : (iblk m c 6 t : Vec Ideal S1x128 .f32) (ix2 0 j)
    = (wide 64#32 (iA m c) (ix1 j) + wide 72#32 (fA m c) (ix1 j) : EReal) := by
  have e : (iblk m c 6 t : Vec Ideal S1x128 .f32) (ix2 0 j) = (V m c main_v7 : Vec Ideal S1x128 .f32) (ix2 0 j) := by
    blk_point [iblk, idx t]
  rw [e, host7]
  generalize wide 64#32 (iA m c) = x
  generalize wide 72#32 (fA m c) = y
  pointwise []

/-- The norm's weights. -/
theorem in7 (t : Fin cfg0.N) (j : Fin 1024) : (iblk m c 7 t : Vec Ideal S1x1024 .f32) (ix2 0 j) = gA m c (ix1 j) := by
  have e : (iblk m c 7 t : Vec Ideal S1x1024 .f32) (ix2 0 j) = (V m c main_v8 : Vec Ideal S1x1024 .f32) (ix2 0 j) := by
    blk_point [iblk, idx t]
  rw [e, host8]
  generalize gA m c = x
  pointwise []

section Point

variable (t : Fin cfg0.N) (h : Fin 8)

/-- The block's input gates. -/
theorem hi (i : Fin 256) (j : Fin 128) (hj : j.val = 64 + h.val) :
    capR (@HAdd.hAdd EReal EReal EReal _ ((iblk m c 5 t : Vec Ideal S256x128 .f32) (ix2 i j)) ((iblk m c 6 t : Vec Ideal S1x128 .f32) (ix2 0 j)))
      = liR (pA m c) (iA m c) h (256 * t.val + i.val) := by
  rw [in5, in6, wide_hit 64#32 64 (by omega) lands64 _ h j hj, wide_miss 72#32 72 (by omega) lands72 _ j (by omega), add_zero]
  unfold liR
  rw [row_at]
  refine congrArg (fun j => capR (pA m c (ix2 (at_ t i) j) + iA m c (ix1 h))) (Fin.ext ?_)
  dsimp only
  omega

/-- The block's forget gates. -/
theorem hf (i : Fin 256) (j : Fin 128) (hj : j.val = 72 + h.val) :
    lsg (capR (@HAdd.hAdd EReal EReal EReal _ ((iblk m c 5 t : Vec Ideal S256x128 .f32) (ix2 i j)) ((iblk m c 6 t : Vec Ideal S1x128 .f32) (ix2 0 j))))
      = lfR (pA m c) (fA m c) h (256 * t.val + i.val) := by
  rw [in5, in6, wide_hit 72#32 72 (by omega) lands72 _ h j hj, wide_miss 64#32 64 (by omega) lands64 _ j (by omega), zero_add]
  unfold lfR
  rw [row_at]
  refine congrArg (fun j => lsg (capR (pA m c (ix2 (at_ t i) j) + fA m c (ix1 h)))) (Fin.ext ?_)
  dsimp only
  omega

variable (hP : Finite (pA m c))

include hP in
/-- The block's queries. -/
theorem hq (i : Fin 256) (d : Fin 64) (j : Fin 512) (hj : j.val = 64 * h.val + d.val) :
    (iblk m c 0 t : Vec Ideal S256x512 .f32) (ix2 i j) = (qR (pA m c) h (256 * t.val + i.val) d : EReal) := by
  rw [in0]
  unfold qR
  rw [row_at, ← hP _ _ (by dsimp only; omega) (by dsimp only; omega)]
  exact congrArg (fun j => pA m c (ix2 (at_ t i) j)) (Fin.ext (by dsimp only; omega))

include hP in
/-- The block's keys. -/
theorem hk (i : Fin 256) (d : Fin 64) (j : Fin 512) (hj : j.val = 64 * h.val + d.val) :
    (iblk m c 1 t : Vec Ideal S256x512 .f32) (ix2 i j) = (kR (pA m c) h (256 * t.val + i.val) d : EReal) := by
  rw [in1]
  unfold kR
  rw [row_at, ← hP _ _ (by dsimp only; omega) (by dsimp only; omega)]
  exact congrArg (fun j => pA m c (ix2 (at_ t i) j)) (Fin.ext (by dsimp only; omega))

include hP in
/-- The block's values. -/
theorem hv (i : Fin 256) (e : Fin 128) (j : Fin 1024) (hj : j.val = 128 * h.val + e.val) :
    (iblk m c 2 t : Vec Ideal S256x1024 .f32) (ix2 i j) = (vR (pA m c) h (256 * t.val + i.val) e : EReal) := by
  rw [in2]
  unfold vR
  rw [row_at, ← hP _ _ (by dsimp only; omega) (by dsimp only; omega)]
  exact congrArg (fun j => pA m c (ix2 (at_ t i) j)) (Fin.ext (by dsimp only; omega))

/-- The states hold, for some stabiliser of each head, the recurrence after `n` rows. -/
def Good (n : ℕ) (s0 : Vec Ideal S8x64x128 .f32) (s1 : Vec Ideal S8x64 .f32) (s2 : Vec Ideal S8x128 .f32) : Prop :=
  ∀ h : Fin 8, ∃ μ : ℝ, s2 (ix2 h 0) = (μ : EReal)
    ∧ (∀ d e, s0 (ix3 h d e) = ((Real.exp (-μ) * cR (pA m c) (iA m c) (fA m c) h d e n : ℝ) : EReal))
    ∧ (∀ d, s1 (ix2 h d) = ((Real.exp (-μ) * nR (pA m c) (iA m c) (fA m c) h d n : ℝ) : EReal))

include hP in
/-- A block takes the recurrence 256 rows further. -/
theorem good_step (s0 : Vec Ideal S8x64x128 .f32) (s1 : Vec Ideal S8x64 .f32) (s2 : Vec Ideal S8x128 .f32) (hg : Good m c (256 * t.val) s0 s1 s2) :
    Good m c (256 * (t.val + 1)) (cB (iblk m c 1 t) (iblk m c 2 t) (iblk m c 5 t) (iblk m c 6 t) s0 s2)
      (nB (iblk m c 1 t) (iblk m c 5 t) (iblk m c 6 t) s1 s2) (mB (iblk m c 5 t) (iblk m c 6 t) s2) := by
  intro h
  obtain ⟨μ, hm, hc, hn⟩ := hg h
  obtain ⟨ν, h1, h2, h3⟩ := block_state (iblk m c 1 t) (iblk m c 2 t) (iblk m c 5 t) (iblk m c 6 t) s0 s1 s2 h
    (fun s => lfR (pA m c) (fA m c) h (256 * t.val + s)) (fun s => liR (pA m c) (iA m c) h (256 * t.val + s)) (hi m c t h) (hf m c t h)
    (fun s => kR (pA m c) h (256 * t.val + s)) (fun s => vR (pA m c) h (256 * t.val + s)) _ _ μ (hk m c t h hP) (hv m c t h hP) hm hc hn
  refine ⟨ν, h1, fun d e => ?_, fun d => ?_⟩
  · rw [h2 d e]
    unfold cR
    rw [show 256 * (t.val + 1) = 256 * t.val + 256 from by ring, rec_add]
  · rw [h3 d]
    unfold nR
    rw [show 256 * (t.val + 1) = 256 * t.val + 256 from by ring, rec_add]

include hP in
/-- A block's results are the specification's at its place in the array. -/
theorem good_out (s0 : Vec Ideal S8x64x128 .f32) (s1 : Vec Ideal S8x64 .f32) (s2 : Vec Ideal S8x128 .f32) (hg : Good m c (256 * t.val) s0 s1 s2)
    (y : S256x1024.Idx) :
    yB (iblk m c 0 t) (iblk m c 1 t) (iblk m c 2 t) (iblk m c 3 t) (iblk m c 4 t) (iblk m c 5 t) (iblk m c 6 t) (iblk m c 7 t) s0 s1 s2 y
      = res (pA m c) (iA m c) (fA m c) (gA m c) ((win0_8.blk t).view.emb y) := by
  have e0 : (((win0_8.blk t).view.emb y) 0).val = t.val * 256 + (y 0).val := by
    blk_simp [idx t]
  have e1 : (((win0_8.blk t).view.emb y) 1).val = (y 1).val := by
    blk_simp [idx t]
  have d1 : 128 * ((y 1).val / 128) + (y 1).val % 128 = (y 1).val := Nat.div_add_mod _ _
  generalize hh : (⟨(y 1).val / 128, Nat.div_lt_of_lt_mul (y 1).isLt⟩ : Fin 8) = h
  generalize hj : (⟨(y 1).val % 128, Nat.mod_lt _ (by decide)⟩ : Fin 128) = j
  generalize hi' : (⟨(y 0).val, (y 0).isLt⟩ : Fin 256) = i
  have vh : (y 1).val / 128 = h.val := congrArg Fin.val hh
  have vj : (y 1).val % 128 = j.val := congrArg Fin.val hj
  have vi : (y 0).val = i.val := congrArg Fin.val hi'
  rw [res_at _ _ _ _ _ (at_ t i) h j (by rw [e0, vi]) (by rw [e1, ← d1, vh, vj]),
    yB_at _ _ _ _ _ _ _ _ _ _ _ h y i j vi (by rw [← d1, vh, vj])]
  unfold yP
  rw [yx_at]
  obtain ⟨μ, hm, hc, hn⟩ := hg h
  have ho := fun e => block_out (iblk m c 0 t) (iblk m c 1 t) (iblk m c 2 t) (iblk m c 5 t) (iblk m c 6 t) s0 s1 s2 h
    (fun s => lfR (pA m c) (fA m c) h (256 * t.val + s)) (fun s => liR (pA m c) (iA m c) h (256 * t.val + s)) (hi m c t h) (hf m c t h)
    (fun s => qR (pA m c) h (256 * t.val + s)) (fun s => kR (pA m c) h (256 * t.val + s)) (fun s => vR (pA m c) h (256 * t.val + s)) _ _ μ
    (hq m c t h hP) (hk m c t h hP) (hv m c t h hP) hm hc hn i e
  unfold resAt
  have q1 : (fun x => hx (k0_pay10 ri ci) (bcL (iblk m c 5 t) (iblk m c 6 t) h) (brL (iblk m c 5 t) (iblk m c 6 t) h) (lirL (iblk m c 5 t) (iblk m c 6 t) h)
      (mL s2 h) (qL (iblk m c 0 t) h) (qL (iblk m c 1 t) h) (vL (iblk m c 2 t) h) (cL s0 h) (nL s1 h) (ix2 i x))
      = fun x => ((hR (pA m c) (iA m c) (fA m c) h (at_ t i).val x : ℝ) : EReal) := by
    funext e
    rw [ho e]
    refine congrArg Real.toEReal ?_
    have ev : t.val * 256 + i.val = 256 * t.val + i.val := by ring
    unfold hR cR nR
    simp only [ev, Nat.add_assoc (256 * t.val) i.val 1, rec_add _ _ _ _ (256 * t.val) (i.val + 1)]
  have q2 : (fun x => gL (iblk m c 7 t) h (ix2 0 x)) = fun x => gA m c (ix1 ⟨128 * h.val + x.val, by omega⟩) := by
    funext x
    rw [gL_at, in7]
  have q3 : (fun x => vL (iblk m c 3 t) h (ix2 i x)) = fun x => pA m c (ix2 (at_ t i) ⟨3072 + (128 * h.val + x.val), by omega⟩) := by
    funext x
    rw [vL_at, in3]
  have q4 : (fun x => vL (iblk m c 4 t) h (ix2 i x)) = fun x => pA m c (ix2 (at_ t i) ⟨4096 + (128 * h.val + x.val), by omega⟩) := by
    funext x
    rw [vL_at, in4]
  exact congr (congr (congr (congr (congrArg gate q1) q2) q3) q4) rfl

end Point

/-- The zero state is that before the first row. -/
theorem good_zero : Good m c 0 (fun _ => 0) (fun _ => 0) (fun _ => 0) := fun h =>
  ⟨0, rfl, fun d e => by unfold cR; rw [rec, mul_zero]; rfl, fun d => by unfold nR; rw [rec, mul_zero]; rfl⟩

variable (hP : Finite (pA m c))

include hP in
/-- After every grid point the states are the recurrence's, and the point's block of results is that from its states. -/
theorem points (n : ℕ) : ∀ hn : n < cfg0.N, Good m c (256 * (n + 1)) (outsAt0 m c n hn).2.1 (outsAt0 m c n hn).2.2.1 (outsAt0 m c n hn).2.2.2
    ∧ ∃ s0 s1 s2, Good m c (256 * n) s0 s1 s2 ∧ (outsAt0 m c n hn).1 = yB (iblk m c 0 ⟨n, hn⟩) (iblk m c 1 ⟨n, hn⟩) (iblk m c 2 ⟨n, hn⟩)
        (iblk m c 3 ⟨n, hn⟩) (iblk m c 4 ⟨n, hn⟩) (iblk m c 5 ⟨n, hn⟩) (iblk m c 6 ⟨n, hn⟩) (iblk m c 7 ⟨n, hn⟩) s0 s1 s2 := by
  induction n with
  | zero =>
    intro hn
    have hs := good_step m c ⟨0, hn⟩ hP _ _ _ (good_zero m c)
    rw [outsAt0_A m c ⟨0, hn⟩ (Nat.zero_mod _)]
    dsimp only
    rw [A.cB_eq, A.nB_eq, A.mB_eq, A.yB_eq]
    exact ⟨hs, _, _, _, good_zero m c, rfl⟩
  | succ n ih =>
    intro hn
    have hm : ¬ (n + 1) % 64 = 0 := by
      have h := hn
      rw [show cfg0.N = 64 from N_0] at h
      omega
    have hg := (ih (Nat.lt_of_succ_lt hn)).1
    have hs := good_step m c ⟨n + 1, hn⟩ hP _ _ _ hg
    rw [outsAt0_B m c ⟨n + 1, hn⟩ hm]
    dsimp only
    rw [B.cB_eq, B.nB_eq, B.mB_eq, B.yB_eq]
    exact ⟨hs, _, _, _, hg, rfl⟩

include hP in
/-- The result array after the run is the specification's. -/
theorem final : (dats m 0 c).arrAt 8 (cfgs 0).N = res (pA m c) (iA m c) (fA m c) (gA m c) := by
  refine (dats m 0 c).arrAt_eq_of_covers 8 _ (by decide +kernel) fun t _ y => ?_
  blk_simp
  obtain ⟨s0, s1, s2, hg, e⟩ := (points m c hP t.val t.isLt).2
  rw [after0_8, e]
  exact good_out m c t hP s0 s1 s2 hg y

end Cert.Kernel6Ideal.Cell
end
-- ==== Proof.CellPre.lean ====
module

public import proofs.«01_k».proof.Proof.CellRun
public import proofs.«01_k».proof.Pre_finite

@[expose] public section

set_option maxRecDepth 16384

noncomputable section

open Idealize.ShloMosaic Idealize.ShloMosaic.TcCoe Idealize.SL.Sem

namespace Cert.Kernel6Ideal.Cell

open Cert.Kernel6Ideal Cert.Kernel6Ideal.Gen

/-- The precondition's shapes fit. -/
theorem pre_facts : Cert.Pre_finite.Facts where
  slices_S16384x12288_S16384x2048_0_1024 := ⟨rfl, fun a => by fin_cases a <;> simp⟩
  bcast_S_S16384x2048 := by decide

/-- An extended real whose absolute value is below infinity is a real. -/
theorem real_of_lt (x : EReal) (h : FloatOps.absf (F := Ideal) (φ := .f32) x < (⊤ : EReal)) : x = ((EReal.toReal x : ℝ) : EReal) := by
  rw [Ideal.absf_def] at h
  refine (EReal.coe_toReal ?_ ?_).symm
  · rintro rfl
    exact absurd h (by simp)
  · rintro rfl
    exact absurd h (by simp)

/-- The precondition says that the queries, keys and values are finite. -/
theorem finite_of_pre [Cert.Pre_finite.Facts] (P : Vec Ideal S16384x12288 .f32) (x1 x2 : Vec Ideal S8 .f32) (x3 : Vec Ideal S1024 .f32)
    (h : Cert.Pre_finite.fn (F := Ideal) P x1 x2 x3 = fun _ => 1#1) : Finite P := by
  intro t j h1 h2
  have hj := congrFun h (ix2 t (⟨j.val - 1024, by omega⟩ : Fin 2048))
  have ej : (⟨1024 + (j.val - 1024), by omega⟩ : Fin 12288) = j := Fin.ext (by dsimp only; omega)
  have e : Cert.Pre_finite.fn (F := Ideal) P x1 x2 x3 (ix2 t (⟨j.val - 1024, by omega⟩ : Fin 2048))
      = Ideal.cmp .olt (FloatOps.absf (F := Ideal) (φ := .f32) (P (ix2 t ⟨1024 + (j.val - 1024), by omega⟩))) (Ideal.ofBits FTy.f32 2139095040#32) := by
    pointwise [Cert.Pre_finite.fn]
  have top : Ideal.ofBits FTy.f32 2139095040#32 = ⊤ := by simp [Ideal.ofBits, Ideal.ieee]
  rw [e, ej, top] at hj
  refine real_of_lt _ ?_
  by_contra hn
  have : Ideal.cmp .olt (FloatOps.absf (F := Ideal) (φ := .f32) (P (ix2 t j))) (⊤ : EReal) = 0#1 := by
    unfold Ideal.cmp
    rw [decide_eq_false hn]
    rfl
  rw [this] at hj
  exact absurd hj (by decide)

end Cert.Kernel6Ideal.Cell
end
-- ==== Proof.CellRef.lean ====
module

public import proofs.«01_k».proof.Proof.CellSpec
public import proofs.«01_k».proof.Proof.Gen.Reference6Ideal.Run
public import Idealize.ShloMosaic.Lib.WordCmp

@[expose] public section

set_option maxRecDepth 16384

noncomputable section

open Idealize.ShloMosaic Idealize.ShloMosaic.TcCoe Idealize.SL.Sem

namespace Cert.Reference6Ideal.Cell

open Cert.Reference6Ideal Cert.Reference6Ideal.Gen Cert.Reference6Ideal.Value Cert.Cell
open Idealize.ShloMosaic.StableHlo
open Cert.Kernel6Ideal.Cell (row qR kR vR liR lfR cR nR hR resAt res res_at Finite gate coe_sum div_real)

/-- The counter as a number. -/
theorem iv_toInt (k : Fin 16384) : (Scf.iv 0#32 1#32 k.val).toInt = (k.val : Int) := by
  have h : Scf.iv 0#32 1#32 k.val = BitVec.ofNat 32 k.val := by
    apply BitVec.eq_of_toNat_eq
    simp [Scf.iv]
  rw [h, BitVec.toInt_eq_toNat_of_lt (by rw [BitVec.toNat_ofNat]; omega), BitVec.toNat_ofNat]
  omega

section Slices

variable {α : Type}

/-- Row `k` of an array of 8x64 rows. -/
theorem slice64 (X : S16384x8x64.Idx → α) (st : Fin 3 → Int) (k : Fin 16384) (e0 : st 0 = (k.val : Int)) (e1 : st 1 = 0) (e2 : st 2 = 0) (hf hc)
    (h : Fin 8) (d : Fin 64) :
    shapeCast S8x64 (Host.dynamicSlice S1x8x64 X st hf) hc (ix2 h d) = X (ix3 k h d) := by
  rw [WordCmp.dynamicSlice_eq_extract S1x8x64 X st hf ![k.val, 0, 0]
    ⟨rfl, fun a => by have := k.isLt; fin_cases a <;> simp [S16384x8x64, S1x8x64] <;> omega⟩
    (fun a => by fin_cases a <;> simp [e0, e1, e2])]
  pointwise []

/-- Row `k` of an array of 8x128 rows. -/
theorem slice128 (X : S16384x8x128.Idx → α) (st : Fin 3 → Int) (k : Fin 16384) (e0 : st 0 = (k.val : Int)) (e1 : st 1 = 0) (e2 : st 2 = 0) (hf hc)
    (h : Fin 8) (d : Fin 128) :
    shapeCast S8x128 (Host.dynamicSlice S1x8x128 X st hf) hc (ix2 h d) = X (ix3 k h d) := by
  rw [WordCmp.dynamicSlice_eq_extract S1x8x128 X st hf ![k.val, 0, 0]
    ⟨rfl, fun a => by have := k.isLt; fin_cases a <;> simp [S16384x8x128, S1x8x128] <;> omega⟩
    (fun a => by fin_cases a <;> simp [e0, e1, e2])]
  pointwise []

/-- Row `k` of an array of 8 rows. -/
theorem slice8 (X : S16384x8.Idx → α) (st : Fin 2 → Int) (k : Fin 16384) (e0 : st 0 = (k.val : Int)) (e1 : st 1 = 0) (hf hc)
    (h : Fin 8) :
    shapeCast S8 (Host.dynamicSlice S1x8 X st hf) hc (ix1 h) = X (ix2 k h) := by
  rw [WordCmp.dynamicSlice_eq_extract S1x8 X st hf ![k.val, 0]
    ⟨rfl, fun a => by have := k.isLt; fin_cases a <;> simp [S16384x8, S1x8] <;> omega⟩
    (fun a => by fin_cases a <;> simp [e0, e1])]
  pointwise []

/-- Writing row `k`: that row is the written one, the others stay. -/
theorem write128 (X : S16384x8x128.Idx → α) (upd : S1x8x128.Idx → α) (st : Fin 3 → Int) (k : Fin 16384) (e0 : st 0 = (k.val : Int))
    (e1 : st 1 = 0) (e2 : st 2 = 0) (hf) (j : Fin 16384) (h : Fin 8) (d : Fin 128) :
    Host.dynamicUpdateSlice X upd st hf (ix3 j h d) = if j = k then upd (ix3 0 h d) else X (ix3 j h d) := by
  rw [WordCmp.dynamicUpdateSlice_eq_update X upd st hf ![k.val, 0, 0]
    ⟨rfl, fun a => by have := k.isLt; fin_cases a <;> simp [S16384x8x128, S1x8x128] <;> omega⟩
    (fun a => by fin_cases a <;> simp [e0, e1, e2])]
  pointwise []
  by_cases hj : j = k
  · subst hj
    rw [dif_pos ⟨le_refl _, Nat.lt_succ_self _⟩, if_pos rfl]
    exact congrArg upd (congrArg (fun i => ix3 i h d) (Subsingleton.elim (α := Fin 1) _ _))
  · rw [if_neg hj, dif_neg fun hh => hj (Fin.ext (by omega))]

end Slices

section Steps

variable (V : Valuation τ sig (Elt Ideal)) (k : Fin 16384) (hc : V (Proc.devRef .tc main_v36_5) = fun _ => Scf.iv 0#32 1#32 k.val)

include hc in
/-- The counter, as the slices read it. -/
theorem hi : ((V (Proc.devRef .tc main_v36_5) : Vec Ideal S_ .i32) (Shape.Idx.first h_S_)).toInt = (k.val : Int) := by
  rw [hc]; exact iv_toInt k

include hc in
/-- A trip's queries. -/
theorem q_at (h : Fin 8) (d : Fin 64) : (res_main_while0b_v72 V : Vec Ideal S8x64 .f32) (ix2 h d) = (V (Proc.devRef .tc main_v36_0) : Vec Ideal S16384x8x64 .f32) (ix3 k h d) := by
  unfold res_main_while0b_v72
  exact slice64 _ _ k (hi V k hc) rfl rfl _ _ h d

include hc in
/-- A trip's keys. -/
theorem k_at (h : Fin 8) (d : Fin 64) : (res_main_while0b_v73 V : Vec Ideal S8x64 .f32) (ix2 h d) = (V (Proc.devRef .tc main_v36_1) : Vec Ideal S16384x8x64 .f32) (ix3 k h d) := by
  unfold res_main_while0b_v73
  exact slice64 _ _ k (hi V k hc) rfl rfl _ _ h d

include hc in
/-- A trip's input gates. -/
theorem i_at (h : Fin 8) : (res_main_while0b_v75 V : Vec Ideal S8 .f32) (ix1 h) = (V (Proc.devRef .tc main_v36_3) : Vec Ideal S16384x8 .f32) (ix2 k h) := by
  unfold res_main_while0b_v75
  exact slice8 _ _ k (hi V k hc) rfl _ _ h

include hc in
/-- A trip's forget gates. -/
theorem f_at (h : Fin 8) : (res_main_while0b_v76 V : Vec Ideal S8 .f32) (ix1 h) = (V (Proc.devRef .tc main_v36_4) : Vec Ideal S16384x8 .f32) (ix2 k h) := by
  unfold res_main_while0b_v76
  exact slice8 _ _ k (hi V k hc) rfl _ _ h

include hc in
/-- One trip's new memory. -/
theorem state_at (h : Fin 8) (d : Fin 64) (e : Fin 128) :
    (res_main_while0b_v88 V : Vec Ideal S8x64x128 .f32) (ix3 h d e)
      = @HAdd.hAdd EReal EReal EReal _ (@HMul.hMul EReal EReal EReal _ ((V (Proc.devRef .tc main_v36_4) : Vec Ideal S16384x8 .f32) (ix2 k h)) ((V (Proc.devRef .tc main_v36_6) : Vec Ideal S8x64x128 .f32) (ix3 h d e)))
        (@HMul.hMul EReal EReal EReal _ ((V (Proc.devRef .tc main_v36_3) : Vec Ideal S16384x8 .f32) (ix2 k h)) (@HMul.hMul EReal EReal EReal _ ((V (Proc.devRef .tc main_v36_1) : Vec Ideal S16384x8x64 .f32) (ix3 k h d))
          ((V (Proc.devRef .tc main_v36_2) : Vec Ideal S16384x8x128 .f32) (ix3 k h e)))) := by
  have hk := k_at V k hc
  have hi' := i_at V k hc
  have hf := f_at V k hc
  unfold res_main_while0b_v88
  generalize res_main_while0b_v73 V = kv at hk
  generalize res_main_while0b_v75 V = iv at hi'
  generalize res_main_while0b_v76 V = fv at hf
  generalize e0 : shapeCast S8x128 (Host.dynamicSlice S1x8x128 (V (Proc.devRef .tc main_v36_2)) _ _) _ = x0
  have h0 : ∀ i d, x0 (ix2 i d) = _ := fun i d => e0 ▸ slice128 (V (Proc.devRef .tc main_v36_2)) _ k (hi V k hc) rfl rfl _ _ i d
  generalize V (Proc.devRef .tc main_v36_6) = S
  pointwise []
  simp only [h0, hk, hi', hf]

include hc in
/-- One trip's new normaliser. -/
theorem norm_at (h : Fin 8) (d : Fin 64) :
    (res_main_while0b_v95 V : Vec Ideal S8x64 .f32) (ix2 h d)
      = @HAdd.hAdd EReal EReal EReal _ (@HMul.hMul EReal EReal EReal _ ((V (Proc.devRef .tc main_v36_4) : Vec Ideal S16384x8 .f32) (ix2 k h)) ((V (Proc.devRef .tc main_v36_7) : Vec Ideal S8x64 .f32) (ix2 h d)))
        (@HMul.hMul EReal EReal EReal _ ((V (Proc.devRef .tc main_v36_3) : Vec Ideal S16384x8 .f32) (ix2 k h)) ((V (Proc.devRef .tc main_v36_1) : Vec Ideal S16384x8x64 .f32) (ix3 k h d))) := by
  have hk := k_at V k hc
  have hi' := i_at V k hc
  have hf := f_at V k hc
  unfold res_main_while0b_v95
  generalize res_main_while0b_v73 V = kv at hk ⊢
  generalize res_main_while0b_v75 V = iv at hi' ⊢
  generalize res_main_while0b_v76 V = fv at hf ⊢
  generalize V (Proc.devRef .tc main_v36_7) = S
  pointwise []
  simp only [hk, hi', hf]

/-- The word of one. -/
theorem one : Ideal.ofBits FTy.f32 1065353216#32 = 1 := by
  rw [← EReal.coe_one]
  simp [Ideal.ofBits, Ideal.ieee, -EReal.coe_mul]; norm_num

include hc in
/-- One trip's outputs: row `k` is written, the others stay. -/
theorem out_at (j : Fin 16384) (h : Fin 8) (e : Fin 128) :
    (step_main_v36_8 V : Vec Ideal S16384x8x128 .f32) (ix3 j h e)
      = if j = k then Ideal.div (∑ d : Fin 64, @HMul.hMul EReal EReal EReal _ ((V (Proc.devRef .tc main_v36_0) : Vec Ideal S16384x8x64 .f32) (ix3 k h d)) ((res_main_while0b_v88 V : Vec Ideal S8x64x128 .f32) (ix3 h d e)))
          (max (FloatOps.absf (F := Ideal) (φ := .f32) (∑ d : Fin 64, @HMul.hMul EReal EReal EReal _ ((V (Proc.devRef .tc main_v36_0) : Vec Ideal S16384x8x64 .f32) (ix3 k h d)) ((res_main_while0b_v95 V : Vec Ideal S8x64 .f32) (ix2 h d)))) 1)
        else (V (Proc.devRef .tc main_v36_8) : Vec Ideal S16384x8x128 .f32) (ix3 j h e) := by
  have hq := q_at V k hc
  unfold step_main_v36_8
  refine (write128 _ _ _ k (hi V k hc) rfl rfl _ j h e).trans ?_
  refine if_congr Iff.rfl ?_ rfl
  generalize res_main_while0b_v72 V = q at hq
  generalize res_main_while0b_v88 V = C
  generalize res_main_while0b_v95 V = N
  rw [← one]
  pointwise []
  simp only [hq]

end Steps

/-- A row of the sequence is itself. -/
theorem row_val (t : Fin 16384) : row t.val = t := Fin.ext (Nat.mod_eq_of_lt t.isLt)

section Heads

variable (X : Vec Ideal S16384x12288 .f32) (o : ℕ) (t : Fin 16384) (h : Fin 8)

/-- Columns of the projection in eight heads of 64. -/
theorem heads64 (ho : o + 512 ≤ 12288) (a b) (d : Fin 64) :
    shapeCast S16384x8x64 (extractStridedSlice S16384x512 ![0, o] X a) b (ix3 t h d) = X (ix2 t ⟨o + (64 * h.val + d.val), by omega⟩) := by
  pointwise []
  exact congrArg X (congrArg (ix2 t) (Fin.ext (by dsimp only; omega)))

/-- Columns of the projection in eight heads of 128. -/
theorem heads128 (ho : o + 1024 ≤ 12288) (a b) (d : Fin 128) :
    shapeCast S16384x8x128 (extractStridedSlice S16384x1024 ![0, o] X a) b (ix3 t h d) = X (ix2 t ⟨o + (128 * h.val + d.val), by omega⟩) := by
  pointwise []
  exact congrArg X (congrArg (ix2 t) (Fin.ext (by dsimp only; omega)))

/-- A gate's capped preactivation. -/
theorem cap_at (ho : o + 8 ≤ 12288) (a) (B : Vec Ideal S8 .f32) :
    mulf (F := Ideal) (broadcastInDim S16384x8 ![] bcast_S_S16384x8 (constant S_ .f32 0x41700000#32))
      (Host.tanh (Host.divf (addf (extractStridedSlice S16384x8 ![0, o] X a)
        (broadcastInDim S16384x8 ![0, 1] bcast_S1x8_S16384x8_0_1 (broadcastInDim S1x8 ![1] bcast_S8_S1x8_1 B)))
        (broadcastInDim S16384x8 ![] bcast_S_S16384x8 (constant S_ .f32 0x41700000#32)))) (ix2 t h)
      = ((capR (@HAdd.hAdd EReal EReal EReal _ (X (ix2 t ⟨o + h.val, by omega⟩)) (B (ix1 h))) : ℝ) : EReal) := by
  rw [← cap_eq]
  pointwise [cap]

end Heads

variable (m : (ℓ : Loc nD τ sig) → Buf (Elt Ideal) ℓ) (c : Dev nD)

/-- The projection. -/
abbrev pA : Vec Ideal S16384x12288 .f32 := m ((c.tc : Thread nD τ).loc main_arg0)
/-- The input gate's bias. -/
abbrev iA : Vec Ideal S8 .f32 := m ((c.tc : Thread nD τ).loc main_arg1)
/-- The forget gate's bias. -/
abbrev fA : Vec Ideal S8 .f32 := m ((c.tc : Thread nD τ).loc main_arg2)
/-- The norm's weights. -/
abbrev gA : Vec Ideal S1024 .f32 := m ((c.tc : Thread nD τ).loc main_arg3)

/-- Every trip leaves operand 0 as at the loop's entry. -/
theorem keep0 (k : ℕ) : (STEP^[k] (entryContents preI m c)) (Proc.devRef .tc main_v36_0) = entryContents preI m c (Proc.devRef .tc main_v36_0) := by
  induction k with
  | zero => rfl
  | succ k ih => rw [Function.iterate_succ_apply', STEP_main_v36_0, ih]

/-- Every trip leaves operand 1 as at the loop's entry. -/
theorem keep1 (k : ℕ) : (STEP^[k] (entryContents preI m c)) (Proc.devRef .tc main_v36_1) = entryContents preI m c (Proc.devRef .tc main_v36_1) := by
  induction k with
  | zero => rfl
  | succ k ih => rw [Function.iterate_succ_apply', STEP_main_v36_1, ih]

/-- Every trip leaves operand 2 as at the loop's entry. -/
theorem keep2 (k : ℕ) : (STEP^[k] (entryContents preI m c)) (Proc.devRef .tc main_v36_2) = entryContents preI m c (Proc.devRef .tc main_v36_2) := by
  induction k with
  | zero => rfl
  | succ k ih => rw [Function.iterate_succ_apply', STEP_main_v36_2, ih]

/-- Every trip leaves operand 3 as at the loop's entry. -/
theorem keep3 (k : ℕ) : (STEP^[k] (entryContents preI m c)) (Proc.devRef .tc main_v36_3) = entryContents preI m c (Proc.devRef .tc main_v36_3) := by
  induction k with
  | zero => rfl
  | succ k ih => rw [Function.iterate_succ_apply', STEP_main_v36_3, ih]

/-- Every trip leaves operand 4 as at the loop's entry. -/
theorem keep4 (k : ℕ) : (STEP^[k] (entryContents preI m c)) (Proc.devRef .tc main_v36_4) = entryContents preI m c (Proc.devRef .tc main_v36_4) := by
  induction k with
  | zero => rfl
  | succ k ih => rw [Function.iterate_succ_apply', STEP_main_v36_4, ih]

/-- The counter before trip `k`. -/
theorem ctr (k : ℕ) : (STEP^[k] (entryContents preI m c)) (Proc.devRef .tc main_v36_5) = fun _ => Scf.iv 0#32 1#32 k := by
  induction k with
  | zero => rw [Scf.iv_zero]; exact ctr_entry m c
  | succ k ih =>
    rw [Function.iterate_succ_apply', STEP_main_v36_5]
    unfold step_main_v36_5
    rw [ih, Scf.iv_succ]
    rfl

section Entry

variable (t : Fin 16384) (h : Fin 8)

/-- The input gates. -/
theorem entry3 : (entryContents preI m c (Proc.devRef .tc main_v36_3) : Vec Ideal S16384x8 .f32) (ix2 t h)
    = ((Real.exp (liR (pA m c) (iA m c) h t.val) : ℝ) : EReal) := by
  have e : @Eq (FVec Ideal S16384x8 .f32) (entryContents preI m c (Proc.devRef .tc main_v36_3))
      (Host.exp (mulf (F := Ideal) (broadcastInDim S16384x8 ![] bcast_S_S16384x8 (constant S_ .f32 0x41700000#32))
        (Host.tanh (Host.divf (addf (extractStridedSlice S16384x8 ![0, 960] (pA m c) slices_S16384x12288_S16384x8_0_960)
          (broadcastInDim S16384x8 ![0, 1] bcast_S1x8_S16384x8_0_1 (broadcastInDim S1x8 ![1] bcast_S8_S1x8_1 (iA m c))))
          (broadcastInDim S16384x8 ![] bcast_S_S16384x8 (constant S_ .f32 0x41700000#32)))))) := by
    simp only [entryContents, afterL_cons, afterL_nil]
    after_reads_simp
    rfl
  rw [e]
  have hs := cap_at (pA m c) 960 t h (by omega) slices_S16384x12288_S16384x8_0_960 (iA m c)
  unfold liR
  rw [row_val, ← Ideal.exp_coe, ← hs]
  generalize mulf (F := Ideal) _ _ = y
  pointwise []

/-- The forget gates. -/
theorem entry4 : (entryContents preI m c (Proc.devRef .tc main_v36_4) : Vec Ideal S16384x8 .f32) (ix2 t h)
    = ((Real.exp (lfR (pA m c) (fA m c) h t.val) : ℝ) : EReal) := by
  have e : @Eq (FVec Ideal S16384x8 .f32) (entryContents preI m c (Proc.devRef .tc main_v36_4))
      (Host.divf (broadcastInDim S16384x8 ![] bcast_S_S16384x8 (constant S_ .f32 0x3F800000#32))
        (addf (broadcastInDim S16384x8 ![] bcast_S_S16384x8 (constant S_ .f32 0x3F800000#32)) (Host.exp (Host.negf
        (mulf (F := Ideal) (broadcastInDim S16384x8 ![] bcast_S_S16384x8 (constant S_ .f32 0x41700000#32))
        (Host.tanh (Host.divf (addf (extractStridedSlice S16384x8 ![0, 968] (pA m c) slices_S16384x12288_S16384x8_0_968)
          (broadcastInDim S16384x8 ![0, 1] bcast_S1x8_S16384x8_0_1 (broadcastInDim S1x8 ![1] bcast_S8_S1x8_1 (fA m c))))
          (broadcastInDim S16384x8 ![] bcast_S_S16384x8 (constant S_ .f32 0x41700000#32))))))))) := by
    simp only [entryContents, afterL_cons, afterL_nil]
    after_reads_simp
    rfl
  rw [e]
  have hs := cap_at (pA m c) 968 t h (by omega) slices_S16384x12288_S16384x8_0_968 (fA m c)
  unfold lfR
  rw [row_val, exp_lsg, ← Ideal.logistic_coe, ← hs]
  generalize mulf (F := Ideal) _ _ = y
  pointwise []
  rfl

variable (hP : Finite (pA m c))

include hP in
/-- The scaled queries. -/
theorem entry0 (d : Fin 64) : (entryContents preI m c (Proc.devRef .tc main_v36_0) : Vec Ideal S16384x8x64 .f32) (ix3 t h d)
    = ((qR (pA m c) h t.val d * (1 / 8) : ℝ) : EReal) := by
  have e : @Eq (FVec Ideal S16384x8x64 .f32) (entryContents preI m c (Proc.devRef .tc main_v36_0))
      (mulf (shapeCast S16384x8x64 (extractStridedSlice S16384x512 ![0, 1024] (pA m c) slices_S16384x12288_S16384x512_0_1024) shapeCasts_S16384x512_S16384x8x64)
        (broadcastInDim S16384x8x64 ![] bcast_S_S16384x8x64 (constant S_ .f32 0x3E000000#32))) := by
    simp only [entryContents, afterL_cons, afterL_nil]
    after_reads_simp
    rfl
  have h8 : Ideal.ofBits FTy.f32 1040187392#32 = ((1 / 8 : ℝ) : EReal) := by
    simp [Ideal.ofBits, Ideal.ieee, -EReal.coe_mul]; norm_num
  have hs := heads64 (pA m c) 1024 t h (by omega) slices_S16384x12288_S16384x512_0_1024 shapeCasts_S16384x512_S16384x8x64 d
  rw [hP _ _ (by dsimp only; omega) (by dsimp only; omega)] at hs
  rw [e, EReal.coe_mul, ← h8]
  unfold qR
  rw [row_val, ← hs]
  generalize shapeCast S16384x8x64 _ _ = y
  pointwise []

include hP in
/-- The keys. -/
theorem entry1 (d : Fin 64) : (entryContents preI m c (Proc.devRef .tc main_v36_1) : Vec Ideal S16384x8x64 .f32) (ix3 t h d)
    = ((kR (pA m c) h t.val d : ℝ) : EReal) := by
  have e : @Eq (FVec Ideal S16384x8x64 .f32) (entryContents preI m c (Proc.devRef .tc main_v36_1))
      (shapeCast S16384x8x64 (extractStridedSlice S16384x512 ![0, 1536] (pA m c) slices_S16384x12288_S16384x512_0_1536) shapeCasts_S16384x512_S16384x8x64) := by
    simp only [entryContents, afterL_cons, afterL_nil]
    after_reads_simp
    rfl
  have hs := heads64 (pA m c) 1536 t h (by omega) slices_S16384x12288_S16384x512_0_1536 shapeCasts_S16384x512_S16384x8x64 d
  rw [hP _ _ (by dsimp only; omega) (by dsimp only; omega)] at hs
  rw [e, hs]
  unfold kR
  rw [row_val]

include hP in
/-- The values. -/
theorem entry2 (d : Fin 128) : (entryContents preI m c (Proc.devRef .tc main_v36_2) : Vec Ideal S16384x8x128 .f32) (ix3 t h d)
    = ((vR (pA m c) h t.val d : ℝ) : EReal) := by
  have e : @Eq (FVec Ideal S16384x8x128 .f32) (entryContents preI m c (Proc.devRef .tc main_v36_2))
      (shapeCast S16384x8x128 (extractStridedSlice S16384x1024 ![0, 2048] (pA m c) slices_S16384x12288_S16384x1024_0_2048) shapeCasts_S16384x1024_S16384x8x128) := by
    simp only [entryContents, afterL_cons, afterL_nil]
    after_reads_simp
    rfl
  have hs := heads128 (pA m c) 2048 t h (by omega) slices_S16384x12288_S16384x1024_0_2048 shapeCasts_S16384x1024_S16384x8x128 d
  rw [hP _ _ (by dsimp only; omega) (by dsimp only; omega)] at hs
  rw [e, hs]
  unfold vR
  rw [row_val]

end Entry

/-- The loop starts from the zero memory. -/
theorem entry6 (i : S8x64x128.Idx) : (entryContents preI m c (Proc.devRef .tc main_v36_6) : Vec Ideal S8x64x128 .f32) i = (0 : EReal) := by
  have e : @Eq (FVec Ideal S8x64x128 .f32) (entryContents preI m c (Proc.devRef .tc main_v36_6))
      (broadcastInDim S8x64x128 ![] bcast_S_S8x64x128 (constant S_ .f32 0x00000000#32)) := by
    simp only [entryContents, afterL_cons, afterL_nil]
    after_reads_simp
    rfl
  rw [e]
  pointwise []

/-- The loop starts from the zero normaliser. -/
theorem entry7 (i : S8x64.Idx) : (entryContents preI m c (Proc.devRef .tc main_v36_7) : Vec Ideal S8x64 .f32) i = (0 : EReal) := by
  have e : @Eq (FVec Ideal S8x64 .f32) (entryContents preI m c (Proc.devRef .tc main_v36_7))
      (broadcastInDim S8x64 ![] bcast_S_S8x64 (constant S_ .f32 0x00000000#32)) := by
    simp only [entryContents, afterL_cons, afterL_nil]
    after_reads_simp
    rfl
  rw [e]
  pointwise []

variable (hP : Finite (pA m c))

include hP in
/-- After `k` trips the memory and the normaliser are the recurrences', and the outputs of the rows before `k` are in place. -/
theorem inv (k : ℕ) (hk : k ≤ 16384) :
    (∀ h d e, ((STEP^[k] (entryContents preI m c)) (Proc.devRef .tc main_v36_6) : Vec Ideal S8x64x128 .f32) (ix3 h d e)
      = ((cR (pA m c) (iA m c) (fA m c) h d e k : ℝ) : EReal))
    ∧ (∀ h d, ((STEP^[k] (entryContents preI m c)) (Proc.devRef .tc main_v36_7) : Vec Ideal S8x64 .f32) (ix2 h d)
      = ((nR (pA m c) (iA m c) (fA m c) h d k : ℝ) : EReal))
    ∧ ∀ (j : Fin 16384) (h : Fin 8) (e : Fin 128), j.val < k →
      ((STEP^[k] (entryContents preI m c)) (Proc.devRef .tc main_v36_8) : Vec Ideal S16384x8x128 .f32) (ix3 j h e)
        = ((hR (pA m c) (iA m c) (fA m c) h j.val e : ℝ) : EReal) := by
  induction k with
  | zero => exact ⟨fun h d e => entry6 m c _, fun h d => entry7 m c _, fun _ _ _ h => absurd h (Nat.not_lt_zero _)⟩
  | succ k ih =>
    obtain ⟨ih1, ih2, ih3⟩ := ih (by omega)
    have hs := state_at (STEP^[k] (entryContents preI m c)) ⟨k, hk⟩ (ctr m c k)
    have hn := norm_at (STEP^[k] (entryContents preI m c)) ⟨k, hk⟩ (ctr m c k)
    have ho := out_at (STEP^[k] (entryContents preI m c)) ⟨k, hk⟩ (ctr m c k)
    rw [keep1, keep2, keep3, keep4] at hs
    rw [keep1, keep3, keep4] at hn
    rw [keep0] at ho
    have hs' : ∀ h d e, (res_main_while0b_v88 (STEP^[k] (entryContents preI m c)) : Vec Ideal S8x64x128 .f32) (ix3 h d e)
        = ((cR (pA m c) (iA m c) (fA m c) h d e (k + 1) : ℝ) : EReal) := fun h d e => by
      rw [hs, entry1 m c _ h hP, entry2 m c _ h hP, entry3, entry4, ih1, ← EReal.coe_mul, ← EReal.coe_mul, ← EReal.coe_mul, ← EReal.coe_add]
      rfl
    have hn' : ∀ h d, (res_main_while0b_v95 (STEP^[k] (entryContents preI m c)) : Vec Ideal S8x64 .f32) (ix2 h d)
        = ((nR (pA m c) (iA m c) (fA m c) h d (k + 1) : ℝ) : EReal) := fun h d => by
      rw [hn, entry1 m c _ h hP, entry3, entry4, ih2, ← EReal.coe_mul, ← EReal.coe_mul, ← EReal.coe_add]
      rfl
    rw [Function.iterate_succ_apply', STEP_main_v36_6, STEP_main_v36_7, STEP_main_v36_8]
    refine ⟨hs', hn', fun j h e hj => ?_⟩
    rw [ho]
    by_cases q : j = ⟨k, hk⟩
    · have hmax : ∀ a b : ℝ, max (a : EReal) (b : EReal) = ((max a b : ℝ) : EReal) := fun a b => by norm_cast
      rw [if_pos q, q]
      simp only [entry0 m c _ h hP, hs', hn', ← EReal.coe_mul, coe_sum]
      rw [Ideal.absf_def, ← EReal.coe_neg, hmax, ← EReal.coe_one, hmax, div_real, ← abs_eq_max_neg]
      · rfl
      · exact (lt_of_lt_of_le one_pos (le_max_right _ _)).ne'
    · rw [if_neg q]
      exact ih3 j h e (by have : j.val ≠ k := fun q' => q (Fin.ext q'); omega)

include hP in
/-- The reference's result is the specification's. -/
theorem result : out_main_v71 (STEP^[16384] (entryContents preI m c)) = res (pA m c) (iA m c) (fA m c) (gA m c) := by
  have ho := fun j h e => (inv m c hP 16384 (le_refl _)).2.2 j h e j.isLt
  have h3 := fun t h d => heads128 (pA m c) 3072 t h (by omega) slices_S16384x12288_S16384x1024_0_3072 shapeCasts_S16384x1024_S16384x8x128 d
  have h4 := fun t h d => heads128 (pA m c) 4096 t h (by omega) slices_S16384x12288_S16384x1024_0_4096 shapeCasts_S16384x1024_S16384x8x128 d
  unfold out_main_v71
  rw [iter_main_arg0, iter_main_arg3]
  generalize ((STEP^[16384] (entryContents preI m c)) (Proc.devRef .tc main_v36_8) : Vec Ideal S16384x8x128 .f32) = O at ho ⊢
  generalize shapeCast S16384x8x128 (extractStridedSlice S16384x1024 ![0, 3072] (pA m c) _) _ = o at h3 ⊢
  generalize shapeCast S16384x8x128 (extractStridedSlice S16384x1024 ![0, 4096] (pA m c) _) _ = z at h4 ⊢
  refine funext fun (y : S16384x1024.Idx) => ?_
  obtain ⟨t, n, rfl⟩ : ∃ (t : Fin 16384) (n : Fin 1024), y = ix2 t n := ⟨y 0, y 1, by funext a; fin_cases a <;> rfl⟩
  have dn : 128 * (n.val / 128) + n.val % 128 = n.val := Nat.div_add_mod _ _
  rw [res_at _ _ _ _ (ix2 t n) t ⟨n.val / 128, Nat.div_lt_of_lt_mul n.isLt⟩ ⟨n.val % 128, Nat.mod_lt _ (by decide)⟩ rfl dn.symm]
  unfold resAt gate Ideal.logistic
  pointwise []
  simp only [ho, h3, h4, dn]

end Cert.Reference6Ideal.Cell
end
-- ==== Proof.ChunkSpec.lean ====
module

public import proofs.«01_k».proof.Proof.Gen.Reference7Ideal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Chunk

open Cert.Reference7Ideal Cert.Reference7Ideal.Gen

/-- The softplus, taken either way. -/
theorem softplus (x : EReal) :
    max x 0 + Ideal.log (1 + Ideal.exp (0 - max x (-x))) = Ideal.log (1 + Ideal.exp x) := by
  have l1 : Ideal.log (1 : EReal) = 0 := by
    rw [← EReal.coe_one, Ideal.log_coe, if_neg (by norm_num), Real.log_one, EReal.coe_zero]
  have eb : Ideal.exp ⊥ = 0 := rfl
  have et : Ideal.exp ⊤ = ⊤ := rfl
  have lt : Ideal.log ⊤ = ⊤ := rfl
  induction x using EReal.rec with
  | bot =>
    rw [eb, EReal.neg_bot, max_eq_right bot_le, max_eq_right bot_le, zero_sub, EReal.neg_top, eb, add_zero, l1, add_zero]
  | top =>
    rw [et, EReal.neg_top, max_eq_left le_top, max_eq_left bot_le, zero_sub, EReal.neg_top, eb, add_zero, l1, add_zero]
    rw [← EReal.coe_one, EReal.coe_add_top, lt]
  | coe r =>
    have hm : ∀ a b : ℝ, max (a : EReal) (b : EReal) = ((max a b : ℝ) : EReal) := fun a b => by norm_cast
    rw [← EReal.coe_zero, ← EReal.coe_one, ← EReal.coe_neg, hm, hm, ← EReal.coe_sub, Ideal.exp_coe, Ideal.exp_coe, ← EReal.coe_add, ← EReal.coe_add,
      Ideal.log_coe, Ideal.log_coe, if_neg (not_le.mpr (by positivity)), if_neg (not_le.mpr (by positivity)), ← EReal.coe_add]
    refine congrArg Real.toEReal ?_
    rcases le_total 0 r with h | h
    · rw [max_eq_left h, max_eq_left (by linarith), zero_sub]
      have e : 1 + Real.exp r = Real.exp r * (1 + Real.exp (-r)) := by
        rw [mul_add, ← Real.exp_add, add_neg_cancel, Real.exp_zero]; ring
      rw [e, Real.log_mul (Real.exp_pos r).ne' (by positivity), Real.log_exp]
    · rw [max_eq_right h, max_eq_right (by linarith), zero_add, zero_sub, neg_neg]

/-- A row number compared with another. -/
theorem sel (i s : Fin 64) (a b : EReal) :
    Scalar.select (IntOp.cmpi CmpIPredicate.sle (BitVec.ofNat 32 s.val) (BitVec.ofNat 32 i.val)) a b = if s.val ≤ i.val then a else b := by
  have := WordCmp.cmpi_sle_ofNat_eq_one_iff (w := 32) (a := s.val) (b := i.val) (by omega) (by omega)
  unfold Scalar.select
  exact if_congr this rfl rfl

section Spec

variable (P : FVec Ideal S16384x12288 .f32) (W : FVec Ideal S4x3072 .f32) (A B : FVec Ideal S8 .f32)

/-- Column `c` of the projected rows, `d` rows before row `s`, zero before the first row. -/
def tap (c : Fin 2048) (d : ℕ) (s : Fin 16384) : Ideal .f32 :=
  if d ≤ s.val then P (ix2 ⟨s.val - d, by omega⟩ ⟨5120 + c.val, by omega⟩) else (0 : EReal)

/-- The convolution over four rows. -/
def conv (c : Fin 2048) (s : Fin 16384) : Ideal .f32 :=
  W (ix2 3 ⟨c.val, by omega⟩) * tap P c 0 s + W (ix2 2 ⟨c.val, by omega⟩) * tap P c 1 s + W (ix2 1 ⟨c.val, by omega⟩) * tap P c 2 s
    + W (ix2 0 ⟨c.val, by omega⟩) * tap P c 3 s

/-- The convolution times its logistic. -/
def act (c : Fin 2048) (s : Fin 16384) : Ideal .f32 := conv P W c s * Ideal.logistic (conv P W c s)

/-- A row over its length. -/
def unit (f : Fin 128 → Ideal .f32) (d : Fin 128) : Ideal .f32 :=
  f d * Ideal.rsqrt (∑ x : Fin 128, f x * f x + Ideal.ofBits FTy.f32 897988541#32)

/-- Part `p` of 128 columns of row `s`, over its length: parts 0 to 7 are the heads' queries, 8 to 15 their keys. -/
def part (p : Fin 16) (s : Fin 16384) : Fin 128 → Ideal .f32 := unit fun d => act P W ⟨p.val * 128 + d.val, by omega⟩ s

/-- Head `h` of the scaled query of row `s`. -/
def qry (h : Fin 8) (s : Fin 16384) (d : Fin 128) : Ideal .f32 := part P W ⟨h.val, by omega⟩ s d * Ideal.ofBits FTy.f32 1035273459#32

/-- Head `h` of the key of row `s`. -/
def key (h : Fin 8) (s : Fin 16384) (d : Fin 128) : Ideal .f32 := part P W ⟨8 + h.val, by omega⟩ s d

/-- The logarithm of head `h`'s decay at row `s`. -/
def lg (h : Fin 8) (s : Fin 16384) : Ideal .f32 :=
  -(Ideal.exp (A (ix1 h))) * Ideal.log (1 + Ideal.exp (P (ix2 s ⟨1000 + h.val, by omega⟩) + B (ix1 h)) : EReal)

/-- Row `l` of chunk `n`. -/
abbrev row (n : Fin 256) (l : Fin 64) : Fin 16384 := ⟨n.val * 64 + l.val, by omega⟩

/-- The logarithms of head `h`'s decays summed over chunk `n` up to row `l`. -/
def cum (h : Fin 8) (n : Fin 256) (l : Fin 64) : Ideal .f32 := ∑ j : Fin 64, if j.val ≤ l.val then lg P A B h (row n j) else (0 : EReal)

/-- The decayed queries' entries. -/
def qdV (h : Fin 8) (n : Fin 256) (l : Fin 64) (d : Fin 128) : Ideal .f32 := qry P W h (row n l) d * Ideal.exp (cum P A B h n l)

/-- The decayed keys' entries. -/
def kdV (h : Fin 8) (n : Fin 256) (l : Fin 64) (d : Fin 128) : Ideal .f32 :=
  key P W h (row n l) d * Ideal.exp (cum P A B h n 63 - cum P A B h n l)

/-- The causal scores' entries. -/
def aqkV (h : Fin 8) (n : Fin 256) (l j : Fin 64) : Ideal .f32 :=
  (∑ d : Fin 128, qry P W h (row n l) d * key P W h (row n j) d)
    * if j.val ≤ l.val then Ideal.exp (cum P A B h n l - cum P A B h n j) else (0 : EReal)

end Spec

end Cert.Chunk
end
-- ==== Proof.ChunkMath.lean ====
module

public import proofs.«01_k».proof.Proof.Gen.Kernel7Ideal.Value
public import proofs.«01_k».proof.Proof.ChunkSpec
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel7Ideal.Chunk

open Cert.Kernel7Ideal Cert.Kernel7Ideal.Gen Cert.Chunk

/-- Head `h` of row `l` of a block of convolved rows, over its length. -/
def hd (y : FVec Ideal S64x1024 .f32) (h : Fin 8) (l : Fin 64) : Fin 128 → Ideal .f32 := unit fun d => y (ix2 l ⟨h.val * 128 + d.val, by omega⟩)

/-- The summed logarithms of head `h` at row `l` of a block. -/
abbrev at104 (s : FVec Ideal S64x128 .f32) (h : Fin 8) (l : Fin 64) : Ideal .f32 := s (ix2 l ⟨104 + h.val, by omega⟩)

/-- The decayed queries of head `h` of a block. -/
def qdB (y : FVec Ideal S64x1024 .f32) (s : FVec Ideal S64x128 .f32) (h : Fin 8) (l : Fin 64) (d : Fin 128) : Ideal .f32 :=
  hd y h l d * Ideal.ofBits FTy.f32 1035273459#32 * Ideal.exp (at104 s h l)

/-- The decayed keys of head `h` of a block. -/
def kdB (z : FVec Ideal S64x1024 .f32) (s : FVec Ideal S64x128 .f32) (h : Fin 8) (l : Fin 64) (d : Fin 128) : Ideal .f32 :=
  hd z h l d * Ideal.exp (at104 s h 63 - at104 s h l)

/-- The causal scores of head `h` of a block. -/
def aqkB (y z : FVec Ideal S64x1024 .f32) (s : FVec Ideal S64x128 .f32) (w : FVec Ideal S8x64 .f32) (h : Fin 8) (l j : Fin 64) : Ideal .f32 :=
  (∑ d : Fin 128, hd y h l d * Ideal.ofBits FTy.f32 1035273459#32 * hd z h j d)
    * if j.val ≤ l.val then Ideal.exp (at104 s h l - w (ix2 h j)) else (0 : EReal)

/-- The stored decayed queries of head 0. -/
theorem qd_piece0 (y : FVec Ideal S64x1024 .f32) (s : FVec Ideal S64x128 .f32) (l : Fin 64) (d : Fin 128) :
    k0_pay359 (k0_pay55 (k0_pay31 y)) (k0_pay104 s) (ix2 l d) = qdB y s 0 l d := by
  pointwise [k0_pay359, k0_pay55, k0_pay31, k0_pay104, k0_pay74, qdB, hd, unit]
  rfl

/-- The stored decayed queries of head 1. -/
theorem qd_piece1 (y : FVec Ideal S64x1024 .f32) (s : FVec Ideal S64x128 .f32) (l : Fin 64) (d : Fin 128) :
    k0_pay364 (k0_pay56 (k0_pay32 y)) (k0_pay105 s) (ix2 l d) = qdB y s 1 l d := by
  pointwise [k0_pay364, k0_pay56, k0_pay32, k0_pay105, k0_pay75, qdB, hd, unit]
  rfl

/-- The stored decayed queries of head 2. -/
theorem qd_piece2 (y : FVec Ideal S64x1024 .f32) (s : FVec Ideal S64x128 .f32) (l : Fin 64) (d : Fin 128) :
    k0_pay369 (k0_pay57 (k0_pay33 y)) (k0_pay106 s) (ix2 l d) = qdB y s 2 l d := by
  pointwise [k0_pay369, k0_pay57, k0_pay33, k0_pay106, k0_pay76, qdB, hd, unit]
  rfl

/-- The stored decayed queries of head 3. -/
theorem qd_piece3 (y : FVec Ideal S64x1024 .f32) (s : FVec Ideal S64x128 .f32) (l : Fin 64) (d : Fin 128) :
    k0_pay374 (k0_pay58 (k0_pay34 y)) (k0_pay107 s) (ix2 l d) = qdB y s 3 l d := by
  pointwise [k0_pay374, k0_pay58, k0_pay34, k0_pay107, k0_pay77, qdB, hd, unit]
  rfl

/-- The stored decayed queries of head 4. -/
theorem qd_piece4 (y : FVec Ideal S64x1024 .f32) (s : FVec Ideal S64x128 .f32) (l : Fin 64) (d : Fin 128) :
    k0_pay380 (k0_pay60 (k0_pay35 y) (k0_pay59 (k0_pay35 y)) (Scalar.ofBits .f32 0x358637BD#32)) (k0_pay108 s) (ix2 l d) = qdB y s 4 l d := by
  pointwise [k0_pay380, k0_pay60, k0_pay35, k0_pay59, k0_pay108, k0_pay78, qdB, hd, unit]
  rfl

/-- The stored decayed queries of head 5. -/
theorem qd_piece5 (y : FVec Ideal S64x1024 .f32) (s : FVec Ideal S64x128 .f32) (l : Fin 64) (d : Fin 128) :
    k0_pay385 (k0_pay61 (k0_pay36 y)) (k0_pay109 s) (ix2 l d) = qdB y s 5 l d := by
  pointwise [k0_pay385, k0_pay61, k0_pay36, k0_pay109, k0_pay79, qdB, hd, unit]
  rfl

/-- The stored decayed queries of head 6. -/
theorem qd_piece6 (y : FVec Ideal S64x1024 .f32) (s : FVec Ideal S64x128 .f32) (l : Fin 64) (d : Fin 128) :
    k0_pay390 (k0_pay62 (k0_pay37 y)) (k0_pay110 s) (ix2 l d) = qdB y s 6 l d := by
  pointwise [k0_pay390, k0_pay62, k0_pay37, k0_pay110, k0_pay80, qdB, hd, unit]
  rfl

/-- The stored decayed queries of head 7. -/
theorem qd_piece7 (y : FVec Ideal S64x1024 .f32) (s : FVec Ideal S64x128 .f32) (l : Fin 64) (d : Fin 128) :
    k0_pay2 (k0_pay63 (k0_pay38 y)) (k0_pay111 s) (ix2 l d) = qdB y s 7 l d := by
  pointwise [k0_pay2, k0_pay63, k0_pay38, k0_pay111, k0_pay81, qdB, hd, unit]
  rfl

/-- The stored decayed keys of head 0. -/
theorem kd_piece0 (z : FVec Ideal S64x1024 .f32) (s : FVec Ideal S64x128 .f32) (l : Fin 64) (d : Fin 128) :
    k0_pay360 (k0_pay64 (k0_pay39 z)) (k0_pay74 s) (k0_pay96 s) (ix2 l d) = kdB z s 0 l d := by
  pointwise [k0_pay360, k0_pay64, k0_pay39, k0_pay74, k0_pay96, kdB, hd, unit]
  rfl

/-- The stored decayed keys of head 1. -/
theorem kd_piece1 (z : FVec Ideal S64x1024 .f32) (s : FVec Ideal S64x128 .f32) (l : Fin 64) (d : Fin 128) :
    k0_pay365 (k0_pay66 (k0_pay40 z) (k0_pay65 (k0_pay40 z))) (k0_pay75 s) (k0_pay97 s) (ix2 l d) = kdB z s 1 l d := by
  pointwise [k0_pay365, k0_pay66, k0_pay40, k0_pay65, k0_pay75, k0_pay97, kdB, hd, unit]
  rfl

/-- The stored decayed keys of head 2. -/
theorem kd_piece2 (z : FVec Ideal S64x1024 .f32) (s : FVec Ideal S64x128 .f32) (l : Fin 64) (d : Fin 128) :
    k0_pay370 (k0_pay67 (k0_pay41 z)) (k0_pay76 s) (k0_pay98 s) (ix2 l d) = kdB z s 2 l d := by
  pointwise [k0_pay370, k0_pay67, k0_pay41, k0_pay76, k0_pay98, kdB, hd, unit]
  rfl

/-- The stored decayed keys of head 3. -/
theorem kd_piece3 (z : FVec Ideal S64x1024 .f32) (s : FVec Ideal S64x128 .f32) (l : Fin 64) (d : Fin 128) :
    k0_pay375 (k0_pay68 (k0_pay42 z)) (k0_pay77 s) (k0_pay99 s) (ix2 l d) = kdB z s 3 l d := by
  pointwise [k0_pay375, k0_pay68, k0_pay42, k0_pay77, k0_pay99, kdB, hd, unit]
  rfl

/-- The stored decayed keys of head 4. -/
theorem kd_piece4 (z : FVec Ideal S64x1024 .f32) (s : FVec Ideal S64x128 .f32) (l : Fin 64) (d : Fin 128) :
    k0_pay381 (k0_pay69 (k0_pay43 z)) (k0_pay78 s) (k0_pay100 s) (ix2 l d) = kdB z s 4 l d := by
  pointwise [k0_pay381, k0_pay69, k0_pay43, k0_pay78, k0_pay100, kdB, hd, unit]
  rfl

/-- The stored decayed keys of head 5. -/
theorem kd_piece5 (z : FVec Ideal S64x1024 .f32) (s : FVec Ideal S64x128 .f32) (l : Fin 64) (d : Fin 128) :
    k0_pay386 (k0_pay70 (k0_pay44 z)) (k0_pay79 s) (k0_pay101 s) (ix2 l d) = kdB z s 5 l d := by
  pointwise [k0_pay386, k0_pay70, k0_pay44, k0_pay79, k0_pay101, kdB, hd, unit]
  rfl

/-- The stored decayed keys of head 6. -/
theorem kd_piece6 (z : FVec Ideal S64x1024 .f32) (s : FVec Ideal S64x128 .f32) (l : Fin 64) (d : Fin 128) :
    k0_pay391 (k0_pay71 (k0_pay45 z)) (k0_pay80 s) (k0_pay102 s) (ix2 l d) = kdB z s 6 l d := by
  pointwise [k0_pay391, k0_pay71, k0_pay45, k0_pay80, k0_pay102, kdB, hd, unit]
  rfl

/-- The stored decayed keys of head 7. -/
theorem kd_piece7 (z : FVec Ideal S64x1024 .f32) (s : FVec Ideal S64x128 .f32) (l : Fin 64) (d : Fin 128) :
    k0_pay3 (k0_pay73 (k0_pay46 z) (k0_pay72 (k0_pay46 z))) (k0_pay81 s) (k0_pay103 s) (ix2 l d) = kdB z s 7 l d := by
  pointwise [k0_pay3, k0_pay73, k0_pay46, k0_pay72, k0_pay81, k0_pay103, kdB, hd, unit]
  rfl

/-- The stored decay of head 0. -/
theorem dec_piece0 (s : FVec Ideal S64x128 .f32) (d : Fin 128) :
    k0_pay362 (k0_pay96 s) (ix3 0 0 d) = Ideal.exp (at104 s 0 63) := by
  pointwise [k0_pay362, k0_pay96, k0_pay74]
  rfl

/-- The stored decay of head 1. -/
theorem dec_piece1 (s : FVec Ideal S64x128 .f32) (d : Fin 128) :
    k0_pay367 (k0_pay97 s) (ix3 0 0 d) = Ideal.exp (at104 s 1 63) := by
  pointwise [k0_pay367, k0_pay97, k0_pay75]
  rfl

/-- The stored decay of head 2. -/
theorem dec_piece2 (s : FVec Ideal S64x128 .f32) (d : Fin 128) :
    k0_pay372 (k0_pay98 s) (ix3 0 0 d) = Ideal.exp (at104 s 2 63) := by
  pointwise [k0_pay372, k0_pay98, k0_pay76]
  rfl

/-- The stored decay of head 3. -/
theorem dec_piece3 (s : FVec Ideal S64x128 .f32) (d : Fin 128) :
    k0_pay378 (k0_pay377 (k0_pay99 s)) (ix3 0 0 d) = Ideal.exp (at104 s 3 63) := by
  pointwise [k0_pay378, k0_pay377, k0_pay99, k0_pay77]
  rfl

/-- The stored decay of head 4. -/
theorem dec_piece4 (s : FVec Ideal S64x128 .f32) (d : Fin 128) :
    k0_pay383 (k0_pay100 s) (ix3 0 0 d) = Ideal.exp (at104 s 4 63) := by
  pointwise [k0_pay383, k0_pay100, k0_pay78]
  rfl

/-- The stored decay of head 5. -/
theorem dec_piece5 (s : FVec Ideal S64x128 .f32) (d : Fin 128) :
    k0_pay388 (k0_pay101 s) (ix3 0 0 d) = Ideal.exp (at104 s 5 63) := by
  pointwise [k0_pay388, k0_pay101, k0_pay79]
  rfl

/-- The stored decay of head 6. -/
theorem dec_piece6 (s : FVec Ideal S64x128 .f32) (d : Fin 128) :
    k0_pay394 (k0_pay102 s) (ix3 0 0 d) = Ideal.exp (at104 s 6 63) := by
  pointwise [k0_pay394, k0_pay102, k0_pay80]
  rfl

/-- The stored decay of head 7. -/
theorem dec_piece7 (s : FVec Ideal S64x128 .f32) (d : Fin 128) :
    k0_pay5 (k0_pay103 s) (ix3 0 0 d) = Ideal.exp (at104 s 7 63) := by
  pointwise [k0_pay5, k0_pay103, k0_pay81]
  rfl

/-- The stored causal scores of head 0. -/
theorem aqk_piece0 (y z : FVec Ideal S64x1024 .f32) (s : FVec Ideal S64x128 .f32) (w : FVec Ideal S8x64 .f32) (l j : Fin 64) :
    k0_pay361 (k0_pay349 (k0_pay55 (k0_pay31 y)) (k0_pay112 (k0_pay22) s w) (k0_pay130 (k0_pay64 (k0_pay39 z)))) (ix3 0 l j) = aqkB y z s w 0 l j := by
  pointwise [k0_pay361, k0_pay349, k0_pay55, k0_pay31, k0_pay112, k0_pay22, k0_pay130, k0_pay64, k0_pay39, k0_pay74, aqkB, hd, unit]
  simp only [sel]
  split_ifs
  · rfl
  · exact (@mul_zero EReal _ _).symm

/-- The stored causal scores of head 1. -/
theorem aqk_piece1 (y z : FVec Ideal S64x1024 .f32) (s : FVec Ideal S64x128 .f32) (w : FVec Ideal S8x64 .f32) (l j : Fin 64) :
    k0_pay366 (k0_pay350 (k0_pay56 (k0_pay32 y)) (k0_pay114 (k0_pay22) (k0_pay113 s w)) (k0_pay131 (k0_pay66 (k0_pay40 z) (k0_pay65 (k0_pay40 z))))) (ix3 0 l j) = aqkB y z s w 1 l j := by
  pointwise [k0_pay366, k0_pay350, k0_pay56, k0_pay32, k0_pay114, k0_pay22, k0_pay113, k0_pay131, k0_pay66, k0_pay40, k0_pay65, k0_pay75, aqkB, hd, unit]
  simp only [sel]
  split_ifs
  · rfl
  · exact (@mul_zero EReal _ _).symm

/-- The stored causal scores of head 2. -/
theorem aqk_piece2 (y z : FVec Ideal S64x1024 .f32) (s : FVec Ideal S64x128 .f32) (w : FVec Ideal S8x64 .f32) (l j : Fin 64) :
    k0_pay371 (k0_pay351 (k0_pay57 (k0_pay33 y)) (k0_pay115 (k0_pay22) (k0_pay76 s) (k0_pay82 w)) (k0_pay132 (k0_pay67 (k0_pay41 z)))) (ix3 0 l j) = aqkB y z s w 2 l j := by
  pointwise [k0_pay371, k0_pay351, k0_pay57, k0_pay33, k0_pay115, k0_pay22, k0_pay76, k0_pay82, k0_pay132, k0_pay67, k0_pay41, aqkB, hd, unit]
  simp only [sel]
  split_ifs
  · rfl
  · exact (@mul_zero EReal _ _).symm

/-- The stored causal scores of head 3. -/
theorem aqk_piece3 (y z : FVec Ideal S64x1024 .f32) (s : FVec Ideal S64x128 .f32) (w : FVec Ideal S8x64 .f32) (l j : Fin 64) :
    k0_pay376 (k0_pay352 (k0_pay58 (k0_pay34 y)) (k0_pay116 (k0_pay22) (k0_pay77 s) (k0_pay83 w)) (k0_pay133 (k0_pay68 (k0_pay42 z)))) (ix3 0 l j) = aqkB y z s w 3 l j := by
  pointwise [k0_pay376, k0_pay352, k0_pay58, k0_pay34, k0_pay116, k0_pay22, k0_pay77, k0_pay83, k0_pay133, k0_pay68, k0_pay42, aqkB, hd, unit]
  simp only [sel]
  split_ifs
  · rfl
  · exact (@mul_zero EReal _ _).symm

/-- The stored causal scores of head 4. -/
theorem aqk_piece4 (y z : FVec Ideal S64x1024 .f32) (s : FVec Ideal S64x128 .f32) (w : FVec Ideal S8x64 .f32) (l j : Fin 64) :
    k0_pay382 (k0_pay353 (k0_pay60 (k0_pay35 y) (k0_pay59 (k0_pay35 y)) (Scalar.ofBits .f32 0x358637BD#32)) (k0_pay117 (k0_pay22) (k0_pay78 s) (k0_pay84 w)) (k0_pay134 (k0_pay69 (k0_pay43 z)))) (ix3 0 l j) = aqkB y z s w 4 l j := by
  pointwise [k0_pay382, k0_pay353, k0_pay60, k0_pay35, k0_pay59, k0_pay117, k0_pay22, k0_pay78, k0_pay84, k0_pay134, k0_pay69, k0_pay43, aqkB, hd, unit]
  simp only [sel]
  split_ifs
  · rfl
  · exact (@mul_zero EReal _ _).symm

/-- The stored causal scores of head 5. -/
theorem aqk_piece5 (y z : FVec Ideal S64x1024 .f32) (s : FVec Ideal S64x128 .f32) (w : FVec Ideal S8x64 .f32) (l j : Fin 64) :
    k0_pay387 (k0_pay354 (k0_pay61 (k0_pay36 y)) (k0_pay118 (k0_pay22) (k0_pay79 s) (k0_pay85 w)) (k0_pay135 (k0_pay70 (k0_pay44 z)))) (ix3 0 l j) = aqkB y z s w 5 l j := by
  pointwise [k0_pay387, k0_pay354, k0_pay61, k0_pay36, k0_pay118, k0_pay22, k0_pay79, k0_pay85, k0_pay135, k0_pay70, k0_pay44, aqkB, hd, unit]
  simp only [sel]
  split_ifs
  · rfl
  · exact (@mul_zero EReal _ _).symm

/-- The stored causal scores of head 6. -/
theorem aqk_piece6 (y z : FVec Ideal S64x1024 .f32) (s : FVec Ideal S64x128 .f32) (w : FVec Ideal S8x64 .f32) (l j : Fin 64) :
    k0_pay393 (k0_pay392 (k0_pay356 (k0_pay119 (k0_pay22) (k0_pay80 s) (k0_pay86 w)) (k0_pay136 (k0_pay71 (k0_pay45 z))) (k0_pay355 (k0_pay62 (k0_pay37 y))))) (ix3 0 l j) = aqkB y z s w 6 l j := by
  pointwise [k0_pay393, k0_pay392, k0_pay356, k0_pay119, k0_pay22, k0_pay80, k0_pay86, k0_pay136, k0_pay71, k0_pay45, k0_pay355, k0_pay62, k0_pay37, aqkB, hd, unit]
  simp only [sel]
  split_ifs
  · rfl
  · exact (@mul_zero EReal _ _).symm

/-- The stored causal scores of head 7. -/
theorem aqk_piece7 (y z : FVec Ideal S64x1024 .f32) (s : FVec Ideal S64x128 .f32) (w : FVec Ideal S8x64 .f32) (l j : Fin 64) :
    k0_pay4 (k0_pay357 (k0_pay63 (k0_pay38 y)) (k0_pay121 (k0_pay22) (k0_pay120 (k0_pay81 s) (k0_pay87 w))) (k0_pay137 (k0_pay73 (k0_pay46 z) (k0_pay72 (k0_pay46 z))))) (ix3 0 l j) = aqkB y z s w 7 l j := by
  pointwise [k0_pay4, k0_pay357, k0_pay63, k0_pay38, k0_pay121, k0_pay22, k0_pay120, k0_pay81, k0_pay87, k0_pay137, k0_pay73, k0_pay46, k0_pay72, aqkB, hd, unit]
  simp only [sel]
  split_ifs
  · rfl
  · exact (@mul_zero EReal _ _).symm

end Cert.Kernel7Ideal.Chunk
end
-- ==== Proof.ChunkGate.lean ====
module

public import proofs.«01_k».proof.Proof.ChunkMath

@[expose] public section

set_option maxRecDepth 16384

noncomputable section

open Idealize.ShloMosaic Idealize.ShloMosaic.TcCoe Idealize.SL.Sem

namespace Cert.Kernel7Ideal.Chunk

open Cert.Kernel7Ideal Cert.Kernel7Ideal.Gen Cert.Chunk

/-- Whether a block has rows before it. -/
abbrev later (i : grid0.Coords) : BitVec 1 := Scalar.cmpi .sgt (BitVec.ofNat 32 (i 0).val) 0#32

/-- The entry `d` rows before row `r` of a block, from the eight rows before the block when there is one. -/
def btap (b : BitVec 1) (H : FVec Ideal S8x1024 .f32) (V : FVec Ideal S64x1024 .f32) (d : Fin 4) (r : Fin 64) (c : Fin 1024) : Ideal .f32 :=
  if h : r.val < d.val then Scalar.select b (H (ix2 ⟨8 + r.val - d.val, by omega⟩ c)) (0 : EReal) else V (ix2 ⟨r.val - d.val, by omega⟩ c)

/-- The block after its eight rows. -/
def ext (i : grid0.Coords) (H : FVec Ideal S8x1024 .f32) (V : FVec Ideal S64x1024 .f32) (p : Fin 72) (c : Fin 1024) : Ideal .f32 :=
  if h : p.val < 8 then Scalar.select (later i) (H (ix2 ⟨p.val, h⟩ c)) (0 : EReal) else V (ix2 ⟨p.val - 8, by omega⟩ c)

/-- The entry `d` rows before, in the extended block. -/
theorem ext_at (i : grid0.Coords) (H : FVec Ideal S8x1024 .f32) (V : FVec Ideal S64x1024 .f32) (d : Fin 4) (r : Fin 64) (c : Fin 1024) (p : Fin 72)
    (hp : p.val = 8 + r.val - d.val) : ext i H V p c = btap (later i) H V d r c := by
  obtain ⟨p, hp'⟩ := p
  simp only at hp
  subst hp
  unfold ext btap
  by_cases h : r.val < d.val
  · rw [dif_pos h, dif_pos (show 8 + r.val - d.val < 8 by omega)]
  · rw [dif_neg h, dif_neg (show ¬ (8 + r.val - d.val < 8) by omega)]
    congr 3
    simp only
    omega

/-- The extended block's entries. -/
theorem pay7_at (i : grid0.Coords) (H : FVec Ideal S8x1024 .f32) (V : FVec Ideal S64x1024 .f32) (p : Fin 72) (c : Fin 1024) :
    k0_pay7 (F := Ideal) i H V (ix2 p c) = ext i H V p c := by
  pointwise [k0_pay7, ext]

/-- The convolution of a block. -/
def bconv (b : BitVec 1) (w : FVec Ideal S4x1024 .f32) (H : FVec Ideal S8x1024 .f32) (V : FVec Ideal S64x1024 .f32) (r : Fin 64) (c : Fin 1024) : Ideal .f32 :=
  w (ix2 3 c) * btap b H V 0 r c + w (ix2 2 c) * btap b H V 1 r c + w (ix2 1 c) * btap b H V 2 r c + w (ix2 0 c) * btap b H V 3 r c

/-- The keys' convolved block. -/
theorem kblk (i : grid0.Coords) (w : FVec Ideal S4x1024 .f32) (H : FVec Ideal S8x1024 .f32) (V : FVec Ideal S64x1024 .f32) (r : Fin 64) (c : Fin 1024) :
    k0_pay10 (F := Ideal) w (k0_pay7 (F := Ideal) i H V) (k0_pay8 w) (k0_pay9 (F := Ideal) i H V) (ix2 r c)
      = bconv (later i) w H V r c * Ideal.logistic (bconv (later i) w H V r c) := by
  unfold bconv
  rw [← ext_at i H V 0 r c ⟨8 + r.val, by omega⟩ (by simp), ← ext_at i H V 1 r c ⟨(8 + r.val + 72 - 1) % 72, by omega⟩ (by simp; omega), ← ext_at i H V 2 r c ⟨(8 + r.val + 72 - 2) % 72, by omega⟩ (by simp; omega), ← ext_at i H V 3 r c ⟨(8 + r.val + 72 - 3) % 72, by omega⟩ (by simp; omega)]
  simp only [← pay7_at]
  unfold k0_pay9
  generalize k0_pay7 (F := Ideal) i H V = y
  pointwise [k0_pay10, k0_pay8]

/-- The queries' block is the same function. -/
theorem qeq (i : grid0.Coords) (w : FVec Ideal S4x1024 .f32) (H : FVec Ideal S8x1024 .f32) (V : FVec Ideal S64x1024 .f32) :
    k0_pay6 (F := Ideal) i w H V = k0_pay10 w (k0_pay7 (F := Ideal) i H V) (k0_pay8 w) (k0_pay9 (F := Ideal) i H V) := rfl

/-- The gates' column form. -/
theorem gate_at (S : FVec Ideal S64x128 .f32) (a b : FVec Ideal S1x128 .f32) (l : Fin 64) (k : Fin 128) :
    k0_pay16 (F := Ideal) S a b (ix2 l k) = -(Ideal.exp (a (ix2 0 k))) * Ideal.log (1 + Ideal.exp (S (ix2 l k) + b (ix2 0 k)) : EReal) := by
  rw [← softplus]
  pointwise [k0_pay16]
  exact congrArg₂ (HMul.hMul (α := EReal) (β := EReal)) (zero_sub (G := EReal) _) rfl

/-- The gates' row form. -/
theorem gateT_at (S : FVec Ideal S64x128 .f32) (a b : FVec Ideal S8x1 .f32) (h : Fin 8) (l : Fin 64) :
    k0_pay21 (F := Ideal) (k0_pay17 a) (k0_pay19 S b) (k0_pay20 S b) (ix2 h l)
      = -(Ideal.exp (a (ix2 h 0))) * Ideal.log (1 + Ideal.exp (S (ix2 l ⟨104 + h.val, by omega⟩) + b (ix2 h 0)) : EReal) := by
  rw [← softplus]
  pointwise [k0_pay21, k0_pay17, k0_pay19, k0_pay20, k0_pay18]
  exact congrArg₂ (HMul.hMul (α := EReal) (β := EReal)) (zero_sub (G := EReal) _) rfl

/-- The gates summed up to a row, column form. -/
theorem cum_at (g : FVec Ideal S64x128 .f32) (l : Fin 64) (k : Fin 128) :
    k0_pay29 (F := Ideal) g k0_pay22 (ix2 l k) = ∑ j : Fin 64, if j.val ≤ l.val then g (ix2 j k) else (0 : EReal) := by
  pointwise [k0_pay29, k0_pay22]
  simp only [sel]

/-- The gates summed up to a row, row form. -/
theorem cumT_at (g : FVec Ideal S8x64 .f32) (h : Fin 8) (l : Fin 64) :
    k0_pay30 (F := Ideal) g (iota .tc S64x64 32 [0] iota_S64x64_d0_w32) (iota .tc S64x64 32 [1] iota_S64x64_d1_w32) (ix2 h l)
      = ∑ j : Fin 64, if j.val ≤ l.val then g (ix2 h j) else (0 : EReal) := by
  pointwise [k0_pay30]
  simp only [sel]

end Cert.Kernel7Ideal.Chunk
end
-- ==== Proof.ChunkIn.lean ====
module

public import proofs.«01_k».proof.Proof.ChunkGate
public import proofs.«01_k».proof.Proof.Gen.Reference7Ideal.Run
public import Idealize.ShloMosaic.Lib.Routing.OpsSet

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel7Ideal.Chunk

open Cert.Kernel7Ideal Cert.Kernel7Ideal.Gen Cert.Chunk

variable (m : (ℓ : Loc nD τ sig) → Buf (Elt Ideal) ℓ) (c : Dev nD)

/-- Grid point `t` reads row block `t` of the projection at the queries', the keys' and the small columns, the eight rows before it, and the small arrays whole, and writes chunk `t`. -/
theorem idx : ∀ t : Fin cfg0.N, win0_0.index t = ![t.val, 5] ∧ win0_1.index t = ![t.val, 6] ∧ win0_3.index t = ![t.val * 8 - 1, 5]
    ∧ win0_4.index t = ![t.val * 8 - 1, 6] ∧ win0_6.index t = ![t.val, 7] ∧ win0_7.index t = ![0, 0] ∧ win0_8.index t = ![0, 0]
    ∧ win0_9.index t = ![0, 0] ∧ win0_10.index t = ![0, 0] ∧ win0_11.index t = ![0, 0] ∧ win0_14.index t = ![t.val, 0]
    ∧ win0_15.index t = ![t.val, 0] ∧ win0_16.index t = ![0, t.val, 0] ∧ win0_17.index t = ![t.val, 0, 0] :=
  (by decide +kernel : ∀ t : Fin grid0.N, _)

/-- Every chunk but the first has rows before it. -/
theorem later_at : ∀ t : Fin cfg0.N, later (grid0.coords t) = if 0 < t.val then 1#1 else 0#1 :=
  (by decide +kernel : ∀ t : Fin grid0.N, _)

/-- The chunk of a grid point. -/
abbrev ch (t : Fin cfg0.N) : Fin 256 := ⟨t.val, lt_of_lt_of_eq t.isLt (show cfg0.N = 256 from N_0)⟩

/-- The projection. -/
abbrev pA : Vec Ideal S16384x12288 .f32 := m ((c : Thread nD τ).loc main_arg0)
/-- The convolution's weights. -/
abbrev wA : Vec Ideal S4x3072 .f32 := m ((c : Thread nD τ).loc main_arg1)
/-- The logarithms of the decay rates. -/
abbrev aA : Vec Ideal S8 .f32 := m ((c : Thread nD τ).loc main_arg2)
/-- The steps' bias. -/
abbrev bA : Vec Ideal S8 .f32 := m ((c : Thread nD τ).loc main_arg3)

/-- The queries' columns. -/
theorem in0 (t : Fin cfg0.N) (r : Fin 64) (j : Fin 1024) : (iblk m c 0 t : Vec Ideal S64x1024 .f32) (ix2 r j)
    = pA m c (ix2 (row (ch t) r) ⟨5120 + j.val, by omega⟩) := by
  blk_point [iblk, V, idx t]

/-- The keys' columns. -/
theorem in1 (t : Fin cfg0.N) (r : Fin 64) (j : Fin 1024) : (iblk m c 1 t : Vec Ideal S64x1024 .f32) (ix2 r j)
    = pA m c (ix2 (row (ch t) r) ⟨6144 + j.val, by omega⟩) := by
  blk_point [iblk, V, idx t]

/-- The eight rows of the queries' columns before the chunk. -/
theorem in3 (t : Fin cfg0.N) (r : Fin 8) (j : Fin 1024) : (iblk m c 3 t : Vec Ideal S8x1024 .f32) (ix2 r j)
    = pA m c (ix2 ⟨(t.val * 8 - 1) * 8 + r.val, by have := (ch t).isLt; dsimp only at this; omega⟩ ⟨5120 + j.val, by omega⟩) := by
  blk_point [iblk, V, idx t]

/-- The eight rows of the keys' columns before the chunk. -/
theorem in4 (t : Fin cfg0.N) (r : Fin 8) (j : Fin 1024) : (iblk m c 4 t : Vec Ideal S8x1024 .f32) (ix2 r j)
    = pA m c (ix2 ⟨(t.val * 8 - 1) * 8 + r.val, by have := (ch t).isLt; dsimp only at this; omega⟩ ⟨6144 + j.val, by omega⟩) := by
  blk_point [iblk, V, idx t]

/-- The small columns. -/
theorem in6 (t : Fin cfg0.N) (r : Fin 64) (j : Fin 128) : (iblk m c 6 t : Vec Ideal S64x128 .f32) (ix2 r j)
    = pA m c (ix2 (row (ch t) r) ⟨896 + j.val, by omega⟩) := by
  blk_point [iblk, V, idx t]

/-- The convolution's weights are read whole. -/
theorem in7 (t : Fin cfg0.N) (r : Fin 4) (j : Fin 3072) : (iblk m c 7 t : Vec Ideal S4x3072 .f32) (ix2 r j)
    = wA m c (ix2 r j) := by
  blk_point [iblk, V, idx t]

/-- Eight entries written over 128 zeros from place 104. -/
def wide (x : FVec Ideal S8 .f32) : FVec Ideal S128 .f32 :=
  Host.scatter scatter_S128_S1_S8_0_n_0_0 (fun _ b => b) (broadcastInDim S128 ![] bcast_S_S128 (constant (F := Ideal) S_ .f32 0x00000000#32))
    (broadcastInDim S1 ![] bcast_S_S1 (constantI S_ 32 104#32)) x

/-- The rates as a row. -/
theorem host6 : @Eq (FVec Ideal S1x128 .f32) (V m c main_v6) (shapeCast S1x128 (wide (aA m c)) shapeCasts_S128_S1x128) := by
  simp only [V, hostOps0]
  after_reads_simp
  rfl

/-- The rates as a column. -/
theorem host7 : @Eq (FVec Ideal S128x1 .f32) (V m c main_v7) (shapeCast S128x1 (wide (aA m c)) shapeCasts_S128_S128x1) := by
  simp only [V, hostOps0]
  after_reads_simp
  rfl

/-- The bias as a row. -/
theorem host8 : @Eq (FVec Ideal S1x128 .f32) (V m c main_v8) (shapeCast S1x128 (wide (bA m c)) shapeCasts_S128_S1x128) := by
  simp only [V, hostOps0]
  after_reads_simp
  rfl

/-- The bias as a column. -/
theorem host9 : @Eq (FVec Ideal S128x1 .f32) (V m c main_v9) (shapeCast S128x1 (wide (bA m c)) shapeCasts_S128_S128x1) := by
  simp only [V, hostOps0]
  after_reads_simp
  rfl

/-- Entry `j` is written at place `104 + j`. -/
theorem lands : ∀ j : Fin 8, scatter_S128_S1_S8_0_n_0_0.resultIdx? (ix1 j) (broadcastInDim S1 ![] bcast_S_S1 (constantI S_ 32 104#32))
    = some (ix1 (⟨104 + j.val, by omega⟩ : Fin 128)) := by
  decide +kernel

/-- From place 104 on, the written entries are found. -/
theorem wide_hit (x : FVec Ideal S8 .f32) (j : Fin 8) : wide x (ix1 ⟨104 + j.val, by omega⟩) = x (ix1 j) := by
  refine Routing.scatter_set_hit scatter_S128_S1_S8_0_n_0_0 _ _ x _ _ (fun k hk => ?_) (ix1 j) (lands j)
  obtain ⟨i, rfl⟩ : ∃ i : Fin 8, k = ix1 i := ⟨k 0, by funext a; fin_cases a; rfl⟩
  rw [lands i] at hk
  have e : (⟨104 + i.val, by omega⟩ : Fin 128) = ⟨104 + j.val, by omega⟩ := congrFun (Option.some.inj hk) 0
  have e' : i = j := Fin.ext (by have h' := congrArg Fin.val e; dsimp only at h'; omega)
  rw [e']

/-- Head `h`'s rate in the row. -/
theorem in8 (t : Fin cfg0.N) (h : Fin 8) : (iblk m c 8 t : Vec Ideal S1x128 .f32) (ix2 0 ⟨104 + h.val, by omega⟩) = aA m c (ix1 h) := by
  rw [← wide_hit (aA m c) h]
  have e : ∀ j, (iblk m c 8 t : Vec Ideal S1x128 .f32) (ix2 0 j) = (V m c main_v6 : Vec Ideal S1x128 .f32) (ix2 0 j) := fun j => by
    blk_point [iblk, idx t]
  rw [e, host6]
  generalize wide (aA m c) = x
  pointwise []

/-- Head `h`'s rate in the column. -/
theorem in9 (t : Fin cfg0.N) (h : Fin 8) : (iblk m c 9 t : Vec Ideal S128x1 .f32) (ix2 ⟨104 + h.val, by omega⟩ 0) = aA m c (ix1 h) := by
  rw [← wide_hit (aA m c) h]
  have e : ∀ j, (iblk m c 9 t : Vec Ideal S128x1 .f32) (ix2 j 0) = (V m c main_v7 : Vec Ideal S128x1 .f32) (ix2 j 0) := fun j => by
    blk_point [iblk, idx t]
  rw [e, host7]
  generalize wide (aA m c) = x
  pointwise []

/-- Head `h`'s bias in the row. -/
theorem in10 (t : Fin cfg0.N) (h : Fin 8) : (iblk m c 10 t : Vec Ideal S1x128 .f32) (ix2 0 ⟨104 + h.val, by omega⟩) = bA m c (ix1 h) := by
  rw [← wide_hit (bA m c) h]
  have e : ∀ j, (iblk m c 10 t : Vec Ideal S1x128 .f32) (ix2 0 j) = (V m c main_v8 : Vec Ideal S1x128 .f32) (ix2 0 j) := fun j => by
    blk_point [iblk, idx t]
  rw [e, host8]
  generalize wide (bA m c) = x
  pointwise []

/-- Head `h`'s bias in the column. -/
theorem in11 (t : Fin cfg0.N) (h : Fin 8) : (iblk m c 11 t : Vec Ideal S128x1 .f32) (ix2 ⟨104 + h.val, by omega⟩ 0) = bA m c (ix1 h) := by
  rw [← wide_hit (bA m c) h]
  have e : ∀ j, (iblk m c 11 t : Vec Ideal S128x1 .f32) (ix2 j 0) = (V m c main_v9 : Vec Ideal S128x1 .f32) (ix2 j 0) := fun j => by
    blk_point [iblk, idx t]
  rw [e, host9]
  generalize wide (bA m c) = x
  pointwise []

/-- A tap of a chunk, given its block and the eight rows before it. -/
theorem btap_at (H : FVec Ideal S8x1024 .f32) (X : FVec Ideal S64x1024 .f32) (P : FVec Ideal S16384x12288 .f32) (t : Fin cfg0.N) (o : Fin 2)
    (hX : ∀ (r : Fin 64) (j : Fin 1024), X (ix2 r j) = P (ix2 (row (ch t) r) ⟨5120 + 1024 * o.val + j.val, by omega⟩))
    (hH : ∀ (r : Fin 8) (j : Fin 1024), H (ix2 r j)
      = P (ix2 ⟨(t.val * 8 - 1) * 8 + r.val, by have := (ch t).isLt; dsimp only at this; omega⟩ ⟨5120 + 1024 * o.val + j.val, by omega⟩))
    (d : Fin 4) (r : Fin 64) (j : Fin 1024) :
    btap (later (grid0.coords t)) H X d r j = tap P ⟨1024 * o.val + j.val, by omega⟩ d.val (row (ch t) r) := by
  unfold btap tap
  rw [later_at]
  have hd := d.isLt
  by_cases h : r.val < d.val
  · rw [dif_pos h]
    by_cases ht : 0 < t.val
    · rw [if_pos ht, if_pos (show d.val ≤ (row (ch t) r).val by dsimp only; omega), hH]
      show P _ = P _
      refine congrArg₂ (fun a b => P (ix2 a b)) (Fin.ext ?_) (Fin.ext ?_) <;> dsimp only <;> omega
    · rw [if_neg ht, if_neg (show ¬ d.val ≤ (row (ch t) r).val by dsimp only; omega)]
      rfl
  · rw [dif_neg h, if_pos (show d.val ≤ (row (ch t) r).val by dsimp only; omega), hX]
    refine congrArg₂ (fun a b => P (ix2 a b)) (Fin.ext ?_) (Fin.ext ?_) <;> dsimp only <;> omega

end Cert.Kernel7Ideal.Chunk
end
-- ==== Proof.ChunkTerm.lean ====
module

public import proofs.«01_k».proof.Proof.ChunkSpec

@[expose] public section

set_option maxRecDepth 16384

noncomputable section

open Idealize.ShloMosaic Idealize.ShloMosaic.TcCoe Idealize.SL.Sem

namespace Cert.Reference7Ideal.Chunk

open Cert.Reference7Ideal Cert.Reference7Ideal.Gen Cert.Chunk

section Terms

variable (P : FVec Ideal S16384x12288 .f32) (W : FVec Ideal S4x3072 .f32) (A B : FVec Ideal S8 .f32)

/-- Three rows of zeros over the convolved columns: the reference's term. -/
def xT : FVec Ideal S16387x2048 .f32 :=
  concatenate S16387x2048 0 [⟨S3x2048, broadcastInDim S3x2048 ![] bcast_S_S3x2048 (constant (F := Ideal) S_ .f32 0x00000000#32)⟩,
    ⟨S16384x2048, extractStridedSlice S16384x2048 ![0, 5120] P slices_S16384x12288_S16384x2048_0_5120⟩] concatenates_S3x2048_S16384x2048_S16387x2048_d0

/-- The convolution's weights: the reference's term. -/
def wT : FVec Ideal S4x2048 .f32 := extractStridedSlice S4x2048 ![0, 0] W slices_S4x3072_S4x2048_0_0

/-- The convolution's product at row 0 of the weights: the reference's term. -/
def p0T : FVec Ideal S16384x2048 .f32 :=
  mulf (broadcastInDim S16384x2048 ![0, 1] bcast_S1x2048_S16384x2048_0_1 (broadcastInDim S1x2048 ![1] bcast_S2048_S1x2048_1 (shapeCast S2048 (extractStridedSlice S1x2048 ![0, 0] (wT W) slices_S4x2048_S1x2048_0_0) shapeCasts_S1x2048_S2048)))
    (extractStridedSlice S16384x2048 ![0, 0] (xT P) slices_S16387x2048_S16384x2048_0_0)

/-- The convolution's product at row 1 of the weights: the reference's term. -/
def p1T : FVec Ideal S16384x2048 .f32 :=
  mulf (broadcastInDim S16384x2048 ![0, 1] bcast_S1x2048_S16384x2048_0_1 (broadcastInDim S1x2048 ![1] bcast_S2048_S1x2048_1 (shapeCast S2048 (extractStridedSlice S1x2048 ![1, 0] (wT W) slices_S4x2048_S1x2048_1_0) shapeCasts_S1x2048_S2048)))
    (extractStridedSlice S16384x2048 ![1, 0] (xT P) slices_S16387x2048_S16384x2048_1_0)

/-- The convolution's product at row 2 of the weights: the reference's term. -/
def p2T : FVec Ideal S16384x2048 .f32 :=
  mulf (broadcastInDim S16384x2048 ![0, 1] bcast_S1x2048_S16384x2048_0_1 (broadcastInDim S1x2048 ![1] bcast_S2048_S1x2048_1 (shapeCast S2048 (extractStridedSlice S1x2048 ![2, 0] (wT W) slices_S4x2048_S1x2048_2_0) shapeCasts_S1x2048_S2048)))
    (extractStridedSlice S16384x2048 ![2, 0] (xT P) slices_S16387x2048_S16384x2048_2_0)

/-- The convolution's product at row 3 of the weights: the reference's term. -/
def p3T : FVec Ideal S16384x2048 .f32 :=
  mulf (broadcastInDim S16384x2048 ![0, 1] bcast_S1x2048_S16384x2048_0_1 (broadcastInDim S1x2048 ![1] bcast_S2048_S1x2048_1 (shapeCast S2048 (extractStridedSlice S1x2048 ![3, 0] (wT W) slices_S4x2048_S1x2048_3_0) shapeCasts_S1x2048_S2048)))
    (extractStridedSlice S16384x2048 ![3, 0] (xT P) slices_S16387x2048_S16384x2048_3_0)

/-- The convolution: the reference's term. -/
def cT : FVec Ideal S16384x2048 .f32 := addf (addf (addf (p3T P W) (p2T P W)) (p1T P W)) (p0T P W)

/-- The convolution times its logistic: the reference's term. -/
def aT : FVec Ideal S16384x2048 .f32 :=
  mulf (cT P W) (Host.divf (broadcastInDim S16384x2048 ![] bcast_S_S16384x2048 (constant S_ .f32 0x3F800000#32))
    (addf (broadcastInDim S16384x2048 ![] bcast_S_S16384x2048 (constant S_ .f32 0x3F800000#32)) (Host.exp (Host.negf (cT P W)))))

/-- The convolved rows by chunks and parts: the reference's term. -/
def yT : FVec Ideal S256x64x16x128 .f32 := shapeCast S256x64x16x128 (aT P W) shapeCasts_S16384x2048_S256x64x16x128

/-- The parts over their lengths: the reference's term. -/
def nT : FVec Ideal S256x64x16x128 .f32 :=
  mulf (yT P W) (broadcastInDim S256x64x16x128 ![0, 1, 2, 3] bcast_S256x64x16x1_S256x64x16x128_0_1_2_3 (Host.rsqrt (addf
    (broadcastInDim S256x64x16x1 ![0, 1, 2] bcast_S256x64x16_S256x64x16x1_0_1_2 (Host.reduceAdd (mulf (yT P W) (yT P W)) (constant S_ .f32 0x00000000#32) reducesTo_S256x64x16x128_S256x64x16_d3 h_S_))
    (broadcastInDim S256x64x16x1 ![] bcast_S_S256x64x16x1 (constant S_ .f32 0x358637BD#32)))))

/-- The scaled queries: the reference's term. -/
def qT : FVec Ideal S256x64x8x128 .f32 :=
  mulf (extractStridedSlice S256x64x8x128 ![0, 0, 0, 0] (nT P W) slices_S256x64x16x128_S256x64x8x128_0_0_0_0)
    (broadcastInDim S256x64x8x128 ![] bcast_S_S256x64x8x128 (constant S_ .f32 0x3DB504F3#32))

/-- The keys: the reference's term. -/
def kT : FVec Ideal S256x64x8x128 .f32 := extractStridedSlice S256x64x8x128 ![0, 0, 8, 0] (nT P W) slices_S256x64x16x128_S256x64x8x128_0_0_8_0

/-- The logarithms of the decays: the reference's term. -/
def gT : FVec Ideal S16384x8 .f32 :=
  mulf (broadcastInDim S16384x8 ![0, 1] bcast_S1x8_S16384x8_0_1 (broadcastInDim S1x8 ![1] bcast_S8_S1x8_1 (Host.negf (Host.exp A))))
    (Host.log (addf (broadcastInDim S16384x8 ![] bcast_S_S16384x8 (constant S_ .f32 0x3F800000#32))
      (Host.exp (addf (extractStridedSlice S16384x8 ![0, 1000] P slices_S16384x12288_S16384x8_0_1000)
        (broadcastInDim S16384x8 ![0, 1] bcast_S1x8_S16384x8_0_1 (broadcastInDim S1x8 ![1] bcast_S8_S1x8_1 B))))))

/-- The rows a row sees: the reference's term. -/
def mT : IVec S64x64 1 :=
  cmpi .sle (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))

/-- The summed logarithms by chunks: the reference's term. -/
def sT : FVec Ideal S256x64x8 .f32 :=
  transpose S256x64x8 [0, 2, 1] (Host.dotGeneral dot_S256x64x8_S64x64_S256x8x64_1_1_02_0_n_n none (shapeCast S256x64x8 (gT P A B) shapeCasts_S16384x8_S256x64x8)
    (select mT (broadcastInDim S64x64 ![] bcast_S_S64x64 (constant (F := Ideal) S_ .f32 0x3F800000#32)) (broadcastInDim S64x64 ![] bcast_S_S64x64 (constant (F := Ideal) S_ .f32 0x00000000#32))))
    transposes_S256x8x64_S256x64x8_0_2_1

/-- Their last rows: the reference's term. -/
def lT : FVec Ideal S256x1x8 .f32 := extractStridedSlice S256x1x8 ![0, 63, 0] (sT P A B) slices_S256x64x8_S256x1x8_0_63_0

/-- The summed logarithms by heads: the reference's term. -/
def tT : FVec Ideal S8x256x64 .f32 := transpose S8x256x64 [2, 0, 1] (sT P A B) transposes_S256x64x8_S8x256x64_2_0_1

/-- The decayed queries: the reference's term. -/
def qd : FVec Ideal S16384x1024 .bf16 :=
  truncf .bf16 (shapeCast S16384x1024 (mulf (qT P W) (broadcastInDim S256x64x8x128 ![0, 1, 2, 3] bcast_S256x64x8x1_S256x64x8x128_0_1_2_3
    (broadcastInDim S256x64x8x1 ![0, 1, 2] bcast_S256x64x8_S256x64x8x1_0_1_2 (Host.exp (sT P A B))))) shapeCasts_S256x64x8x128_S16384x1024) bitsLt_bf16_f32

/-- The decayed keys: the reference's term. -/
def kd : FVec Ideal S16384x1024 .bf16 :=
  truncf .bf16 (shapeCast S16384x1024 (mulf (kT P W) (broadcastInDim S256x64x8x128 ![0, 1, 2, 3] bcast_S256x64x8x1_S256x64x8x128_0_1_2_3
    (broadcastInDim S256x64x8x1 ![0, 1, 2] bcast_S256x64x8_S256x64x8x1_0_1_2 (Host.exp
      (subf (broadcastInDim S256x64x8 ![0, 1, 2] bcast_S256x1x8_S256x64x8_0_1_2 (lT P A B)) (sT P A B)))))) shapeCasts_S256x64x8x128_S16384x1024) bitsLt_bf16_f32

/-- The decays between the rows of a chunk: the reference's term. -/
def rT : FVec Ideal S8x256x64x64 .f32 :=
  select (broadcastInDim S8x256x64x64 ![2, 3] bcast_S64x64_S8x256x64x64_2_3 mT)
    (Host.exp (subf (broadcastInDim S8x256x64x64 ![0, 1, 2, 3] bcast_S8x256x64x1_S8x256x64x64_0_1_2_3 (broadcastInDim S8x256x64x1 ![0, 1, 2] bcast_S8x256x64_S8x256x64x1_0_1_2 (tT P A B)))
      (broadcastInDim S8x256x64x64 ![0, 1, 2, 3] bcast_S8x256x1x64_S8x256x64x64_0_1_2_3 (broadcastInDim S8x256x1x64 ![0, 1, 3] bcast_S8x256x64_S8x256x1x64_0_1_3 (tT P A B)))))
    (broadcastInDim S8x256x64x64 ![] bcast_S_S8x256x64x64 (constant (F := Ideal) S_ .f32 0x00000000#32))

/-- The products of the queries and the keys of a chunk: the reference's term. -/
def dT : FVec Ideal S8x256x64x64 .f32 :=
  Host.dotGeneral dot_S256x64x8x128_S256x64x8x128_S8x256x64x64_3_3_1_1_20_20 none (qT P W) (kT P W)

/-- The causal scores: the reference's term. -/
def aqk : FVec Ideal S8x16384x64 .bf16 :=
  truncf .bf16 (shapeCast S8x16384x64 (mulf (dT P W) (rT P A B)) shapeCasts_S8x256x64x64_S8x16384x64) bitsLt_bf16_f32

/-- The chunks' decays: the reference's term. -/
def dec : FVec Ideal S256x8x128 .f32 :=
  broadcastInDim S256x8x128 ![0, 1, 2] bcast_S256x8x1_S256x8x128_0_1_2 (broadcastInDim S256x8x1 ![0, 1] bcast_S256x8_S256x8x1_0_1
    (shapeCast S256x8 (Host.exp (lT P A B)) shapeCasts_S256x1x8_S256x8))

end Terms

variable (m : (ℓ : Loc nD τ sig) → Buf (Elt Ideal) ℓ) (ρ : Dev nD → PrngReg)

/-- The projected rows. -/
abbrev pA (c : Dev nD) : FVec Ideal S16384x12288 .f32 := m ((c.tc : Thread nD τ).loc main_arg0)
/-- The convolution's weights. -/
abbrev wA (c : Dev nD) : FVec Ideal S4x3072 .f32 := m ((c.tc : Thread nD τ).loc main_arg1)
/-- The decays' logarithms. -/
abbrev aA (c : Dev nD) : FVec Ideal S8 .f32 := m ((c.tc : Thread nD τ).loc main_arg2)
/-- The decays' biases. -/
abbrev bA (c : Dev nD) : FVec Ideal S8 .f32 := m ((c.tc : Thread nD τ).loc main_arg3)

/-- The reference's run ends with the four arrays and its arguments as they were. -/
theorem results : θ_run defs (onTc (τ := τ) (main (F := Ideal))) ⟨m, fun _ => 0, ρ⟩ fun r => ∀ c : Dev nD,
      r.2.mem ((c.tc : Thread nD τ).loc main_v101) = qd (pA m c) (wA m c) (aA m c) (bA m c)
      ∧ r.2.mem ((c.tc : Thread nD τ).loc main_v103) = kd (pA m c) (wA m c) (aA m c) (bA m c)
      ∧ r.2.mem ((c.tc : Thread nD τ).loc main_v105) = aqk (pA m c) (wA m c) (aA m c) (bA m c)
      ∧ r.2.mem ((c.tc : Thread nD τ).loc main_v106) = dec (pA m c) (aA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold Value.res_main_v101; rfl), (h c).2.1.trans (by unfold Value.res_main_v103; rfl),
    (h c).2.2.1.trans (by unfold Value.res_main_v105; rfl), (h c).2.2.2.1.trans (by rfl), (h c).2.2.2.2⟩) (Value.run (F := Ideal) m ρ)

end Cert.Reference7Ideal.Chunk
end
-- ==== Proof.ChunkRef.lean ====
module

public import proofs.«01_k».proof.Proof.ChunkTerm

@[expose] public section

set_option maxRecDepth 16384

noncomputable section

open Idealize.ShloMosaic Idealize.ShloMosaic.TcCoe Idealize.SL.Sem

namespace Cert.Reference7Ideal.Chunk

open Cert.Reference7Ideal Cert.Reference7Ideal.Gen Cert.Chunk

variable (P : FVec Ideal S16384x12288 .f32) (W : FVec Ideal S4x3072 .f32) (A B : FVec Ideal S8 .f32)

/-- The chunk of a chunk's row. -/
theorem chunk_of (n : Fin 256) (l : Fin 64) (p) : (⟨(n.val * 64 + l.val) / 64, p⟩ : Fin 256) = n := Fin.ext (by dsimp only; omega)

/-- The place of a chunk's row in it. -/
theorem place_of (n : Fin 256) (l : Fin 64) (p) : (⟨(n.val * 64 + l.val) % 64, p⟩ : Fin 64) = l := Fin.ext (by dsimp only; omega)

/-- A row `d` before row `s` of the convolved columns. -/
theorem xT_at (c : Fin 2048) (s : Fin 16384) (d : ℕ) (hd : d ≤ 3) (i : Fin 16387) (hi : i.val = s.val + 3 - d) : xT P (ix2 i c) = tap P c d s := by
  unfold tap
  pointwise [xT]
  by_cases h : i.val < 3
  · rw [dif_pos h, if_neg (by omega)]
  · rw [dif_neg h]
    have hs : d ≤ s.val := by omega
    refine Eq.trans ?_ (if_pos hs).symm
    refine congrArg₂ (fun a b => P (ix2 a b)) (Fin.ext ?_) (Fin.ext ?_) <;> simp <;> omega

/-- The convolution's product at row 3 of the weights. -/
theorem p3_at (c : Fin 2048) (s : Fin 16384) : p3T P W (ix2 s c) = @HMul.hMul EReal EReal EReal _ (W (ix2 3 ⟨c.val, by omega⟩)) (tap P c 0 s) := by
  rw [← xT_at P c s 0 (by omega) ⟨3 + s.val, by omega⟩ (by dsimp only; omega)]
  pointwise [p3T, wT]

/-- The convolution's product at row 2 of the weights. -/
theorem p2_at (c : Fin 2048) (s : Fin 16384) : p2T P W (ix2 s c) = @HMul.hMul EReal EReal EReal _ (W (ix2 2 ⟨c.val, by omega⟩)) (tap P c 1 s) := by
  rw [← xT_at P c s 1 (by omega) ⟨2 + s.val, by omega⟩ (by dsimp only; omega)]
  pointwise [p2T, wT]

/-- The convolution's product at row 1 of the weights. -/
theorem p1_at (c : Fin 2048) (s : Fin 16384) : p1T P W (ix2 s c) = @HMul.hMul EReal EReal EReal _ (W (ix2 1 ⟨c.val, by omega⟩)) (tap P c 2 s) := by
  rw [← xT_at P c s 2 (by omega) ⟨1 + s.val, by omega⟩ (by dsimp only; omega)]
  pointwise [p1T, wT]

/-- The convolution's product at row 0 of the weights. -/
theorem p0_at (c : Fin 2048) (s : Fin 16384) : p0T P W (ix2 s c) = @HMul.hMul EReal EReal EReal _ (W (ix2 0 ⟨c.val, by omega⟩)) (tap P c 3 s) := by
  rw [← xT_at P c s 3 (by omega) ⟨s.val, by omega⟩ (by dsimp only; omega)]
  pointwise [p0T, wT]

/-- The convolution's entries. -/
theorem cT_at (c : Fin 2048) (s : Fin 16384) : cT P W (ix2 s c) = conv P W c s := by
  unfold conv
  rw [← p3_at, ← p2_at, ← p1_at, ← p0_at]
  rfl

/-- The entries of the convolution times its logistic. -/
theorem aT_at (c : Fin 2048) (s : Fin 16384) : aT P W (ix2 s c) = act P W c s := by
  unfold act Ideal.logistic
  rw [← cT_at]
  pointwise [aT]

/-- The convolved rows' entries by chunks and parts. -/
theorem yT_at (n : Fin 256) (l : Fin 64) (p : Fin 16) (d : Fin 128) : yT P W (ix4 n l p d) = act P W ⟨p.val * 128 + d.val, by omega⟩ (row n l) := by
  rw [← aT_at]
  pointwise [yT]

/-- The entries of the parts over their lengths. -/
theorem nT_at (n : Fin 256) (l : Fin 64) (p : Fin 16) (d : Fin 128) : nT P W (ix4 n l p d) = part P W p (row n l) d := by
  unfold part unit
  simp only [← yT_at]
  pointwise [nT]

/-- The scaled queries' entries. -/
theorem qT_at (n : Fin 256) (l : Fin 64) (h : Fin 8) (d : Fin 128) : qT P W (ix4 n l h d) = qry P W h (row n l) d := by
  unfold qry
  rw [← nT_at]
  pointwise [qT]

/-- The keys' entries. -/
theorem kT_at (n : Fin 256) (l : Fin 64) (h : Fin 8) (d : Fin 128) : kT P W (ix4 n l h d) = key P W h (row n l) d := by
  unfold key
  rw [← nT_at]
  pointwise [kT]

/-- The entries of the logarithms of the decays. -/
theorem gT_at (s : Fin 16384) (h : Fin 8) : gT P A B (ix2 s h) = lg P A B h s := by
  pointwise [gT, lg]

/-- The summed logarithms' entries. -/
theorem sT_at (n : Fin 256) (l : Fin 64) (h : Fin 8) : sT P A B (ix3 n l h) = cum P A B h n l := by
  unfold cum
  pointwise [sT, mT]
  refine Finset.sum_congr rfl fun j _ => ?_
  rw [sel, gT_at]

/-- The last summed logarithms. -/
theorem lT_at (n : Fin 256) (h : Fin 8) : lT P A B (ix3 n 0 h) = cum P A B h n 63 := by
  rw [← sT_at]
  pointwise [lT]

/-- The summed logarithms by heads. -/
theorem tT_at (h : Fin 8) (n : Fin 256) (l : Fin 64) : tT P A B (ix3 h n l) = cum P A B h n l := by
  rw [← sT_at]
  pointwise [tT]

/-- The decayed queries' entries. -/
theorem qd_at (n : Fin 256) (l : Fin 64) (h : Fin 8) (d : Fin 128) : qd P W A B (ix2 (row n l) ⟨h.val * 128 + d.val, by omega⟩) = qdV P W A B h n l d := by
  unfold qdV
  rw [← sT_at, ← qT_at]
  pointwise [qd]
  simp only [chunk_of, place_of]

/-- The decayed keys' entries. -/
theorem kd_at (n : Fin 256) (l : Fin 64) (h : Fin 8) (d : Fin 128) : kd P W A B (ix2 (row n l) ⟨h.val * 128 + d.val, by omega⟩) = kdV P W A B h n l d := by
  unfold kdV
  rw [← lT_at, ← sT_at, ← kT_at]
  pointwise [kd]
  simp only [chunk_of, place_of]

/-- The causal scores' entries. -/
theorem aqk_at (h : Fin 8) (n : Fin 256) (l j : Fin 64) : aqk P W A B (ix3 h (row n l) j) = aqkV P W A B h n l j := by
  unfold aqkV
  rw [← sel]
  simp only [← tT_at, ← qT_at, ← kT_at]
  pointwise [aqk, dT, rT, mT]
  simp only [chunk_of, place_of]
  rw [show (n.val * 64 + l.val) % 64 = l.val from by omega]

/-- The chunks' decays. -/
theorem dec_at (n : Fin 256) (h : Fin 8) (d : Fin 128) : dec P A B (ix3 n h d) = Ideal.exp (cum P A B h n 63) := by
  rw [← lT_at]
  pointwise [dec]

end Cert.Reference7Ideal.Chunk
end
-- ==== Proof.ChunkRun.lean ====
module

public import proofs.«01_k».proof.Proof.ChunkIn
public import proofs.«01_k».proof.Proof.ChunkRef

@[expose] public section

set_option maxRecDepth 16384

noncomputable section

open Idealize.ShloMosaic Idealize.ShloMosaic.TcCoe Idealize.SL.Sem
open Idealize.ShloMosaic.Pipeline (Dat)

namespace Cert.Kernel7Ideal.Chunk

open Cert.Kernel7Ideal Cert.Kernel7Ideal.Gen Cert.Chunk

variable (m : (ℓ : Loc nD τ sig) → Buf (Elt Ideal) ℓ) (c : Dev nD) (t : Fin cfg0.N)

/-- A chunk's convolved queries. -/
abbrev yB : FVec Ideal S64x1024 .f32 := k0_pay395 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- A chunk's convolved keys. -/
abbrev zB : FVec Ideal S64x1024 .f32 := k0_pay396 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- A chunk's summed logarithms, a column per head. -/
abbrev sB : FVec Ideal S64x128 .f32 := k0_pay405 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- A chunk's summed logarithms, a row per head. -/
abbrev wB : FVec Ideal S8x64 .f32 := k0_pay406 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The first third of the weights. -/
theorem w0_at (X : Vec Ideal S4x3072 .f32) (r : Fin 4) (j : Fin 1024) : (View.ld X r0_0 : FVec Ideal S4x1024 .f32) (ix2 r j) = X (ix2 r ⟨j.val, by omega⟩) := by
  pointwise [r0_0]

/-- The second third of the weights. -/
theorem w3_at (X : Vec Ideal S4x3072 .f32) (r : Fin 4) (j : Fin 1024) : (View.ld X r0_3 : FVec Ideal S4x1024 .f32) (ix2 r j) = X (ix2 r ⟨1024 + j.val, by omega⟩) := by
  pointwise [r0_3]

/-- The rows before a block are loaded whole. -/
theorem halo_at (X : Vec Ideal S8x1024 .f32) (r : Fin 8) (j : Fin 1024) : (View.ld X r0_1 : FVec Ideal S8x1024 .f32) (ix2 r j) = X (ix2 r j) := by
  pointwise [r0_1]

/-- A block is loaded whole. -/
theorem blk_at (X : Vec Ideal S64x1024 .f32) (r : Fin 64) (j : Fin 1024) : (View.ld X r0_2 : FVec Ideal S64x1024 .f32) (ix2 r j) = X (ix2 r j) := by
  pointwise [r0_2]

/-- The small columns are loaded whole. -/
theorem small_at (X : Vec Ideal S64x128 .f32) (r : Fin 64) (j : Fin 128) : (View.ld X r0_5 : FVec Ideal S64x128 .f32) (ix2 r j) = X (ix2 r j) := by
  pointwise [r0_5]

/-- A row is loaded whole. -/
theorem row_at (X : Vec Ideal S1x128 .f32) (j : Fin 128) : (View.ld X r0_6 : FVec Ideal S1x128 .f32) (ix2 0 j) = X (ix2 0 j) := by
  pointwise [r0_6]

/-- Eight entries of a column are loaded from place 104. -/
theorem col_at (X : Vec Ideal S128x1 .f32) (h : Fin 8) : (View.ld X r0_7 : FVec Ideal S8x1 .f32) (ix2 h 0) = X (ix2 ⟨104 + h.val, by omega⟩ 0) := by
  pointwise [r0_7]

/-- A chunk's convolution is the sequence's. -/
theorem bconv_at (w : FVec Ideal S4x1024 .f32) (H : FVec Ideal S8x1024 .f32) (X : FVec Ideal S64x1024 .f32) (P : FVec Ideal S16384x12288 .f32) (W : FVec Ideal S4x3072 .f32) (o : Fin 2)
    (hw : ∀ (r : Fin 4) (j : Fin 1024), w (ix2 r j) = W (ix2 r ⟨1024 * o.val + j.val, by omega⟩))
    (hX : ∀ (r : Fin 64) (j : Fin 1024), X (ix2 r j) = P (ix2 (row (ch t) r) ⟨5120 + 1024 * o.val + j.val, by omega⟩))
    (hH : ∀ (r : Fin 8) (j : Fin 1024), H (ix2 r j)
      = P (ix2 ⟨(t.val * 8 - 1) * 8 + r.val, by have := (ch t).isLt; dsimp only at this; omega⟩ ⟨5120 + 1024 * o.val + j.val, by omega⟩))
    (r : Fin 64) (j : Fin 1024) :
    bconv (later (grid0.coords t)) w H X r j = conv P W ⟨1024 * o.val + j.val, by omega⟩ (row (ch t) r) := by
  unfold bconv conv
  rw [btap_at H X P t o hX hH, btap_at H X P t o hX hH, btap_at H X P t o hX hH, btap_at H X P t o hX hH, hw, hw, hw, hw]
  rfl

/-- A chunk's convolved queries are the sequence's. -/
theorem y_at (r : Fin 64) (j : Fin 1024) : yB m c t (ix2 r j) = act (pA m c) (wA m c) ⟨j.val, by omega⟩ (row (ch t) r) := by
  have e := bconv_at t (View.ld (iblk m c 7 t : Vec Ideal S4x3072 .f32) r0_0) (View.ld (iblk m c 3 t : Vec Ideal S8x1024 .f32) r0_1) (View.ld (iblk m c 0 t : Vec Ideal S64x1024 .f32) r0_2)
    (pA m c) (wA m c) 0
    (fun r j => ((w0_at _ r j).trans (in7 m c t r _)).trans (congrArg (fun b => wA m c (ix2 r b)) (Fin.ext (by simp))))
    (fun r j => ((blk_at _ r j).trans (in0 m c t r j)).trans (congrArg (fun b => pA m c (ix2 _ b)) (Fin.ext (by simp))))
    (fun r j => ((halo_at _ r j).trans (in3 m c t r j)).trans (congrArg (fun b => pA m c (ix2 _ b)) (Fin.ext (by simp)))) r j
  refine (congrFun (qeq (grid0.coords t) (View.ld (iblk m c 7 t : Vec Ideal S4x3072 .f32) r0_0) (View.ld (iblk m c 3 t : Vec Ideal S8x1024 .f32) r0_1) (View.ld (iblk m c 0 t : Vec Ideal S64x1024 .f32) r0_2)) (ix2 r j)).trans ?_
  refine (kblk (grid0.coords t) _ _ _ r j).trans ?_
  refine (congrArg (fun b : Ideal .f32 => b * Ideal.logistic b) e).trans ?_
  exact congrArg (fun b => act (pA m c) (wA m c) b (row (ch t) r)) (Fin.ext (by simp))

/-- A chunk's convolved keys are the sequence's. -/
theorem z_at (r : Fin 64) (j : Fin 1024) : zB m c t (ix2 r j) = act (pA m c) (wA m c) ⟨1024 + j.val, by omega⟩ (row (ch t) r) := by
  have e := bconv_at t (View.ld (iblk m c 7 t : Vec Ideal S4x3072 .f32) r0_3) (View.ld (iblk m c 4 t : Vec Ideal S8x1024 .f32) r0_1) (View.ld (iblk m c 1 t : Vec Ideal S64x1024 .f32) r0_2)
    (pA m c) (wA m c) 1
    (fun r j => ((w3_at _ r j).trans (in7 m c t r _)).trans (congrArg (fun b => wA m c (ix2 r b)) (Fin.ext (by simp))))
    (fun r j => ((blk_at _ r j).trans (in1 m c t r j)).trans (congrArg (fun b => pA m c (ix2 _ b)) (Fin.ext (by simp))))
    (fun r j => ((halo_at _ r j).trans (in4 m c t r j)).trans (congrArg (fun b => pA m c (ix2 _ b)) (Fin.ext (by simp)))) r j
  refine (kblk (grid0.coords t) _ _ _ r j).trans ?_
  refine (congrArg (fun b : Ideal .f32 => b * Ideal.logistic b) e).trans ?_
  exact congrArg (fun b => act (pA m c) (wA m c) b (row (ch t) r)) (Fin.ext (by simp))

/-- A chunk's summed logarithms are the sequence's, column form. -/
theorem s_at (h : Fin 8) (l : Fin 64) : at104 (sB m c t) h l = cum (pA m c) (aA m c) (bA m c) h (ch t) l := by
  refine (cum_at _ l _).trans ?_
  unfold cum
  refine Finset.sum_congr rfl fun j _ => if_congr Iff.rfl ?_ rfl
  rw [gate_at, row_at, row_at, small_at, in6, in8, in10]
  unfold lg
  exact congrArg (fun b => -(Ideal.exp (aA m c (ix1 h))) * Ideal.log (1 + Ideal.exp (pA m c (ix2 (row (ch t) j) b) + bA m c (ix1 h)) : EReal)) (Fin.ext (by dsimp only; omega))

/-- A chunk's summed logarithms are the sequence's, row form. -/
theorem w_at (h : Fin 8) (l : Fin 64) : wB m c t (ix2 h l) = cum (pA m c) (aA m c) (bA m c) h (ch t) l := by
  refine (cumT_at _ h l).trans ?_
  unfold cum
  refine Finset.sum_congr rfl fun j _ => if_congr Iff.rfl ?_ rfl
  rw [gateT_at, col_at, col_at, small_at, in6, in9, in11]
  unfold lg
  exact congrArg (fun b => -(Ideal.exp (aA m c (ix1 h))) * Ideal.log (1 + Ideal.exp (pA m c (ix2 (row (ch t) j) b) + bA m c (ix1 h)) : EReal)) (Fin.ext (by dsimp only; omega))

/-- A head's queries in a chunk. -/
theorem q_hd (h : Fin 8) (l : Fin 64) (d : Fin 128) : hd (yB m c t) h l d * Ideal.ofBits FTy.f32 1035273459#32 = qry (pA m c) (wA m c) h (row (ch t) l) d := by
  unfold hd qry part
  exact congrArg (fun f => unit f d * Ideal.ofBits FTy.f32 1035273459#32) (funext fun x => y_at m c t l _)

/-- A head's keys in a chunk. -/
theorem k_hd (h : Fin 8) (l : Fin 64) (d : Fin 128) : hd (zB m c t) h l d = key (pA m c) (wA m c) h (row (ch t) l) d := by
  unfold hd key part
  refine congrArg (fun f => unit f d) (funext fun x => (z_at m c t l _).trans ?_)
  exact congrArg (fun b => act (pA m c) (wA m c) b (row (ch t) l)) (Fin.ext (by dsimp only; omega))

/-- A chunk's decayed queries are the sequence's. -/
theorem qdB_at (h : Fin 8) (l : Fin 64) (d : Fin 128) : qdB (yB m c t) (sB m c t) h l d = qdV (pA m c) (wA m c) (aA m c) (bA m c) h (ch t) l d := by
  unfold qdB qdV
  rw [q_hd, s_at]

/-- A chunk's decayed keys are the sequence's. -/
theorem kdB_at (h : Fin 8) (l : Fin 64) (d : Fin 128) : kdB (zB m c t) (sB m c t) h l d = kdV (pA m c) (wA m c) (aA m c) (bA m c) h (ch t) l d := by
  unfold kdB kdV
  rw [k_hd, s_at, s_at]

/-- A chunk's causal scores are the sequence's. -/
theorem aqkB_at (h : Fin 8) (l j : Fin 64) : aqkB (yB m c t) (zB m c t) (sB m c t) (wB m c t) h l j = aqkV (pA m c) (wA m c) (aA m c) (bA m c) h (ch t) l j := by
  unfold aqkB aqkV
  simp only [q_hd, k_hd, s_at, w_at]

/-- Eight stores of one head's columns, each a part of `G`, leave `G`. -/
theorem eightQ (G : S64x1024.Idx → Elt Ideal .bf16) (i0 i1 i2 i3 i4 i5 i6 i7) (w0 w1 w2 w3 w4 w5 w6 w7 : S64x128.Idx → Elt Ideal .bf16)
    (h0 : ∀ x, w0 x = G ((Rect.unit (s := S64x1024) ![0, 0] S64x128.size i0).emb x))
    (h1 : ∀ x, w1 x = G ((Rect.unit (s := S64x1024) ![0, 128] S64x128.size i1).emb x))
    (h2 : ∀ x, w2 x = G ((Rect.unit (s := S64x1024) ![0, 256] S64x128.size i2).emb x))
    (h3 : ∀ x, w3 x = G ((Rect.unit (s := S64x1024) ![0, 384] S64x128.size i3).emb x))
    (h4 : ∀ x, w4 x = G ((Rect.unit (s := S64x1024) ![0, 512] S64x128.size i4).emb x))
    (h5 : ∀ x, w5 x = G ((Rect.unit (s := S64x1024) ![0, 640] S64x128.size i5).emb x))
    (h6 : ∀ x, w6 x = G ((Rect.unit (s := S64x1024) ![0, 768] S64x128.size i6).emb x))
    (h7 : ∀ x, w7 x = G ((Rect.unit (s := S64x1024) ![0, 896] S64x128.size i7).emb x)) :
    View.canon [⟨(Rect.unit (s := S64x1024) ![0, 896] S64x128.size i7), w7⟩, ⟨(Rect.unit (s := S64x1024) ![0, 768] S64x128.size i6), w6⟩, ⟨(Rect.unit (s := S64x1024) ![0, 640] S64x128.size i5), w5⟩, ⟨(Rect.unit (s := S64x1024) ![0, 512] S64x128.size i4), w4⟩, ⟨(Rect.unit (s := S64x1024) ![0, 384] S64x128.size i3), w3⟩, ⟨(Rect.unit (s := S64x1024) ![0, 256] S64x128.size i2), w2⟩, ⟨(Rect.unit (s := S64x1024) ![0, 128] S64x128.size i1), w1⟩, ⟨(Rect.unit (s := S64x1024) ![0, 0] S64x128.size i0), w0⟩] = G := by
  funext y
  exact View.canon_append_of_piecesOf G [] [⟨(Rect.unit (s := S64x1024) ![0, 896] S64x128.size i7), w7⟩, ⟨(Rect.unit (s := S64x1024) ![0, 768] S64x128.size i6), w6⟩, ⟨(Rect.unit (s := S64x1024) ![0, 640] S64x128.size i5), w5⟩, ⟨(Rect.unit (s := S64x1024) ![0, 512] S64x128.size i4), w4⟩, ⟨(Rect.unit (s := S64x1024) ![0, 384] S64x128.size i3), w3⟩, ⟨(Rect.unit (s := S64x1024) ![0, 256] S64x128.size i2), w2⟩, ⟨(Rect.unit (s := S64x1024) ![0, 128] S64x128.size i1), w1⟩, ⟨(Rect.unit (s := S64x1024) ![0, 0] S64x128.size i0), w0⟩]
    ⟨h7, h6, h5, h4, h3, h2, h1, h0, trivial⟩ y
    (View.cover_of_tiledL (s := S64x1024) _ S64x128.size (by sl_kernel_rfl) y)

/-- Eight stores of one head's scores, each a part of `G`, leave `G`. -/
theorem eightA (G : S8x64x64.Idx → Elt Ideal .bf16) (i0 i1 i2 i3 i4 i5 i6 i7) (w0 w1 w2 w3 w4 w5 w6 w7 : S1x64x64.Idx → Elt Ideal .bf16)
    (h0 : ∀ x, w0 x = G ((Rect.unit (s := S8x64x64) ![0, 0, 0] S1x64x64.size i0).emb x))
    (h1 : ∀ x, w1 x = G ((Rect.unit (s := S8x64x64) ![1, 0, 0] S1x64x64.size i1).emb x))
    (h2 : ∀ x, w2 x = G ((Rect.unit (s := S8x64x64) ![2, 0, 0] S1x64x64.size i2).emb x))
    (h3 : ∀ x, w3 x = G ((Rect.unit (s := S8x64x64) ![3, 0, 0] S1x64x64.size i3).emb x))
    (h4 : ∀ x, w4 x = G ((Rect.unit (s := S8x64x64) ![4, 0, 0] S1x64x64.size i4).emb x))
    (h5 : ∀ x, w5 x = G ((Rect.unit (s := S8x64x64) ![5, 0, 0] S1x64x64.size i5).emb x))
    (h6 : ∀ x, w6 x = G ((Rect.unit (s := S8x64x64) ![6, 0, 0] S1x64x64.size i6).emb x))
    (h7 : ∀ x, w7 x = G ((Rect.unit (s := S8x64x64) ![7, 0, 0] S1x64x64.size i7).emb x)) :
    View.canon [⟨(Rect.unit (s := S8x64x64) ![7, 0, 0] S1x64x64.size i7), w7⟩, ⟨(Rect.unit (s := S8x64x64) ![6, 0, 0] S1x64x64.size i6), w6⟩, ⟨(Rect.unit (s := S8x64x64) ![5, 0, 0] S1x64x64.size i5), w5⟩, ⟨(Rect.unit (s := S8x64x64) ![4, 0, 0] S1x64x64.size i4), w4⟩, ⟨(Rect.unit (s := S8x64x64) ![3, 0, 0] S1x64x64.size i3), w3⟩, ⟨(Rect.unit (s := S8x64x64) ![2, 0, 0] S1x64x64.size i2), w2⟩, ⟨(Rect.unit (s := S8x64x64) ![1, 0, 0] S1x64x64.size i1), w1⟩, ⟨(Rect.unit (s := S8x64x64) ![0, 0, 0] S1x64x64.size i0), w0⟩] = G := by
  funext y
  exact View.canon_append_of_piecesOf G [] [⟨(Rect.unit (s := S8x64x64) ![7, 0, 0] S1x64x64.size i7), w7⟩, ⟨(Rect.unit (s := S8x64x64) ![6, 0, 0] S1x64x64.size i6), w6⟩, ⟨(Rect.unit (s := S8x64x64) ![5, 0, 0] S1x64x64.size i5), w5⟩, ⟨(Rect.unit (s := S8x64x64) ![4, 0, 0] S1x64x64.size i4), w4⟩, ⟨(Rect.unit (s := S8x64x64) ![3, 0, 0] S1x64x64.size i3), w3⟩, ⟨(Rect.unit (s := S8x64x64) ![2, 0, 0] S1x64x64.size i2), w2⟩, ⟨(Rect.unit (s := S8x64x64) ![1, 0, 0] S1x64x64.size i1), w1⟩, ⟨(Rect.unit (s := S8x64x64) ![0, 0, 0] S1x64x64.size i0), w0⟩]
    ⟨h7, h6, h5, h4, h3, h2, h1, h0, trivial⟩ y
    (View.cover_of_tiledL (s := S8x64x64) _ S1x64x64.size (by sl_kernel_rfl) y)

/-- Eight stores of one head's decay, each a part of `G`, leave `G`. -/
theorem eightD (G : S1x8x128.Idx → Elt Ideal .f32) (i0 i1 i2 i3 i4 i5 i6 i7) (w0 w1 w2 w3 w4 w5 w6 w7 : S1x1x128.Idx → Elt Ideal .f32)
    (h0 : ∀ x, w0 x = G ((Rect.unit (s := S1x8x128) ![0, 0, 0] S1x1x128.size i0).emb x))
    (h1 : ∀ x, w1 x = G ((Rect.unit (s := S1x8x128) ![0, 1, 0] S1x1x128.size i1).emb x))
    (h2 : ∀ x, w2 x = G ((Rect.unit (s := S1x8x128) ![0, 2, 0] S1x1x128.size i2).emb x))
    (h3 : ∀ x, w3 x = G ((Rect.unit (s := S1x8x128) ![0, 3, 0] S1x1x128.size i3).emb x))
    (h4 : ∀ x, w4 x = G ((Rect.unit (s := S1x8x128) ![0, 4, 0] S1x1x128.size i4).emb x))
    (h5 : ∀ x, w5 x = G ((Rect.unit (s := S1x8x128) ![0, 5, 0] S1x1x128.size i5).emb x))
    (h6 : ∀ x, w6 x = G ((Rect.unit (s := S1x8x128) ![0, 6, 0] S1x1x128.size i6).emb x))
    (h7 : ∀ x, w7 x = G ((Rect.unit (s := S1x8x128) ![0, 7, 0] S1x1x128.size i7).emb x)) :
    View.canon [⟨(Rect.unit (s := S1x8x128) ![0, 7, 0] S1x1x128.size i7), w7⟩, ⟨(Rect.unit (s := S1x8x128) ![0, 6, 0] S1x1x128.size i6), w6⟩, ⟨(Rect.unit (s := S1x8x128) ![0, 5, 0] S1x1x128.size i5), w5⟩, ⟨(Rect.unit (s := S1x8x128) ![0, 4, 0] S1x1x128.size i4), w4⟩, ⟨(Rect.unit (s := S1x8x128) ![0, 3, 0] S1x1x128.size i3), w3⟩, ⟨(Rect.unit (s := S1x8x128) ![0, 2, 0] S1x1x128.size i2), w2⟩, ⟨(Rect.unit (s := S1x8x128) ![0, 1, 0] S1x1x128.size i1), w1⟩, ⟨(Rect.unit (s := S1x8x128) ![0, 0, 0] S1x1x128.size i0), w0⟩] = G := by
  funext y
  exact View.canon_append_of_piecesOf G [] [⟨(Rect.unit (s := S1x8x128) ![0, 7, 0] S1x1x128.size i7), w7⟩, ⟨(Rect.unit (s := S1x8x128) ![0, 6, 0] S1x1x128.size i6), w6⟩, ⟨(Rect.unit (s := S1x8x128) ![0, 5, 0] S1x1x128.size i5), w5⟩, ⟨(Rect.unit (s := S1x8x128) ![0, 4, 0] S1x1x128.size i4), w4⟩, ⟨(Rect.unit (s := S1x8x128) ![0, 3, 0] S1x1x128.size i3), w3⟩, ⟨(Rect.unit (s := S1x8x128) ![0, 2, 0] S1x1x128.size i2), w2⟩, ⟨(Rect.unit (s := S1x8x128) ![0, 1, 0] S1x1x128.size i1), w1⟩, ⟨(Rect.unit (s := S1x8x128) ![0, 0, 0] S1x1x128.size i0), w0⟩]
    ⟨h7, h6, h5, h4, h3, h2, h1, h0, trivial⟩ y
    (View.cover_of_tiledL (s := S1x8x128) _ S1x1x128.size (by sl_kernel_rfl) y)

/-- Where a stored part's entry lies. -/
theorem emb_val {s : Shape} (off sz : Fin s.rank → ℕ) (i) (x) (a : Fin s.rank) : ((Rect.unit (s := s) off sz i).emb x a).val = off a + (x a).val := by
  show off a + 1 * (x a).val = _
  rw [one_mul]

/-- A part of one head's columns, entry by entry. -/
theorem partQ (G : S64x1024.Idx → Elt Ideal .bf16) (w : S64x128.Idx → Elt Ideal .bf16) (h : Fin 8) (o : ℕ) (ho : o = h.val * 128) (i)
    (hw : ∀ l d, w (ix2 l d) = G (ix2 l ⟨h.val * 128 + d.val, by omega⟩)) (x) : w x = G ((Rect.unit (s := S64x1024) ![0, o] S64x128.size i).emb x) := by
  obtain ⟨l, d, rfl⟩ : ∃ (l : Fin 64) (d : Fin 128), x = ix2 l d := ⟨x 0, x 1, by funext a; fin_cases a <;> rfl⟩
  subst ho
  rw [hw]
  refine congrArg G (funext fun a => ?_)
  fin_cases a <;> exact Fin.ext (by simp [emb_val])

/-- A part of one head's scores, entry by entry. -/
theorem partA (G : S8x64x64.Idx → Elt Ideal .bf16) (w : S1x64x64.Idx → Elt Ideal .bf16) (h : Fin 8) (o : ℕ) (ho : o = h.val) (i)
    (hw : ∀ l d, w (ix3 0 l d) = G (ix3 h l d)) (x) : w x = G ((Rect.unit (s := S8x64x64) ![o, 0, 0] S1x64x64.size i).emb x) := by
  obtain ⟨l, d, rfl⟩ : ∃ (l : Fin 64) (d : Fin 64), x = ix3 0 l d := ⟨x 1, x 2, by funext a; fin_cases a; exact Subsingleton.elim (α := Fin 1) _ _; rfl; rfl⟩
  subst ho
  rw [hw]
  refine congrArg G (funext fun a => ?_)
  fin_cases a <;> exact Fin.ext (by simp [emb_val])

/-- A part of one head's decay, entry by entry. -/
theorem partD (G : S1x8x128.Idx → Elt Ideal .f32) (w : S1x1x128.Idx → Elt Ideal .f32) (h : Fin 8) (o : ℕ) (ho : o = h.val) (i)
    (hw : ∀ d, w (ix3 0 0 d) = G (ix3 0 h d)) (x) : w x = G ((Rect.unit (s := S1x8x128) ![0, o, 0] S1x1x128.size i).emb x) := by
  obtain ⟨d, rfl⟩ : ∃ (d : Fin 128), x = ix3 0 0 d := ⟨x 2, by funext a; fin_cases a; exact Subsingleton.elim (α := Fin 1) _ _; exact Subsingleton.elim (α := Fin 1) _ _; rfl⟩
  subst ho
  rw [hw]
  refine congrArg G (funext fun a => ?_)
  fin_cases a <;> exact Fin.ext (by simp [emb_val])

/-- The decayed queries, at their place in the array. -/
theorem G14 (h : Fin 8) (l : Fin 64) (d : Fin 128) : Cert.Reference7Ideal.Chunk.qd (pA m c) (wA m c) (aA m c) (bA m c) ((win0_14.blk t).view.emb (ix2 l ⟨h.val * 128 + d.val, by omega⟩)) = qdV (pA m c) (wA m c) (aA m c) (bA m c) h (ch t) l d := by
  have e : ((win0_14.blk t).view.emb (ix2 l ⟨h.val * 128 + d.val, by omega⟩)) = ix2 (row (ch t) l) ⟨h.val * 128 + d.val, by omega⟩ := by
    funext a; refine Fin.ext ?_; fin_cases a <;> blk_simp [idx t] <;> rfl
  rw [e, Cert.Reference7Ideal.Chunk.qd_at]

/-- The decayed queries, as the grid point leaves them. -/
theorem point14 : out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = fun y => Cert.Reference7Ideal.Chunk.qd (pA m c) (wA m c) (aA m c) (bA m c) ((win0_14.blk t).view.emb y) := by
  unfold out0_14
  exact eightQ _ _ _ _ _ _ _ _ _ _ _ _ _ _ _ _ _
    (partQ (fun y => Cert.Reference7Ideal.Chunk.qd (pA m c) (wA m c) (aA m c) (bA m c) ((win0_14.blk t).view.emb y)) _ 0 0 rfl _ fun l d => ((qd_piece0 (yB m c t) (sB m c t) l d).trans (qdB_at m c t 0 l d)).trans (G14 m c t 0 l d).symm)
    (partQ (fun y => Cert.Reference7Ideal.Chunk.qd (pA m c) (wA m c) (aA m c) (bA m c) ((win0_14.blk t).view.emb y)) _ 1 128 rfl _ fun l d => ((qd_piece1 (yB m c t) (sB m c t) l d).trans (qdB_at m c t 1 l d)).trans (G14 m c t 1 l d).symm)
    (partQ (fun y => Cert.Reference7Ideal.Chunk.qd (pA m c) (wA m c) (aA m c) (bA m c) ((win0_14.blk t).view.emb y)) _ 2 256 rfl _ fun l d => ((qd_piece2 (yB m c t) (sB m c t) l d).trans (qdB_at m c t 2 l d)).trans (G14 m c t 2 l d).symm)
    (partQ (fun y => Cert.Reference7Ideal.Chunk.qd (pA m c) (wA m c) (aA m c) (bA m c) ((win0_14.blk t).view.emb y)) _ 3 384 rfl _ fun l d => ((qd_piece3 (yB m c t) (sB m c t) l d).trans (qdB_at m c t 3 l d)).trans (G14 m c t 3 l d).symm)
    (partQ (fun y => Cert.Reference7Ideal.Chunk.qd (pA m c) (wA m c) (aA m c) (bA m c) ((win0_14.blk t).view.emb y)) _ 4 512 rfl _ fun l d => ((qd_piece4 (yB m c t) (sB m c t) l d).trans (qdB_at m c t 4 l d)).trans (G14 m c t 4 l d).symm)
    (partQ (fun y => Cert.Reference7Ideal.Chunk.qd (pA m c) (wA m c) (aA m c) (bA m c) ((win0_14.blk t).view.emb y)) _ 5 640 rfl _ fun l d => ((qd_piece5 (yB m c t) (sB m c t) l d).trans (qdB_at m c t 5 l d)).trans (G14 m c t 5 l d).symm)
    (partQ (fun y => Cert.Reference7Ideal.Chunk.qd (pA m c) (wA m c) (aA m c) (bA m c) ((win0_14.blk t).view.emb y)) _ 6 768 rfl _ fun l d => ((qd_piece6 (yB m c t) (sB m c t) l d).trans (qdB_at m c t 6 l d)).trans (G14 m c t 6 l d).symm)
    (partQ (fun y => Cert.Reference7Ideal.Chunk.qd (pA m c) (wA m c) (aA m c) (bA m c) ((win0_14.blk t).view.emb y)) _ 7 896 rfl _ fun l d => ((qd_piece7 (yB m c t) (sB m c t) l d).trans (qdB_at m c t 7 l d)).trans (G14 m c t 7 l d).symm)

/-- The decayed queries after the run. -/
theorem final14 : (dats m 0 c).arrAt 14 (cfgs 0).N = Cert.Reference7Ideal.Chunk.qd (pA m c) (wA m c) (aA m c) (bA m c) := by
  refine (dats m 0 c).arrAt_eq_of_covers 14 _ (by decide +kernel) fun t _ y => ?_
  blk_simp
  rw [after0_14]
  exact congrFun (point14 m c t) y

/-- The decayed keys, at their place in the array. -/
theorem G15 (h : Fin 8) (l : Fin 64) (d : Fin 128) : Cert.Reference7Ideal.Chunk.kd (pA m c) (wA m c) (aA m c) (bA m c) ((win0_15.blk t).view.emb (ix2 l ⟨h.val * 128 + d.val, by omega⟩)) = kdV (pA m c) (wA m c) (aA m c) (bA m c) h (ch t) l d := by
  have e : ((win0_15.blk t).view.emb (ix2 l ⟨h.val * 128 + d.val, by omega⟩)) = ix2 (row (ch t) l) ⟨h.val * 128 + d.val, by omega⟩ := by
    funext a; refine Fin.ext ?_; fin_cases a <;> blk_simp [idx t] <;> rfl
  rw [e, Cert.Reference7Ideal.Chunk.kd_at]

/-- The decayed keys, as the grid point leaves them. -/
theorem point15 : out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = fun y => Cert.Reference7Ideal.Chunk.kd (pA m c) (wA m c) (aA m c) (bA m c) ((win0_15.blk t).view.emb y) := by
  unfold out0_15
  exact eightQ _ _ _ _ _ _ _ _ _ _ _ _ _ _ _ _ _
    (partQ (fun y => Cert.Reference7Ideal.Chunk.kd (pA m c) (wA m c) (aA m c) (bA m c) ((win0_15.blk t).view.emb y)) _ 0 0 rfl _ fun l d => ((kd_piece0 (zB m c t) (sB m c t) l d).trans (kdB_at m c t 0 l d)).trans (G15 m c t 0 l d).symm)
    (partQ (fun y => Cert.Reference7Ideal.Chunk.kd (pA m c) (wA m c) (aA m c) (bA m c) ((win0_15.blk t).view.emb y)) _ 1 128 rfl _ fun l d => ((kd_piece1 (zB m c t) (sB m c t) l d).trans (kdB_at m c t 1 l d)).trans (G15 m c t 1 l d).symm)
    (partQ (fun y => Cert.Reference7Ideal.Chunk.kd (pA m c) (wA m c) (aA m c) (bA m c) ((win0_15.blk t).view.emb y)) _ 2 256 rfl _ fun l d => ((kd_piece2 (zB m c t) (sB m c t) l d).trans (kdB_at m c t 2 l d)).trans (G15 m c t 2 l d).symm)
    (partQ (fun y => Cert.Reference7Ideal.Chunk.kd (pA m c) (wA m c) (aA m c) (bA m c) ((win0_15.blk t).view.emb y)) _ 3 384 rfl _ fun l d => ((kd_piece3 (zB m c t) (sB m c t) l d).trans (kdB_at m c t 3 l d)).trans (G15 m c t 3 l d).symm)
    (partQ (fun y => Cert.Reference7Ideal.Chunk.kd (pA m c) (wA m c) (aA m c) (bA m c) ((win0_15.blk t).view.emb y)) _ 4 512 rfl _ fun l d => ((kd_piece4 (zB m c t) (sB m c t) l d).trans (kdB_at m c t 4 l d)).trans (G15 m c t 4 l d).symm)
    (partQ (fun y => Cert.Reference7Ideal.Chunk.kd (pA m c) (wA m c) (aA m c) (bA m c) ((win0_15.blk t).view.emb y)) _ 5 640 rfl _ fun l d => ((kd_piece5 (zB m c t) (sB m c t) l d).trans (kdB_at m c t 5 l d)).trans (G15 m c t 5 l d).symm)
    (partQ (fun y => Cert.Reference7Ideal.Chunk.kd (pA m c) (wA m c) (aA m c) (bA m c) ((win0_15.blk t).view.emb y)) _ 6 768 rfl _ fun l d => ((kd_piece6 (zB m c t) (sB m c t) l d).trans (kdB_at m c t 6 l d)).trans (G15 m c t 6 l d).symm)
    (partQ (fun y => Cert.Reference7Ideal.Chunk.kd (pA m c) (wA m c) (aA m c) (bA m c) ((win0_15.blk t).view.emb y)) _ 7 896 rfl _ fun l d => ((kd_piece7 (zB m c t) (sB m c t) l d).trans (kdB_at m c t 7 l d)).trans (G15 m c t 7 l d).symm)

/-- The decayed keys after the run. -/
theorem final15 : (dats m 0 c).arrAt 15 (cfgs 0).N = Cert.Reference7Ideal.Chunk.kd (pA m c) (wA m c) (aA m c) (bA m c) := by
  refine (dats m 0 c).arrAt_eq_of_covers 15 _ (by decide +kernel) fun t _ y => ?_
  blk_simp
  rw [after0_15]
  exact congrFun (point15 m c t) y

/-- The causal scores, at their place in the array. -/
theorem G16 (h : Fin 8) (l d : Fin 64) : Cert.Reference7Ideal.Chunk.aqk (pA m c) (wA m c) (aA m c) (bA m c) ((win0_16.blk t).view.emb (ix3 h l d)) = aqkV (pA m c) (wA m c) (aA m c) (bA m c) h (ch t) l d := by
  have e : ((win0_16.blk t).view.emb (ix3 h l d)) = ix3 h (row (ch t) l) d := by
    funext a; refine Fin.ext ?_; fin_cases a <;> blk_simp [idx t] <;> rfl
  rw [e, Cert.Reference7Ideal.Chunk.aqk_at]

/-- The causal scores, as the grid point leaves them. -/
theorem point16 : out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = fun y => Cert.Reference7Ideal.Chunk.aqk (pA m c) (wA m c) (aA m c) (bA m c) ((win0_16.blk t).view.emb y) := by
  unfold out0_16
  exact eightA _ _ _ _ _ _ _ _ _ _ _ _ _ _ _ _ _
    (partA (fun y => Cert.Reference7Ideal.Chunk.aqk (pA m c) (wA m c) (aA m c) (bA m c) ((win0_16.blk t).view.emb y)) _ 0 0 rfl _ fun l d => ((aqk_piece0 (yB m c t) (zB m c t) (sB m c t) (wB m c t) l d).trans (aqkB_at m c t 0 l d)).trans (G16 m c t 0 l d).symm)
    (partA (fun y => Cert.Reference7Ideal.Chunk.aqk (pA m c) (wA m c) (aA m c) (bA m c) ((win0_16.blk t).view.emb y)) _ 1 1 rfl _ fun l d => ((aqk_piece1 (yB m c t) (zB m c t) (sB m c t) (wB m c t) l d).trans (aqkB_at m c t 1 l d)).trans (G16 m c t 1 l d).symm)
    (partA (fun y => Cert.Reference7Ideal.Chunk.aqk (pA m c) (wA m c) (aA m c) (bA m c) ((win0_16.blk t).view.emb y)) _ 2 2 rfl _ fun l d => ((aqk_piece2 (yB m c t) (zB m c t) (sB m c t) (wB m c t) l d).trans (aqkB_at m c t 2 l d)).trans (G16 m c t 2 l d).symm)
    (partA (fun y => Cert.Reference7Ideal.Chunk.aqk (pA m c) (wA m c) (aA m c) (bA m c) ((win0_16.blk t).view.emb y)) _ 3 3 rfl _ fun l d => ((aqk_piece3 (yB m c t) (zB m c t) (sB m c t) (wB m c t) l d).trans (aqkB_at m c t 3 l d)).trans (G16 m c t 3 l d).symm)
    (partA (fun y => Cert.Reference7Ideal.Chunk.aqk (pA m c) (wA m c) (aA m c) (bA m c) ((win0_16.blk t).view.emb y)) _ 4 4 rfl _ fun l d => ((aqk_piece4 (yB m c t) (zB m c t) (sB m c t) (wB m c t) l d).trans (aqkB_at m c t 4 l d)).trans (G16 m c t 4 l d).symm)
    (partA (fun y => Cert.Reference7Ideal.Chunk.aqk (pA m c) (wA m c) (aA m c) (bA m c) ((win0_16.blk t).view.emb y)) _ 5 5 rfl _ fun l d => ((aqk_piece5 (yB m c t) (zB m c t) (sB m c t) (wB m c t) l d).trans (aqkB_at m c t 5 l d)).trans (G16 m c t 5 l d).symm)
    (partA (fun y => Cert.Reference7Ideal.Chunk.aqk (pA m c) (wA m c) (aA m c) (bA m c) ((win0_16.blk t).view.emb y)) _ 6 6 rfl _ fun l d => ((aqk_piece6 (yB m c t) (zB m c t) (sB m c t) (wB m c t) l d).trans (aqkB_at m c t 6 l d)).trans (G16 m c t 6 l d).symm)
    (partA (fun y => Cert.Reference7Ideal.Chunk.aqk (pA m c) (wA m c) (aA m c) (bA m c) ((win0_16.blk t).view.emb y)) _ 7 7 rfl _ fun l d => ((aqk_piece7 (yB m c t) (zB m c t) (sB m c t) (wB m c t) l d).trans (aqkB_at m c t 7 l d)).trans (G16 m c t 7 l d).symm)

/-- The causal scores after the run. -/
theorem final16 : (dats m 0 c).arrAt 16 (cfgs 0).N = Cert.Reference7Ideal.Chunk.aqk (pA m c) (wA m c) (aA m c) (bA m c) := by
  refine (dats m 0 c).arrAt_eq_of_covers 16 _ (by decide +kernel) fun t _ y => ?_
  blk_simp
  rw [after0_16]
  exact congrFun (point16 m c t) y

/-- The decays, at their place in the array. -/
theorem G17 (h : Fin 8) (d : Fin 128) : Cert.Reference7Ideal.Chunk.dec (pA m c) (aA m c) (bA m c) ((win0_17.blk t).view.emb (ix3 0 h d)) = Ideal.exp (cum (pA m c) (aA m c) (bA m c) h (ch t) 63) := by
  have e : ((win0_17.blk t).view.emb (ix3 0 h d)) = ix3 (ch t) h d := by
    funext a; refine Fin.ext ?_; fin_cases a <;> blk_simp [idx t] <;> rfl
  rw [e, Cert.Reference7Ideal.Chunk.dec_at]

/-- The decays, as the grid point leaves them. -/
theorem point17 : out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = fun y => Cert.Reference7Ideal.Chunk.dec (pA m c) (aA m c) (bA m c) ((win0_17.blk t).view.emb y) := by
  unfold out0_17
  exact eightD _ _ _ _ _ _ _ _ _ _ _ _ _ _ _ _ _
    (partD (fun y => Cert.Reference7Ideal.Chunk.dec (pA m c) (aA m c) (bA m c) ((win0_17.blk t).view.emb y)) _ 0 0 rfl _ fun d => ((dec_piece0 (sB m c t) d).trans (congrArg Ideal.exp (s_at m c t 0 63))).trans (G17 m c t 0 d).symm)
    (partD (fun y => Cert.Reference7Ideal.Chunk.dec (pA m c) (aA m c) (bA m c) ((win0_17.blk t).view.emb y)) _ 1 1 rfl _ fun d => ((dec_piece1 (sB m c t) d).trans (congrArg Ideal.exp (s_at m c t 1 63))).trans (G17 m c t 1 d).symm)
    (partD (fun y => Cert.Reference7Ideal.Chunk.dec (pA m c) (aA m c) (bA m c) ((win0_17.blk t).view.emb y)) _ 2 2 rfl _ fun d => ((dec_piece2 (sB m c t) d).trans (congrArg Ideal.exp (s_at m c t 2 63))).trans (G17 m c t 2 d).symm)
    (partD (fun y => Cert.Reference7Ideal.Chunk.dec (pA m c) (aA m c) (bA m c) ((win0_17.blk t).view.emb y)) _ 3 3 rfl _ fun d => ((dec_piece3 (sB m c t) d).trans (congrArg Ideal.exp (s_at m c t 3 63))).trans (G17 m c t 3 d).symm)
    (partD (fun y => Cert.Reference7Ideal.Chunk.dec (pA m c) (aA m c) (bA m c) ((win0_17.blk t).view.emb y)) _ 4 4 rfl _ fun d => ((dec_piece4 (sB m c t) d).trans (congrArg Ideal.exp (s_at m c t 4 63))).trans (G17 m c t 4 d).symm)
    (partD (fun y => Cert.Reference7Ideal.Chunk.dec (pA m c) (aA m c) (bA m c) ((win0_17.blk t).view.emb y)) _ 5 5 rfl _ fun d => ((dec_piece5 (sB m c t) d).trans (congrArg Ideal.exp (s_at m c t 5 63))).trans (G17 m c t 5 d).symm)
    (partD (fun y => Cert.Reference7Ideal.Chunk.dec (pA m c) (aA m c) (bA m c) ((win0_17.blk t).view.emb y)) _ 6 6 rfl _ fun d => ((dec_piece6 (sB m c t) d).trans (congrArg Ideal.exp (s_at m c t 6 63))).trans (G17 m c t 6 d).symm)
    (partD (fun y => Cert.Reference7Ideal.Chunk.dec (pA m c) (aA m c) (bA m c) ((win0_17.blk t).view.emb y)) _ 7 7 rfl _ fun d => ((dec_piece7 (sB m c t) d).trans (congrArg Ideal.exp (s_at m c t 7 63))).trans (G17 m c t 7 d).symm)

/-- The decays after the run. -/
theorem final17 : (dats m 0 c).arrAt 17 (cfgs 0).N = Cert.Reference7Ideal.Chunk.dec (pA m c) (aA m c) (bA m c) := by
  refine (dats m 0 c).arrAt_eq_of_covers 17 _ (by decide +kernel) fun t _ y => ?_
  blk_simp
  rw [after0_17]
  exact congrFun (point17 m c t) y

/-- The kernel's run ends with the four arrays and its arguments as they were. -/
theorem results (ρ : Dev nD → PrngReg) : θ_run defs (onTc (τ := τ) (main (F := Ideal))) ⟨m, fun _ => 0, ρ⟩ fun r => ∀ c : Dev nD,
      r.2.mem ((c : Thread nD τ).loc main_v10_2) = Cert.Reference7Ideal.Chunk.qd (pA m c) (wA m c) (aA m c) (bA m c)
      ∧ r.2.mem ((c : Thread nD τ).loc main_v10_3) = Cert.Reference7Ideal.Chunk.kd (pA m c) (wA m c) (aA m c) (bA m c)
      ∧ r.2.mem ((c : Thread nD τ).loc main_v10_4) = Cert.Reference7Ideal.Chunk.aqk (pA m c) (wA m c) (aA m c) (bA m c)
      ∧ r.2.mem ((c : Thread nD τ).loc main_v10_5) = Cert.Reference7Ideal.Chunk.dec (pA m c) (aA m c) (bA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2.2.1.trans (final14 m c), (h c).2.2.2.1.trans (final15 m c), (h c).2.2.2.2.1.trans (final16 m c),
    (h c).2.2.2.2.2.1.trans (final17 m c), (h c).2.2.2.2.2.2⟩) (Value.run_blocks (F := Ideal) m ρ)

section Congr

variable {P P' : FVec Ideal S16384x12288 .f32} {W W' : FVec Ideal S4x3072 .f32} {A A' B B' : FVec Ideal S8 .f32}

/-- Equal arguments give equal decayed queries. -/
theorem qd_congr (h0 : P = P') (h1 : W = W') (h2 : A = A') (h3 : B = B') : Cert.Reference7Ideal.Chunk.qd P W A B = Cert.Reference7Ideal.Chunk.qd P' W' A' B' := by
  subst h0 h1 h2 h3; rfl

/-- Equal arguments give equal decayed keys. -/
theorem kd_congr (h0 : P = P') (h1 : W = W') (h2 : A = A') (h3 : B = B') : Cert.Reference7Ideal.Chunk.kd P W A B = Cert.Reference7Ideal.Chunk.kd P' W' A' B' := by
  subst h0 h1 h2 h3; rfl

/-- Equal arguments give equal causal scores. -/
theorem aqk_congr (h0 : P = P') (h1 : W = W') (h2 : A = A') (h3 : B = B') : Cert.Reference7Ideal.Chunk.aqk P W A B = Cert.Reference7Ideal.Chunk.aqk P' W' A' B' := by
  subst h0 h1 h2 h3; rfl

/-- Equal arguments give equal decays. -/
theorem dec_congr (h0 : P = P') (h2 : A = A') (h3 : B = B') : Cert.Reference7Ideal.Chunk.dec P A B = Cert.Reference7Ideal.Chunk.dec P' A' B' := by
  subst h0 h2 h3; rfl

end Congr

end Cert.Kernel7Ideal.Chunk
end
-- ==== Proof.InProj.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ)

/-- The projection as one product of the whole arrays: the reference's result. -/
abbrev proj (H : FVec Ideal S16384x4096 .bf16) (W : FVec Ideal S4096x12288 .bf16) : FVec Ideal S16384x12288 .f32 :=
  Host.dotGeneral Cert.Reference2Ideal.dot_S16384x4096_S4096x12288_S16384x12288_1_0_0_1_n_n none H W

/-- Which blocks grid point `t` reads and writes: row block `t / 24` of the activations, column block `t % 24` of the weights. -/
theorem idx : ∀ t : Fin cfg0.N, win0_0.index t = ![t.val / 24, 0] ∧ win0_1.index t = ![0, t.val % 24]
    ∧ win0_2.index t = ![t.val / 24, t.val % 24] :=
  (by decide +kernel : ∀ t : Fin grid0.N, _)

/-- What point `t` stores at `y` is the product's entry at the array index of `y`. -/
theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  pointwise [k0_pay1, proj]
  blk_point [iblk, V, idx t]

/-- The result array after the run is the product of the two argument arrays. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.InProj

end
-- ==== Proof.OutProj.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

variable (m : (ℓ : Loc nD τ sig) → Buf (Elt Ideal) ℓ)

/-- The output projection of the concatenated head groups, added to the layer's input: the reference's result. -/
abbrev proj (X : FVec Ideal S16384x4096 .f32) (Ya : FVec Ideal S16384x1024 .bf16) (Yb : FVec Ideal S16384x2048 .bf16)
    (Yc : FVec Ideal S16384x1024 .bf16) (W : FVec Ideal S4096x4096 .f32) : FVec Ideal S16384x4096 .f32 :=
  addf X (Host.dotGeneral Cert.Reference3Ideal.dot_S16384x4096_S4096x4096_S16384x4096_1_0_0_1_n_n none
    (extf .f32 (concatenate S16384x4096 1 [⟨S16384x1024, Ya⟩, ⟨S16384x2048, Yb⟩, ⟨S16384x1024, Yc⟩]
      Cert.Reference3Ideal.Gen.concatenates_S16384x1024_S16384x2048_S16384x1024_S16384x4096_d1) Cert.Reference3Ideal.Gen.bitsLt_bf16_f32) W)

/-- Equal arguments give equal results. -/
theorem proj_congr {X X' : FVec Ideal S16384x4096 .f32} {A A' : FVec Ideal S16384x1024 .bf16} {B B' : FVec Ideal S16384x2048 .bf16}
    {C C' : FVec Ideal S16384x1024 .bf16} {W W' : FVec Ideal S4096x4096 .f32} (h0 : X = X') (h1 : A = A') (h2 : B = B') (h3 : C = C')
    (h4 : W = W') : proj X A B C W = proj X' A' B' C' W' := by
  subst h0 h1 h2 h3 h4; rfl

/-- Which blocks grid point `t` reads and writes: row block `t / 8` of the activations, column block `t % 8` of the weights. -/
theorem idx : ∀ t : Fin cfg0.N, win0_0.index t = ![t.val / 8, t.val % 8] ∧ win0_1.index t = ![t.val / 8, 0]
    ∧ win0_2.index t = ![t.val / 8, 0] ∧ win0_3.index t = ![t.val / 8, 0] ∧ win0_4.index t = ![0, t.val % 8]
    ∧ win0_5.index t = ![0, t.val % 8] ∧ win0_6.index t = ![0, t.val % 8] ∧ win0_7.index t = ![t.val / 8, t.val % 8] :=
  (by decide +kernel : ∀ t : Fin grid0.N, _)

/-- What point `t` stores at `y` is the reference's entry at the array index of `y`: the sum over the 4096 concatenated lanes splits into the
    three groups' sums. -/
theorem point (c : Dev nD) (t : Fin cfg0.N) (y) :
    k0_pay1 (iblk m c 1 t) (iblk m c 4 t) (iblk m c 2 t) (iblk m c 5 t) (iblk m c 3 t) (iblk m c 6 t) (iblk m c 0 t) y
    = proj (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  pointwise [k0_pay1, proj, sumSplitAll]
  simp only [add_assoc]
  blk_point [iblk, V, idx t]

/-- The result array after the run is the reference's term of the argument arrays. -/
theorem final (c : Dev nD) : (dats m 0 c).arrAt 7 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]; frame_out
  exact point m c t y

end Cert.Kernel3Ideal.OutProj

end
-- ==== Proof.Norm.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Norm

open Cert.Kernel4Ideal Cert.Kernel4Ideal.Gen

variable (m : (ℓ : Loc nD τ sig) → Buf (Elt Ideal) ℓ)

/-- The root-mean-square norm of each row, scaled by the weights: the reference's result. -/
abbrev norm (X : FVec Ideal S16384x4096 .f32) (G : FVec Ideal S4096 .f32) : FVec Ideal S16384x4096 .bf16 :=
  truncf .bf16 (mulf (mulf X (broadcastInDim Cert.Reference4Ideal.S16384x4096 ![0, 1] Cert.Reference4Ideal.Gen.bcast_S16384x1_S16384x4096_0_1 (Host.rsqrt (addf (Host.divf (broadcastInDim Cert.Reference4Ideal.S16384x1 ![0] Cert.Reference4Ideal.Gen.bcast_S16384_S16384x1_0 (Host.reduceAdd (mulf X X) (constant Cert.Reference4Ideal.S_ .f32 0x00000000#32) Cert.Reference4Ideal.Gen.reducesTo_S16384x4096_S16384_d1 Cert.Reference4Ideal.Gen.h_S_)) (broadcastInDim Cert.Reference4Ideal.S16384x1 ![] Cert.Reference4Ideal.Gen.bcast_S_S16384x1 (constant Cert.Reference4Ideal.S_ .f32 0x45800000#32))) (broadcastInDim Cert.Reference4Ideal.S16384x1 ![] Cert.Reference4Ideal.Gen.bcast_S_S16384x1 (constant Cert.Reference4Ideal.S_ .f32 0x358637BD#32)))))) (broadcastInDim Cert.Reference4Ideal.S16384x4096 ![0, 1] Cert.Reference4Ideal.Gen.bcast_S1x4096_S16384x4096_0_1 (broadcastInDim Cert.Reference4Ideal.S1x4096 ![1] Cert.Reference4Ideal.Gen.bcast_S4096_S1x4096_1 G))) Cert.Reference4Ideal.Gen.bitsLt_bf16_f32

/-- Grid point `t` reads and writes row block `t`; the weights are one block. -/
theorem idx : ∀ t : Fin cfg0.N, win0_0.index t = ![t.val, 0] ∧ win0_1.index t = ![0, 0] ∧ win0_2.index t = ![t.val, 0] :=
  (by decide +kernel : ∀ t : Fin grid0.N, _)

/-- What point `t` stores at `y` is the norm's entry at the array index of `y`. -/
theorem point (c : Dev nD) (t : Fin cfg0.N) (y) : k0_pay1 (iblk m c 0 t) (iblk m c 1 t) y
    = norm (m ((c : Thread nD τ).loc main_arg0)) (m ((c : Thread nD τ).loc main_arg1)) (((cfg0.win 2).blk t).view.emb y) := by
  pointwise [k0_pay1, norm]
  blk_point [iblk, V, idx t]

/-- The result array after the run is the norm of the argument array. -/
theorem final (c : Dev nD) : (dats m 0 c).arrAt 2 (cfgs 0).N
    = norm (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Norm

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.ScanRun
public import proofs.«01_k».proof.Proof.ScanRef
public import proofs.«01_k».proof.Proof.PrepRun
public import proofs.«01_k».proof.Proof.PrepRes
public import proofs.«01_k».proof.Proof.CellPre
public import proofs.«01_k».proof.Proof.CellRef
public import proofs.«01_k».proof.Proof.ChunkRun
public import proofs.«01_k».proof.Proof.InProj
public import proofs.«01_k».proof.Proof.OutProj
public import proofs.«01_k».proof.Proof.Norm
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference's run leaves its arguments as they were and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, both programs end with the same result. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨h0, h1, h2, h3, h4, h5, h6, h7⟩ := hagree c
  exact (Cert.ReferenceIdeal.Scan.result m' c).trans ((Cert.KernelIdeal.Scan.res_congr h0 h1 h2 h3 h4 h5 h6 h7).trans (Cert.KernelIdeal.Scan.final m c).symm)

/-- The reference's run leaves its arguments as they were and every semaphore at zero. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From memories that agree on the arguments, both programs end with the same result. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Kernel2Ideal.InProj.final m c).symm

/-- The reference's run leaves its arguments as they were and every semaphore at zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From memories that agree on the arguments, both programs end with the same result. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine (h c).1.trans ?_
  obtain ⟨h0, h1, h2, h3, h4⟩ := hagree c
  exact (Cert.Kernel3Ideal.OutProj.proj_congr h0 h1 h2 h3 h4).trans (Cert.Kernel3Ideal.OutProj.final m c).symm

/-- The reference's run leaves its arguments as they were and every semaphore at zero. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From memories that agree on the arguments, both programs end with the same result. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  simp only [hagree c]
  exact (Cert.Kernel4Ideal.Norm.final m c).symm

/-- The reference's run leaves its arguments as they were and every semaphore at zero. -/
theorem quiescent_Reference5Ideal : quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

/-- From memories that agree on the arguments, both programs end with the same result. -/
theorem algebraic_Kernel5Ideal_Reference5Ideal : algebraic_Kernel5Ideal_Reference5Ideal := by
  intro m ρ m' ρ' _ hagree
  refine ⟨_, _, _, _, _, _, _, Cert.Kernel5Ideal.Value.run_blocks (F := Ideal) m ρ, ?_⟩
  refine (θ_run Cert.Reference5Ideal.defs _ _).mono (fun _ h c => ?_) (Cert.Reference5Ideal.Prep.results m' ρ')
  obtain ⟨h0, h1, h2, h3, h4, h5, h6, h7⟩ := hagree c
  obtain ⟨r0, r1, r2, r3, r4, r5, r6, hr⟩ := h c
  exact ⟨r0.trans ((Cert.Reference5Ideal.Prep.q_congr h0 h1 h2 h4).trans (Cert.Kernel5Ideal.Prep.final11 m c).symm), r1.trans ((Cert.Reference5Ideal.Prep.qi_congr h0 h1 h3).trans (Cert.Kernel5Ideal.Prep.final12 m c).symm), r2.trans ((Cert.Reference5Ideal.Prep.w_congr h0).trans (Cert.Kernel5Ideal.Prep.final13 m c).symm), r3.trans ((Cert.Reference5Ideal.Prep.kt_congr h0 h5).trans (Cert.Kernel5Ideal.Prep.final14 m c).symm), r4.trans ((Cert.Reference5Ideal.Prep.vb_congr h0).trans (Cert.Kernel5Ideal.Prep.final15 m c).symm), r5.trans ((Cert.Reference5Ideal.Prep.kit_congr h0 h6 h7).trans (Cert.Kernel5Ideal.Prep.final16 m c).symm), r6.trans ((Cert.Reference5Ideal.Prep.kn2_congr h0 h5).trans (Cert.Kernel5Ideal.Prep.final17 m c).symm), hr⟩

/-- The reference's run leaves its arguments as they were and every semaphore at zero. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From memories that agree on the arguments, both programs end with the same result. -/
theorem algebraic_Kernel6Ideal_Reference6Ideal_pre_finite : algebraic_Kernel6Ideal_Reference6Ideal_pre_finite (hPre_finite := Cert.Kernel6Ideal.Cell.pre_facts) := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  refine (h c).1.trans ?_
  obtain ⟨h0, h1, h2, h3⟩ := hagree c
  haveI := Cert.Kernel6Ideal.Cell.pre_facts
  have hP : Cert.Kernel6Ideal.Cell.Finite (Cert.Kernel6Ideal.Cell.pA m c) :=
    Cert.Kernel6Ideal.Cell.finite_of_pre _ _ _ _ (hpre c)
  have hP' : Cert.Kernel6Ideal.Cell.Finite (Cert.Reference6Ideal.Cell.pA m' c) :=
    (congrArg Cert.Kernel6Ideal.Cell.Finite h0).mpr hP
  exact (Cert.Reference6Ideal.Cell.result m' c hP').trans ((Cert.Kernel6Ideal.Cell.res_congr h0 h1 h2 h3).trans (Cert.Kernel6Ideal.Cell.final m c hP).symm)

/-- The reference's run leaves its arguments as they were and every semaphore at zero. -/
theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- From memories that agree on the arguments, both programs end with the same result. -/
theorem algebraic_Kernel7Ideal_Reference7Ideal : algebraic_Kernel7Ideal_Reference7Ideal := by
  intro m ρ m' ρ' _ hagree
  refine ⟨_, _, _, _, Cert.Kernel7Ideal.Chunk.results m ρ, ?_⟩
  refine (θ_run Cert.Reference7Ideal.defs _ _).mono (fun _ h c => ?_) (Cert.Reference7Ideal.Chunk.results m' ρ')
  obtain ⟨h0, h1, h2, h3⟩ := hagree c
  obtain ⟨r0, r1, r2, r3, hr⟩ := h c
  exact ⟨r0.trans (Cert.Kernel7Ideal.Chunk.qd_congr h0 h1 h2 h3), r1.trans (Cert.Kernel7Ideal.Chunk.kd_congr h0 h1 h2 h3), r2.trans (Cert.Kernel7Ideal.Chunk.aqk_congr h0 h1 h2 h3), r3.trans (Cert.Kernel7Ideal.Chunk.dec_congr h0 h2 h3), hr⟩

/-- Everything the statement asks for: the frames, the preservations and the value claims of the seven programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel6Ideal.Cell.pre_facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ, quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  IdealRules.named_const.statement Cert.Kernel5Ideal.κ "scale" .f32 0x3E0293EE#32 (((Real.sqrt 128)⁻¹ * (Real.log 2)⁻¹ : ℝ) : EReal) rfl, algebraic_Kernel5Ideal_Reference5Ideal,
  (trivial : preserves_Kernel6_Kernel6Ideal), algebraic_Kernel6Ideal_Reference6Ideal_pre_finite,
  (trivial : preserves_Kernel7_Kernel7Ideal), algebraic_Kernel7Ideal_Reference7Ideal⟩

end Cert.Proof

end
